-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyReferenceIdeal (m : (ℓ : Loc Cert.KeyReferenceIdeal.nD Cert.KeyReferenceIdeal.τ Cert.KeyReferenceIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValReferenceIdeal (m : (ℓ : Loc Cert.ValReferenceIdeal.nD Cert.ValReferenceIdeal.τ Cert.ValReferenceIdeal.sig) → Buf (Elt Ideal) ℓ) : Prop :=
  True

def Pre_Up [hPre_pages_exist : Cert.Pre_pages_exist.Facts] (m : (ℓ : Loc Cert.Up.nD Cert.Up.τ Cert.Up.sig) → Buf (Elt Bits) ℓ) : Prop :=
  ∀ c : Dev Cert.Up.nD,
    (Cert.Pre_pages_exist.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5))) = (fun _ => 1#1)

def Pre_UpIdeal [hPre_pages_exist : Cert.Pre_pages_exist.Facts] (m : (ℓ : Loc Cert.UpIdeal.nD Cert.UpIdeal.τ Cert.UpIdeal.sig) → Buf (Elt Ideal) ℓ) : Prop :=
  ∀ c : Dev Cert.UpIdeal.nD,
    (Cert.Pre_pages_exist.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_pages_exist [hPre_pages_exist : Cert.Pre_pages_exist.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_pages_exist.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5))) = (fun _ => 1#1)

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_NormStep (m : (ℓ : Loc Cert.NormStep.nD Cert.NormStep.τ Cert.NormStep.sig) → Buf (Elt Bits) ℓ) : Prop :=
  True

def Pre_NormStepIdeal (m : (ℓ : Loc Cert.NormStepIdeal.nD Cert.NormStepIdeal.τ Cert.NormStepIdeal.sig) → Buf (Elt Ideal) ℓ) : Prop :=
  True

def Pre_NormStepReferenceIdeal (m : (ℓ : Loc Cert.NormStepReferenceIdeal.nD Cert.NormStepReferenceIdeal.τ Cert.NormStepReferenceIdeal.sig) → Buf (Elt Ideal) ℓ) : Prop :=
  True

def Pre_KeyStep (m : (ℓ : Loc Cert.KeyStep.nD Cert.KeyStep.τ Cert.KeyStep.sig) → Buf (Elt Bits) ℓ) : Prop :=
  True

def Pre_KeyStepIdeal (m : (ℓ : Loc Cert.KeyStepIdeal.nD Cert.KeyStepIdeal.τ Cert.KeyStepIdeal.sig) → Buf (Elt Ideal) ℓ) : Prop :=
  True

def Pre_KeyStepReferenceIdeal (m : (ℓ : Loc Cert.KeyStepReferenceIdeal.nD Cert.KeyStepReferenceIdeal.τ Cert.KeyStepReferenceIdeal.sig) → Buf (Elt Ideal) ℓ) : Prop :=
  True

def Pre_ValStep (m : (ℓ : Loc Cert.ValStep.nD Cert.ValStep.τ Cert.ValStep.sig) → Buf (Elt Bits) ℓ) : Prop :=
  True

def Pre_ValStepIdeal (m : (ℓ : Loc Cert.ValStepIdeal.nD Cert.ValStepIdeal.τ Cert.ValStepIdeal.sig) → Buf (Elt Ideal) ℓ) : Prop :=
  True

def Pre_ValStepReferenceIdeal (m : (ℓ : Loc Cert.ValStepReferenceIdeal.nD Cert.ValStepReferenceIdeal.τ Cert.ValStepReferenceIdeal.sig) → Buf (Elt Ideal) ℓ) : Prop :=
  True

def Pre_UpStep (m : (ℓ : Loc Cert.UpStep.nD Cert.UpStep.τ Cert.UpStep.sig) → Buf (Elt Bits) ℓ) : Prop :=
  True

def Pre_UpStepIdeal (m : (ℓ : Loc Cert.UpStepIdeal.nD Cert.UpStepIdeal.τ Cert.UpStepIdeal.sig) → Buf (Elt Ideal) ℓ) : Prop :=
  True

def Pre_UpStepReferenceIdeal (m : (ℓ : Loc Cert.UpStepReferenceIdeal.nD Cert.UpStepReferenceIdeal.τ Cert.UpStepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ r.2.sem = fun _ => 0)

def quiescent_KeyReferenceIdeal [hKeyReferenceIdeal : Cert.KeyReferenceIdeal.Facts] : Prop :=
  ∀ (m : (ℓ : Loc Cert.KeyReferenceIdeal.nD Cert.KeyReferenceIdeal.τ Cert.KeyReferenceIdeal.sig) → Buf (Elt Ideal) ℓ) (g : Dev Cert.KeyReferenceIdeal.nD → PrngReg), Pre_KeyReferenceIdeal m →
    θ_run (Cert.KeyReferenceIdeal.defs (F := Ideal)) (onTc (τ := Cert.KeyReferenceIdeal.τ) (Cert.KeyReferenceIdeal.main (F := Ideal))) ⟨m, fun _ => 0, g⟩ (fun r => (∀ c : Dev Cert.KeyReferenceIdeal.nD,
      r.2.mem ((c.tc : Thread Cert.KeyReferenceIdeal.nD Cert.KeyReferenceIdeal.τ).loc Cert.KeyReferenceIdeal.main_arg0) = m ((c.tc : Thread Cert.KeyReferenceIdeal.nD Cert.KeyReferenceIdeal.τ).loc Cert.KeyReferenceIdeal.main_arg0)
      ∧ r.2.mem ((c.tc : Thread Cert.KeyReferenceIdeal.nD Cert.KeyReferenceIdeal.τ).loc Cert.KeyReferenceIdeal.main_arg1) = m ((c.tc : Thread Cert.KeyReferenceIdeal.nD Cert.KeyReferenceIdeal.τ).loc Cert.KeyReferenceIdeal.main_arg1))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ r.2.sem = fun _ => 0)

def quiescent_ValReferenceIdeal [hValReferenceIdeal : Cert.ValReferenceIdeal.Facts] : Prop :=
  ∀ (m : (ℓ : Loc Cert.ValReferenceIdeal.nD Cert.ValReferenceIdeal.τ Cert.ValReferenceIdeal.sig) → Buf (Elt Ideal) ℓ) (g : Dev Cert.ValReferenceIdeal.nD → PrngReg), Pre_ValReferenceIdeal m →
    θ_run (Cert.ValReferenceIdeal.defs (F := Ideal)) (onTc (τ := Cert.ValReferenceIdeal.τ) (Cert.ValReferenceIdeal.main (F := Ideal))) ⟨m, fun _ => 0, g⟩ (fun r => (∀ c : Dev Cert.ValReferenceIdeal.nD,
      r.2.mem ((c.tc : Thread Cert.ValReferenceIdeal.nD Cert.ValReferenceIdeal.τ).loc Cert.ValReferenceIdeal.main_arg0) = m ((c.tc : Thread Cert.ValReferenceIdeal.nD Cert.ValReferenceIdeal.τ).loc Cert.ValReferenceIdeal.main_arg0)
      ∧ r.2.mem ((c.tc : Thread Cert.ValReferenceIdeal.nD Cert.ValReferenceIdeal.τ).loc Cert.ValReferenceIdeal.main_arg1) = m ((c.tc : Thread Cert.ValReferenceIdeal.nD Cert.ValReferenceIdeal.τ).loc Cert.ValReferenceIdeal.main_arg1))
      ∧ r.2.sem = fun _ => 0)

def quiescent_Up [hUp : Cert.Up.Facts] [hPre_pages_exist : Cert.Pre_pages_exist.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] [hPre_pages_exist : Cert.Pre_pages_exist.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_UpReferenceIdeal_pre_pages_exist [hUpReferenceIdeal : Cert.UpReferenceIdeal.Facts] [hPre_pages_exist : Cert.Pre_pages_exist.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_pages_exist m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_NormStep [hNormStep : Cert.NormStep.Facts] : Prop :=
  ∀ (m : (ℓ : Loc Cert.NormStep.nD Cert.NormStep.τ Cert.NormStep.sig) → Buf (Elt Bits) ℓ) (g : Dev Cert.NormStep.nD → PrngReg), Pre_NormStep m →
    θ_run (Cert.NormStep.defs (F := Bits)) (onTc (τ := Cert.NormStep.τ) (Cert.NormStep.main (F := Bits))) ⟨m, fun _ => 0, g⟩ (fun r => (∀ c : Dev Cert.NormStep.nD,
      r.2.mem ((c.tc : Thread Cert.NormStep.nD Cert.NormStep.τ).loc Cert.NormStep.main_arg0) = m ((c.tc : Thread Cert.NormStep.nD Cert.NormStep.τ).loc Cert.NormStep.main_arg0)
      ∧ r.2.mem ((c.tc : Thread Cert.NormStep.nD Cert.NormStep.τ).loc Cert.NormStep.main_arg1) = m ((c.tc : Thread Cert.NormStep.nD Cert.NormStep.τ).loc Cert.NormStep.main_arg1))
      ∧ r.2.sem = fun _ => 0)

def quiescent_NormStepIdeal [hNormStepIdeal : Cert.NormStepIdeal.Facts] : Prop :=
  ∀ (m : (ℓ : Loc Cert.NormStepIdeal.nD Cert.NormStepIdeal.τ Cert.NormStepIdeal.sig) → Buf (Elt Ideal) ℓ) (g : Dev Cert.NormStepIdeal.nD → PrngReg), Pre_NormStepIdeal m →
    θ_run (Cert.NormStepIdeal.defs (F := Ideal)) (onTc (τ := Cert.NormStepIdeal.τ) (Cert.NormStepIdeal.main (F := Ideal))) ⟨m, fun _ => 0, g⟩ (fun r => (∀ c : Dev Cert.NormStepIdeal.nD,
      r.2.mem ((c.tc : Thread Cert.NormStepIdeal.nD Cert.NormStepIdeal.τ).loc Cert.NormStepIdeal.main_arg0) = m ((c.tc : Thread Cert.NormStepIdeal.nD Cert.NormStepIdeal.τ).loc Cert.NormStepIdeal.main_arg0)
      ∧ r.2.mem ((c.tc : Thread Cert.NormStepIdeal.nD Cert.NormStepIdeal.τ).loc Cert.NormStepIdeal.main_arg1) = m ((c.tc : Thread Cert.NormStepIdeal.nD Cert.NormStepIdeal.τ).loc Cert.NormStepIdeal.main_arg1))
      ∧ r.2.sem = fun _ => 0)

def quiescent_NormStepReferenceIdeal [hNormStepReferenceIdeal : Cert.NormStepReferenceIdeal.Facts] : Prop :=
  ∀ (m : (ℓ : Loc Cert.NormStepReferenceIdeal.nD Cert.NormStepReferenceIdeal.τ Cert.NormStepReferenceIdeal.sig) → Buf (Elt Ideal) ℓ) (g : Dev Cert.NormStepReferenceIdeal.nD → PrngReg), Pre_NormStepReferenceIdeal m →
    θ_run (Cert.NormStepReferenceIdeal.defs (F := Ideal)) (onTc (τ := Cert.NormStepReferenceIdeal.τ) (Cert.NormStepReferenceIdeal.main (F := Ideal))) ⟨m, fun _ => 0, g⟩ (fun r => (∀ c : Dev Cert.NormStepReferenceIdeal.nD,
      r.2.mem ((c.tc : Thread Cert.NormStepReferenceIdeal.nD Cert.NormStepReferenceIdeal.τ).loc Cert.NormStepReferenceIdeal.main_arg0) = m ((c.tc : Thread Cert.NormStepReferenceIdeal.nD Cert.NormStepReferenceIdeal.τ).loc Cert.NormStepReferenceIdeal.main_arg0)
      ∧ r.2.mem ((c.tc : Thread Cert.NormStepReferenceIdeal.nD Cert.NormStepReferenceIdeal.τ).loc Cert.NormStepReferenceIdeal.main_arg1) = m ((c.tc : Thread Cert.NormStepReferenceIdeal.nD Cert.NormStepReferenceIdeal.τ).loc Cert.NormStepReferenceIdeal.main_arg1))
      ∧ r.2.sem = fun _ => 0)

def quiescent_KeyStep [hKeyStep : Cert.KeyStep.Facts] : Prop :=
  ∀ (m : (ℓ : Loc Cert.KeyStep.nD Cert.KeyStep.τ Cert.KeyStep.sig) → Buf (Elt Bits) ℓ) (g : Dev Cert.KeyStep.nD → PrngReg), Pre_KeyStep m →
    θ_run (Cert.KeyStep.defs (F := Bits)) (onTc (τ := Cert.KeyStep.τ) (Cert.KeyStep.main (F := Bits))) ⟨m, fun _ => 0, g⟩ (fun r => (∀ c : Dev Cert.KeyStep.nD,
      r.2.mem ((c.tc : Thread Cert.KeyStep.nD Cert.KeyStep.τ).loc Cert.KeyStep.main_arg0) = m ((c.tc : Thread Cert.KeyStep.nD Cert.KeyStep.τ).loc Cert.KeyStep.main_arg0)
      ∧ r.2.mem ((c.tc : Thread Cert.KeyStep.nD Cert.KeyStep.τ).loc Cert.KeyStep.main_arg1) = m ((c.tc : Thread Cert.KeyStep.nD Cert.KeyStep.τ).loc Cert.KeyStep.main_arg1))
      ∧ r.2.sem = fun _ => 0)

def quiescent_KeyStepIdeal [hKeyStepIdeal : Cert.KeyStepIdeal.Facts] : Prop :=
  ∀ (m : (ℓ : Loc Cert.KeyStepIdeal.nD Cert.KeyStepIdeal.τ Cert.KeyStepIdeal.sig) → Buf (Elt Ideal) ℓ) (g : Dev Cert.KeyStepIdeal.nD → PrngReg), Pre_KeyStepIdeal m →
    θ_run (Cert.KeyStepIdeal.defs (F := Ideal)) (onTc (τ := Cert.KeyStepIdeal.τ) (Cert.KeyStepIdeal.main (F := Ideal))) ⟨m, fun _ => 0, g⟩ (fun r => (∀ c : Dev Cert.KeyStepIdeal.nD,
      r.2.mem ((c.tc : Thread Cert.KeyStepIdeal.nD Cert.KeyStepIdeal.τ).loc Cert.KeyStepIdeal.main_arg0) = m ((c.tc : Thread Cert.KeyStepIdeal.nD Cert.KeyStepIdeal.τ).loc Cert.KeyStepIdeal.main_arg0)
      ∧ r.2.mem ((c.tc : Thread Cert.KeyStepIdeal.nD Cert.KeyStepIdeal.τ).loc Cert.KeyStepIdeal.main_arg1) = m ((c.tc : Thread Cert.KeyStepIdeal.nD Cert.KeyStepIdeal.τ).loc Cert.KeyStepIdeal.main_arg1))
      ∧ r.2.sem = fun _ => 0)

def quiescent_KeyStepReferenceIdeal [hKeyStepReferenceIdeal : Cert.KeyStepReferenceIdeal.Facts] : Prop :=
  ∀ (m : (ℓ : Loc Cert.KeyStepReferenceIdeal.nD Cert.KeyStepReferenceIdeal.τ Cert.KeyStepReferenceIdeal.sig) → Buf (Elt Ideal) ℓ) (g : Dev Cert.KeyStepReferenceIdeal.nD → PrngReg), Pre_KeyStepReferenceIdeal m →
    θ_run (Cert.KeyStepReferenceIdeal.defs (F := Ideal)) (onTc (τ := Cert.KeyStepReferenceIdeal.τ) (Cert.KeyStepReferenceIdeal.main (F := Ideal))) ⟨m, fun _ => 0, g⟩ (fun r => (∀ c : Dev Cert.KeyStepReferenceIdeal.nD,
      r.2.mem ((c.tc : Thread Cert.KeyStepReferenceIdeal.nD Cert.KeyStepReferenceIdeal.τ).loc Cert.KeyStepReferenceIdeal.main_arg0) = m ((c.tc : Thread Cert.KeyStepReferenceIdeal.nD Cert.KeyStepReferenceIdeal.τ).loc Cert.KeyStepReferenceIdeal.main_arg0)
      ∧ r.2.mem ((c.tc : Thread Cert.KeyStepReferenceIdeal.nD Cert.KeyStepReferenceIdeal.τ).loc Cert.KeyStepReferenceIdeal.main_arg1) = m ((c.tc : Thread Cert.KeyStepReferenceIdeal.nD Cert.KeyStepReferenceIdeal.τ).loc Cert.KeyStepReferenceIdeal.main_arg1))
      ∧ r.2.sem = fun _ => 0)

def quiescent_ValStep [hValStep : Cert.ValStep.Facts] : Prop :=
  ∀ (m : (ℓ : Loc Cert.ValStep.nD Cert.ValStep.τ Cert.ValStep.sig) → Buf (Elt Bits) ℓ) (g : Dev Cert.ValStep.nD → PrngReg), Pre_ValStep m →
    θ_run (Cert.ValStep.defs (F := Bits)) (onTc (τ := Cert.ValStep.τ) (Cert.ValStep.main (F := Bits))) ⟨m, fun _ => 0, g⟩ (fun r => (∀ c : Dev Cert.ValStep.nD,
      r.2.mem ((c.tc : Thread Cert.ValStep.nD Cert.ValStep.τ).loc Cert.ValStep.main_arg0) = m ((c.tc : Thread Cert.ValStep.nD Cert.ValStep.τ).loc Cert.ValStep.main_arg0)
      ∧ r.2.mem ((c.tc : Thread Cert.ValStep.nD Cert.ValStep.τ).loc Cert.ValStep.main_arg1) = m ((c.tc : Thread Cert.ValStep.nD Cert.ValStep.τ).loc Cert.ValStep.main_arg1))
      ∧ r.2.sem = fun _ => 0)

def quiescent_ValStepIdeal [hValStepIdeal : Cert.ValStepIdeal.Facts] : Prop :=
  ∀ (m : (ℓ : Loc Cert.ValStepIdeal.nD Cert.ValStepIdeal.τ Cert.ValStepIdeal.sig) → Buf (Elt Ideal) ℓ) (g : Dev Cert.ValStepIdeal.nD → PrngReg), Pre_ValStepIdeal m →
    θ_run (Cert.ValStepIdeal.defs (F := Ideal)) (onTc (τ := Cert.ValStepIdeal.τ) (Cert.ValStepIdeal.main (F := Ideal))) ⟨m, fun _ => 0, g⟩ (fun r => (∀ c : Dev Cert.ValStepIdeal.nD,
      r.2.mem ((c.tc : Thread Cert.ValStepIdeal.nD Cert.ValStepIdeal.τ).loc Cert.ValStepIdeal.main_arg0) = m ((c.tc : Thread Cert.ValStepIdeal.nD Cert.ValStepIdeal.τ).loc Cert.ValStepIdeal.main_arg0)
      ∧ r.2.mem ((c.tc : Thread Cert.ValStepIdeal.nD Cert.ValStepIdeal.τ).loc Cert.ValStepIdeal.main_arg1) = m ((c.tc : Thread Cert.ValStepIdeal.nD Cert.ValStepIdeal.τ).loc Cert.ValStepIdeal.main_arg1))
      ∧ r.2.sem = fun _ => 0)

def quiescent_ValStepReferenceIdeal [hValStepReferenceIdeal : Cert.ValStepReferenceIdeal.Facts] : Prop :=
  ∀ (m : (ℓ : Loc Cert.ValStepReferenceIdeal.nD Cert.ValStepReferenceIdeal.τ Cert.ValStepReferenceIdeal.sig) → Buf (Elt Ideal) ℓ) (g : Dev Cert.ValStepReferenceIdeal.nD → PrngReg), Pre_ValStepReferenceIdeal m →
    θ_run (Cert.ValStepReferenceIdeal.defs (F := Ideal)) (onTc (τ := Cert.ValStepReferenceIdeal.τ) (Cert.ValStepReferenceIdeal.main (F := Ideal))) ⟨m, fun _ => 0, g⟩ (fun r => (∀ c : Dev Cert.ValStepReferenceIdeal.nD,
      r.2.mem ((c.tc : Thread Cert.ValStepReferenceIdeal.nD Cert.ValStepReferenceIdeal.τ).loc Cert.ValStepReferenceIdeal.main_arg0) = m ((c.tc : Thread Cert.ValStepReferenceIdeal.nD Cert.ValStepReferenceIdeal.τ).loc Cert.ValStepReferenceIdeal.main_arg0)
      ∧ r.2.mem ((c.tc : Thread Cert.ValStepReferenceIdeal.nD Cert.ValStepReferenceIdeal.τ).loc Cert.ValStepReferenceIdeal.main_arg1) = m ((c.tc : Thread Cert.ValStepReferenceIdeal.nD Cert.ValStepReferenceIdeal.τ).loc Cert.ValStepReferenceIdeal.main_arg1))
      ∧ r.2.sem = fun _ => 0)

def quiescent_UpStep [hUpStep : Cert.UpStep.Facts] : Prop :=
  ∀ (m : (ℓ : Loc Cert.UpStep.nD Cert.UpStep.τ Cert.UpStep.sig) → Buf (Elt Bits) ℓ) (g : Dev Cert.UpStep.nD → PrngReg), Pre_UpStep m →
    θ_run (Cert.UpStep.defs (F := Bits)) (onTc (τ := Cert.UpStep.τ) (Cert.UpStep.main (F := Bits))) ⟨m, fun _ => 0, g⟩ (fun r => (∀ c : Dev Cert.UpStep.nD,
      r.2.mem ((c.tc : Thread Cert.UpStep.nD Cert.UpStep.τ).loc Cert.UpStep.main_arg0) = m ((c.tc : Thread Cert.UpStep.nD Cert.UpStep.τ).loc Cert.UpStep.main_arg0)
      ∧ r.2.mem ((c.tc : Thread Cert.UpStep.nD Cert.UpStep.τ).loc Cert.UpStep.main_arg1) = m ((c.tc : Thread Cert.UpStep.nD Cert.UpStep.τ).loc Cert.UpStep.main_arg1))
      ∧ r.2.sem = fun _ => 0)

def quiescent_UpStepIdeal [hUpStepIdeal : Cert.UpStepIdeal.Facts] : Prop :=
  ∀ (m : (ℓ : Loc Cert.UpStepIdeal.nD Cert.UpStepIdeal.τ Cert.UpStepIdeal.sig) → Buf (Elt Ideal) ℓ) (g : Dev Cert.UpStepIdeal.nD → PrngReg), Pre_UpStepIdeal m →
    θ_run (Cert.UpStepIdeal.defs (F := Ideal)) (onTc (τ := Cert.UpStepIdeal.τ) (Cert.UpStepIdeal.main (F := Ideal))) ⟨m, fun _ => 0, g⟩ (fun r => (∀ c : Dev Cert.UpStepIdeal.nD,
      r.2.mem ((c.tc : Thread Cert.UpStepIdeal.nD Cert.UpStepIdeal.τ).loc Cert.UpStepIdeal.main_arg0) = m ((c.tc : Thread Cert.UpStepIdeal.nD Cert.UpStepIdeal.τ).loc Cert.UpStepIdeal.main_arg0)
      ∧ r.2.mem ((c.tc : Thread Cert.UpStepIdeal.nD Cert.UpStepIdeal.τ).loc Cert.UpStepIdeal.main_arg1) = m ((c.tc : Thread Cert.UpStepIdeal.nD Cert.UpStepIdeal.τ).loc Cert.UpStepIdeal.main_arg1))
      ∧ r.2.sem = fun _ => 0)

def quiescent_UpStepReferenceIdeal [hUpStepReferenceIdeal : Cert.UpStepReferenceIdeal.Facts] : Prop :=
  ∀ (m : (ℓ : Loc Cert.UpStepReferenceIdeal.nD Cert.UpStepReferenceIdeal.τ Cert.UpStepReferenceIdeal.sig) → Buf (Elt Ideal) ℓ) (g : Dev Cert.UpStepReferenceIdeal.nD → PrngReg), Pre_UpStepReferenceIdeal m →
    θ_run (Cert.UpStepReferenceIdeal.defs (F := Ideal)) (onTc (τ := Cert.UpStepReferenceIdeal.τ) (Cert.UpStepReferenceIdeal.main (F := Ideal))) ⟨m, fun _ => 0, g⟩ (fun r => (∀ c : Dev Cert.UpStepReferenceIdeal.nD,
      r.2.mem ((c.tc : Thread Cert.UpStepReferenceIdeal.nD Cert.UpStepReferenceIdeal.τ).loc Cert.UpStepReferenceIdeal.main_arg0) = m ((c.tc : Thread Cert.UpStepReferenceIdeal.nD Cert.UpStepReferenceIdeal.τ).loc Cert.UpStepReferenceIdeal.main_arg0)
      ∧ r.2.mem ((c.tc : Thread Cert.UpStepReferenceIdeal.nD Cert.UpStepReferenceIdeal.τ).loc Cert.UpStepReferenceIdeal.main_arg1) = m ((c.tc : Thread Cert.UpStepReferenceIdeal.nD Cert.UpStepReferenceIdeal.τ).loc Cert.UpStepReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v31_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v3) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_Key_KeyIdeal : Prop :=
  True

def algebraic_KeyIdeal_KeyReferenceIdeal [hKeyIdeal : Cert.KeyIdeal.Facts] [hKeyReferenceIdeal : Cert.KeyReferenceIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyReferenceIdeal.nD Cert.KeyReferenceIdeal.τ Cert.KeyReferenceIdeal.sig) → Buf (Elt Ideal) ℓ) (g' : Dev Cert.KeyReferenceIdeal.nD → PrngReg), Pre_KeyIdeal m →
    (∀ c : Dev Cert.KeyIdeal.nD,
      m' ((c.tc : Thread Cert.KeyReferenceIdeal.nD Cert.KeyReferenceIdeal.τ).loc Cert.KeyReferenceIdeal.main_arg0) = m ((c.tc : Thread Cert.KeyIdeal.nD Cert.KeyIdeal.τ).loc Cert.KeyIdeal.main_arg0)
      ∧ m' ((c.tc : Thread Cert.KeyReferenceIdeal.nD Cert.KeyReferenceIdeal.τ).loc Cert.KeyReferenceIdeal.main_arg1) = m ((c.tc : Thread Cert.KeyIdeal.nD Cert.KeyIdeal.τ).loc Cert.KeyIdeal.main_arg1)) →
    ∃ (v0 : (c : Dev Cert.KeyIdeal.nD) → Buf (Elt Ideal) ((c.tc : Thread Cert.KeyIdeal.nD Cert.KeyIdeal.τ).loc Cert.KeyIdeal.main_v19)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v19) = v0 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ θ_run (Cert.KeyReferenceIdeal.defs (F := Ideal)) (onTc (τ := Cert.KeyReferenceIdeal.τ) (Cert.KeyReferenceIdeal.main (F := Ideal))) ⟨m', fun _ => 0, g'⟩ (fun r => ∀ c : Dev Cert.KeyReferenceIdeal.nD,
          r.2.mem ((c.tc : Thread Cert.KeyReferenceIdeal.nD Cert.KeyReferenceIdeal.τ).loc Cert.KeyReferenceIdeal.main_v32) = v0 c
          ∧ r.2.mem ((c.tc : Thread Cert.KeyReferenceIdeal.nD Cert.KeyReferenceIdeal.τ).loc Cert.KeyReferenceIdeal.main_arg0) = m' ((c.tc : Thread Cert.KeyReferenceIdeal.nD Cert.KeyReferenceIdeal.τ).loc Cert.KeyReferenceIdeal.main_arg0)
          ∧ r.2.mem ((c.tc : Thread Cert.KeyReferenceIdeal.nD Cert.KeyReferenceIdeal.τ).loc Cert.KeyReferenceIdeal.main_arg1) = m' ((c.tc : Thread Cert.KeyReferenceIdeal.nD Cert.KeyReferenceIdeal.τ).loc Cert.KeyReferenceIdeal.main_arg1))

def preserves_Val_ValIdeal : Prop :=
  True

def algebraic_ValIdeal_ValReferenceIdeal [hValIdeal : Cert.ValIdeal.Facts] [hValReferenceIdeal : Cert.ValReferenceIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValReferenceIdeal.nD Cert.ValReferenceIdeal.τ Cert.ValReferenceIdeal.sig) → Buf (Elt Ideal) ℓ) (g' : Dev Cert.ValReferenceIdeal.nD → PrngReg), Pre_ValIdeal m →
    (∀ c : Dev Cert.ValIdeal.nD,
      m' ((c.tc : Thread Cert.ValReferenceIdeal.nD Cert.ValReferenceIdeal.τ).loc Cert.ValReferenceIdeal.main_arg0) = m ((c.tc : Thread Cert.ValIdeal.nD Cert.ValIdeal.τ).loc Cert.ValIdeal.main_arg0)
      ∧ m' ((c.tc : Thread Cert.ValReferenceIdeal.nD Cert.ValReferenceIdeal.τ).loc Cert.ValReferenceIdeal.main_arg1) = m ((c.tc : Thread Cert.ValIdeal.nD Cert.ValIdeal.τ).loc Cert.ValIdeal.main_arg1)) →
    ∃ (v0 : (c : Dev Cert.ValIdeal.nD) → Buf (Elt Ideal) ((c.tc : Thread Cert.ValIdeal.nD Cert.ValIdeal.τ).loc Cert.ValIdeal.main_v2)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v2) = v0 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ θ_run (Cert.ValReferenceIdeal.defs (F := Ideal)) (onTc (τ := Cert.ValReferenceIdeal.τ) (Cert.ValReferenceIdeal.main (F := Ideal))) ⟨m', fun _ => 0, g'⟩ (fun r => ∀ c : Dev Cert.ValReferenceIdeal.nD,
          r.2.mem ((c.tc : Thread Cert.ValReferenceIdeal.nD Cert.ValReferenceIdeal.τ).loc Cert.ValReferenceIdeal.main_v2) = v0 c
          ∧ r.2.mem ((c.tc : Thread Cert.ValReferenceIdeal.nD Cert.ValReferenceIdeal.τ).loc Cert.ValReferenceIdeal.main_arg0) = m' ((c.tc : Thread Cert.ValReferenceIdeal.nD Cert.ValReferenceIdeal.τ).loc Cert.ValReferenceIdeal.main_arg0)
          ∧ r.2.mem ((c.tc : Thread Cert.ValReferenceIdeal.nD Cert.ValReferenceIdeal.τ).loc Cert.ValReferenceIdeal.main_arg1) = m' ((c.tc : Thread Cert.ValReferenceIdeal.nD Cert.ValReferenceIdeal.τ).loc Cert.ValReferenceIdeal.main_arg1))

def preserves_Up_UpIdeal : Prop :=
  True

def algebraic_UpIdeal_UpReferenceIdeal [hUpIdeal : Cert.UpIdeal.Facts] [hUpReferenceIdeal : Cert.UpReferenceIdeal.Facts] [hPre_pages_exist : Cert.Pre_pages_exist.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)
      ∧ m' ((c.tc : Thread Cert.UpReferenceIdeal.nD Cert.UpReferenceIdeal.τ).loc Cert.UpReferenceIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)) (v2 : (c : Dev Cert.UpIdeal.nD) → Buf (Elt Ideal) ((c.tc : Thread Cert.UpIdeal.nD Cert.UpIdeal.τ).loc Cert.UpIdeal.main_v4_2)) (v3 : (c : Dev Cert.UpIdeal.nD) → Buf (Elt Ideal) ((c.tc : Thread Cert.UpIdeal.nD Cert.UpIdeal.τ).loc Cert.UpIdeal.main_v4_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_v4_2) = v2 c
          ∧ r.2.mem ((c.tc : Thread Cert.UpIdeal.nD Cert.UpIdeal.τ).loc Cert.UpIdeal.main_v4_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v41) = v0 c
          ∧ r.2.mem ((c.tc : Thread Cert.UpReferenceIdeal.nD Cert.UpReferenceIdeal.τ).loc Cert.UpReferenceIdeal.main_v55) = v1 c
          ∧ r.2.mem ((c.tc : Thread Cert.UpReferenceIdeal.nD Cert.UpReferenceIdeal.τ).loc Cert.UpReferenceIdeal.main_v56) = v2 c
          ∧ r.2.mem ((c.tc : Thread Cert.UpReferenceIdeal.nD Cert.UpReferenceIdeal.τ).loc Cert.UpReferenceIdeal.main_v54) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v19)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v19) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v32) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_NormStep_NormStepIdeal : Prop :=
  True

def algebraic_NormStepIdeal_NormStepReferenceIdeal [hNormStepIdeal : Cert.NormStepIdeal.Facts] [hNormStepReferenceIdeal : Cert.NormStepReferenceIdeal.Facts] : Prop :=
  ∀ (m : (ℓ : Loc Cert.NormStepIdeal.nD Cert.NormStepIdeal.τ Cert.NormStepIdeal.sig) → Buf (Elt Ideal) ℓ) (g : Dev Cert.NormStepIdeal.nD → PrngReg)
    (m' : (ℓ : Loc Cert.NormStepReferenceIdeal.nD Cert.NormStepReferenceIdeal.τ Cert.NormStepReferenceIdeal.sig) → Buf (Elt Ideal) ℓ) (g' : Dev Cert.NormStepReferenceIdeal.nD → PrngReg), Pre_NormStepIdeal m →
    (∀ c : Dev Cert.NormStepIdeal.nD,
      m' ((c.tc : Thread Cert.NormStepReferenceIdeal.nD Cert.NormStepReferenceIdeal.τ).loc Cert.NormStepReferenceIdeal.main_arg0) = m ((c.tc : Thread Cert.NormStepIdeal.nD Cert.NormStepIdeal.τ).loc Cert.NormStepIdeal.main_arg0)
      ∧ m' ((c.tc : Thread Cert.NormStepReferenceIdeal.nD Cert.NormStepReferenceIdeal.τ).loc Cert.NormStepReferenceIdeal.main_arg1) = m ((c.tc : Thread Cert.NormStepIdeal.nD Cert.NormStepIdeal.τ).loc Cert.NormStepIdeal.main_arg1)) →
    ∃ (v0 : (c : Dev Cert.NormStepIdeal.nD) → Buf (Elt Ideal) ((c.tc : Thread Cert.NormStepIdeal.nD Cert.NormStepIdeal.τ).loc Cert.NormStepIdeal.main_v2)),
      θ_run (Cert.NormStepIdeal.defs (F := Ideal)) (onTc (τ := Cert.NormStepIdeal.τ) (Cert.NormStepIdeal.main (F := Ideal))) ⟨m, fun _ => 0, g⟩ (fun r => ∀ c : Dev Cert.NormStepIdeal.nD,
          r.2.mem ((c.tc : Thread Cert.NormStepIdeal.nD Cert.NormStepIdeal.τ).loc Cert.NormStepIdeal.main_v2) = v0 c
          ∧ r.2.mem ((c.tc : Thread Cert.NormStepIdeal.nD Cert.NormStepIdeal.τ).loc Cert.NormStepIdeal.main_arg0) = m ((c.tc : Thread Cert.NormStepIdeal.nD Cert.NormStepIdeal.τ).loc Cert.NormStepIdeal.main_arg0)
          ∧ r.2.mem ((c.tc : Thread Cert.NormStepIdeal.nD Cert.NormStepIdeal.τ).loc Cert.NormStepIdeal.main_arg1) = m ((c.tc : Thread Cert.NormStepIdeal.nD Cert.NormStepIdeal.τ).loc Cert.NormStepIdeal.main_arg1))
      ∧ θ_run (Cert.NormStepReferenceIdeal.defs (F := Ideal)) (onTc (τ := Cert.NormStepReferenceIdeal.τ) (Cert.NormStepReferenceIdeal.main (F := Ideal))) ⟨m', fun _ => 0, g'⟩ (fun r => ∀ c : Dev Cert.NormStepReferenceIdeal.nD,
          r.2.mem ((c.tc : Thread Cert.NormStepReferenceIdeal.nD Cert.NormStepReferenceIdeal.τ).loc Cert.NormStepReferenceIdeal.main_v13) = v0 c
          ∧ r.2.mem ((c.tc : Thread Cert.NormStepReferenceIdeal.nD Cert.NormStepReferenceIdeal.τ).loc Cert.NormStepReferenceIdeal.main_arg0) = m' ((c.tc : Thread Cert.NormStepReferenceIdeal.nD Cert.NormStepReferenceIdeal.τ).loc Cert.NormStepReferenceIdeal.main_arg0)
          ∧ r.2.mem ((c.tc : Thread Cert.NormStepReferenceIdeal.nD Cert.NormStepReferenceIdeal.τ).loc Cert.NormStepReferenceIdeal.main_arg1) = m' ((c.tc : Thread Cert.NormStepReferenceIdeal.nD Cert.NormStepReferenceIdeal.τ).loc Cert.NormStepReferenceIdeal.main_arg1))

def preserves_KeyStep_KeyStepIdeal : Prop :=
  True

def algebraic_KeyStepIdeal_KeyStepReferenceIdeal [hKeyStepIdeal : Cert.KeyStepIdeal.Facts] [hKeyStepReferenceIdeal : Cert.KeyStepReferenceIdeal.Facts] : Prop :=
  ∀ (m : (ℓ : Loc Cert.KeyStepIdeal.nD Cert.KeyStepIdeal.τ Cert.KeyStepIdeal.sig) → Buf (Elt Ideal) ℓ) (g : Dev Cert.KeyStepIdeal.nD → PrngReg)
    (m' : (ℓ : Loc Cert.KeyStepReferenceIdeal.nD Cert.KeyStepReferenceIdeal.τ Cert.KeyStepReferenceIdeal.sig) → Buf (Elt Ideal) ℓ) (g' : Dev Cert.KeyStepReferenceIdeal.nD → PrngReg), Pre_KeyStepIdeal m →
    (∀ c : Dev Cert.KeyStepIdeal.nD,
      m' ((c.tc : Thread Cert.KeyStepReferenceIdeal.nD Cert.KeyStepReferenceIdeal.τ).loc Cert.KeyStepReferenceIdeal.main_arg0) = m ((c.tc : Thread Cert.KeyStepIdeal.nD Cert.KeyStepIdeal.τ).loc Cert.KeyStepIdeal.main_arg0)
      ∧ m' ((c.tc : Thread Cert.KeyStepReferenceIdeal.nD Cert.KeyStepReferenceIdeal.τ).loc Cert.KeyStepReferenceIdeal.main_arg1) = m ((c.tc : Thread Cert.KeyStepIdeal.nD Cert.KeyStepIdeal.τ).loc Cert.KeyStepIdeal.main_arg1)) →
    ∃ (v0 : (c : Dev Cert.KeyStepIdeal.nD) → Buf (Elt Ideal) ((c.tc : Thread Cert.KeyStepIdeal.nD Cert.KeyStepIdeal.τ).loc Cert.KeyStepIdeal.main_v19)),
      θ_run (Cert.KeyStepIdeal.defs (F := Ideal)) (onTc (τ := Cert.KeyStepIdeal.τ) (Cert.KeyStepIdeal.main (F := Ideal))) ⟨m, fun _ => 0, g⟩ (fun r => ∀ c : Dev Cert.KeyStepIdeal.nD,
          r.2.mem ((c.tc : Thread Cert.KeyStepIdeal.nD Cert.KeyStepIdeal.τ).loc Cert.KeyStepIdeal.main_v19) = v0 c
          ∧ r.2.mem ((c.tc : Thread Cert.KeyStepIdeal.nD Cert.KeyStepIdeal.τ).loc Cert.KeyStepIdeal.main_arg0) = m ((c.tc : Thread Cert.KeyStepIdeal.nD Cert.KeyStepIdeal.τ).loc Cert.KeyStepIdeal.main_arg0)
          ∧ r.2.mem ((c.tc : Thread Cert.KeyStepIdeal.nD Cert.KeyStepIdeal.τ).loc Cert.KeyStepIdeal.main_arg1) = m ((c.tc : Thread Cert.KeyStepIdeal.nD Cert.KeyStepIdeal.τ).loc Cert.KeyStepIdeal.main_arg1))
      ∧ θ_run (Cert.KeyStepReferenceIdeal.defs (F := Ideal)) (onTc (τ := Cert.KeyStepReferenceIdeal.τ) (Cert.KeyStepReferenceIdeal.main (F := Ideal))) ⟨m', fun _ => 0, g'⟩ (fun r => ∀ c : Dev Cert.KeyStepReferenceIdeal.nD,
          r.2.mem ((c.tc : Thread Cert.KeyStepReferenceIdeal.nD Cert.KeyStepReferenceIdeal.τ).loc Cert.KeyStepReferenceIdeal.main_v33) = v0 c
          ∧ r.2.mem ((c.tc : Thread Cert.KeyStepReferenceIdeal.nD Cert.KeyStepReferenceIdeal.τ).loc Cert.KeyStepReferenceIdeal.main_arg0) = m' ((c.tc : Thread Cert.KeyStepReferenceIdeal.nD Cert.KeyStepReferenceIdeal.τ).loc Cert.KeyStepReferenceIdeal.main_arg0)
          ∧ r.2.mem ((c.tc : Thread Cert.KeyStepReferenceIdeal.nD Cert.KeyStepReferenceIdeal.τ).loc Cert.KeyStepReferenceIdeal.main_arg1) = m' ((c.tc : Thread Cert.KeyStepReferenceIdeal.nD Cert.KeyStepReferenceIdeal.τ).loc Cert.KeyStepReferenceIdeal.main_arg1))

def preserves_ValStep_ValStepIdeal : Prop :=
  True

def algebraic_ValStepIdeal_ValStepReferenceIdeal [hValStepIdeal : Cert.ValStepIdeal.Facts] [hValStepReferenceIdeal : Cert.ValStepReferenceIdeal.Facts] : Prop :=
  ∀ (m : (ℓ : Loc Cert.ValStepIdeal.nD Cert.ValStepIdeal.τ Cert.ValStepIdeal.sig) → Buf (Elt Ideal) ℓ) (g : Dev Cert.ValStepIdeal.nD → PrngReg)
    (m' : (ℓ : Loc Cert.ValStepReferenceIdeal.nD Cert.ValStepReferenceIdeal.τ Cert.ValStepReferenceIdeal.sig) → Buf (Elt Ideal) ℓ) (g' : Dev Cert.ValStepReferenceIdeal.nD → PrngReg), Pre_ValStepIdeal m →
    (∀ c : Dev Cert.ValStepIdeal.nD,
      m' ((c.tc : Thread Cert.ValStepReferenceIdeal.nD Cert.ValStepReferenceIdeal.τ).loc Cert.ValStepReferenceIdeal.main_arg0) = m ((c.tc : Thread Cert.ValStepIdeal.nD Cert.ValStepIdeal.τ).loc Cert.ValStepIdeal.main_arg0)
      ∧ m' ((c.tc : Thread Cert.ValStepReferenceIdeal.nD Cert.ValStepReferenceIdeal.τ).loc Cert.ValStepReferenceIdeal.main_arg1) = m ((c.tc : Thread Cert.ValStepIdeal.nD Cert.ValStepIdeal.τ).loc Cert.ValStepIdeal.main_arg1)) →
    ∃ (v0 : (c : Dev Cert.ValStepIdeal.nD) → Buf (Elt Ideal) ((c.tc : Thread Cert.ValStepIdeal.nD Cert.ValStepIdeal.τ).loc Cert.ValStepIdeal.main_v2)),
      θ_run (Cert.ValStepIdeal.defs (F := Ideal)) (onTc (τ := Cert.ValStepIdeal.τ) (Cert.ValStepIdeal.main (F := Ideal))) ⟨m, fun _ => 0, g⟩ (fun r => ∀ c : Dev Cert.ValStepIdeal.nD,
          r.2.mem ((c.tc : Thread Cert.ValStepIdeal.nD Cert.ValStepIdeal.τ).loc Cert.ValStepIdeal.main_v2) = v0 c
          ∧ r.2.mem ((c.tc : Thread Cert.ValStepIdeal.nD Cert.ValStepIdeal.τ).loc Cert.ValStepIdeal.main_arg0) = m ((c.tc : Thread Cert.ValStepIdeal.nD Cert.ValStepIdeal.τ).loc Cert.ValStepIdeal.main_arg0)
          ∧ r.2.mem ((c.tc : Thread Cert.ValStepIdeal.nD Cert.ValStepIdeal.τ).loc Cert.ValStepIdeal.main_arg1) = m ((c.tc : Thread Cert.ValStepIdeal.nD Cert.ValStepIdeal.τ).loc Cert.ValStepIdeal.main_arg1))
      ∧ θ_run (Cert.ValStepReferenceIdeal.defs (F := Ideal)) (onTc (τ := Cert.ValStepReferenceIdeal.τ) (Cert.ValStepReferenceIdeal.main (F := Ideal))) ⟨m', fun _ => 0, g'⟩ (fun r => ∀ c : Dev Cert.ValStepReferenceIdeal.nD,
          r.2.mem ((c.tc : Thread Cert.ValStepReferenceIdeal.nD Cert.ValStepReferenceIdeal.τ).loc Cert.ValStepReferenceIdeal.main_v2) = v0 c
          ∧ r.2.mem ((c.tc : Thread Cert.ValStepReferenceIdeal.nD Cert.ValStepReferenceIdeal.τ).loc Cert.ValStepReferenceIdeal.main_arg0) = m' ((c.tc : Thread Cert.ValStepReferenceIdeal.nD Cert.ValStepReferenceIdeal.τ).loc Cert.ValStepReferenceIdeal.main_arg0)
          ∧ r.2.mem ((c.tc : Thread Cert.ValStepReferenceIdeal.nD Cert.ValStepReferenceIdeal.τ).loc Cert.ValStepReferenceIdeal.main_arg1) = m' ((c.tc : Thread Cert.ValStepReferenceIdeal.nD Cert.ValStepReferenceIdeal.τ).loc Cert.ValStepReferenceIdeal.main_arg1))

def preserves_UpStep_UpStepIdeal : Prop :=
  True

def algebraic_UpStepIdeal_UpStepReferenceIdeal [hUpStepIdeal : Cert.UpStepIdeal.Facts] [hUpStepReferenceIdeal : Cert.UpStepReferenceIdeal.Facts] : Prop :=
  ∀ (m : (ℓ : Loc Cert.UpStepIdeal.nD Cert.UpStepIdeal.τ Cert.UpStepIdeal.sig) → Buf (Elt Ideal) ℓ) (g : Dev Cert.UpStepIdeal.nD → PrngReg)
    (m' : (ℓ : Loc Cert.UpStepReferenceIdeal.nD Cert.UpStepReferenceIdeal.τ Cert.UpStepReferenceIdeal.sig) → Buf (Elt Ideal) ℓ) (g' : Dev Cert.UpStepReferenceIdeal.nD → PrngReg), Pre_UpStepIdeal m →
    (∀ c : Dev Cert.UpStepIdeal.nD,
      m' ((c.tc : Thread Cert.UpStepReferenceIdeal.nD Cert.UpStepReferenceIdeal.τ).loc Cert.UpStepReferenceIdeal.main_arg0) = m ((c.tc : Thread Cert.UpStepIdeal.nD Cert.UpStepIdeal.τ).loc Cert.UpStepIdeal.main_arg0)
      ∧ m' ((c.tc : Thread Cert.UpStepReferenceIdeal.nD Cert.UpStepReferenceIdeal.τ).loc Cert.UpStepReferenceIdeal.main_arg1) = m ((c.tc : Thread Cert.UpStepIdeal.nD Cert.UpStepIdeal.τ).loc Cert.UpStepIdeal.main_arg1)) →
    ∃ (v0 : (c : Dev Cert.UpStepIdeal.nD) → Buf (Elt Ideal) ((c.tc : Thread Cert.UpStepIdeal.nD Cert.UpStepIdeal.τ).loc Cert.UpStepIdeal.main_v2)),
      θ_run (Cert.UpStepIdeal.defs (F := Ideal)) (onTc (τ := Cert.UpStepIdeal.τ) (Cert.UpStepIdeal.main (F := Ideal))) ⟨m, fun _ => 0, g⟩ (fun r => ∀ c : Dev Cert.UpStepIdeal.nD,
          r.2.mem ((c.tc : Thread Cert.UpStepIdeal.nD Cert.UpStepIdeal.τ).loc Cert.UpStepIdeal.main_v2) = v0 c
          ∧ r.2.mem ((c.tc : Thread Cert.UpStepIdeal.nD Cert.UpStepIdeal.τ).loc Cert.UpStepIdeal.main_arg0) = m ((c.tc : Thread Cert.UpStepIdeal.nD Cert.UpStepIdeal.τ).loc Cert.UpStepIdeal.main_arg0)
          ∧ r.2.mem ((c.tc : Thread Cert.UpStepIdeal.nD Cert.UpStepIdeal.τ).loc Cert.UpStepIdeal.main_arg1) = m ((c.tc : Thread Cert.UpStepIdeal.nD Cert.UpStepIdeal.τ).loc Cert.UpStepIdeal.main_arg1))
      ∧ θ_run (Cert.UpStepReferenceIdeal.defs (F := Ideal)) (onTc (τ := Cert.UpStepReferenceIdeal.τ) (Cert.UpStepReferenceIdeal.main (F := Ideal))) ⟨m', fun _ => 0, g'⟩ (fun r => ∀ c : Dev Cert.UpStepReferenceIdeal.nD,
          r.2.mem ((c.tc : Thread Cert.UpStepReferenceIdeal.nD Cert.UpStepReferenceIdeal.τ).loc Cert.UpStepReferenceIdeal.main_v3) = v0 c
          ∧ r.2.mem ((c.tc : Thread Cert.UpStepReferenceIdeal.nD Cert.UpStepReferenceIdeal.τ).loc Cert.UpStepReferenceIdeal.main_arg0) = m' ((c.tc : Thread Cert.UpStepReferenceIdeal.nD Cert.UpStepReferenceIdeal.τ).loc Cert.UpStepReferenceIdeal.main_arg0)
          ∧ r.2.mem ((c.tc : Thread Cert.UpStepReferenceIdeal.nD Cert.UpStepReferenceIdeal.τ).loc Cert.UpStepReferenceIdeal.main_arg1) = m' ((c.tc : Thread Cert.UpStepReferenceIdeal.nD Cert.UpStepReferenceIdeal.τ).loc Cert.UpStepReferenceIdeal.main_arg1))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hMix : Cert.Mix.Facts) (hMixIdeal : Cert.MixIdeal.Facts) (hMixReferenceIdeal : Cert.MixReferenceIdeal.Facts) (hKey : Cert.Key.Facts) (hKeyIdeal : Cert.KeyIdeal.Facts) (hKeyReferenceIdeal : Cert.KeyReferenceIdeal.Facts) (hVal : Cert.Val.Facts) (hValIdeal : Cert.ValIdeal.Facts) (hValReferenceIdeal : Cert.ValReferenceIdeal.Facts) (hUp : Cert.Up.Facts) (hUpIdeal : Cert.UpIdeal.Facts) (hUpReferenceIdeal : Cert.UpReferenceIdeal.Facts) (hQuery : Cert.Query.Facts) (hQueryIdeal : Cert.QueryIdeal.Facts) (hQueryReferenceIdeal : Cert.QueryReferenceIdeal.Facts) (hOut : Cert.Out.Facts) (hOutIdeal : Cert.OutIdeal.Facts) (hOutReferenceIdeal : Cert.OutReferenceIdeal.Facts) (hNorm : Cert.Norm.Facts) (hNormIdeal : Cert.NormIdeal.Facts) (hNormReferenceIdeal : Cert.NormReferenceIdeal.Facts) (hNormStep : Cert.NormStep.Facts) (hNormStepIdeal : Cert.NormStepIdeal.Facts) (hNormStepReferenceIdeal : Cert.NormStepReferenceIdeal.Facts) (hKeyStep : Cert.KeyStep.Facts) (hKeyStepIdeal : Cert.KeyStepIdeal.Facts) (hKeyStepReferenceIdeal : Cert.KeyStepReferenceIdeal.Facts) (hValStep : Cert.ValStep.Facts) (hValStepIdeal : Cert.ValStepIdeal.Facts) (hValStepReferenceIdeal : Cert.ValStepReferenceIdeal.Facts) (hUpStep : Cert.UpStep.Facts) (hUpStepIdeal : Cert.UpStepIdeal.Facts) (hUpStepReferenceIdeal : Cert.UpStepReferenceIdeal.Facts) (hPre_finite : Cert.Pre_finite.Facts) (hPre_pages_exist : Cert.Pre_pages_exist.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownReferenceIdeal (hDownReferenceIdeal := hDownReferenceIdeal)
    ∧ quiescent_Mix (hMix := hMix)
    ∧ quiescent_MixIdeal (hMixIdeal := hMixIdeal)
    ∧ quiescent_MixReferenceIdeal (hMixReferenceIdeal := hMixReferenceIdeal)
    ∧ quiescent_Key (hKey := hKey)
    ∧ quiescent_KeyIdeal (hKeyIdeal := hKeyIdeal)
    ∧ quiescent_KeyReferenceIdeal (hKeyReferenceIdeal := hKeyReferenceIdeal)
    ∧ quiescent_Val (hVal := hVal)
    ∧ quiescent_ValIdeal (hValIdeal := hValIdeal)
    ∧ quiescent_ValReferenceIdeal (hValReferenceIdeal := hValReferenceIdeal)
    ∧ quiescent_Up (hUp := hUp) (hPre_pages_exist := hPre_pages_exist)
    ∧ quiescent_UpIdeal (hUpIdeal := hUpIdeal) (hPre_pages_exist := hPre_pages_exist)
    ∧ quiescent_UpReferenceIdeal (hUpReferenceIdeal := hUpReferenceIdeal)
    ∧ quiescent_UpReferenceIdeal_pre_pages_exist (hUpReferenceIdeal := hUpReferenceIdeal) (hPre_pages_exist := hPre_pages_exist)
    ∧ quiescent_Query (hQuery := hQuery)
    ∧ quiescent_QueryIdeal (hQueryIdeal := hQueryIdeal)
    ∧ quiescent_QueryReferenceIdeal (hQueryReferenceIdeal := hQueryReferenceIdeal)
    ∧ quiescent_Out (hOut := hOut)
    ∧ quiescent_OutIdeal (hOutIdeal := hOutIdeal)
    ∧ quiescent_OutReferenceIdeal (hOutReferenceIdeal := hOutReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_NormStep (hNormStep := hNormStep)
    ∧ quiescent_NormStepIdeal (hNormStepIdeal := hNormStepIdeal)
    ∧ quiescent_NormStepReferenceIdeal (hNormStepReferenceIdeal := hNormStepReferenceIdeal)
    ∧ quiescent_KeyStep (hKeyStep := hKeyStep)
    ∧ quiescent_KeyStepIdeal (hKeyStepIdeal := hKeyStepIdeal)
    ∧ quiescent_KeyStepReferenceIdeal (hKeyStepReferenceIdeal := hKeyStepReferenceIdeal)
    ∧ quiescent_ValStep (hValStep := hValStep)
    ∧ quiescent_ValStepIdeal (hValStepIdeal := hValStepIdeal)
    ∧ quiescent_ValStepReferenceIdeal (hValStepReferenceIdeal := hValStepReferenceIdeal)
    ∧ quiescent_UpStep (hUpStep := hUpStep)
    ∧ quiescent_UpStepIdeal (hUpStepIdeal := hUpStepIdeal)
    ∧ quiescent_UpStepReferenceIdeal (hUpStepReferenceIdeal := hUpStepReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownReferenceIdeal (hDownIdeal := hDownIdeal) (hDownReferenceIdeal := hDownReferenceIdeal)
    ∧ preserves_Mix_MixIdeal
    ∧ algebraic_MixIdeal_MixReferenceIdeal (hMixIdeal := hMixIdeal) (hMixReferenceIdeal := hMixReferenceIdeal)
    ∧ preserves_Key_KeyIdeal
    ∧ algebraic_KeyIdeal_KeyReferenceIdeal (hKeyIdeal := hKeyIdeal) (hKeyReferenceIdeal := hKeyReferenceIdeal)
    ∧ preserves_Val_ValIdeal
    ∧ algebraic_ValIdeal_ValReferenceIdeal (hValIdeal := hValIdeal) (hValReferenceIdeal := hValReferenceIdeal)
    ∧ preserves_Up_UpIdeal
    ∧ algebraic_UpIdeal_UpReferenceIdeal (hUpIdeal := hUpIdeal) (hUpReferenceIdeal := hUpReferenceIdeal) (hPre_pages_exist := hPre_pages_exist)
    ∧ preserves_Query_QueryIdeal
    ∧ algebraic_QueryIdeal_QueryReferenceIdeal (hQueryIdeal := hQueryIdeal) (hQueryReferenceIdeal := hQueryReferenceIdeal)
    ∧ preserves_Out_OutIdeal
    ∧ algebraic_OutIdeal_OutReferenceIdeal (hOutIdeal := hOutIdeal) (hOutReferenceIdeal := hOutReferenceIdeal)
    ∧ preserves_Norm_NormIdeal
    ∧ algebraic_NormIdeal_NormReferenceIdeal (hNormIdeal := hNormIdeal) (hNormReferenceIdeal := hNormReferenceIdeal)
    ∧ preserves_NormStep_NormStepIdeal
    ∧ algebraic_NormStepIdeal_NormStepReferenceIdeal (hNormStepIdeal := hNormStepIdeal) (hNormStepReferenceIdeal := hNormStepReferenceIdeal)
    ∧ preserves_KeyStep_KeyStepIdeal
    ∧ algebraic_KeyStepIdeal_KeyStepReferenceIdeal (hKeyStepIdeal := hKeyStepIdeal) (hKeyStepReferenceIdeal := hKeyStepReferenceIdeal)
    ∧ preserves_ValStep_ValStepIdeal
    ∧ algebraic_ValStepIdeal_ValStepReferenceIdeal (hValStepIdeal := hValStepIdeal) (hValStepReferenceIdeal := hValStepReferenceIdeal)
    ∧ preserves_UpStep_UpStepIdeal
    ∧ algebraic_UpStepIdeal_UpStepReferenceIdeal (hUpStepIdeal := hUpStepIdeal) (hUpStepReferenceIdeal := hUpStepReferenceIdeal)
-- ==== Pre_finite.lean ====
abbrev S4x2048x12304 : Shape := ⟨3, ![4, 2048, 12304]⟩
abbrev S16x2048 : Shape := ⟨2, ![16, 2048]⟩
abbrev S2048 : Shape := ⟨1, ![2048]⟩
abbrev S1024 : Shape := ⟨1, ![1024]⟩
abbrev S_ : Shape := ⟨0, ![]⟩

class Facts : Prop where
  bcast_S_S4x2048x12304 : S_.BroadcastsInDim S4x2048x12304 (![] : Fin 0 → Fin S4x2048x12304.rank)
  reducesTo_S4x2048x12304_S_d0_1_2 : S4x2048x12304.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x12304 .f32) (main_arg1 : FVec F S16x2048 .f32) (main_arg2 : FVec F S2048 .f32) (main_arg3 : FVec F S1024 .f32) : IVec S_ 1 :=
  let main_v0 : FVec F S4x2048x12304 .f32 := Host.absf main_arg0
  let main_cst : FVec F S_ .f32 := constant S_ .f32 0x7F800000#32
  let main_v1 : FVec F S4x2048x12304 .f32 := broadcastInDim S4x2048x12304 ![] bcast_S_S4x2048x12304 main_cst
  let main_v2 : IVec S4x2048x12304 1 := cmpf .olt main_v0 main_v1
  let main_c : IVec S_ 1 := constantI S_ 1 1#1
  let main_v3 : IVec S_ 1 := (fun x v => Host.reduce IntOp.andi x v reducesTo_S4x2048x12304_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Pre_pages_exist.lean ====
abbrev S4x2048x4096 : Shape := ⟨3, ![4, 2048, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S1280x128x32x128 : Shape := ⟨4, ![1280, 128, 32, 128]⟩
abbrev S8x128 : Shape := ⟨2, ![8, 128]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : FVec F S4x2048x4096 .f32) (main_arg1 : FVec F S2x4096x22016 .f32) (main_arg2 : FVec F S2x3x22016 .f32) (main_arg3 : FVec F S2x22016 .f32) (main_arg4 : FVec F S1280x128x32x128 .f32) (main_arg5 : IVec S8x128 32) : IVec S_ 1 :=
  let main_c : IVec S_ 32 := constantI S_ 32 0#32
  let main_v0 : IVec S8x128 32 := broadcastInDim S8x128 ![] bcast_S_S8x128 main_c
  let main_v1 : IVec S8x128 1 := cmpi .sge main_arg5 main_v0
  let main_c_0 : IVec S_ 32 := constantI S_ 32 1280#32
  let main_v2 : IVec S8x128 32 := broadcastInDim S8x128 ![] bcast_S_S8x128 main_c_0
  let main_v3 : IVec S8x128 1 := cmpi .slt main_arg5 main_v2
  let main_v4 : IVec S8x128 1 := andi main_v1 main_v3
  let main_c_1 : IVec S_ 1 := constantI S_ 1 1#1
  let main_v5 : IVec S_ 1 := (fun x v => Host.reduce IntOp.andi x v reducesTo_S8x128_S_d0_1 h_S_) main_v4 main_c_1
  main_v5
-- ==== Kernel.lean ====
abbrev S4x2048x12304 : Shape := ⟨3, ![4, 2048, 12304]⟩
abbrev S16x2048 : Shape := ⟨2, ![16, 2048]⟩
abbrev S2048 : Shape := ⟨1, ![2048]⟩
abbrev S1024 : Shape := ⟨1, ![1024]⟩
abbrev S_ : Shape := ⟨0, ![]⟩
abbrev S128x2048 : Shape := ⟨2, ![128, 2048]⟩
abbrev S8192x12304 : Shape := ⟨2, ![8192, 12304]⟩
abbrev S8192x16 : Shape := ⟨2, ![8192, 16]⟩
abbrev S8192x128 : Shape := ⟨2, ![8192, 128]⟩
abbrev S8192x12288 : Shape := ⟨2, ![8192, 12288]⟩
abbrev S1x2048 : Shape := ⟨2, ![1, 2048]⟩
abbrev S1x1024 : Shape := ⟨2, ![1, 1024]⟩
abbrev S8192x4096 : Shape := ⟨2, ![8192, 4096]⟩
abbrev S4x4x512x1024 : Shape := ⟨4, ![4, 4, 512, 1024]⟩
abbrev S512x512 : Shape := ⟨2, ![512, 512]⟩
abbrev S512x1024 : Shape := ⟨2, ![512, 1024]⟩
abbrev S512x128 : Shape := ⟨2, ![512, 128]⟩
abbrev S128x512 : Shape := ⟨2, ![128, 512]⟩
abbrev S1x512 : Shape := ⟨2, ![1, 512]⟩
abbrev S1x1x512x1024 : Shape := ⟨4, ![1, 1, 512, 1024]⟩
abbrev S128x128 : Shape := ⟨2, ![128, 128]⟩
abbrev S128x1024 : Shape := ⟨2, ![128, 1024]⟩
abbrev S512x1 : Shape := ⟨2, ![512, 1]⟩
abbrev S128 : Shape := ⟨1, ![128]⟩
abbrev S128x1 : Shape := ⟨2, ![128, 1]⟩

abbrev nBuf : Space → Nat
  | .hbm => 18
  | .vmem => 19
  | .smem => 0
  | _ => 0

abbrev bufTy : (tb : Table) → Fin (tcTables nBuf tb) → BufTy
  | .hbm, ⟨0, _⟩ => ⟨S4x2048x12304, .f32⟩
  | .hbm, ⟨1, _⟩ => ⟨S16x2048, .f32⟩
  | .hbm, ⟨2, _⟩ => ⟨S2048, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S128x2048, .f32⟩
  | .hbm, ⟨7, _⟩ => ⟨S128x2048, .bf16⟩
  | .hbm, ⟨8, _⟩ => ⟨S8192x12304, .f32⟩
  | .hbm, ⟨9, _⟩ => ⟨S8192x16, .f32⟩
  | .hbm, ⟨10, _⟩ => ⟨S_, .i32⟩
  | .hbm, ⟨11, _⟩ => ⟨S_, .f32⟩
  | .hbm, ⟨12, _⟩ => ⟨S8192x128, .f32⟩
  | .hbm, ⟨13, _⟩ => ⟨S8192x12288, .f32⟩
  | .hbm, ⟨14, _⟩ => ⟨S1x2048, .f32⟩
  | .hbm, ⟨15, _⟩ => ⟨S1x1024, .f32⟩
  | .hbm, ⟨16, _⟩ => ⟨S8192x4096, .bf16⟩
  | .hbm, ⟨17, _⟩ => ⟨S4x4x512x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S128x512, .bf16⟩
  | .local _ .vmem, ⟨11, _⟩ => ⟨S128x512, .bf16⟩
  | .local _ .vmem, ⟨12, _⟩ => ⟨S1x512, .f32⟩
  | .local _ .vmem, ⟨13, _⟩ => ⟨S1x512, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S1x1x512x1024, .f32⟩
  | .local _ .vmem, ⟨18, _⟩ => ⟨S1x1x512x1024, .f32⟩
  | _, _ => ⟨S4x2048x12304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S4x2048x12304 : Shape := ⟨3, ![4, 2048, 12304]⟩
abbrev S16x2048 : Shape := ⟨2, ![16, 2048]⟩
abbrev S2048 : Shape := ⟨1, ![2048]⟩
abbrev S1024 : Shape := ⟨1, ![1024]⟩
abbrev S4x2048x2048 : Shape := ⟨3, ![4, 2048, 2048]⟩
abbrev S4x2048x4096 : Shape := ⟨3, ![4, 2048, 4096]⟩
abbrev S4x2048x16 : Shape := ⟨3, ![4, 2048, 16]⟩
abbrev S1x1x2048 : Shape := ⟨3, ![1, 1, 2048]⟩
abbrev S_ : Shape := ⟨0, ![]⟩
abbrev S4x4x512x1024 : Shape := ⟨4, ![4, 4, 512, 1024]⟩
abbrev S4x2048x4x512 : Shape := ⟨4, ![4, 2048, 4, 512]⟩
abbrev S4x2048x4x1024 : Shape := ⟨4, ![4, 2048, 4, 1024]⟩
abbrev S4x32x64x4x512 : Shape := ⟨5, ![4, 32, 64, 4, 512]⟩
abbrev S32x4x4x64x512 : Shape := ⟨5, ![32, 4, 4, 64, 512]⟩
abbrev S4x32x64x4x1024 : Shape := ⟨5, ![4, 32, 64, 4, 1024]⟩
abbrev S32x4x4x64x1024 : Shape := ⟨5, ![32, 4, 4, 64, 1024]⟩
abbrev S64x64 : Shape := ⟨2, ![64, 64]⟩
abbrev S1x4x4x64x512 : Shape := ⟨5, ![1, 4, 4, 64, 512]⟩
abbrev S4x4x64x512 : Shape := ⟨4, ![4, 4, 64, 512]⟩
abbrev S1x4x4x64x1024 : Shape := ⟨5, ![1, 4, 4, 64, 1024]⟩
abbrev S4x4x64x1024 : Shape := ⟨4, ![4, 4, 64, 1024]⟩
abbrev S4x4x1x512 : Shape := ⟨4, ![4, 4, 1, 512]⟩
abbrev S4x4x64x64 : Shape := ⟨4, ![4, 4, 64, 64]⟩
abbrev S4x4x512 : Shape := ⟨3, ![4, 4, 512]⟩
abbrev S4x4x512x1 : Shape := ⟨4, ![4, 4, 512, 1]⟩
abbrev S4x2048x4 : Shape := ⟨3, ![4, 2048, 4]⟩
abbrev S4x2048x4x1 : Shape := ⟨4, ![4, 2048, 4, 1]⟩
abbrev S1x1x1x1024 : Shape := ⟨4, ![1, 1, 1, 1024]⟩
abbrev S8192x4096 : Shape := ⟨2, ![8192, 4096]⟩

abbrev nBuf : Space → Nat
  | .hbm => 165
  | .vmem => 0
  | .smem => 0
  | _ => 0

abbrev hbmTy0_0 (i : Nat) : BufTy := match i % 128 with
  | 0 => ⟨S4x2048x12304, .f32⟩
  | 1 => ⟨S16x2048, .f32⟩
  | 2 => ⟨S2048, .f32⟩
  | 3 => ⟨S1024, .f32⟩
  | 4 => ⟨S4x2048x2048, .f32⟩
  | 5 => ⟨S4x2048x2048, .f32⟩
  | 6 => ⟨S4x2048x4096, .f32⟩
  | 7 => ⟨S4x2048x16, .f32⟩
  | 8 => ⟨S4x2048x2048, .f32⟩
  | 9 => ⟨S1x1x2048, .f32⟩
  | 10 => ⟨S4x2048x2048, .f32⟩
  | 11 => ⟨S4x2048x2048, .f32⟩
  | 12 => ⟨S4x2048x2048, .f32⟩
  | 13 => ⟨S_, .f32⟩
  | 14 => ⟨S4x2048x2048, .f32⟩
  | 15 => ⟨S4x2048x2048, .f32⟩
  | 16 => ⟨S4x2048x2048, .f32⟩
  | 17 => ⟨S4x2048x2048, .f32⟩
  | 18 => ⟨S4x2048x2048, .i1⟩
  | 19 => ⟨S4x2048x2048, .f32⟩
  | 20 => ⟨S4x2048x2048, .f32⟩
  | 21 => ⟨S4x2048x2048, .f32⟩
  | 22 => ⟨S4x2048x2048, .f32⟩
  | 23 => ⟨S4x2048x2048, .f32⟩
  | 24 => ⟨S4x2048x2048, .f32⟩
  | 25 => ⟨S4x2048x2048, .f32⟩
  | 26 => ⟨S4x2048x2048, .f32⟩
  | 27 => ⟨S4x2048x2048, .f32⟩
  | 28 => ⟨S_, .f32⟩
  | 29 => ⟨S4x2048x2048, .f32⟩
  | 30 => ⟨S4x2048x2048, .f32⟩
  | 31 => ⟨S_, .f32⟩
  | 32 => ⟨S4x4x512x1024, .f32⟩
  | 33 => ⟨S4x2048x4x512, .f32⟩
  | 34 => ⟨S_, .f32⟩
  | 35 => ⟨S4x2048x4x512, .f32⟩
  | 36 => ⟨S4x2048x4x512, .f32⟩
  | 37 => ⟨S4x2048x4x512, .f32⟩
  | 38 => ⟨S4x2048x4x1024, .f32⟩
  | 39 => ⟨S4x2048x4x512, .f32⟩
  | 40 => ⟨S4x32x64x4x512, .f32⟩
  | 41 => ⟨S32x4x4x64x512, .f32⟩
  | 42 => ⟨S4x32x64x4x512, .f32⟩
  | 43 => ⟨S32x4x4x64x512, .f32⟩
  | 44 => ⟨S4x32x64x4x1024, .f32⟩
  | 45 => ⟨S32x4x4x64x1024, .f32⟩
  | 46 => ⟨S4x32x64x4x512, .f32⟩
  | 47 => ⟨S32x4x4x64x512, .f32⟩
  | 48 => ⟨S_, .i1⟩
  | 49 => ⟨S64x64, .i1⟩
  | 50 => ⟨S64x64, .i32⟩
  | 51 => ⟨S_, .i32⟩
  | 52 => ⟨S64x64, .i32⟩
  | 53 => ⟨S64x64, .i32⟩
  | 54 => ⟨S64x64, .i32⟩
  | 55 => ⟨S64x64, .i1⟩
  | 56 => ⟨S_, .i1⟩
  | 57 => ⟨S64x64, .i1⟩
  | 58 => ⟨S64x64, .i1⟩
  | 59 => ⟨S_, .f32⟩
  | 60 => ⟨S32x4x4x64x1024, .f32⟩
  | 61 => ⟨S_, .i32⟩
  | 62 => ⟨S32x4x4x64x512, .f32⟩
  | 63 => ⟨S32x4x4x64x512, .f32⟩
  | 64 => ⟨S32x4x4x64x1024, .f32⟩
  | 65 => ⟨S32x4x4x64x512, .f32⟩
  | 66 => ⟨S64x64, .i1⟩
  | 67 => ⟨S_, .i32⟩
  | 68 => ⟨S4x4x512x1024, .f32⟩
  | 69 => ⟨S32x4x4x64x1024, .f32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S1x4x4x64x512, .f32⟩
  | 77 => ⟨S4x4x64x512, .f32⟩
  | 78 => ⟨S_, .i32⟩
  | 79 => ⟨S_, .i32⟩
  | 80 => ⟨S_, .i32⟩
  | 81 => ⟨S_, .i32⟩
  | 82 => ⟨S1x4x4x64x512, .f32⟩
  | 83 => ⟨S4x4x64x512, .f32⟩
  | 84 => ⟨S_, .i32⟩
  | 85 => ⟨S_, .i32⟩
  | 86 => ⟨S_, .i32⟩
  | 87 => ⟨S_, .i32⟩
  | 88 => ⟨S1x4x4x64x1024, .f32⟩
  | 89 => ⟨S4x4x64x1024, .f32⟩
  | 90 => ⟨S_, .i32⟩
  | 91 => ⟨S_, .i32⟩
  | 92 => ⟨S_, .i32⟩
  | 93 => ⟨S_, .i32⟩
  | 94 => ⟨S1x4x4x64x512, .f32⟩
  | 95 => ⟨S4x4x64x512, .f32⟩
  | 96 => ⟨S_, .f32⟩
  | 97 => ⟨S_, .f32⟩
  | 98 => ⟨S4x4x64x512, .f32⟩
  | 99 => ⟨S4x4x1x512, .f32⟩
  | 100 => ⟨S4x4x64x512, .f32⟩
  | 101 => ⟨S4x4x64x512, .f32⟩
  | 102 => ⟨S4x4x64x512, .f32⟩
  | 103 => ⟨S4x4x64x512, .f32⟩
  | 104 => ⟨S4x4x64x512, .f32⟩
  | 105 => ⟨S4x4x64x64, .f32⟩
  | 106 => ⟨S_, .f32⟩
  | 107 => ⟨S_, .f32⟩
  | 108 => ⟨S4x4x64x64, .i1⟩
  | 109 => ⟨S4x4x64x64, .f32⟩
  | 110 => ⟨S4x4x64x64, .f32⟩
  | 111 => ⟨S4x4x64x1024, .f32⟩
  | 112 => ⟨S4x4x64x1024, .f32⟩
  | 113 => ⟨S4x4x64x1024, .f32⟩
  | 114 => ⟨S4x4x512, .f32⟩
  | 115 => ⟨S4x4x512, .f32⟩
  | 116 => ⟨S4x4x512x1, .f32⟩
  | 117 => ⟨S4x4x512x1024, .f32⟩
  | 118 => ⟨S4x4x512x1024, .f32⟩
  | 119 => ⟨S4x4x64x512, .f32⟩
  | 120 => ⟨S4x4x64x512, .f32⟩
  | 121 => ⟨S4x4x64x512, .f32⟩
  | 122 => ⟨S4x4x64x512, .f32⟩
  | 123 => ⟨S4x4x512x1024, .f32⟩
  | 124 => ⟨S4x4x512x1024, .f32⟩
  | 125 => ⟨S1x4x4x64x1024, .f32⟩
  | 126 => ⟨S_, .i32⟩
  | 127 => ⟨S_, .i32⟩
  | _ => ⟨S4x2048x12304, .f32⟩

abbrev hbmTy0_1 (i : Nat) : BufTy := match i % 128 with
  | 0 => ⟨S_, .i32⟩
  | 1 => ⟨S_, .i32⟩
  | 2 => ⟨S32x4x4x64x1024, .f32⟩
  | 3 => ⟨S_, .i32⟩
  | 4 => ⟨S_, .i32⟩
  | 5 => ⟨S4x32x64x4x1024, .f32⟩
  | 6 => ⟨S4x2048x4x1024, .f32⟩
  | 7 => ⟨S4x2048x4x1024, .f32⟩
  | 8 => ⟨S_, .f32⟩
  | 9 => ⟨S4x2048x4, .f32⟩
  | 10 => ⟨S4x2048x4x1, .f32⟩
  | 11 => ⟨S_, .f32⟩
  | 12 => ⟨S4x2048x4x1, .f32⟩
  | 13 => ⟨S4x2048x4x1, .f32⟩
  | 14 => ⟨S_, .f32⟩
  | 15 => ⟨S4x2048x4x1, .f32⟩
  | 16 => ⟨S4x2048x4x1, .f32⟩
  | 17 => ⟨S4x2048x4x1, .f32⟩
  | 18 => ⟨S4x2048x4x1024, .f32⟩
  | 19 => ⟨S4x2048x4x1024, .f32⟩
  | 20 => ⟨S1x1x1x1024, .f32⟩
  | 21 => ⟨S4x2048x4x1024, .f32⟩
  | 22 => ⟨S4x2048x4x1024, .f32⟩
  | 23 => ⟨S4x2048x4096, .f32⟩
  | 24 => ⟨S4x2048x4096, .f32⟩
  | 25 => ⟨S4x2048x4096, .f32⟩
  | 26 => ⟨S4x2048x4096, .f32⟩
  | 27 => ⟨S_, .f32⟩
  | 28 => ⟨S4x2048x4096, .f32⟩
  | 29 => ⟨S4x2048x4096, .f32⟩
  | 30 => ⟨S_, .f32⟩
  | 31 => ⟨S4x2048x4096, .f32⟩
  | 32 => ⟨S4x2048x4096, .f32⟩
  | 33 => ⟨S4x2048x4096, .f32⟩
  | 34 => ⟨S4x2048x4096, .f32⟩
  | 35 => ⟨S8192x4096, .f32⟩
  | 36 => ⟨S8192x4096, .bf16⟩
  | _ => ⟨S4x2048x12304, .f32⟩

abbrev hbmTy (i : Nat) : BufTy := match i / 128 with
  | 0 => hbmTy0_0 i
  | 1 => hbmTy0_1 i
  | _ => ⟨S4x2048x12304, .f32⟩

abbrev bufTy : (tb : Table) → Fin (tcTables nBuf tb) → BufTy
  | .hbm, ⟨i, _⟩ => hbmTy i
  | _, _ => ⟨S4x2048x12304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_0 : Ref sig .tc := ⟨.hbm, 56, rfl⟩
abbrev main_call1_v5 : Ref sig .tc := ⟨.hbm, 57, rfl⟩
abbrev main_v29 : Ref sig .tc := ⟨.hbm, 58, rfl⟩
abbrev main_cst_2 : Ref sig .tc := ⟨.hbm, 59, rfl⟩
abbrev main_v30 : Ref sig .tc := ⟨.hbm, 60, rfl⟩
abbrev main_c_3 : Ref sig .tc := ⟨.hbm, 61, rfl⟩
abbrev main_v31_0 : Ref sig .tc := ⟨.hbm, 62, rfl⟩
abbrev main_v31_1 : Ref sig .tc := ⟨.hbm, 63, rfl⟩
abbrev main_v31_2 : Ref sig .tc := ⟨.hbm, 64, rfl⟩
abbrev main_v31_3 : Ref sig .tc := ⟨.hbm, 65, rfl⟩
abbrev main_v31_4 : Ref sig .tc := ⟨.hbm, 66, rfl⟩
abbrev main_v31_5 : Ref sig .tc := ⟨.hbm, 67, rfl⟩
abbrev main_v31_6 : Ref sig .tc := ⟨.hbm, 68, rfl⟩
abbrev main_v31_7 : Ref sig .tc := ⟨.hbm, 69, rfl⟩
abbrev main_while0c_c_14 : Ref sig .tc := ⟨.hbm, 70, rfl⟩
abbrev main_while0c_v53 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_c_1 : Ref sig .tc := ⟨.hbm, 74, rfl⟩
abbrev main_while0b_call2_c_2 : Ref sig .tc := ⟨.hbm, 75, rfl⟩
abbrev main_while0b_call2_v0 : Ref sig .tc := ⟨.hbm, 76, rfl⟩
abbrev main_while0b_v53 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_c_2 : Ref sig .tc := ⟨.hbm, 81, rfl⟩
abbrev main_while0b_call3_v0 : Ref sig .tc := ⟨.hbm, 82, rfl⟩
abbrev main_while0b_v54 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v55 : Ref sig .tc := ⟨.hbm, 89, rfl⟩
abbrev main_while0b_call5_c : Ref sig .tc := ⟨.hbm, 90, rfl⟩
abbrev main_while0b_call5_c_0 : Ref sig .tc := ⟨.hbm, 91, rfl⟩
abbrev main_while0b_call5_c_1 : Ref sig .tc := ⟨.hbm, 92, rfl⟩
abbrev main_while0b_call5_c_2 : Ref sig .tc := ⟨.hbm, 93, rfl⟩
abbrev main_while0b_call5_v0 : Ref sig .tc := ⟨.hbm, 94, rfl⟩
abbrev main_while0b_v56 : Ref sig .tc := ⟨.hbm, 95, rfl⟩
abbrev main_while0b_call6_call0_cst : Ref sig .tc := ⟨.hbm, 96, rfl⟩
abbrev main_while0b_call6_call0_v0 : Ref sig .tc := ⟨.hbm, 97, rfl⟩
abbrev main_while0b_v57 : Ref sig .tc := ⟨.hbm, 98, rfl⟩
abbrev main_while0b_v58 : Ref sig .tc := ⟨.hbm, 99, rfl⟩
abbrev main_while0b_v59 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_cst_14 : Ref sig .tc := ⟨.hbm, 106, rfl⟩
abbrev main_while0b_call7_v0 : Ref sig .tc := ⟨.hbm, 107, rfl⟩
abbrev main_while0b_call7_v1 : Ref sig .tc := ⟨.hbm, 108, rfl⟩
abbrev main_while0b_call7_v2 : Ref sig .tc := ⟨.hbm, 109, rfl⟩
abbrev main_while0b_v65 : Ref sig .tc := ⟨.hbm, 110, rfl⟩
abbrev main_while0b_v66 : Ref sig .tc := ⟨.hbm, 111, rfl⟩
abbrev main_while0b_v67 : Ref sig .tc := ⟨.hbm, 112, rfl⟩
abbrev main_while0b_v68 : Ref sig .tc := ⟨.hbm, 113, rfl⟩
abbrev main_while0b_v69 : Ref sig .tc := ⟨.hbm, 114, rfl⟩
abbrev main_while0b_v70 : Ref sig .tc := ⟨.hbm, 115, rfl⟩
abbrev main_while0b_v71 : Ref sig .tc := ⟨.hbm, 116, rfl⟩
abbrev main_while0b_v72 : Ref sig .tc := ⟨.hbm, 117, rfl⟩
abbrev main_while0b_v73 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_call8_v0 : Ref sig .tc := ⟨.hbm, 125, rfl⟩
abbrev main_while0b_call8_c : Ref sig .tc := ⟨.hbm, 126, rfl⟩
abbrev main_while0b_call8_c_0 : Ref sig .tc := ⟨.hbm, 127, rfl⟩
abbrev main_while0b_call8_c_1 : Ref sig .tc := ⟨.hbm, 128, rfl⟩
abbrev main_while0b_call8_c_2 : Ref sig .tc := ⟨.hbm, 129, rfl⟩
abbrev main_while0b_v80 : Ref sig .tc := ⟨.hbm, 130, rfl⟩
abbrev main_while0b_c_15 : Ref sig .tc := ⟨.hbm, 131, rfl⟩
abbrev main_while0b_v81 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_cst_4 : Ref sig .tc := ⟨.hbm, 136, rfl⟩
abbrev main_v35 : Ref sig .tc := ⟨.hbm, 137, rfl⟩
abbrev main_v36 : Ref sig .tc := ⟨.hbm, 138, rfl⟩
abbrev main_cst_5 : Ref sig .tc := ⟨.hbm, 139, rfl⟩
abbrev main_v37 : Ref sig .tc := ⟨.hbm, 140, rfl⟩
abbrev main_v38 : Ref sig .tc := ⟨.hbm, 141, rfl⟩
abbrev main_cst_6 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_call9_v0 : Ref sig .tc := ⟨.hbm, 153, rfl⟩
abbrev main_call9_v1 : Ref sig .tc := ⟨.hbm, 154, rfl⟩
abbrev main_call9_cst : Ref sig .tc := ⟨.hbm, 155, rfl⟩
abbrev main_call9_v2 : Ref sig .tc := ⟨.hbm, 156, rfl⟩
abbrev main_call9_v3 : Ref sig .tc := ⟨.hbm, 157, rfl⟩
abbrev main_call9_cst_0 : Ref sig .tc := ⟨.hbm, 158, rfl⟩
abbrev main_call9_v4 : Ref sig .tc := ⟨.hbm, 159, rfl⟩
abbrev main_call9_v5 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩

abbrev nD : Nat := 1
abbrev τ : Topo := Topo.v7x

variable {F : FTy → Type} [FloatOps F]

abbrev main_while0_count : Scf.Loop 32 := ⟨0#32, 32#32, 1#32⟩
-- ==== Down.lean ====
abbrev S4x2048x11008 : Shape := ⟨3, ![4, 2048, 11008]⟩
abbrev S2x11008x4096 : Shape := ⟨3, ![2, 11008, 4096]⟩
abbrev S4x2048x4096 : Shape := ⟨3, ![4, 2048, 4096]⟩
abbrev S8192x11008 : Shape := ⟨2, ![8192, 11008]⟩
abbrev S8192x4096 : Shape := ⟨2, ![8192, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x11008, .f32⟩
  | .hbm, ⟨1, _⟩ => ⟨S2x11008x4096, .f32⟩
  | .hbm, ⟨2, _⟩ => ⟨S4x2048x4096, .f32⟩
  | .hbm, ⟨3, _⟩ => ⟨S8192x11008, .f32⟩
  | .hbm, ⟨4, _⟩ => ⟨S8192x11008, .bf16⟩
  | .hbm, ⟨5, _⟩ => ⟨S2x11008x4096, .bf16⟩
  | .hbm, ⟨6, _⟩ => ⟨S8192x4096, .f32⟩
  | .hbm, ⟨7, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S4x2048x11008 : Shape := ⟨3, ![4, 2048, 11008]⟩
abbrev S2x11008x4096 : Shape := ⟨3, ![2, 11008, 4096]⟩
abbrev S4x2048x4096 : Shape := ⟨3, ![4, 2048, 4096]⟩
abbrev S1x11008x4096 : Shape := ⟨3, ![1, 11008, 4096]⟩
abbrev S11008x4096 : Shape := ⟨2, ![11008, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x11008, .f32⟩
  | .hbm, ⟨1, _⟩ => ⟨S2x11008x4096, .f32⟩
  | .hbm, ⟨2, _⟩ => ⟨S4x2048x4096, .f32⟩
  | .hbm, ⟨3, _⟩ => ⟨S1x11008x4096, .f32⟩
  | .hbm, ⟨4, _⟩ => ⟨S11008x4096, .f32⟩
  | .hbm, ⟨5, _⟩ => ⟨S4x2048x4096, .f32⟩
  | .hbm, ⟨6, _⟩ => ⟨S4x2048x4096, .f32⟩
  | .hbm, ⟨7, _⟩ => ⟨S8192x4096, .f32⟩
  | _, _ => ⟨S4x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mix.lean ====
abbrev S4x2048x4096 : Shape := ⟨3, ![4, 2048, 4096]⟩
abbrev S1x4096x12304 : Shape := ⟨3, ![1, 4096, 12304]⟩
abbrev S4096x12304 : Shape := ⟨2, ![4096, 12304]⟩
abbrev S12304x4096 : Shape := ⟨2, ![12304, 4096]⟩
abbrev S8192x4096 : Shape := ⟨2, ![8192, 4096]⟩
abbrev S8192x12288 : Shape := ⟨2, ![8192, 12288]⟩
abbrev S1024x4096 : Shape := ⟨2, ![1024, 4096]⟩
abbrev S512x4096 : Shape := ⟨2, ![512, 4096]⟩
abbrev S1024x512 : Shape := ⟨2, ![1024, 512]⟩
abbrev S4096x512 : Shape := ⟨2, ![4096, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S1x4096x12304, .f32⟩
  | .hbm, ⟨2, _⟩ => ⟨S4096x12304, .f32⟩
  | .hbm, ⟨3, _⟩ => ⟨S12304x4096, .f32⟩
  | .hbm, ⟨4, _⟩ => ⟨S8192x4096, .f32⟩
  | .hbm, ⟨5, _⟩ => ⟨S8192x4096, .bf16⟩
  | .hbm, ⟨6, _⟩ => ⟨S8192x12288, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixReferenceIdeal.lean ====
abbrev S4x2048x4096 : Shape := ⟨3, ![4, 2048, 4096]⟩
abbrev S1x4096x12304 : Shape := ⟨3, ![1, 4096, 12304]⟩
abbrev S4096x12304 : Shape := ⟨2, ![4096, 12304]⟩
abbrev S4x2048x12304 : Shape := ⟨3, ![4, 2048, 12304]⟩
abbrev S8192x12304 : Shape := ⟨2, ![8192, 12304]⟩
abbrev S8192x12288 : Shape := ⟨2, ![8192, 12288]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x12304, .f32⟩
  | .hbm, ⟨2, _⟩ => ⟨S4096x12304, .f32⟩
  | .hbm, ⟨3, _⟩ => ⟨S4x2048x12304, .f32⟩
  | .hbm, ⟨4, _⟩ => ⟨S8192x12304, .f32⟩
  | .hbm, ⟨5, _⟩ => ⟨S8192x12288, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Key.lean ====
abbrev S4x2048x4096 : Shape := ⟨3, ![4, 2048, 4096]⟩
abbrev S4096x8192 : Shape := ⟨2, ![4096, 8192]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8192x4096 : Shape := ⟨2, ![8192, 4096]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 24
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S2048, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048x1, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x128, .f32⟩
  | .hbm, ⟨19, _⟩ => ⟨S2048x64, .f32⟩
  | .hbm, ⟨20, _⟩ => ⟨S2048x128, .f32⟩
  | .hbm, ⟨21, _⟩ => ⟨S8192x4096, .f32⟩
  | .hbm, ⟨22, _⟩ => ⟨S8192x4096, .bf16⟩
  | .hbm, ⟨23, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KeyReferenceIdeal.lean ====
abbrev S4x2048x4096 : Shape := ⟨3, ![4, 2048, 4096]⟩
abbrev S4096x8192 : Shape := ⟨2, ![4096, 8192]⟩
abbrev S4x2048x8192 : Shape := ⟨3, ![4, 2048, 8192]⟩
abbrev S4x2048x32x128 : Shape := ⟨4, ![4, 2048, 32, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x32x64 : Shape := ⟨4, ![4, 2048, 32, 64]⟩
abbrev S8192x4096 : Shape := ⟨2, ![8192, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S4x2048x8192, .f32⟩
  | .hbm, ⟨3, _⟩ => ⟨S4x2048x4096, .f32⟩
  | .hbm, ⟨4, _⟩ => ⟨S4x2048x32x128, .f32⟩
  | .hbm, ⟨5, _⟩ => ⟨S2048, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S2048x1, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S1x2048x1x64, .f32⟩
  | .hbm, ⟨21, _⟩ => ⟨S2048x64, .f32⟩
  | .hbm, ⟨22, _⟩ => ⟨S1x2048x1x64, .f32⟩
  | .hbm, ⟨23, _⟩ => ⟨S4x2048x32x64, .f32⟩
  | .hbm, ⟨24, _⟩ => ⟨S4x2048x32x64, .f32⟩
  | .hbm, ⟨25, _⟩ => ⟨S4x2048x32x64, .f32⟩
  | .hbm, ⟨26, _⟩ => ⟨S4x2048x32x64, .f32⟩
  | .hbm, ⟨27, _⟩ => ⟨S4x2048x32x64, .f32⟩
  | .hbm, ⟨28, _⟩ => ⟨S4x2048x32x64, .f32⟩
  | .hbm, ⟨29, _⟩ => ⟨S4x2048x32x64, .f32⟩
  | .hbm, ⟨30, _⟩ => ⟨S4x2048x32x64, .f32⟩
  | .hbm, ⟨31, _⟩ => ⟨S4x2048x32x64, .f32⟩
  | .hbm, ⟨32, _⟩ => ⟨S4x2048x32x64, .f32⟩
  | .hbm, ⟨33, _⟩ => ⟨S4x2048x32x64, .f32⟩
  | .hbm, ⟨34, _⟩ => ⟨S4x2048x32x64, .f32⟩
  | .hbm, ⟨35, _⟩ => ⟨S4x2048x32x128, .f32⟩
  | .hbm, ⟨36, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Val.lean ====
abbrev S4x2048x4096 : Shape := ⟨3, ![4, 2048, 4096]⟩
abbrev S4096x8192 : Shape := ⟨2, ![4096, 8192]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S8192x4096, .f32⟩
  | .hbm, ⟨3, _⟩ => ⟨S8192x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValReferenceIdeal.lean ====
abbrev S4x2048x4096 : Shape := ⟨3, ![4, 2048, 4096]⟩
abbrev S4096x8192 : Shape := ⟨2, ![4096, 8192]⟩
abbrev S4x2048x8192 : Shape := ⟨3, ![4, 2048, 8192]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S4x2048x8192, .f32⟩
  | .hbm, ⟨3, _⟩ => ⟨S4x2048x4096, .f32⟩
  | .hbm, ⟨4, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S4x2048x4096 : Shape := ⟨3, ![4, 2048, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S1280x128x32x128 : Shape := ⟨4, ![1280, 128, 32, 128]⟩
abbrev S8x128 : Shape := ⟨2, ![8, 128]⟩
abbrev S8192x4096 : Shape := ⟨2, ![8192, 4096]⟩
abbrev S2x1x22016 : Shape := ⟨3, ![2, 1, 22016]⟩
abbrev S1024 : Shape := ⟨1, ![1024]⟩
abbrev S8192x11008 : Shape := ⟨2, ![8192, 11008]⟩
abbrev S4x2x11008 : Shape := ⟨3, ![4, 2, 11008]⟩
abbrev S256x32x128 : Shape := ⟨3, ![256, 32, 128]⟩
abbrev S1024x4096 : Shape := ⟨2, ![1024, 4096]⟩
abbrev S1x4096x256 : Shape := ⟨3, ![1, 4096, 256]⟩
abbrev S1x3x256 : Shape := ⟨3, ![1, 3, 256]⟩
abbrev S1x1x256 : Shape := ⟨3, ![1, 1, 256]⟩
abbrev S1x128x32x128 : Shape := ⟨4, ![1, 128, 32, 128]⟩
abbrev S1 : Shape := ⟨1, ![1]⟩
abbrev S1024x256 : Shape := ⟨2, ![1024, 256]⟩
abbrev S1x2x256 : Shape := ⟨3, ![1, 2, 256]⟩
abbrev S1x32x128 : Shape := ⟨3, ![1, 32, 128]⟩
abbrev S4096x512 : Shape := ⟨2, ![4096, 512]⟩
abbrev S8x256 : Shape := ⟨2, ![8, 256]⟩
abbrev S4096x256 : Shape := ⟨2, ![4096, 256]⟩
abbrev S256x1 : Shape := ⟨2, ![256, 1]⟩
abbrev S256x4096 : Shape := ⟨2, ![256, 4096]⟩
abbrev S256x512 : Shape := ⟨2, ![256, 512]⟩
abbrev S256x256 : Shape := ⟨2, ![256, 256]⟩
abbrev S1x256 : Shape := ⟨2, ![1, 256]⟩
abbrev S2x256 : Shape := ⟨2, ![2, 256]⟩
abbrev S128x32x128 : Shape := ⟨3, ![128, 32, 128]⟩
abbrev S32x128 : Shape := ⟨2, ![32, 128]⟩

abbrev nBuf : Space → Nat
  | .hbm => 13
  | .vmem => 29
  | .smem => 1
  | _ => 0

abbrev bufTy : (tb : Table) → Fin (tcTables nBuf tb) → BufTy
  | .hbm, ⟨0, _⟩ => ⟨S4x2048x4096, .f32⟩
  | .hbm, ⟨1, _⟩ => ⟨S2x4096x22016, .f32⟩
  | .hbm, ⟨2, _⟩ => ⟨S2x3x22016, .f32⟩
  | .hbm, ⟨3, _⟩ => ⟨S2x22016, .f32⟩
  | .hbm, ⟨4, _⟩ => ⟨S1280x128x32x128, .f32⟩
  | .hbm, ⟨5, _⟩ => ⟨S8x128, .i32⟩
  | .hbm, ⟨6, _⟩ => ⟨S8192x4096, .f32⟩
  | .hbm, ⟨7, _⟩ => ⟨S8192x4096, .bf16⟩
  | .hbm, ⟨8, _⟩ => ⟨S2x1x22016, .f32⟩
  | .hbm, ⟨9, _⟩ => ⟨S8192x11008, .bf16⟩
  | .hbm, ⟨10, _⟩ => ⟨S4x2x11008, .f32⟩
  | .hbm, ⟨11, _⟩ => ⟨S4x2x11008, .f32⟩
  | .hbm, ⟨12, _⟩ => ⟨S256x32x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x128x32x128, .f32⟩
  | .local _ .vmem, ⟨15, _⟩ => ⟨S1x128x32x128, .f32⟩
  | .local _ .vmem, ⟨16, _⟩ => ⟨S1x128x32x128, .f32⟩
  | .local _ .vmem, ⟨17, _⟩ => ⟨S1x128x32x128, .f32⟩
  | .local _ .vmem, ⟨18, _⟩ => ⟨S1024x256, .bf16⟩
  | .local _ .vmem, ⟨19, _⟩ => ⟨S1024x256, .bf16⟩
  | .local _ .vmem, ⟨20, _⟩ => ⟨S1x2x256, .f32⟩
  | .local _ .vmem, ⟨21, _⟩ => ⟨S1x2x256, .f32⟩
  | .local _ .vmem, ⟨22, _⟩ => ⟨S1x2x256, .f32⟩
  | .local _ .vmem, ⟨23, _⟩ => ⟨S1x2x256, .f32⟩
  | .local _ .vmem, ⟨24, _⟩ => ⟨S1x32x128, .f32⟩
  | .local _ .vmem, ⟨25, _⟩ => ⟨S1x32x128, .f32⟩
  | .local _ .vmem, ⟨26, _⟩ => ⟨S4096x512, .bf16⟩
  | .local _ .vmem, ⟨27, _⟩ => ⟨S8x256, .f32⟩
  | .local _ .vmem, ⟨28, _⟩ => ⟨S8x256, .f32⟩
  | .local _ .smem, ⟨0, _⟩ => ⟨S1024, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![43, 8], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c256_i32 : BitVec 32 := 256#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c255_i32 : BitVec 32 := 255#32
  let v2 : BitVec 32 := Scalar.minsi v1 c255_i32
  let v3 : BitVec 32 := Scalar.addi c256_i32 v2
  let c2_i32 : BitVec 32 := 2#32
  let v4 : BitVec 32 := Scalar.muli v3 c2_i32
  let v5 : BitVec 32 := Scalar.addi v4 c0_i32
  let v6 : Index := Scalar.indexCast v5
  ![v6.toNat]
def k0_cond3 (i : grid0.Coords) : BitVec 1 :=
  let arg0 : BitVec 32 := BitVec.ofNat 32 (i 0).val
  let c8_i32 : BitVec 32 := 8#32
  let v453 : BitVec 32 := Scalar.muli arg0 c8_i32
  let arg1 : BitVec 32 := BitVec.ofNat 32 (i 1).val
  let v454 : BitVec 32 := Scalar.addi v453 arg1
  let c256_i32 : BitVec 32 := 256#32
  let v455 : BitVec 1 := Scalar.cmpi .slt v454 c256_i32
  let v456 : BitVec 32 := Scalar.extui v455
  let c0_i32_190 : BitVec 32 := 0#32
  let v457 : BitVec 1 := Scalar.cmpi .ne v456 c0_i32_190
  v457

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c1_i32 : BitVec 32 := 1#32
  let c0_i32 : BitVec 32 := 0#32
  let c0_i32_0 : BitVec 32 := 0#32
  ![c1_i32.toNat, c0_i32.toNat, v0.toNat]

def cc0_transform_7 (k0_off1_inb : ∀ i : grid0.Coords, ∀ (r : Fin 2), ∀ a, (k0_off1 i (BitVec.ofNat 32 r.val)) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c255_i32 : BitVec 32 := 255#32
  let v2 : BitVec 32 := Scalar.minsi v1 c255_i32
  let c256_i32 : BitVec 32 := 256#32
  let v3 : BitVec 32 := Scalar.addi c256_i32 v2
  let c2_i32 : BitVec 32 := 2#32
  let v4 : BitVec 32 := Scalar.muli v3 c2_i32
  let c0_i32 : BitVec 32 := 0#32
  let v5 : BitVec 32 := Scalar.addi v4 c0_i32
  let v6 : Index := Scalar.indexCast v5
  let v7 : BitVec 32 := pf.at 0 (Rect.unit (s := S1024) ![v6.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![v7.toNat, c0_i32_0.toNat, c0_i32_1.toNat, c0_i32_2.toNat]

def cc0_transform_8 (k0_off1_inb : ∀ i : grid0.Coords, ∀ (r : Fin 2), ∀ a, (k0_off1 i (BitVec.ofNat 32 r.val)) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c255_i32 : BitVec 32 := 255#32
  let v2 : BitVec 32 := Scalar.minsi v1 c255_i32
  let c256_i32 : BitVec 32 := 256#32
  let v3 : BitVec 32 := Scalar.addi c256_i32 v2
  let c2_i32 : BitVec 32 := 2#32
  let v4 : BitVec 32 := Scalar.muli v3 c2_i32
  let c1_i32 : BitVec 32 := 1#32
  let v5 : BitVec 32 := Scalar.addi v4 c1_i32
  let v6 : Index := Scalar.indexCast v5
  let v7 : BitVec 32 := pf.at 0 (Rect.unit (s := S1024) ![v6.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![v7.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== UpReferenceIdeal.lean ====
abbrev S4x2048x4096 : Shape := ⟨3, ![4, 2048, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S1280x128x32x128 : Shape := ⟨4, ![1280, 128, 32, 128]⟩
abbrev S8x128 : Shape := ⟨2, ![8, 128]⟩
abbrev S1x4096x22016 : Shape := ⟨3, ![1, 4096, 22016]⟩
abbrev S4096x22016 : Shape := ⟨2, ![4096, 22016]⟩
abbrev S4x2048x22016 : Shape := ⟨3, ![4, 2048, 22016]⟩
abbrev S_ : Shape := ⟨0, ![]⟩
abbrev S4x2x22016 : Shape := ⟨3, ![4, 2, 22016]⟩
abbrev S4x2050x22016 : Shape := ⟨3, ![4, 2050, 22016]⟩
abbrev S1x22016 : Shape := ⟨2, ![1, 22016]⟩
abbrev S22016 : Shape := ⟨1, ![22016]⟩
abbrev S1x3x22016 : Shape := ⟨3, ![1, 3, 22016]⟩
abbrev S3x22016 : Shape := ⟨2, ![3, 22016]⟩
abbrev S1x1x22016 : Shape := ⟨3, ![1, 1, 22016]⟩
abbrev S4x2048x11008 : Shape := ⟨3, ![4, 2048, 11008]⟩
abbrev S8192x11008 : Shape := ⟨2, ![8192, 11008]⟩
abbrev S512x2 : Shape := ⟨2, ![512, 2]⟩
abbrev S256x2 : Shape := ⟨2, ![256, 2]⟩
abbrev S256x2x1 : Shape := ⟨3, ![256, 2, 1]⟩
abbrev S256x2x128x32x128 : Shape := ⟨5, ![256, 2, 128, 32, 128]⟩
abbrev S256x32x128 : Shape := ⟨3, ![256, 32, 128]⟩
abbrev S4x2x11008 : Shape := ⟨3, ![4, 2, 11008]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096x22016, .f32⟩
  | .hbm, ⟨2, _⟩ => ⟨S2x3x22016, .f32⟩
  | .hbm, ⟨3, _⟩ => ⟨S2x22016, .f32⟩
  | .hbm, ⟨4, _⟩ => ⟨S1280x128x32x128, .f32⟩
  | .hbm, ⟨5, _⟩ => ⟨S8x128, .i32⟩
  | .hbm, ⟨6, _⟩ => ⟨S1x4096x22016, .f32⟩
  | .hbm, ⟨7, _⟩ => ⟨S4096x22016, .f32⟩
  | .hbm, ⟨8, _⟩ => ⟨S4x2048x22016, .f32⟩
  | .hbm, ⟨9, _⟩ => ⟨S_, .f32⟩
  | .hbm, ⟨10, _⟩ => ⟨S4x2x22016, .f32⟩
  | .hbm, ⟨11, _⟩ => ⟨S4x2050x22016, .f32⟩
  | .hbm, ⟨12, _⟩ => ⟨S1x22016, .f32⟩
  | .hbm, ⟨13, _⟩ => ⟨S22016, .f32⟩
  | .hbm, ⟨14, _⟩ => ⟨S1x3x22016, .f32⟩
  | .hbm, ⟨15, _⟩ => ⟨S3x22016, .f32⟩
  | .hbm, ⟨16, _⟩ => ⟨S1x22016, .f32⟩
  | .hbm, ⟨17, _⟩ => ⟨S22016, .f32⟩
  | .hbm, ⟨18, _⟩ => ⟨S4x2048x22016, .f32⟩
  | .hbm, ⟨19, _⟩ => ⟨S1x1x22016, .f32⟩
  | .hbm, ⟨20, _⟩ => ⟨S4x2048x22016, .f32⟩
  | .hbm, ⟨21, _⟩ => ⟨S4x2048x22016, .f32⟩
  | .hbm, ⟨22, _⟩ => ⟨S1x1x22016, .f32⟩
  | .hbm, ⟨23, _⟩ => ⟨S4x2048x22016, .f32⟩
  | .hbm, ⟨24, _⟩ => ⟨S4x2048x22016, .f32⟩
  | .hbm, ⟨25, _⟩ => ⟨S1x3x22016, .f32⟩
  | .hbm, ⟨26, _⟩ => ⟨S3x22016, .f32⟩
  | .hbm, ⟨27, _⟩ => ⟨S1x22016, .f32⟩
  | .hbm, ⟨28, _⟩ => ⟨S22016, .f32⟩
  | .hbm, ⟨29, _⟩ => ⟨S4x2048x22016, .f32⟩
  | .hbm, ⟨30, _⟩ => ⟨S1x1x22016, .f32⟩
  | .hbm, ⟨31, _⟩ => ⟨S4x2048x22016, .f32⟩
  | .hbm, ⟨32, _⟩ => ⟨S4x2048x22016, .f32⟩
  | .hbm, ⟨33, _⟩ => ⟨S4x2048x22016, .f32⟩
  | .hbm, ⟨34, _⟩ => ⟨S1x3x22016, .f32⟩
  | .hbm, ⟨35, _⟩ => ⟨S3x22016, .f32⟩
  | .hbm, ⟨36, _⟩ => ⟨S1x22016, .f32⟩
  | .hbm, ⟨37, _⟩ => ⟨S22016, .f32⟩
  | .hbm, ⟨38, _⟩ => ⟨S4x2048x22016, .f32⟩
  | .hbm, ⟨39, _⟩ => ⟨S1x1x22016, .f32⟩
  | .hbm, ⟨40, _⟩ => ⟨S4x2048x22016, .f32⟩
  | .hbm, ⟨41, _⟩ => ⟨S4x2048x22016, .f32⟩
  | .hbm, ⟨42, _⟩ => ⟨S4x2048x22016, .f32⟩
  | .hbm, ⟨43, _⟩ => ⟨S4x2048x11008, .f32⟩
  | .hbm, ⟨44, _⟩ => ⟨S4x2048x11008, .f32⟩
  | .hbm, ⟨45, _⟩ => ⟨S4x2048x11008, .f32⟩
  | .hbm, ⟨46, _⟩ => ⟨S4x2048x11008, .f32⟩
  | .hbm, ⟨47, _⟩ => ⟨S_, .f32⟩
  | .hbm, ⟨48, _⟩ => ⟨S4x2048x11008, .f32⟩
  | .hbm, ⟨49, _⟩ => ⟨S4x2048x11008, .f32⟩
  | .hbm, ⟨50, _⟩ => ⟨S_, .f32⟩
  | .hbm, ⟨51, _⟩ => ⟨S4x2048x11008, .f32⟩
  | .hbm, ⟨52, _⟩ => ⟨S4x2048x11008, .f32⟩
  | .hbm, ⟨53, _⟩ => ⟨S4x2048x11008, .f32⟩
  | .hbm, ⟨54, _⟩ => ⟨S4x2048x11008, .f32⟩
  | .hbm, ⟨55, _⟩ => ⟨S8192x11008, .f32⟩
  | .hbm, ⟨56, _⟩ => ⟨S8192x11008, .bf16⟩
  | .hbm, ⟨57, _⟩ => ⟨S4x2x22016, .f32⟩
  | .hbm, ⟨58, _⟩ => ⟨S512x2, .i32⟩
  | .hbm, ⟨59, _⟩ => ⟨S256x2, .i32⟩
  | .hbm, ⟨60, _⟩ => ⟨S_, .i32⟩
  | .hbm, ⟨61, _⟩ => ⟨S256x2, .i32⟩
  | .hbm, ⟨62, _⟩ => ⟨S256x2, .i1⟩
  | .hbm, ⟨63, _⟩ => ⟨S_, .i32⟩
  | .hbm, ⟨64, _⟩ => ⟨S256x2, .i32⟩
  | .hbm, ⟨65, _⟩ => ⟨S256x2, .i32⟩
  | .hbm, ⟨66, _⟩ => ⟨S256x2, .i32⟩
  | .hbm, ⟨67, _⟩ => ⟨S256x2x1, .i32⟩
  | .hbm, ⟨68, _⟩ => ⟨S256x2x128x32x128, .f32⟩
  | .hbm, ⟨69, _⟩ => ⟨S_, .f32⟩
  | .hbm, ⟨70, _⟩ => ⟨S256x32x128, .f32⟩
  | .hbm, ⟨71, _⟩ => ⟨S_, .f32⟩
  | .hbm, ⟨72, _⟩ => ⟨S256x32x128, .f32⟩
  | .hbm, ⟨73, _⟩ => ⟨S256x32x128, .f32⟩
  | .hbm, ⟨74, _⟩ => ⟨S4x2x11008, .f32⟩
  | .hbm, ⟨75, _⟩ => ⟨S4x2x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c : Ref sig .tc := ⟨.hbm, 60, rfl⟩
abbrev main_v45 : Ref sig .tc := ⟨.hbm, 61, rfl⟩
abbrev main_v46 : Ref sig .tc := ⟨.hbm, 62, rfl⟩
abbrev main_c_0 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_1 : Ref sig .tc := ⟨.hbm, 69, rfl⟩
abbrev main_v52 : Ref sig .tc := ⟨.hbm, 70, rfl⟩
abbrev main_cst_2 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Query.lean ====
abbrev S4x2048x4096 : Shape := ⟨3, ![4, 2048, 4096]⟩
abbrev S1x4096x4096 : Shape := ⟨3, ![1, 4096, 4096]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8192x4096 : Shape := ⟨2, ![8192, 4096]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩

abbrev nBuf : Space → Nat
  | .hbm => 24
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S1x4096x4096, .f32⟩
  | .hbm, ⟨2, _⟩ => ⟨S2048, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048x1, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x128, .f32⟩
  | .hbm, ⟨19, _⟩ => ⟨S2048x64, .f32⟩
  | .hbm, ⟨20, _⟩ => ⟨S2048x128, .f32⟩
  | .hbm, ⟨21, _⟩ => ⟨S8192x4096, .f32⟩
  | .hbm, ⟨22, _⟩ => ⟨S8192x4096, .bf16⟩
  | .hbm, ⟨23, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueryReferenceIdeal.lean ====
abbrev S4x2048x4096 : Shape := ⟨3, ![4, 2048, 4096]⟩
abbrev S1x4096x4096 : Shape := ⟨3, ![1, 4096, 4096]⟩
abbrev S4096x4096 : Shape := ⟨2, ![4096, 4096]⟩
abbrev S4x2048x32x128 : Shape := ⟨4, ![4, 2048, 32, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x32x64 : Shape := ⟨4, ![4, 2048, 32, 64]⟩
abbrev S8192x4096 : Shape := ⟨2, ![8192, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x4096, .f32⟩
  | .hbm, ⟨2, _⟩ => ⟨S4096x4096, .f32⟩
  | .hbm, ⟨3, _⟩ => ⟨S4x2048x4096, .f32⟩
  | .hbm, ⟨4, _⟩ => ⟨S4x2048x32x128, .f32⟩
  | .hbm, ⟨5, _⟩ => ⟨S2048, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S2048x1, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S1x2048x1x64, .f32⟩
  | .hbm, ⟨21, _⟩ => ⟨S2048x64, .f32⟩
  | .hbm, ⟨22, _⟩ => ⟨S1x2048x1x64, .f32⟩
  | .hbm, ⟨23, _⟩ => ⟨S4x2048x32x64, .f32⟩
  | .hbm, ⟨24, _⟩ => ⟨S4x2048x32x64, .f32⟩
  | .hbm, ⟨25, _⟩ => ⟨S4x2048x32x64, .f32⟩
  | .hbm, ⟨26, _⟩ => ⟨S4x2048x32x64, .f32⟩
  | .hbm, ⟨27, _⟩ => ⟨S4x2048x32x64, .f32⟩
  | .hbm, ⟨28, _⟩ => ⟨S4x2048x32x64, .f32⟩
  | .hbm, ⟨29, _⟩ => ⟨S4x2048x32x64, .f32⟩
  | .hbm, ⟨30, _⟩ => ⟨S4x2048x32x64, .f32⟩
  | .hbm, ⟨31, _⟩ => ⟨S4x2048x32x64, .f32⟩
  | .hbm, ⟨32, _⟩ => ⟨S4x2048x32x64, .f32⟩
  | .hbm, ⟨33, _⟩ => ⟨S4x2048x32x64, .f32⟩
  | .hbm, ⟨34, _⟩ => ⟨S4x2048x32x64, .f32⟩
  | .hbm, ⟨35, _⟩ => ⟨S4x2048x32x128, .f32⟩
  | .hbm, ⟨36, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Out.lean ====
abbrev S4x2048x4096 : Shape := ⟨3, ![4, 2048, 4096]⟩
abbrev S1x4096x4096 : Shape := ⟨3, ![1, 4096, 4096]⟩
abbrev S8192x4096 : Shape := ⟨2, ![8192, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S1x4096x4096, .f32⟩
  | .hbm, ⟨2, _⟩ => ⟨S4x2048x4096, .f32⟩
  | .hbm, ⟨3, _⟩ => ⟨S8192x4096, .f32⟩
  | .hbm, ⟨4, _⟩ => ⟨S8192x4096, .bf16⟩
  | .hbm, ⟨5, _⟩ => ⟨S8192x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S4x2048x4096 : Shape := ⟨3, ![4, 2048, 4096]⟩
abbrev S1x4096x4096 : Shape := ⟨3, ![1, 4096, 4096]⟩
abbrev S4096x4096 : Shape := ⟨2, ![4096, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x4096, .f32⟩
  | .hbm, ⟨2, _⟩ => ⟨S4x2048x4096, .f32⟩
  | .hbm, ⟨3, _⟩ => ⟨S4096x4096, .f32⟩
  | .hbm, ⟨4, _⟩ => ⟨S4x2048x4096, .f32⟩
  | .hbm, ⟨5, _⟩ => ⟨S4x2048x4096, .f32⟩
  | .hbm, ⟨6, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S4x2048x4096 : Shape := ⟨3, ![4, 2048, 4096]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormStep.lean ====
abbrev S8x1x4096 : Shape := ⟨3, ![8, 1, 4096]⟩
abbrev S4096 : Shape := ⟨1, ![4096]⟩
abbrev S8x4096 : Shape := ⟨2, ![8, 4096]⟩
abbrev S1x4096 : Shape := ⟨2, ![1, 4096]⟩
abbrev S8 : Shape := ⟨1, ![8]⟩
abbrev S8x1 : Shape := ⟨2, ![8, 1]⟩

abbrev nBuf : Space → Nat
  | .hbm => 5
  | .vmem => 3
  | .smem => 0
  | _ => 0

abbrev bufTy : (tb : Table) → Fin (tcTables nBuf tb) → BufTy
  | .hbm, ⟨0, _⟩ => ⟨S8x1x4096, .f32⟩
  | .hbm, ⟨1, _⟩ => ⟨S4096, .f32⟩
  | .hbm, ⟨2, _⟩ => ⟨S8x4096, .f32⟩
  | .hbm, ⟨3, _⟩ => ⟨S1x4096, .f32⟩
  | .hbm, ⟨4, _⟩ => ⟨S8x4096, .f32⟩
  | .local _ .vmem, ⟨0, _⟩ => ⟨S8x4096, .f32⟩
  | .local _ .vmem, ⟨1, _⟩ => ⟨S1x4096, .f32⟩
  | .local _ .vmem, ⟨2, _⟩ => ⟨S8x4096, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormStepReferenceIdeal.lean ====
abbrev S8x1x4096 : Shape := ⟨3, ![8, 1, 4096]⟩
abbrev S4096 : Shape := ⟨1, ![4096]⟩
abbrev S_ : Shape := ⟨0, ![]⟩
abbrev S8x1 : Shape := ⟨2, ![8, 1]⟩
abbrev S8x1x1 : Shape := ⟨3, ![8, 1, 1]⟩
abbrev S1x1x4096 : Shape := ⟨3, ![1, 1, 4096]⟩
abbrev S8x4096 : Shape := ⟨2, ![8, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x1x4096, .f32⟩
  | .hbm, ⟨1, _⟩ => ⟨S4096, .f32⟩
  | .hbm, ⟨2, _⟩ => ⟨S8x1x4096, .f32⟩
  | .hbm, ⟨3, _⟩ => ⟨S_, .f32⟩
  | .hbm, ⟨4, _⟩ => ⟨S8x1, .f32⟩
  | .hbm, ⟨5, _⟩ => ⟨S8x1x1, .f32⟩
  | .hbm, ⟨6, _⟩ => ⟨S_, .f32⟩
  | .hbm, ⟨7, _⟩ => ⟨S8x1x1, .f32⟩
  | .hbm, ⟨8, _⟩ => ⟨S8x1x1, .f32⟩
  | .hbm, ⟨9, _⟩ => ⟨S_, .f32⟩
  | .hbm, ⟨10, _⟩ => ⟨S8x1x1, .f32⟩
  | .hbm, ⟨11, _⟩ => ⟨S8x1x1, .f32⟩
  | .hbm, ⟨12, _⟩ => ⟨S8x1x1, .f32⟩
  | .hbm, ⟨13, _⟩ => ⟨S8x1x4096, .f32⟩
  | .hbm, ⟨14, _⟩ => ⟨S8x1x4096, .f32⟩
  | .hbm, ⟨15, _⟩ => ⟨S1x1x4096, .f32⟩
  | .hbm, ⟨16, _⟩ => ⟨S8x1x4096, .f32⟩
  | .hbm, ⟨17, _⟩ => ⟨S8x1x4096, .f32⟩
  | .hbm, ⟨18, _⟩ => ⟨S8x4096, .f32⟩
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KeyStep.lean ====
abbrev S8x1x4096 : Shape := ⟨3, ![8, 1, 4096]⟩
abbrev S4096x8192 : Shape := ⟨2, ![4096, 8192]⟩
abbrev S_ : Shape := ⟨0, ![]⟩
abbrev S8 : Shape := ⟨1, ![8]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x128 : Shape := ⟨2, ![8, 128]⟩
abbrev S8x4096 : Shape := ⟨2, ![8, 4096]⟩
abbrev S4096x512 : Shape := ⟨2, ![4096, 512]⟩
abbrev S8x512 : Shape := ⟨2, ![8, 512]⟩

abbrev nBuf : Space → Nat
  | .hbm => 25
  | .vmem => 8
  | .smem => 0
  | _ => 0

abbrev bufTy : (tb : Table) → Fin (tcTables nBuf tb) → BufTy
  | .hbm, ⟨0, _⟩ => ⟨S8x1x4096, .f32⟩
  | .hbm, ⟨1, _⟩ => ⟨S4096x8192, .f32⟩
  | .hbm, ⟨2, _⟩ => ⟨S_, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S8x1, .f32⟩
  | .hbm, ⟨13, _⟩ => ⟨S1x64, .f32⟩
  | .hbm, ⟨14, _⟩ => ⟨S8x64, .f32⟩
  | .hbm, ⟨15, _⟩ => ⟨S8x64, .f32⟩
  | .hbm, ⟨16, _⟩ => ⟨S8x64, .f32⟩
  | .hbm, ⟨17, _⟩ => ⟨S8x64, .f32⟩
  | .hbm, ⟨18, _⟩ => ⟨S8x64, .f32⟩
  | .hbm, ⟨19, _⟩ => ⟨S8x128, .f32⟩
  | .hbm, ⟨20, _⟩ => ⟨S8x64, .f32⟩
  | .hbm, ⟨21, _⟩ => ⟨S8x128, .f32⟩
  | .hbm, ⟨22, _⟩ => ⟨S8x4096, .f32⟩
  | .hbm, ⟨23, _⟩ => ⟨S8x4096, .bf16⟩
  | .hbm, ⟨24, _⟩ => ⟨S8x4096, .f32⟩
  | .local _ .vmem, ⟨0, _⟩ => ⟨S8x4096, .bf16⟩
  | .local _ .vmem, ⟨1, _⟩ => ⟨S4096x512, .f32⟩
  | .local _ .vmem, ⟨2, _⟩ => ⟨S4096x512, .f32⟩
  | .local _ .vmem, ⟨3, _⟩ => ⟨S8x128, .f32⟩
  | .local _ .vmem, ⟨4, _⟩ => ⟨S8x128, .f32⟩
  | .local _ .vmem, ⟨5, _⟩ => ⟨S8x512, .f32⟩
  | .local _ .vmem, ⟨6, _⟩ => ⟨S8x512, .f32⟩
  | .local _ .vmem, ⟨7, _⟩ => ⟨S4096x512, .bf16⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KeyStepReferenceIdeal.lean ====
abbrev S8x1x4096 : Shape := ⟨3, ![8, 1, 4096]⟩
abbrev S4096x8192 : Shape := ⟨2, ![4096, 8192]⟩
abbrev S8x1x8192 : Shape := ⟨3, ![8, 1, 8192]⟩
abbrev S8x1x32x128 : Shape := ⟨4, ![8, 1, 32, 128]⟩
abbrev S1 : Shape := ⟨1, ![1]⟩
abbrev S_ : Shape := ⟨0, ![]⟩
abbrev S64 : Shape := ⟨1, ![64]⟩
abbrev S1x1 : Shape := ⟨2, ![1, 1]⟩
abbrev S1x64 : Shape := ⟨2, ![1, 64]⟩
abbrev S1x1x1x64 : Shape := ⟨4, ![1, 1, 1, 64]⟩
abbrev S8x1x32x64 : Shape := ⟨4, ![8, 1, 32, 64]⟩
abbrev S8x4096 : Shape := ⟨2, ![8, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8x1x4096, .f32⟩
  | .hbm, ⟨1, _⟩ => ⟨S4096x8192, .f32⟩
  | .hbm, ⟨2, _⟩ => ⟨S8x1x8192, .f32⟩
  | .hbm, ⟨3, _⟩ => ⟨S8x1x4096, .f32⟩
  | .hbm, ⟨4, _⟩ => ⟨S8x1x32x128, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x1, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x1x1x64, .f32⟩
  | .hbm, ⟨23, _⟩ => ⟨S1x64, .f32⟩
  | .hbm, ⟨24, _⟩ => ⟨S1x1x1x64, .f32⟩
  | .hbm, ⟨25, _⟩ => ⟨S8x1x32x64, .f32⟩
  | .hbm, ⟨26, _⟩ => ⟨S8x1x32x64, .f32⟩
  | .hbm, ⟨27, _⟩ => ⟨S8x1x32x64, .f32⟩
  | .hbm, ⟨28, _⟩ => ⟨S8x1x32x64, .f32⟩
  | .hbm, ⟨29, _⟩ => ⟨S8x1x32x64, .f32⟩
  | .hbm, ⟨30, _⟩ => ⟨S8x1x32x64, .f32⟩
  | .hbm, ⟨31, _⟩ => ⟨S8x1x32x64, .f32⟩
  | .hbm, ⟨32, _⟩ => ⟨S8x1x32x64, .f32⟩
  | .hbm, ⟨33, _⟩ => ⟨S8x1x32x64, .f32⟩
  | .hbm, ⟨34, _⟩ => ⟨S8x1x32x64, .f32⟩
  | .hbm, ⟨35, _⟩ => ⟨S8x1x32x64, .f32⟩
  | .hbm, ⟨36, _⟩ => ⟨S8x1x32x64, .f32⟩
  | .hbm, ⟨37, _⟩ => ⟨S8x1x32x128, .f32⟩
  | .hbm, ⟨38, _⟩ => ⟨S8x4096, .f32⟩
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== ValStep.lean ====
abbrev S8x1x4096 : Shape := ⟨3, ![8, 1, 4096]⟩
abbrev S4096x8192 : Shape := ⟨2, ![4096, 8192]⟩
abbrev S8x4096 : Shape := ⟨2, ![8, 4096]⟩
abbrev S4096x512 : Shape := ⟨2, ![4096, 512]⟩
abbrev S8x512 : Shape := ⟨2, ![8, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x1x4096, .f32⟩
  | .hbm, ⟨1, _⟩ => ⟨S4096x8192, .f32⟩
  | .hbm, ⟨2, _⟩ => ⟨S8x4096, .f32⟩
  | .hbm, ⟨3, _⟩ => ⟨S8x4096, .bf16⟩
  | .hbm, ⟨4, _⟩ => ⟨S8x4096, .f32⟩
  | .local _ .vmem, ⟨0, _⟩ => ⟨S8x4096, .bf16⟩
  | .local _ .vmem, ⟨1, _⟩ => ⟨S4096x512, .f32⟩
  | .local _ .vmem, ⟨2, _⟩ => ⟨S4096x512, .f32⟩
  | .local _ .vmem, ⟨3, _⟩ => ⟨S8x512, .f32⟩
  | .local _ .vmem, ⟨4, _⟩ => ⟨S8x512, .f32⟩
  | .local _ .vmem, ⟨5, _⟩ => ⟨S4096x512, .bf16⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValStepReferenceIdeal.lean ====
abbrev S8x1x4096 : Shape := ⟨3, ![8, 1, 4096]⟩
abbrev S4096x8192 : Shape := ⟨2, ![4096, 8192]⟩
abbrev S8x1x8192 : Shape := ⟨3, ![8, 1, 8192]⟩
abbrev S8x4096 : Shape := ⟨2, ![8, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8x1x4096, .f32⟩
  | .hbm, ⟨1, _⟩ => ⟨S4096x8192, .f32⟩
  | .hbm, ⟨2, _⟩ => ⟨S8x1x8192, .f32⟩
  | .hbm, ⟨3, _⟩ => ⟨S8x1x4096, .f32⟩
  | .hbm, ⟨4, _⟩ => ⟨S8x4096, .f32⟩
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpStep.lean ====
abbrev S8x1x4096 : Shape := ⟨3, ![8, 1, 4096]⟩
abbrev S2x4096x22016 : Shape := ⟨3, ![2, 4096, 22016]⟩
abbrev S8x4096 : Shape := ⟨2, ![8, 4096]⟩
abbrev S8x22016 : Shape := ⟨2, ![8, 22016]⟩
abbrev S1x4096x512 : Shape := ⟨3, ![1, 4096, 512]⟩
abbrev S8x512 : Shape := ⟨2, ![8, 512]⟩
abbrev S4096x512 : Shape := ⟨2, ![4096, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x1x4096, .f32⟩
  | .hbm, ⟨1, _⟩ => ⟨S2x4096x22016, .f32⟩
  | .hbm, ⟨2, _⟩ => ⟨S8x4096, .f32⟩
  | .hbm, ⟨3, _⟩ => ⟨S8x4096, .bf16⟩
  | .hbm, ⟨4, _⟩ => ⟨S8x22016, .f32⟩
  | .local _ .vmem, ⟨0, _⟩ => ⟨S8x4096, .bf16⟩
  | .local _ .vmem, ⟨1, _⟩ => ⟨S1x4096x512, .f32⟩
  | .local _ .vmem, ⟨2, _⟩ => ⟨S1x4096x512, .f32⟩
  | .local _ .vmem, ⟨3, _⟩ => ⟨S8x512, .f32⟩
  | .local _ .vmem, ⟨4, _⟩ => ⟨S8x512, .f32⟩
  | .local _ .vmem, ⟨5, _⟩ => ⟨S4096x512, .bf16⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![43, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpStepReferenceIdeal.lean ====
abbrev S8x1x4096 : Shape := ⟨3, ![8, 1, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S8x1x22016 : Shape := ⟨3, ![8, 1, 22016]⟩
abbrev S8x22016 : Shape := ⟨2, ![8, 22016]⟩

abbrev nBuf : Space → Nat
  | .hbm => 6
  | .vmem => 0
  | .smem => 0
  | _ => 0

abbrev bufTy : (tb : Table) → Fin (tcTables nBuf tb) → BufTy
  | .hbm, ⟨0, _⟩ => ⟨S8x1x4096, .f32⟩
  | .hbm, ⟨1, _⟩ => ⟨S2x4096x22016, .f32⟩
  | .hbm, ⟨2, _⟩ => ⟨S1x4096x22016, .f32⟩
  | .hbm, ⟨3, _⟩ => ⟨S4096x22016, .f32⟩
  | .hbm, ⟨4, _⟩ => ⟨S8x1x22016, .f32⟩
  | .hbm, ⟨5, _⟩ => ⟨S8x22016, .f32⟩
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Down.lean ====
/- The feed-forward's down projection added to the residual: kernel and reference hold the same array. -/
module

public import proofs.«01_k».proof.Proof.Gen.DownIdeal.Value
public import proofs.«01_k».proof.Proof.Gen.DownReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.DownIdeal.Result

open Cert.DownIdeal Cert.DownIdeal.Gen

/-- Row `i` of the result: the activations of token `i % 2048` of sequence `i / 2048` times the first layer's matrix,
    added to the residual. -/
def OUT (a : Vec Ideal S4x2048x11008 .f32) (w : Vec Ideal S2x11008x4096 .f32) (h : Vec Ideal S4x2048x4096 .f32) : Vec Ideal S8192x4096 .f32 := fun j =>
  (∑ k : Fin 11008, a (ix3 ⟨j 0 / 2048, by have : (j 0).val < 8192 := (j 0).isLt; omega⟩ ⟨j 0 % 2048, by omega⟩ k) * w (ix3 0 k (j 1)))
    + h (ix3 ⟨j 0 / 2048, by have : (j 0).val < 8192 := (j 0).isLt; omega⟩ ⟨j 0 % 2048, by omega⟩ (j 1))

variable (m : (ℓ : Loc nD τ sig) → Buf (Elt Ideal) ℓ) (c : Dev nD)

abbrev X0 : Vec Ideal S4x2048x11008 .f32 := m ((c : Thread nD τ).loc main_arg0)
abbrev X1 : Vec Ideal S2x11008x4096 .f32 := m ((c : Thread nD τ).loc main_arg1)
abbrev X2 : Vec Ideal S4x2048x4096 .f32 := m ((c : Thread nD τ).loc main_arg2)

/-- Every window's block index at grid point `t`: row block `t / 8`, column block `t % 8`. -/
theorem idx : ∀ t : Fin cfg0.N, win0_0.index t = ![t.val / 8, 0] ∧ win0_1.index t = ![0, 0, t.val % 8]
    ∧ win0_2.index t = ![t.val / 8, t.val % 8] ∧ win0_3.index t = ![t.val / 8, t.val % 8] :=
  (by decide +kernel : ∀ t : Fin grid0.N, _)

variable (t : Fin cfg0.N)

theorem blk0 (i : Fin 512) (k : Fin 11008) : (iblk m c 0 t : Vec Ideal S512x11008 .bf16) (ix2 i k)
    = X0 m c (ix3 ⟨(512 * (t.val / 8) + i) / 2048, by have : t.val < 128 := t.isLt; omega⟩ ⟨(512 * (t.val / 8) + i) % 2048, by omega⟩ k) := by
  have h := (idx t).1
  have ht : t.val < 128 := t.isLt
  blk_simp [iblk, h]
  entry_read
  pointwise
  blk_ext [h]

theorem blk1 (k : Fin 11008) (j : Fin 512) : (iblk m c 1 t : Vec Ideal S1x11008x512 .bf16) (ix3 0 k j)
    = X1 m c (ix3 0 k ⟨512 * (t.val % 8) + j, by omega⟩) := by
  have h := (idx t).2.1
  blk_simp [iblk, h]
  entry_read
  pointwise
  blk_ext [h]

theorem blk2 (i : Fin 512) (j : Fin 512) : (iblk m c 2 t : Vec Ideal S512x512 .f32) (ix2 i j)
    = X2 m c (ix3 ⟨(512 * (t.val / 8) + i) / 2048, by have : t.val < 128 := t.isLt; omega⟩ ⟨(512 * (t.val / 8) + i) % 2048, by omega⟩ ⟨512 * (t.val % 8) + j, by omega⟩) := by
  have h := (idx t).2.2.1
  have ht : t.val < 128 := t.isLt
  blk_simp [iblk, h]
  entry_read
  pointwise
  blk_ext [h]

abbrev B0 : Vec Ideal S512x11008 .bf16 := iblk m c 0 t
abbrev B1 : Vec Ideal S1x11008x512 .bf16 := iblk m c 1 t

/-- The kernel's result. -/
theorem result : (dats m 0 c).arrAt 3 cfg0.N = OUT (X0 m c) (X1 m c) (X2 m c) := by
  refine (dats m 0 c).arrAt_eq_of_covers 3 _ (by decide +kernel) fun t hf y => ?_
  have h := (idx t).2.2.2
  have ht : t.val < 128 := t.isLt
  blk_simp
  rw [after0_3]
  frame_out
  idx_vars y
  have he : (win0_3.blk t).view.emb (ix2 y0 y1) = ix2 ⟨512 * (t.val / 8) + y0, by omega⟩ ⟨512 * (t.val % 8) + y1, by omega⟩ := by
    blk_ext [h]
  rw [he]
  unfold k0_pay1 OUT
  pointwise
  have e : ∀ k : Fin 11008, B0 m c t (ix2 y0 k) * B1 m c t (ix3 0 k y1) = _ :=
    fun k => congrArg₂ (· * ·) (blk0 m c t y0 k) (blk1 m c t k y1)
  exact congrArg₂ (· + ·) (Finset.sum_congr rfl fun k _ => e k) (blk2 m c t y0 y1)

end Cert.DownIdeal.Result

namespace Cert.DownReferenceIdeal.Result

open Cert.DownReferenceIdeal Cert.DownReferenceIdeal.Gen

/-- The reference's result. -/
theorem result (a : FVec Ideal S4x2048x11008 .f32) (w : FVec Ideal S2x11008x4096 .f32) (h : FVec Ideal S4x2048x4096 .f32) :
    shapeCast (α := Ideal .f32) S8192x4096 (addf (F := Ideal) (φ := .f32) h (Host.dotGeneral (F := Ideal) (φ₁ := .f32) (φ₂ := .f32) dot_S4x2048x11008_S11008x4096_S4x2048x4096_2_0_01_1_n_n none a
      (shapeCast (α := Ideal .f32) S11008x4096 (extractStridedSlice (α := Ideal .f32) S1x11008x4096 ![0, 0, 0] w slices_S2x11008x4096_S1x11008x4096_0_0_0)
        shapeCasts_S1x11008x4096_S11008x4096))) shapeCasts_S4x2048x4096_S8192x4096
      = Cert.DownIdeal.Result.OUT a w h := by
  funext y
  idx_vars y
  unfold Cert.DownIdeal.Result.OUT
  pointwise
  exact add_comm _ _
/-- The reference's run: its result, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = Cert.DownIdeal.Result.OUT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono (fun r h c => ⟨(h c).1.trans (result _ _ _), (h c).2⟩) (Cert.DownReferenceIdeal.Value.run (F := Ideal) m ρ)

end Cert.DownReferenceIdeal.Result

end
-- ==== Proof.Mix.lean ====
/- The wide part of the mixer projection of the prompts: kernel and reference hold the same array. -/
module

public import proofs.«01_k».proof.Proof.Gen.MixIdeal.Value
public import proofs.«01_k».proof.Proof.Gen.MixReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.MixIdeal.Result

open Cert.MixIdeal Cert.MixIdeal.Gen

/-- Row `i` of the result: token `i % 2048` of sequence `i / 2048` times the matrix's columns. -/
def OUT (a : Vec Ideal S4x2048x4096 .f32) (w : Vec Ideal S1x4096x12304 .f32) : Vec Ideal S8192x12288 .f32 := fun j =>
  ∑ k : Fin 4096, a (ix3 ⟨j 0 / 2048, by have : (j 0).val < 8192 := (j 0).isLt; omega⟩ ⟨j 0 % 2048, by omega⟩ k) * w (ix3 0 k ⟨j 1, by have : (j 1).val < 12288 := (j 1).isLt; omega⟩)

variable (m : (ℓ : Loc nD τ sig) → Buf (Elt Ideal) ℓ) (c : Dev nD)

abbrev X0 : Vec Ideal S4x2048x4096 .f32 := m ((c : Thread nD τ).loc main_arg0)
abbrev X1 : Vec Ideal S1x4096x12304 .f32 := m ((c : Thread nD τ).loc main_arg1)

/-- Every window's block index at grid point `t`: row block `t % 8`, column block `t / 8`. -/
theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

section

variable (c : Dev nD) (i : grid0.Coords) (arg2 : Memref sig .tc .vmem S1024x4096 .bf16) (harg2 : arg2.IsWhole) (arg3 : Memref sig .tc .vmem S512x4096 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S512x4096 .f32) (xs : Vec Ideal S4096x512 .bf16)

theorem sout_A (hc0 : cond0_0 i) : sout0_A_0 c i arg2 harg2 arg3 harg3 arg4 harg4 arg5 harg5 hc0 x0 x1 = k0_pay1 x1 := by
  frame_open
  simp (disch := decide) only [↓ View.readCov_skip, ↓ View.readCov_cons_toLoadRect, ↓ View.readCov_fill]
  frame_out

theorem out_A (hc0 : cond0_0 i) : out0_A_2 c i arg2 harg2 arg3 harg3 arg4 harg4 arg5 harg5 hc0 x0 x1 = k0_pay2 x0 (k0_pay1 x1) := by
  frame_open
  simp (disch := decide) only [↓ View.readCov_skip, ↓ View.readCov_cons_toLoadRect, ↓ View.readCov_fill]
  frame_out

theorem out_B (hc0 : ¬cond0_0 i) : out0_B_2 c i arg2 harg2 arg3 harg3 arg4 harg4 arg5 harg5 hc0 x0 x1 xs = k0_pay2 x0 xs := by
  frame_open
  simp (disch := decide) only [↓ View.readCov_skip, ↓ View.readCov_cons_toLoadRect, ↓ View.readCov_fill]
  frame_out

end

section

variable (t : Fin cfg0.N)

theorem blk0 (i : Fin 1024) (k : Fin 4096) : (iblk m c 0 t : Vec Ideal S1024x4096 .bf16) (ix2 i k)
    = X0 m c (ix3 ⟨(1024 * (t.val % 8) + i) / 2048, by omega⟩ ⟨(1024 * (t.val % 8) + i) % 2048, by omega⟩ k) := by
  have h := (idx t).1
  blk_simp [iblk, h]
  entry_read
  pointwise
  blk_ext [h]

theorem cast1 (k : Fin 4096) (j : Fin 512) : k0_pay1 (X0_1 m c t) (ix2 k j) = X1 m c (ix3 0 k ⟨512 * (t.val / 8) + j, by have : t.val < 192 := lt_of_lt_of_eq t.isLt N_0; omega⟩) := by
  have h := (idx t).2.1
  have ht : t.val < 192 := lt_of_lt_of_eq t.isLt N_0
  unfold k0_pay1
  pointwise
  unfold X0_1 Pipeline.Window.fill
  rw [dif_pos (moved0_1 t _)]
  blk_simp [iblk, h]
  entry_read
  pointwise
  blk_ext [h]

end

/-- The weights the scratch holds after each point: the point's column block. -/
theorem scratch (n : ℕ) : ∀ (hn : n < cfg0.N) (k : Fin 4096) (j : Fin 512), (outsAt0 m c n hn).2 (ix2 k j)
    = X1 m c (ix3 0 k ⟨512 * (n / 8) + j, by have : n < 192 := lt_of_lt_of_eq hn N_0; omega⟩) := by
  induction n with
  | zero =>
    intro hn k j
    rw [outsAt0_A m c ⟨0, hn⟩ rfl]
    rw [sout_A]
    exact cast1 m c ⟨0, hn⟩ k j
  | succ n ih =>
    intro hn k j
    have hN : n + 1 < 192 := lt_of_lt_of_eq hn N_0
    by_cases h0 : (n + 1) % 8 = 0
    · rw [outsAt0_A m c ⟨n + 1, hn⟩ h0]
      rw [sout_A]
      exact cast1 m c ⟨n + 1, hn⟩ k j
    · rw [outsAt0_B m c ⟨n + 1, hn⟩ h0]
      refine (ih (Nat.lt_of_succ_lt hn) k j).trans (congrArg (X1 m c) ?_)
      congr 1
      exact Fin.ext (by simp only; omega)

/-- Each point's block of the result is its row block times the weights the scratch holds after it. -/
theorem out_at (t : Fin cfg0.N) : (outsAt0 m c t.val t.isLt).1 = k0_pay2 (iblk m c 0 t) (outsAt0 m c t.val t.isLt).2 := by
  by_cases h0 : t.val % 8 = 0
  · rw [outsAt0_A m c t h0]
    rw [sout_A, out_A]
  · rw [outsAt0_B m c t h0]
    rw [out_B]
    rfl

/-- The kernel's result. -/
theorem result : (dats m 0 c).arrAt 2 cfg0.N = OUT (X0 m c) (X1 m c) := by
  refine (dats m 0 c).arrAt_eq_of_covers 2 _ (by decide +kernel) fun t hf y => ?_
  have h := (idx t).2.2
  have ht : t.val < 192 := lt_of_lt_of_eq t.isLt N_0
  blk_simp
  rw [after0_2, out_at]
  idx_vars y
  have he : (win0_2.blk t).view.emb (ix2 y0 y1) = ix2 ⟨1024 * (t.val % 8) + y0, by omega⟩ ⟨512 * (t.val / 8) + y1, by omega⟩ := by
    blk_ext [h]
  rw [he]
  unfold k0_pay2 OUT
  pointwise
  exact Finset.sum_congr (M := EReal) rfl fun k _ => congrArg₂ (fun x y : EReal => x * y) (blk0 m c t y0 k) (scratch m c t.val t.isLt k y1)

end Cert.MixIdeal.Result

namespace Cert.MixReferenceIdeal.Result

open Cert.MixReferenceIdeal Cert.MixReferenceIdeal.Gen

/-- The reference's result. -/
theorem result (a : FVec Ideal S4x2048x4096 .f32) (w : FVec Ideal S1x4096x12304 .f32) :
    extractStridedSlice (α := Ideal .f32) S8192x12288 ![0, 0] (shapeCast (α := Ideal .f32) S8192x12304 (Host.dotGeneral (F := Ideal) (φ₁ := .f32) (φ₂ := .f32) dot_S4x2048x4096_S4096x12304_S4x2048x12304_2_0_01_1_n_n none a
      (shapeCast (α := Ideal .f32) S4096x12304 w shapeCasts_S1x4096x12304_S4096x12304)) shapeCasts_S4x2048x12304_S8192x12304) slices_S8192x12304_S8192x12288_0_0
      = Cert.MixIdeal.Result.OUT a w := by
  funext y
  idx_vars y
  unfold Cert.MixIdeal.Result.OUT
  pointwise

/-- The reference's run: its result, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = Cert.MixIdeal.Result.OUT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun r h c => ⟨(h c).1.trans (result _ _), (h c).2⟩) (Cert.MixReferenceIdeal.Value.run (F := Ideal) m ρ)

end Cert.MixReferenceIdeal.Result

end
-- ==== Proof.Key.lean ====
/- The rotated key projection of the prompts: kernel and reference hold the same array. -/
module

public import proofs.«01_k».proof.Proof.Gen.KeyIdeal.Value
public import proofs.«01_k».proof.Proof.Gen.KeyReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KeyIdeal.Result

open Cert.KeyIdeal Cert.KeyIdeal.Gen

/-- The angle token `s` turns frequency `f` by. -/
def ang (s f : ℕ) : EReal := FloatOps.sitofp (F := Ideal) .f32 (BitVec.ofNat 32 s)
  * Ideal.pow (Ideal.ofBits .f32 1176256512#32) (Ideal.div (-FloatOps.sitofp (F := Ideal) .f32 (BitVec.ofNat 32 f)) (Ideal.ofBits .f32 1115684864#32))

/-- Column `j` of row `r` before the rotation: token `r % 2048` of sequence `r / 2048` times the matrix's column. -/
def proj (a : Vec Ideal S4x2048x4096 .f32) (w : Vec Ideal S4096x8192 .f32) (r : Fin 8192) (j : ℕ) (hj : j < 4096) : EReal :=
  ∑ k : Fin 4096, a (ix3 ⟨r / 2048, by omega⟩ ⟨r % 2048, by omega⟩ k) * w (ix2 k ⟨j, by omega⟩)

/-- The rotated rows: in each head of 128 columns, column `f` of the first 64 and column `64 + f` turn by the token's angle. -/
def OUT (a : Vec Ideal S4x2048x4096 .f32) (w : Vec Ideal S4096x8192 .f32) : Vec Ideal S8192x4096 .f32 := fun y =>
  have hy : (y 1).val < 4096 := (y 1).isLt
  if h : (y 1).val % 128 < 64 then
    proj a w (y 0) (y 1) hy * Ideal.cos (ang ((y 0).val % 2048) ((y 1).val % 128))
      - proj a w (y 0) ((y 1).val / 128 * 128 + (64 + (y 1).val % 128)) (by omega) * Ideal.sin (ang ((y 0).val % 2048) ((y 1).val % 128))
  else
    proj a w (y 0) ((y 1).val / 128 * 128 + (64 + ((y 1).val % 128 - 64))) (by omega) * Ideal.cos (ang ((y 0).val % 2048) ((y 1).val % 128 - 64))
      + proj a w (y 0) ((y 1).val / 128 * 128 + ((y 1).val % 128 - 64)) (by omega) * Ideal.sin (ang ((y 0).val % 2048) ((y 1).val % 128 - 64))

variable (m : (ℓ : Loc nD τ sig) → Buf (Elt Ideal) ℓ) (c : Dev nD)

abbrev X0 : Vec Ideal S4x2048x4096 .f32 := m ((c : Thread nD τ).loc main_arg0)
abbrev X1 : Vec Ideal S4096x8192 .f32 := m ((c : Thread nD τ).loc main_arg1)

/-- Every window's block index at grid point `t`: row block `t % 8`, column block `t / 8`. -/
theorem idx : ∀ t : Fin cfg0.N, win0_0.index t = ![t.val % 8, 0] ∧ win0_1.index t = ![0, t.val / 8]
    ∧ win0_2.index t = ![t.val % 2, 0] ∧ win0_3.index t = ![t.val % 2, 0] ∧ win0_4.index t = ![t.val % 8, t.val / 8] :=
  (by decide +kernel : ∀ t : Fin grid0.N, _)

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S4096x512 .bf16) (harg7 : arg7.IsWhole)
  (x0 : Vec Ideal S1024x4096 .bf16) (x1 : Vec Ideal S4096x512 .f32) (x2 : Vec Ideal S1024x128 .f32) (x3 : Vec Ideal S1024x128 .f32) (xs : Vec Ideal S4096x512 .bf16)

/-- A block of rotated rows. -/
def turn : Vec Ideal S1024x512 .f32 := fun y =>
  have hy : (y 1).val < 512 := (y 1).isLt
  (∑ k : Fin 4096, x0 (ix2 (y 0) k) * xs (ix2 k (y 1))) * x2 (ix2 (y 0) ⟨(y 1).val % 128, by omega⟩)
    + (∑ k : Fin 4096, x0 (ix2 (y 0) k) * xs (ix2 k ⟨(y 1).val / 128 * 128 + ((y 1).val % 128 + 64) % 128, by omega⟩)) * x3 (ix2 (y 0) ⟨(y 1).val % 128, by omega⟩)

variable {c i arg2 harg2 arg3 harg3 arg4 harg4 arg5 harg5 arg6 harg6 arg7 harg7} in
theorem turn_at (i : Fin 1024) (d : Fin 128) (y0 : Fin 1024) (y1 j j' : Fin 512) (h0 : y0.val = i.val) (hj : j.val = y1.val)
    (hj' : j'.val = y1.val / 128 * 128 + (y1.val % 128 + 64) % 128) (hd : d.val = y1.val % 128) :
    (∑ k : Fin 4096, x0 (ix2 i k) * xs (ix2 k j)) * x2 (ix2 i d) + (∑ k : Fin 4096, x0 (ix2 i k) * xs (ix2 k j')) * x3 (ix2 i d)
      = turn x0 x2 x3 xs (ix2 y0 y1) := by
  obtain rfl : y0 = i := Fin.ext h0
  obtain rfl : j = y1 := Fin.ext hj
  have e1 : d = ⟨j.val % 128, by omega⟩ := Fin.ext hd
  have e2 : j' = ⟨j.val / 128 * 128 + (j.val % 128 + 64) % 128, by omega⟩ := Fin.ext hj'
  exact congrArg₂ (fun (d : Fin 128) (j' : Fin 512) => (∑ k : Fin 4096, x0 (ix2 y0 k) * xs (ix2 k j)) * x2 (ix2 y0 d)
    + (∑ k : Fin 4096, x0 (ix2 y0 k) * xs (ix2 k j')) * x3 (ix2 y0 d)) e1 e2

theorem turn_val (y0 : Fin 1024) (y1 : Fin 512) {P Q C D : EReal} (hp : ∑ k : Fin 4096, x0 (ix2 y0 k) * xs (ix2 k y1) = P)
    (hq : ∑ k : Fin 4096, x0 (ix2 y0 k) * xs (ix2 k ⟨y1.val / 128 * 128 + (y1.val % 128 + 64) % 128, by omega⟩) = Q)
    (h2 : x2 (ix2 y0 ⟨y1.val % 128, by omega⟩) = C) (h3 : x3 (ix2 y0 ⟨y1.val % 128, by omega⟩) = D) :
    turn x0 x2 x3 xs (ix2 y0 y1) = P * C + Q * D := by
  subst hp hq h2 h3
  rfl

theorem sout_A (hc0 : cond0_0 i) : sout0_A_0 c i arg2 harg2 arg3 harg3 arg4 harg4 arg5 harg5 arg6 harg6 arg7 harg7 hc0 x0 x1 x2 x3 = k0_pay2 x1 := by
  frame_open
  simp (disch := decide) only [↓ View.readCov_skip, ↓ View.readCov_cons_toLoadRect, ↓ View.readCov_fill]
  frame_out

theorem out_B (hc0 : ¬cond0_0 i) : out0_B_4 c i arg2 harg2 arg3 harg3 arg4 harg4 arg5 harg5 arg6 harg6 arg7 harg7 hc0 x0 x1 x2 x3 xs = turn x0 x2 x3 xs := by
  frame_open
  simp (disch := decide) only [↓ View.readCov_skip, ↓ View.readCov_cons_toLoadRect, ↓ View.readCov_fill]
  frame_out
  funext y
  canon_tiles x h
  all_goals
    idx_vars x
    idx_vars y
    pointwise [k0_pay1, k0_pay3, k0_pay4, k0_pay5, k0_pay6, k0_pay7, k0_pay8, k0_pay9, k0_pay10, k0_pay11]
    exact turn_at _ _ _ _ _ _ _ _ _ _ h0 (by simp only; omega) (by simp only; omega) (by omega)

theorem out_A (hc0 : cond0_0 i) : out0_A_4 c i arg2 harg2 arg3 harg3 arg4 harg4 arg5 harg5 arg6 harg6 arg7 harg7 hc0 x0 x1 x2 x3 = turn x0 x2 x3 (k0_pay2 x1) := by
  frame_open
  simp (disch := decide) only [↓ View.readCov_skip, ↓ View.readCov_cons_toLoadRect, ↓ View.readCov_fill]
  frame_out
  funext y
  canon_tiles x h
  all_goals
    idx_vars x
    idx_vars y
    pointwise [k0_pay1, k0_pay3, k0_pay4, k0_pay5, k0_pay6, k0_pay7, k0_pay8, k0_pay9, k0_pay10, k0_pay11]
    exact turn_at _ _ _ _ _ _ _ _ _ _ h0 (by simp only; omega) (by simp only; omega) (by omega)

end

section

variable (t : Fin cfg0.N)

theorem blk0 (i : Fin 1024) (k : Fin 4096) : (iblk m c 0 t : Vec Ideal S1024x4096 .bf16) (ix2 i k)
    = X0 m c (ix3 ⟨(1024 * (t.val % 8) + i) / 2048, by omega⟩ ⟨(1024 * (t.val % 8) + i) % 2048, by omega⟩ k) := by
  have h := (idx t).1
  blk_simp [iblk, h]
  entry_read
  pointwise
  blk_ext [h]

theorem cast1 (k : Fin 4096) (j : Fin 512) : k0_pay2 (iblk m c 1 t) (ix2 k j) = X1 m c (ix2 k ⟨512 * (t.val / 8) + j, by have : t.val < 64 := lt_of_lt_of_eq t.isLt N_0; omega⟩) := by
  have h := (idx t).2.1
  have ht : t.val < 64 := lt_of_lt_of_eq t.isLt N_0
  unfold k0_pay2
  pointwise
  blk_simp [iblk, h]
  entry_read
  blk_ext [h]

/-- The point's block of the table of cosines. -/
theorem blk2 (i : Fin 1024) (d : Fin 128) : (iblk m c 2 t : Vec Ideal S1024x128 .f32) (ix2 i d)
    = if h : d.val < 64 then Ideal.cos (ang (1024 * (t.val % 2) + i) d) else Ideal.cos (ang (1024 * (t.val % 2) + i) (d - 64)) := by
  have h := (idx t).2.2.1
  blk_simp [iblk, h]
  entry_read
  have he : (win0_2.blk t).view.emb (ix2 i d) = ix2 ⟨1024 * (t.val % 2) + i, by omega⟩ d := by
    blk_ext [h]
  rw [he]
  pointwise
  rfl

/-- The point's block of the table of signed sines. -/
theorem blk3 (i : Fin 1024) (d : Fin 128) : (iblk m c 3 t : Vec Ideal S1024x128 .f32) (ix2 i d)
    = if h : d.val < 64 then -Ideal.sin (ang (1024 * (t.val % 2) + i) d) else Ideal.sin (ang (1024 * (t.val % 2) + i) (d - 64)) := by
  have h := (idx t).2.2.2.1
  blk_simp [iblk, h]
  entry_read
  have he : (win0_3.blk t).view.emb (ix2 i d) = ix2 ⟨1024 * (t.val % 2) + i, by omega⟩ d := by
    blk_ext [h]
  rw [he]
  pointwise
  rfl

end

/-- The weights the scratch holds after each point: the point's column block. -/
theorem scratch (n : ℕ) : ∀ (hn : n < cfg0.N) (k : Fin 4096) (j : Fin 512), (outsAt0 m c n hn).2 (ix2 k j)
    = X1 m c (ix2 k ⟨512 * (n / 8) + j, by have : n < 64 := lt_of_lt_of_eq hn N_0; omega⟩) := by
  induction n with
  | zero =>
    intro hn k j
    rw [outsAt0_A m c ⟨0, hn⟩ rfl]
    rw [sout_A]
    exact cast1 m c ⟨0, hn⟩ k j
  | succ n ih =>
    intro hn k j
    have hN : n + 1 < 64 := lt_of_lt_of_eq hn N_0
    by_cases h0 : (n + 1) % 8 = 0
    · rw [outsAt0_A m c ⟨n + 1, hn⟩ h0]
      rw [sout_A]
      exact cast1 m c ⟨n + 1, hn⟩ k j
    · rw [outsAt0_B m c ⟨n + 1, hn⟩ h0]
      refine (ih (Nat.lt_of_succ_lt hn) k j).trans (congrArg (X1 m c) ?_)
      congr 1
      exact Fin.ext (by simp only; omega)

/-- Each point's block of the result is its rotated rows, of the weights the scratch holds after it. -/
theorem out_at (t : Fin cfg0.N) : (outsAt0 m c t.val t.isLt).1
    = turn (iblk m c 0 t) (iblk m c 2 t) (iblk m c 3 t) (outsAt0 m c t.val t.isLt).2 := by
  by_cases h0 : t.val % 8 = 0
  · rw [outsAt0_A m c t h0]
    rw [sout_A, out_A]
  · rw [outsAt0_B m c t h0]
    rw [out_B]
    rfl

abbrev B0 (t : Fin cfg0.N) : Vec Ideal S1024x4096 .bf16 := iblk m c 0 t
abbrev SC (t : Fin cfg0.N) : Vec Ideal S4096x512 .bf16 := (outsAt0 m c t.val t.isLt).2

/-- A row of the point's block times a column of the weights. -/
theorem proj_at (t : Fin cfg0.N) (i : Fin 1024) (j : Fin 512) (r : Fin 8192) (J : ℕ) (hJ : J < 4096) (hr : r.val = 1024 * (t.val % 8) + i)
    (hj : J = 512 * (t.val / 8) + j) :
    ∑ k : Fin 4096, B0 m c t (ix2 i k) * SC m c t (ix2 k j) = proj (X0 m c) (X1 m c) r J hJ := by
  subst hj
  rw [show r = ⟨1024 * (t.val % 8) + i, by omega⟩ from Fin.ext hr]
  exact Finset.sum_congr (M := EReal) rfl fun k _ => congrArg₂ (fun x y : EReal => x * y) (blk0 m c t i k) (scratch m c t.val t.isLt k j)

theorem OUT_low (a : Vec Ideal S4x2048x4096 .f32) (w : Vec Ideal S4096x8192 .f32) (r : Fin 8192) (j : Fin 4096) (s d : ℕ)
    (hs : r.val % 2048 = s) (hd : j.val % 128 = d) (h : d < 64) :
    OUT a w (ix2 r j) = proj a w r j j.isLt * Ideal.cos (ang s d) + proj a w r (j.val / 128 * 128 + (64 + j.val % 128)) (by omega) * -Ideal.sin (ang s d) := by
  subst hs hd
  rw [mul_neg, ← sub_eq_add_neg]
  exact dif_pos h

theorem OUT_high (a : Vec Ideal S4x2048x4096 .f32) (w : Vec Ideal S4096x8192 .f32) (r : Fin 8192) (j : Fin 4096) (s d : ℕ)
    (hs : r.val % 2048 = s) (hd : j.val % 128 = d) (h : ¬d < 64) :
    OUT a w (ix2 r j) = proj a w r (j.val / 128 * 128 + (64 + (j.val % 128 - 64))) (by omega) * Ideal.cos (ang s (d - 64))
      + proj a w r (j.val / 128 * 128 + (j.val % 128 - 64)) (by omega) * Ideal.sin (ang s (d - 64)) := by
  subst hs hd
  exact dif_neg h

abbrev B2 (t : Fin cfg0.N) : Vec Ideal S1024x128 .f32 := iblk m c 2 t
abbrev B3 (t : Fin cfg0.N) : Vec Ideal S1024x128 .f32 := iblk m c 3 t

theorem block_low (t : Fin cfg0.N) (y0 : Fin 1024) (y1 : Fin 512) (r : Fin 8192) (j : Fin 4096) (hr : r.val = 1024 * (t.val % 8) + y0)
    (hj : j.val = 512 * (t.val / 8) + y1) (hd : y1.val % 128 < 64) :
    turn (B0 m c t) (B2 m c t) (B3 m c t) (SC m c t) (ix2 y0 y1) = OUT (X0 m c) (X1 m c) (ix2 r j) := by
  have e2 : B2 m c t (ix2 y0 ⟨y1.val % 128, by omega⟩) = _ := (blk2 m c t y0 ⟨y1.val % 128, by omega⟩).trans (dif_pos hd)
  have e3 : B3 m c t (ix2 y0 ⟨y1.val % 128, by omega⟩) = _ := (blk3 m c t y0 ⟨y1.val % 128, by omega⟩).trans (dif_pos hd)
  have p := proj_at m c t y0 y1 r j j.isLt hr hj
  have hJ : j.val / 128 * 128 + (64 + j.val % 128) = 512 * (t.val / 8) + (y1.val / 128 * 128 + (y1.val % 128 + 64) % 128) := by omega
  have q := proj_at m c t y0 ⟨y1.val / 128 * 128 + (y1.val % 128 + 64) % 128, by omega⟩ r (j.val / 128 * 128 + (64 + j.val % 128)) (by omega) hr hJ
  have h1 : r.val % 2048 = 1024 * (t.val % 2) + y0 := by omega
  have h2 : j.val % 128 = y1.val % 128 := by omega
  rw [turn_val _ _ _ _ y0 y1 p q e2 e3, OUT_low _ _ r j _ _ h1 h2 hd]

theorem block_high (t : Fin cfg0.N) (y0 : Fin 1024) (y1 : Fin 512) (r : Fin 8192) (j : Fin 4096) (hr : r.val = 1024 * (t.val % 8) + y0)
    (hj : j.val = 512 * (t.val / 8) + y1) (hd : ¬y1.val % 128 < 64) :
    turn (B0 m c t) (B2 m c t) (B3 m c t) (SC m c t) (ix2 y0 y1) = OUT (X0 m c) (X1 m c) (ix2 r j) := by
  have e2 : B2 m c t (ix2 y0 ⟨y1.val % 128, by omega⟩) = _ := (blk2 m c t y0 ⟨y1.val % 128, by omega⟩).trans (dif_neg hd)
  have e3 : B3 m c t (ix2 y0 ⟨y1.val % 128, by omega⟩) = _ := (blk3 m c t y0 ⟨y1.val % 128, by omega⟩).trans (dif_neg hd)
  have hP : j.val / 128 * 128 + (64 + (j.val % 128 - 64)) = 512 * (t.val / 8) + y1.val := by omega
  have p := proj_at m c t y0 y1 r (j.val / 128 * 128 + (64 + (j.val % 128 - 64))) (by omega) hr hP
  have hJ : j.val / 128 * 128 + (j.val % 128 - 64) = 512 * (t.val / 8) + (y1.val / 128 * 128 + (y1.val % 128 + 64) % 128) := by omega
  have q := proj_at m c t y0 ⟨y1.val / 128 * 128 + (y1.val % 128 + 64) % 128, by omega⟩ r (j.val / 128 * 128 + (j.val % 128 - 64)) (by omega) hr hJ
  have h1 : r.val % 2048 = 1024 * (t.val % 2) + y0 := by omega
  have h2 : j.val % 128 = y1.val % 128 := by omega
  rw [turn_val _ _ _ _ y0 y1 p q e2 e3, OUT_high _ _ r j _ _ h1 h2 hd]

/-- The kernel's result. -/
theorem result : (dats m 0 c).arrAt 4 cfg0.N = OUT (X0 m c) (X1 m c) := by
  refine (dats m 0 c).arrAt_eq_of_covers 4 _ (by decide +kernel) fun t hf y => ?_
  have h := (idx t).2.2.2.2
  have ht : t.val < 64 := lt_of_lt_of_eq t.isLt N_0
  blk_simp
  rw [after0_4, out_at]
  idx_vars y
  have he : (win0_4.blk t).view.emb (ix2 y0 y1) = ix2 ⟨1024 * (t.val % 8) + y0, by omega⟩ ⟨512 * (t.val / 8) + y1, by omega⟩ := by
    blk_ext [h]
  rw [he]
  by_cases hd : y1.val % 128 < 64
  · exact block_low m c t y0 y1 _ _ rfl rfl hd
  · exact block_high m c t y0 y1 _ _ rfl rfl hd

end Cert.KeyIdeal.Result

namespace Cert.KeyReferenceIdeal.Result

open Cert.KeyReferenceIdeal Cert.KeyReferenceIdeal.Gen Cert.KeyReferenceIdeal.Value

/-- The reference's result. -/
theorem result (m : (ℓ : Loc nD τ sig) → Buf (Elt Ideal) ℓ) (c : Dev nD) :
    res_main_v32 m c = Cert.KeyIdeal.Result.OUT (m ((c.tc : Thread nD τ).loc main_arg0)) (m ((c.tc : Thread nD τ).loc main_arg1)) := by
  unfold res_main_v32
  funext y
  idx_vars y
  pointwise
  rfl

end Cert.KeyReferenceIdeal.Result

end
-- ==== Proof.Val.lean ====
/- The value projection of the prompts: kernel and reference hold the same array. -/
module

public import proofs.«01_k».proof.Proof.Gen.ValIdeal.Value
public import proofs.«01_k».proof.Proof.Gen.ValReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.ValIdeal.Result

open Cert.ValIdeal Cert.ValIdeal.Gen

/-- Row `i` of the result: token `i % 2048` of sequence `i / 2048` times the matrix's columns. -/
def OUT (a : Vec Ideal S4x2048x4096 .f32) (w : Vec Ideal S4096x8192 .f32) : Vec Ideal S8192x4096 .f32 := fun j =>
  ∑ k : Fin 4096, a (ix3 ⟨j 0 / 2048, by have : (j 0).val < 8192 := (j 0).isLt; omega⟩ ⟨j 0 % 2048, by omega⟩ k) * w (ix2 k ⟨4096 + j 1, by have : (j 1).val < 4096 := (j 1).isLt; omega⟩)

variable (m : (ℓ : Loc nD τ sig) → Buf (Elt Ideal) ℓ) (c : Dev nD)

abbrev X0 : Vec Ideal S4x2048x4096 .f32 := m ((c : Thread nD τ).loc main_arg0)
abbrev X1 : Vec Ideal S4096x8192 .f32 := m ((c : Thread nD τ).loc main_arg1)

/-- Every window's block index at grid point `t`: row block `t % 8`, column block `t / 8`. -/
theorem idx : ∀ t : Fin cfg0.N, win0_0.index t = ![t.val % 8, 0] ∧ win0_1.index t = ![0, 8 + t.val / 8]
    ∧ win0_2.index t = ![t.val % 8, t.val / 8] :=
  (by decide +kernel : ∀ t : Fin grid0.N, _)

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs : Vec Ideal S4096x512 .bf16)

theorem sout_A (hc0 : cond0_0 i) : sout0_A_0 c i arg2 harg2 arg3 harg3 arg4 harg4 arg5 harg5 hc0 x0 x1 = k0_pay1 x1 := by
  frame_open
  simp (disch := decide) only [↓ View.readCov_skip, ↓ View.readCov_cons_toLoadRect, ↓ View.readCov_fill]
  frame_out

theorem out_A (hc0 : cond0_0 i) : out0_A_2 c i arg2 harg2 arg3 harg3 arg4 harg4 arg5 harg5 hc0 x0 x1 = k0_pay2 x0 (k0_pay1 x1) := by
  frame_open
  simp (disch := decide) only [↓ View.readCov_skip, ↓ View.readCov_cons_toLoadRect, ↓ View.readCov_fill]
  frame_out

theorem out_B (hc0 : ¬cond0_0 i) : out0_B_2 c i arg2 harg2 arg3 harg3 arg4 harg4 arg5 harg5 hc0 x0 x1 xs = k0_pay2 x0 xs := by
  frame_open
  simp (disch := decide) only [↓ View.readCov_skip, ↓ View.readCov_cons_toLoadRect, ↓ View.readCov_fill]
  frame_out

end

section

variable (t : Fin cfg0.N)

theorem blk0 (i : Fin 1024) (k : Fin 4096) : (iblk m c 0 t : Vec Ideal S1024x4096 .bf16) (ix2 i k)
    = X0 m c (ix3 ⟨(1024 * (t.val % 8) + i) / 2048, by omega⟩ ⟨(1024 * (t.val % 8) + i) % 2048, by omega⟩ k) := by
  have h := (idx t).1
  blk_simp [iblk, h]
  entry_read
  pointwise
  blk_ext [h]

theorem cast1 (k : Fin 4096) (j : Fin 512) : k0_pay1 (iblk m c 1 t) (ix2 k j) = X1 m c (ix2 k ⟨4096 + (512 * (t.val / 8) + j), by have : t.val < 64 := lt_of_lt_of_eq t.isLt N_0; omega⟩) := by
  have h := (idx t).2.1
  have ht : t.val < 64 := lt_of_lt_of_eq t.isLt N_0
  unfold k0_pay1
  pointwise
  blk_simp [iblk, h]
  entry_read
  blk_ext [h]

end

/-- The weights the scratch holds after each point: the point's column block. -/
theorem scratch (n : ℕ) : ∀ (hn : n < cfg0.N) (k : Fin 4096) (j : Fin 512), (outsAt0 m c n hn).2 (ix2 k j)
    = X1 m c (ix2 k ⟨4096 + (512 * (n / 8) + j), by have : n < 64 := lt_of_lt_of_eq hn N_0; omega⟩) := by
  induction n with
  | zero =>
    intro hn k j
    rw [outsAt0_A m c ⟨0, hn⟩ rfl]
    rw [sout_A]
    exact cast1 m c ⟨0, hn⟩ k j
  | succ n ih =>
    intro hn k j
    have hN : n + 1 < 64 := lt_of_lt_of_eq hn N_0
    by_cases h0 : (n + 1) % 8 = 0
    · rw [outsAt0_A m c ⟨n + 1, hn⟩ h0]
      rw [sout_A]
      exact cast1 m c ⟨n + 1, hn⟩ k j
    · rw [outsAt0_B m c ⟨n + 1, hn⟩ h0]
      refine (ih (Nat.lt_of_succ_lt hn) k j).trans (congrArg (X1 m c) ?_)
      congr 1
      exact Fin.ext (by simp only; omega)

/-- Each point's block of the result is its row block times the weights the scratch holds after it. -/
theorem out_at (t : Fin cfg0.N) : (outsAt0 m c t.val t.isLt).1 = k0_pay2 (iblk m c 0 t) (outsAt0 m c t.val t.isLt).2 := by
  by_cases h0 : t.val % 8 = 0
  · rw [outsAt0_A m c t h0]
    rw [sout_A, out_A]
  · rw [outsAt0_B m c t h0]
    rw [out_B]
    rfl

/-- The kernel's result. -/
theorem result : (dats m 0 c).arrAt 2 cfg0.N = OUT (X0 m c) (X1 m c) := by
  refine (dats m 0 c).arrAt_eq_of_covers 2 _ (by decide +kernel) fun t hf y => ?_
  have h := (idx t).2.2
  have ht : t.val < 64 := lt_of_lt_of_eq t.isLt N_0
  blk_simp
  rw [after0_2, out_at]
  idx_vars y
  have he : (win0_2.blk t).view.emb (ix2 y0 y1) = ix2 ⟨1024 * (t.val % 8) + y0, by omega⟩ ⟨512 * (t.val / 8) + y1, by omega⟩ := by
    blk_ext [h]
  rw [he]
  unfold k0_pay2 OUT
  pointwise
  exact Finset.sum_congr (M := EReal) rfl fun k _ => congrArg₂ (fun x y : EReal => x * y) (blk0 m c t y0 k) (scratch m c t.val t.isLt k y1)

end Cert.ValIdeal.Result

namespace Cert.ValReferenceIdeal.Result

open Cert.ValReferenceIdeal Cert.ValReferenceIdeal.Gen

/-- The reference's run: its result, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Cert.ValIdeal.Result.OUT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.ValReferenceIdeal.Value.run (F := Ideal) m ρ)
  funext y
  idx_vars y
  unfold Cert.ValIdeal.Result.OUT
  pointwise

end Cert.ValReferenceIdeal.Result

end
-- ==== Proof.Up.Points.lean ====
/- The up projection's call at its grid points: which points fetch and write back each block, and the buffers that the body is called on. -/
module

public import proofs.«01_k».proof.Proof.Gen.UpIdeal
public import Idealize.ShloMosaic.Lib.Pipeline.Kit

@[expose] public section

noncomputable section

namespace Cert.UpIdeal.Gen

open Idealize.ShloMosaic Idealize.ShloMosaic.TcCoe
open Idealize.SL Idealize.SL.Sem

variable {F : FTy → Type} [FloatOps F]

theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true ↔ t.val % 8 = 0 :=
  (fun t => Pipeline.Window.fetchOf_reads cc0_transform_1 reads0_1 hreads0_1 0 (by decide) (by decide) (Pipeline.Window.sep_of_coord cc0_transform_1 0 2 (fun _ => rfl) (by decide)) (P := 8) (by decide) t : ∀ t : Fin grid0.N, Pipeline.Window.fetchOf grid0 false cc0_transform_1 t = true ↔ t.val % 8 = 0)
theorem fetch0_2 (a : (pcfg0 (F := F)).Adm) : ∀ t : Fin (cfg0 a).N, ((cfg0 a).win 2).fetch t = true ↔ t.val % 8 = 0 :=
  (by decide +kernel : ∀ t : Fin grid0.N, Pipeline.Window.fetchOf grid0 false cc0_transform_2 t = true ↔ t.val % 8 = 0)
theorem fetch0_3 (a : (pcfg0 (F := F)).Adm) : ∀ t : Fin (cfg0 a).N, ((cfg0 a).win 3).fetch t = true ↔ t.val % 8 = 0 :=
  (fun t => Pipeline.Window.fetchOf_reads cc0_transform_3 reads0_3 hreads0_3 0 (by decide) (by decide) (Pipeline.Window.sep_of_coord cc0_transform_3 0 2 (fun _ => rfl) (by decide)) (P := 8) (by decide) t : ∀ t : Fin grid0.N, Pipeline.Window.fetchOf grid0 false cc0_transform_3 t = true ↔ t.val % 8 = 0)
theorem fetch0_4 (a : (pcfg0 (F := F)).Adm) : ∀ t : Fin (cfg0 a).N, ((cfg0 a).win 4).fetch t = true ↔ t.val % 8 = 0 :=
  (by decide +kernel : ∀ t : Fin grid0.N, Pipeline.Window.fetchOf grid0 false cc0_transform_4 t = true ↔ t.val % 8 = 0)
theorem fetch0_5 (a : (pcfg0 (F := F)).Adm) : ∀ t : Fin (cfg0 a).N, ((cfg0 a).win 5).fetch t = true ↔ t.val % 8 = 0 :=
  (fun t => Pipeline.Window.fetchOf_reads cc0_transform_5 reads0_5 hreads0_5 0 (by decide) (by decide) (Pipeline.Window.sep_of_coord cc0_transform_5 0 2 (fun _ => rfl) (by decide)) (P := 8) (by decide) t : ∀ t : Fin grid0.N, Pipeline.Window.fetchOf grid0 false cc0_transform_5 t = true ↔ t.val % 8 = 0)
theorem fetch0_6 (a : (pcfg0 (F := F)).Adm) : ∀ t : Fin (cfg0 a).N, ((cfg0 a).win 6).fetch t = true ↔ t.val % 8 = 0 :=
  (by decide +kernel : ∀ t : Fin grid0.N, Pipeline.Window.fetchOf grid0 false cc0_transform_6 t = true ↔ t.val % 8 = 0)
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 0 (fun _ => rfl) (by decide)) (P := 1) (m := 0) (by decide) rfl t).mpr (Nat.mod_one _) : ∀ t : Fin grid0.N, Pipeline.Window.flushOf grid0 true cc0_transform_9 t = true)
theorem flush0_10 (a : (pcfg0 (F := F)).Adm) : ∀ t : Fin (cfg0 a).N, ((cfg0 a).win 10).flush t = true ↔ t.val % 2 = 1 :=
  (by decide +kernel : ∀ t : Fin grid0.N, Pipeline.Window.flushOf grid0 true cc0_transform_10 t = true ↔ t.val % 2 = 1)
theorem flush0_11 (a : (pcfg0 (F := F)).Adm) : ∀ t : Fin (cfg0 a).N, ((cfg0 a).win 11).flush t = true ↔ t.val % 2 = 1 :=
  (by decide +kernel : ∀ t : Fin grid0.N, Pipeline.Window.flushOf grid0 true cc0_transform_11 t = true ↔ t.val % 2 = 1)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

abbrev bodyAt0 (a : (pcfg0 (F := F)).Adm) (t : Fin (cfg0 a).N) : Prog (TpuEff nD τ sig (Elt F) Λ₀ .tc) PUnit :=
  cc0_up_conv_prompt (grid0.coords t) (Memref.whole main_v3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _)

end Cert.UpIdeal.Gen

end
-- ==== Proof.Up.Runs.lean ====
/- The up projection's call up to its region, the contents of its tables, its blocks, and the conditions of the body's branches in closed form over the points. -/
module

public import proofs.«01_k».proof.Proof.Gen.UpIdeal.Launch
public import proofs.«01_k».proof.Proof.Gen.UpIdeal.Skeleton
public import proofs.«01_k».proof.Proof.Up.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S1024 .i32 := Memref.whole main_v3
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 2).trans (((dats 0 c).arrAt_in 2 rfl _).trans ((hA c 2).trans (V_main_arg1 m c))),
      ((h c).1 4).trans (((dats 0 c).arrAt_in 4 rfl _).trans ((hA c 4).trans (V_main_arg2 m c))),
      ((h c).2 main_arg3 (by decide : main_arg3 ∈ Pipeline.restRefs sig spec0)).trans (V_main_arg3 m c),
      ((h c).1 8).trans (((dats 0 c).arrAt_in 8 rfl _).trans ((hA c 8).trans (V_main_arg4 m c))),
      ((h c).2 main_arg5 (by decide : main_arg5 ∈ Pipeline.restRefs sig spec0)).trans (V_main_arg5 m c)⟩) h

abbrev cond0_0 (i : grid0.Coords) : Prop := (Scalar.cmpi .ne (Scalar.extui (Scalar.cmpi .eq (BitVec.ofNat 32 (i 1).val) 0#32)) 0#32) = 1#1
theorem hcond0_0 : ∀ t : Fin grid0.N, cond0_0 (grid0.coords t) ↔ t.val % 8 = 0 :=
  (fun t => by
    have ht : t.val < 344 := Nat.lt_of_lt_of_eq t.isLt N_0
    have e0 : (grid0.coords t 0).val = t.val / 8 % 43 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

abbrev cond0_1 (i : grid0.Coords) : Prop := (Scalar.cmpi .ne (Scalar.extui (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32)) 0#32) = 1#1
theorem hcond0_1 : ∀ t : Fin grid0.N, cond0_1 (grid0.coords t) ↔ t.val % 2 = 0 :=
  (by decide +kernel : ∀ t : Fin grid0.N, cond0_1 (grid0.coords t) ↔ t.val % 2 = 0)

abbrev cond0_2 (i : grid0.Coords) : Prop := k0_cond3 i = 1#1
theorem hcond0_2 : ∀ t : Fin grid0.N, cond0_2 (grid0.coords t) ↔ t.val < 256 :=
  (by decide +kernel : ∀ t : Fin grid0.N, cond0_2 (grid0.coords t) ↔ t.val < 256)

theorem liveAt0_0 (hO : Ok m) : ∀ t : Fin (cfgM m hO).N, (cfgM m hO).idle 0 (grid0.coords t) = false :=
  (fun _ => rfl : ∀ t : Fin grid0.N, idle0 0 (grid0.coords t) = false)
theorem liveAt0_1 (hO : Ok m) : ∀ t : Fin (cfgM m hO).N, (cfgM m hO).idle 1 (grid0.coords t) = false :=
  (fun _ => rfl : ∀ t : Fin grid0.N, idle0 1 (grid0.coords t) = false)
theorem liveAt0_2 (hO : Ok m) : ∀ t : Fin (cfgM m hO).N, (cfgM m hO).idle 2 (grid0.coords t) = false :=
  (fun _ => rfl : ∀ t : Fin grid0.N, idle0 2 (grid0.coords t) = false)
theorem liveAt0_3 (hO : Ok m) : ∀ t : Fin (cfgM m hO).N, (cfgM m hO).idle 3 (grid0.coords t) = false :=
  (fun _ => rfl : ∀ t : Fin grid0.N, idle0 3 (grid0.coords t) = false)
theorem liveAt0_4 (hO : Ok m) : ∀ t : Fin (cfgM m hO).N, (cfgM m hO).idle 4 (grid0.coords t) = false :=
  (fun _ => rfl : ∀ t : Fin grid0.N, idle0 4 (grid0.coords t) = false)
theorem liveAt0_5 (hO : Ok m) : ∀ t : Fin (cfgM m hO).N, (cfgM m hO).idle 5 (grid0.coords t) = false :=
  (fun _ => rfl : ∀ t : Fin grid0.N, idle0 5 (grid0.coords t) = false)
theorem liveAt0_6 (hO : Ok m) : ∀ t : Fin (cfgM m hO).N, (cfgM m hO).idle 6 (grid0.coords t) = false :=
  (fun _ => rfl : ∀ t : Fin grid0.N, idle0 6 (grid0.coords t) = false)
theorem liveAt0_7 (hO : Ok m) : ∀ t : Fin (cfgM m hO).N, (cfgM m hO).idle 7 (grid0.coords t) = false :=
  (fun _ => rfl : ∀ t : Fin grid0.N, idle0 7 (grid0.coords t) = false)
theorem liveAt0_8 (hO : Ok m) : ∀ t : Fin (cfgM m hO).N, (cfgM m hO).idle 8 (grid0.coords t) = false :=
  (fun _ => rfl : ∀ t : Fin grid0.N, idle0 8 (grid0.coords t) = false)
theorem liveAt0_9 (hO : Ok m) : ∀ t : Fin (cfgM m hO).N, (cfgM m hO).idle 9 (grid0.coords t) = false :=
  (fun _ => rfl : ∀ t : Fin grid0.N, idle0 9 (grid0.coords t) = false)
theorem liveAt0_10 (hO : Ok m) : ∀ t : Fin (cfgM m hO).N, (cfgM m hO).idle 10 (grid0.coords t) = false :=
  (fun _ => rfl : ∀ t : Fin grid0.N, idle0 10 (grid0.coords t) = false)
theorem liveAt0_11 (hO : Ok m) : ∀ t : Fin (cfgM m hO).N, (cfgM m hO).idle 11 (grid0.coords t) = false :=
  (fun _ => rfl : ∀ t : Fin grid0.N, idle0 11 (grid0.coords t) = false)
theorem liveAt0_12_A (hO : Ok m) : ∀ t : Fin (cfgM m hO).N, cond0_0 (grid0.coords t) → cond0_1 (grid0.coords t) → cond0_2 (grid0.coords t) → (cfgM m hO).idle 12 (grid0.coords t) = false :=
  (by decide +kernel : ∀ t : Fin grid0.N, cond0_0 (grid0.coords t) → cond0_1 (grid0.coords t) → cond0_2 (grid0.coords t) → idle0 12 (grid0.coords t) = false)
theorem liveAt0_12_B (hO : Ok m) : ∀ t : Fin (cfgM m hO).N, ¬cond0_0 (grid0.coords t) → ¬cond0_1 (grid0.coords t) → cond0_2 (grid0.coords t) → (cfgM m hO).idle 12 (grid0.coords t) = false :=
  (by decide +kernel : ∀ t : Fin grid0.N, ¬cond0_0 (grid0.coords t) → ¬cond0_1 (grid0.coords t) → cond0_2 (grid0.coords t) → idle0 12 (grid0.coords t) = false)
theorem liveAt0_12_C (hO : Ok m) : ∀ t : Fin (cfgM m hO).N, ¬cond0_0 (grid0.coords t) → cond0_1 (grid0.coords t) → cond0_2 (grid0.coords t) → (cfgM m hO).idle 12 (grid0.coords t) = false :=
  (by decide +kernel : ∀ t : Fin grid0.N, ¬cond0_0 (grid0.coords t) → cond0_1 (grid0.coords t) → cond0_2 (grid0.coords t) → idle0 12 (grid0.coords t) = false)
theorem idleAt0_12_D (hO : Ok m) : ∀ t : Fin (cfgM m hO).N, cond0_0 (grid0.coords t) → cond0_1 (grid0.coords t) → ¬cond0_2 (grid0.coords t) → (cfgM m hO).idle 12 (grid0.coords t) = true :=
  (by decide +kernel : ∀ t : Fin grid0.N, cond0_0 (grid0.coords t) → cond0_1 (grid0.coords t) → ¬cond0_2 (grid0.coords t) → idle0 12 (grid0.coords t) = true)
theorem noFlush0_12_D (hO : Ok m) : ∀ t : Fin (cfgM m hO).N, cond0_0 (grid0.coords t) → cond0_1 (grid0.coords t) → ¬cond0_2 (grid0.coords t) → ((cfgM m hO).win 12).flush t = false :=
  (by decide +kernel : ∀ t : Fin grid0.N, cond0_0 (grid0.coords t) → cond0_1 (grid0.coords t) → ¬cond0_2 (grid0.coords t) → Pipeline.Window.flushOf grid0 true cc0_transform_12 t = false)
theorem idleAt0_12_E (hO : Ok m) : ∀ t : Fin (cfgM m hO).N, ¬cond0_0 (grid0.coords t) → ¬cond0_1 (grid0.coords t) → ¬cond0_2 (grid0.coords t) → (cfgM m hO).idle 12 (grid0.coords t) = true :=
  (by decide +kernel : ∀ t : Fin grid0.N, ¬cond0_0 (grid0.coords t) → ¬cond0_1 (grid0.coords t) → ¬cond0_2 (grid0.coords t) → idle0 12 (grid0.coords t) = true)
theorem idleAt0_12_F (hO : Ok m) : ∀ t : Fin (cfgM m hO).N, ¬cond0_0 (grid0.coords t) → cond0_1 (grid0.coords t) → ¬cond0_2 (grid0.coords t) → (cfgM m hO).idle 12 (grid0.coords t) = true :=
  (by decide +kernel : ∀ t : Fin grid0.N, ¬cond0_0 (grid0.coords t) → cond0_1 (grid0.coords t) → ¬cond0_2 (grid0.coords t) → idle0 12 (grid0.coords t) = true)
theorem noFlush0_12_F (hO : Ok m) : ∀ t : Fin (cfgM m hO).N, ¬cond0_0 (grid0.coords t) → cond0_1 (grid0.coords t) → ¬cond0_2 (grid0.coords t) → ((cfgM m hO).win 12).flush t = false :=
  (by decide +kernel : ∀ t : Fin grid0.N, ¬cond0_0 (grid0.coords t) → cond0_1 (grid0.coords t) → ¬cond0_2 (grid0.coords t) → Pipeline.Window.flushOf grid0 true cc0_transform_12 t = false)

abbrev VO0_9 : View sig .tc .vmem S1024x256 .bf16 := (Memref.whole cc0_stg9_0 : Memref sig .tc .vmem S1024x256 .bf16).view
abbrev VO0_10 : View sig .tc .vmem S1x2x256 .f32 := (Memref.whole cc0_stg10_0 : Memref sig .tc .vmem S1x2x256 .f32).view
abbrev VO0_11 : View sig .tc .vmem S1x2x256 .f32 := (Memref.whole cc0_stg11_0 : Memref sig .tc .vmem S1x2x256 .f32).view
abbrev VO0_12 : View sig .tc .vmem S1x32x128 .f32 := (Memref.whole cc0_stg12_0 : Memref sig .tc .vmem S1x32x128 .f32).view
abbrev ms0_0 (hO : Ok m) (t : Fin (cfgM m hO).N) : Memref sig .tc .vmem S1024x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x32x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128x32x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1024x256 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x2x256 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x2x256 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x32x128 .f32 := spec0_12.stage ((cfgM m hO).slots t 12)
abbrev hs0_12 (hO : Ok m) (t : Fin (cfgM m hO).N) : (ms0_12 m hO t).IsWhole := hstage0_12 (((cfgM m hO).slots t 12).cast nbuf0_12)
abbrev scM0_0 : Memref sig .tc .vmem S4096x512 .bf16 := Memref.whole cc0_scratch0
abbrev scM0_1 : Memref sig .tc .vmem S8x256 .f32 := Memref.whole cc0_scratch1
abbrev scM0_2 : Memref sig .tc .vmem S8x256 .f32 := Memref.whole cc0_scratch2
abbrev VS0_0 : View sig .tc .vmem S4096x512 .bf16 := scM0_0.view
abbrev VS0_1 : View sig .tc .vmem S8x256 .f32 := scM0_1.view
abbrev VS0_2 : View sig .tc .vmem S8x256 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.UpIdeal.Gen

end
-- ==== Proof.Up.RunA.lean ====
/- The body's run at a point of case A: first row tile of a column tile, with a page block to average. The pieces that the stores leave in each buffer are found by running the body. -/
module

public import proofs.«01_k».proof.Proof.Up.Runs

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : cond0_0 i) (hc1 : cond0_1 i) (hc2 : cond0_2 i)
    (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0) :
    Σ' (L9 : List (View.Piece (Elt F) S1024x256 .bf16)), Σ' (L10 : List (View.Piece (Elt F) S1x2x256 .f32)), Σ' (L11 : List (View.Piece (Elt F) S1x2x256 .f32)), Σ' (L12 : List (View.Piece (Elt F) S1x32x128 .f32)), Σ' (LS0 : List (View.Piece (Elt F) S4096x512 .bf16)), Σ' (LS1 : List (View.Piece (Elt F) S8x256 .f32)), { LS2 : List (View.Piece (Elt F) S8x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ tbPt0 c tbM0_0 xt0) -∗ K ⟨⟩))
          ⊢ wp frame (wpE (defs₀ (F := F)) Variants.none c none) E (cc0_up_conv_prompt i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0_up_conv_prompt_eq_skeleton]; unfold cc0_up_conv_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    iexact HT0

end Cert.UpIdeal.Gen

end
-- ==== Proof.Up.RunB.lean ====
/- The body's run at a point of case B: odd row tile, with a page block. The pieces that the stores leave in each buffer are found by running the body. -/
module

public import proofs.«01_k».proof.Proof.Up.RunA

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
noncomputable def kernelRun0_B (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : ¬cond0_0 i) (hc1 : ¬cond0_1 i) (hc2 : cond0_2 i)
    (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0) (xs0 : Vec F S4096x512 .bf16) (xs1 : Vec F S8x256 .f32) (xs2 : Vec F S8x256 .f32) :
    Σ' (L9 : List (View.Piece (Elt F) S1024x256 .bf16)), Σ' (L10 : List (View.Piece (Elt F) S1x2x256 .f32)), Σ' (L11 : List (View.Piece (Elt F) S1x2x256 .f32)), Σ' (L12 : List (View.Piece (Elt F) S1x32x128 .f32)), Σ' (LS0 : List (View.Piece (Elt F) S4096x512 .bf16)), Σ' (LS1 : List (View.Piece (Elt F) S8x256 .f32)), { LS2 : List (View.Piece (Elt F) S8x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ owns (c : Thread nD τ) arg18 fullShare xs2 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ owns (c : Thread nD τ) arg16 fullShare xs0 ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ tbPt0 c tbM0_0 xt0) -∗ K ⟨⟩))
          ⊢ wp frame (wpE (defs₀ (F := F)) Variants.none c none) E (cc0_up_conv_prompt i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, [], ?_, ?_, fun E K => ?run⟩
  case run =>
    simp only [cc0_up_conv_prompt_eq_skeleton]; unfold cc0_up_conv_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg16.eq_unread hfs0; obtain rfl := harg17.eq_unread hfs1; obtain rfl := harg18.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg16.read_unread _
      iexact HS0
    isplitl [HS1]; · iexists _; iexact HS1
    isplitl [HS2]; · iexists _; iexact HS2
    iexact HT0

end Cert.UpIdeal.Gen

end
-- ==== Proof.Up.RunC.lean ====
/- The body's run at a point of case C: even row tile after the first, with a page block. The pieces that the stores leave in each buffer are found by running the body. -/
module

public import proofs.«01_k».proof.Proof.Up.RunB

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : ¬cond0_0 i) (hc1 : cond0_1 i) (hc2 : cond0_2 i)
    (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0) (xs0 : Vec F S4096x512 .bf16) :
    Σ' (L9 : List (View.Piece (Elt F) S1024x256 .bf16)), Σ' (L10 : List (View.Piece (Elt F) S1x2x256 .f32)), Σ' (L11 : List (View.Piece (Elt F) S1x2x256 .f32)), Σ' (L12 : List (View.Piece (Elt F) S1x32x128 .f32)), Σ' (LS0 : List (View.Piece (Elt F) S4096x512 .bf16)), Σ' (LS1 : List (View.Piece (Elt F) S8x256 .f32)), { LS2 : List (View.Piece (Elt F) S8x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ owns (c : Thread nD τ) arg16 fullShare xs0 ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ tbPt0 c tbM0_0 xt0) -∗ K ⟨⟩))
          ⊢ wp frame (wpE (defs₀ (F := F)) Variants.none c none) E (cc0_up_conv_prompt i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, [], ?_, ?_, fun E K => ?run⟩
  case run =>
    simp only [cc0_up_conv_prompt_eq_skeleton]; unfold cc0_up_conv_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%fs0, %hfs0, HS0⟩, ⟨%ds1, %fs1, -, HS1⟩, ⟨%ds2, %fs2, -, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg16.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg16.read_unread _
      iexact HS0
    isplitl [HS1]; · iexists _; iexact HS1
    isplitl [HS2]; · iexists _; iexact HS2
    iexact HT0

end Cert.UpIdeal.Gen

end
-- ==== Proof.Up.RunD.lean ====
/- The body's run at a point of case D: first row tile of a column tile, without a page block. The pieces that the stores leave in each buffer are found by running the body. -/
module

public import proofs.«01_k».proof.Proof.Up.RunC

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_D (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : cond0_0 i) (hc1 : cond0_1 i) (hc2 : ¬cond0_2 i)
    (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0) :
    Σ' (L9 : List (View.Piece (Elt F) S1024x256 .bf16)), Σ' (L10 : List (View.Piece (Elt F) S1x2x256 .f32)), Σ' (L11 : List (View.Piece (Elt F) S1x2x256 .f32)), Σ' (L12 : List (View.Piece (Elt F) S1x32x128 .f32)), Σ' (LS0 : List (View.Piece (Elt F) S4096x512 .bf16)), Σ' (LS1 : List (View.Piece (Elt F) S8x256 .f32)), { LS2 : List (View.Piece (Elt F) S8x256 .f32) //
      ∀ (xi12 : Vec F S1x32x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xi12 ∗ (∃ d, owns (c : Thread nD τ) arg16 fullShare d) ∗ (∃ d, owns (c : Thread nD τ) arg17 fullShare d) ∗ (∃ d, owns (c : Thread nD τ) arg18 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ owns (c : Thread nD τ) arg15 fullShare xi12 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ tbPt0 c tbM0_0 xt0) -∗ K ⟨⟩))
          ⊢ wp frame (wpE (defs₀ (F := F)) Variants.none c none) E (cc0_up_conv_prompt i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, [], ?_, ?_, ?_, fun xi12 E K => ?run⟩
  case run =>
    simp only [cc0_up_conv_prompt_eq_skeleton]; unfold cc0_up_conv_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%ds0, %fs0, -, HS0⟩, ⟨%ds1, %fs1, -, HS1⟩, ⟨%ds2, %fs2, -, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg15.eq_unread hf12
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexists _; iexact H10
    isplitl [H11]; · iexists _; iexact H11
    isplitl [H12]
    · iexists _; isplitr; · ipureintro; exact harg15.read_unread _
      iexact H12
    isplitl [HS0]; · iexists _; iexact HS0
    isplitl [HS1]; · iexists _; iexact HS1
    isplitl [HS2]; · iexists _; iexact HS2
    iexact HT0

end Cert.UpIdeal.Gen

end
-- ==== Proof.Up.RunE.lean ====
/- The body's run at a point of case E: odd row tile, without a page block. The pieces that the stores leave in each buffer are found by running the body. -/
module

public import proofs.«01_k».proof.Proof.Up.RunD

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
noncomputable def kernelRun0_E (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : ¬cond0_0 i) (hc1 : ¬cond0_1 i) (hc2 : ¬cond0_2 i)
    (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0) (xs0 : Vec F S4096x512 .bf16) (xs1 : Vec F S8x256 .f32) (xs2 : Vec F S8x256 .f32) :
    Σ' (L9 : List (View.Piece (Elt F) S1024x256 .bf16)), Σ' (L10 : List (View.Piece (Elt F) S1x2x256 .f32)), Σ' (L11 : List (View.Piece (Elt F) S1x2x256 .f32)), Σ' (L12 : List (View.Piece (Elt F) S1x32x128 .f32)), Σ' (LS0 : List (View.Piece (Elt F) S4096x512 .bf16)), Σ' (LS1 : List (View.Piece (Elt F) S8x256 .f32)), { LS2 : List (View.Piece (Elt F) S8x256 .f32) //
      ∀ (xi12 : Vec F S1x32x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xi12 ∗ owns (c : Thread nD τ) arg16 fullShare xs0 ∗ owns (c : Thread nD τ) arg17 fullShare xs1 ∗ owns (c : Thread nD τ) arg18 fullShare xs2 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ owns (c : Thread nD τ) arg15 fullShare xi12 ∗ owns (c : Thread nD τ) arg16 fullShare xs0 ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ tbPt0 c tbM0_0 xt0) -∗ K ⟨⟩))
          ⊢ wp frame (wpE (defs₀ (F := F)) Variants.none c none) E (cc0_up_conv_prompt i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, [], [], ?_, ?_, fun xi12 E K => ?run⟩
  case run =>
    simp only [cc0_up_conv_prompt_eq_skeleton]; unfold cc0_up_conv_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg15.eq_unread hf12; obtain rfl := harg16.eq_unread hfs0; obtain rfl := harg17.eq_unread hfs1; obtain rfl := harg18.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexists _; iexact H10
    isplitl [H11]; · iexists _; iexact H11
    isplitl [H12]
    · iexists _; isplitr; · ipureintro; exact harg15.read_unread _
      iexact H12
    isplitl [HS0]
    · iexists _; isplitr; · ipureintro; exact harg16.read_unread _
      iexact HS0
    isplitl [HS1]; · iexists _; iexact HS1
    isplitl [HS2]; · iexists _; iexact HS2
    iexact HT0

end Cert.UpIdeal.Gen

end
-- ==== Proof.Up.RunF.lean ====
/- The body's run at a point of case F: even row tile after the first, without a page block. The pieces that the stores leave in each buffer are found by running the body. -/
module

public import proofs.«01_k».proof.Proof.Up.RunE

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_F (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : ¬cond0_0 i) (hc1 : cond0_1 i) (hc2 : ¬cond0_2 i)
    (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0) (xs0 : Vec F S4096x512 .bf16) :
    Σ' (L9 : List (View.Piece (Elt F) S1024x256 .bf16)), Σ' (L10 : List (View.Piece (Elt F) S1x2x256 .f32)), Σ' (L11 : List (View.Piece (Elt F) S1x2x256 .f32)), Σ' (L12 : List (View.Piece (Elt F) S1x32x128 .f32)), Σ' (LS0 : List (View.Piece (Elt F) S4096x512 .bf16)), Σ' (LS1 : List (View.Piece (Elt F) S8x256 .f32)), { LS2 : List (View.Piece (Elt F) S8x256 .f32) //
      ∀ (xi12 : Vec F S1x32x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xi12 ∗ owns (c : Thread nD τ) arg16 fullShare xs0 ∗ (∃ d, owns (c : Thread nD τ) arg17 fullShare d) ∗ (∃ d, owns (c : Thread nD τ) arg18 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ owns (c : Thread nD τ) arg15 fullShare xi12 ∗ owns (c : Thread nD τ) arg16 fullShare xs0 ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ tbPt0 c tbM0_0 xt0) -∗ K ⟨⟩))
          ⊢ wp frame (wpE (defs₀ (F := F)) Variants.none c none) E (cc0_up_conv_prompt i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, [], [], ?_, ?_, fun xi12 E K => ?run⟩
  case run =>
    simp only [cc0_up_conv_prompt_eq_skeleton]; unfold cc0_up_conv_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%fs0, %hfs0, HS0⟩, ⟨%ds1, %fs1, -, HS1⟩, ⟨%ds2, %fs2, -, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg15.eq_unread hf12; obtain rfl := harg16.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexists _; iexact H10
    isplitl [H11]; · iexists _; iexact H11
    isplitl [H12]
    · iexists _; isplitr; · ipureintro; exact harg15.read_unread _
      iexact H12
    isplitl [HS0]
    · iexists _; isplitr; · ipureintro; exact harg16.read_unread _
      iexact HS0
    isplitl [HS1]; · iexists _; iexact HS1
    isplitl [HS2]; · iexists _; iexact HS2
    iexact HT0

end Cert.UpIdeal.Gen

end
-- ==== Proof.Up.Values.lean ====
/- What the body leaves in each buffer, in closed form: the same functions of the point's blocks in all six cases. -/
module

public import proofs.«01_k».proof.Proof.Up.RunF
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights of a column tile: the two halves' blocks beside each other. -/
def WB (x1 x2 : Vec F S1x4096x256 .f32) : Vec F S4096x512 .bf16 :=
  View.canon [⟨Rect.unit ![0, 256] ![4096, 256] inb_S4096x512_S4096x256_0_256, k0_pay4 x2⟩,
    ⟨Rect.unit ![0, 0] ![4096, 256] inb_S4096x512_S4096x256_0_0, k0_pay3 x1⟩]

/-- The last rows of a row group's first half. -/
def HA1 (x : Vec F S256x4096 .bf16) (wb : Vec F S4096x512 .bf16) : Vec F S8x256 .f32 := k0_pay17 (k0_pay8 x wb)

/-- The last rows of a row group's second half. -/
def HG1 (x : Vec F S256x4096 .bf16) (wb : Vec F S4096x512 .bf16) : Vec F S8x256 .f32 := k0_pay18 (k0_pay9 x wb)

/-- A row group's block of the result, from the rows before it. -/
def ROWS (hA hG : Vec F S8x256 .f32) (x : Vec F S256x4096 .bf16) (wb : Vec F S4096x512 .bf16) (x3 x4 : Vec F S1x3x256 .f32) (x5 x6 : Vec F S1x1x256 .f32) : Vec F S256x256 .bf16 :=
  k0_pay16
    (k0_pay15 (iota Kind.tc S256x1 32 [0] iota_S256x1_d0_w32) hG (k0_pay9 x wb)
      (k0_pay13 (iota Kind.tc S256x1 32 [0] iota_S256x1_d0_w32) (k0_pay8 x wb) (k0_pay10 hA) (k0_pay11 hA) (k0_pay12 hA x wb) x5
        (View.ld x3 (Rect.unit ![0, 0, 0] ![1, 1, 256] inb_S1x3x256_S1x1x256_0_0_0))
        (View.ld x3 (Rect.unit ![0, 1, 0] ![1, 1, 256] inb_S1x3x256_S1x1x256_0_1_0))
        (View.ld x3 (Rect.unit ![0, 2, 0] ![1, 1, 256] inb_S1x3x256_S1x1x256_0_2_0)))
      (k0_pay14 hG) x6 (View.ld x4 (Rect.unit ![0, 0, 0] ![1, 1, 256] inb_S1x3x256_S1x1x256_0_0_0))
      (View.ld x4 (Rect.unit ![0, 1, 0] ![1, 1, 256] inb_S1x3x256_S1x1x256_0_1_0))
      (View.ld x4 (Rect.unit ![0, 2, 0] ![1, 1, 256] inb_S1x3x256_S1x1x256_0_2_0)))

/-- The four row groups of a block. -/
abbrev X0 (x0 : Vec F S1024x4096 .bf16) : Vec F S256x4096 .bf16 := (View.ld x0 (Rect.unit ![0, 0] ![256, 4096] inb_S1024x4096_S256x4096_0_0))
abbrev X1 (x0 : Vec F S1024x4096 .bf16) : Vec F S256x4096 .bf16 := (View.ld x0 (Rect.unit ![256, 0] ![256, 4096] inb_S1024x4096_S256x4096_256_0))
abbrev X2 (x0 : Vec F S1024x4096 .bf16) : Vec F S256x4096 .bf16 := (View.ld x0 (Rect.unit ![512, 0] ![256, 4096] inb_S1024x4096_S256x4096_512_0))
abbrev X3 (x0 : Vec F S1024x4096 .bf16) : Vec F S256x4096 .bf16 := (View.ld x0 (Rect.unit ![768, 0] ![256, 4096] inb_S1024x4096_S256x4096_768_0))

/-- A block of the result. -/
def ACT (hA hG : Vec F S8x256 .f32) (x0 : Vec F S1024x4096 .bf16) (wb : Vec F S4096x512 .bf16) (x3 x4 : Vec F S1x3x256 .f32) (x5 x6 : Vec F S1x1x256 .f32) : Vec F S1024x256 .bf16 :=
  View.canon [⟨Rect.unit ![768, 0] ![256, 256] inb_S1024x256_S256x256_768_0, ROWS (HA1 (X2 x0) wb) (HG1 (X2 x0) wb) (X3 x0) wb x3 x4 x5 x6⟩,
    ⟨Rect.unit ![512, 0] ![256, 256] inb_S1024x256_S256x256_512_0, ROWS (HA1 (X1 x0) wb) (HG1 (X1 x0) wb) (X2 x0) wb x3 x4 x5 x6⟩,
    ⟨Rect.unit ![256, 0] ![256, 256] inb_S1024x256_S256x256_256_0, ROWS (HA1 (X0 x0) wb) (HG1 (X0 x0) wb) (X1 x0) wb x3 x4 x5 x6⟩,
    ⟨Rect.unit ![0, 0] ![256, 256] inb_S1024x256_S256x256_0_0, ROWS hA hG (X0 x0) wb x3 x4 x5 x6⟩]

/-- The rows a block hands to the next, and the two it stores as the halves' tails. -/
def HA (x0 : Vec F S1024x4096 .bf16) (wb : Vec F S4096x512 .bf16) : Vec F S8x256 .f32 := k0_pay59 (k0_pay46 (X3 x0) wb)
def HG (x0 : Vec F S1024x4096 .bf16) (wb : Vec F S4096x512 .bf16) : Vec F S8x256 .f32 := k0_pay60 (k0_pay47 (X3 x0) wb)
def TA (x0 : Vec F S1024x4096 .bf16) (wb : Vec F S4096x512 .bf16) : Vec F S1x2x256 .f32 := k0_pay61 (k0_pay46 (X3 x0) wb)
def TG (x0 : Vec F S1024x4096 .bf16) (wb : Vec F S4096x512 .bf16) : Vec F S1x2x256 .f32 := k0_pay1 (k0_pay62 (k0_pay47 (X3 x0) wb))

theorem wb_read {sig' : RefSig} {κ : Kind} {sp : Space} (v : View sig' κ sp S4096x512 .bf16) (x1 x2 : Vec F S1x4096x256 .f32) :
    v.readCov (Val := Elt F) [⟨Rect.unit ![0, 256] ![4096, 256] inb_S4096x512_S4096x256_0_256, k0_pay4 x2⟩,
      ⟨Rect.unit ![0, 0] ![4096, 256] inb_S4096x512_S4096x256_0_0, k0_pay3 x1⟩]
      (Rect.unit ![0, 0] ![4096, 512] inb_S4096x512_S4096x512_0_0).toLoadRect = WB x1 x2 := by
  rw [View.readCov_eq_canon']
  exact View.ld_unit_lit' _ _ (by decide)

section

variable (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : cond0_0 i) (hc1 : cond0_1 i) (hc2 : cond0_2 i)
  (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0)

theorem valA_9 (f) : arg12.view.read (Elt F) (arg12.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).1) = ACT k0_pay5 k0_pay6 x0 (WB x1 x2) x3 x4 x5 x6 := by
  rw [View.read_writes_of_cover arg12.view f VO0_9 VO0_9.junk _ (View.cover_of_tiledL _ S256x256.size (by sl_kernel_rfl))]
  frame_open
  try simp (disch := decide) only [↓ View.readCov_skip, ↓ View.readCov_cons_toLoadRect, ↓ View.readCov_fill]
  frame_out
  try simp only [wb_read]
  all_goals rfl

theorem valA_10 (f) : arg13.view.read (Elt F) (arg13.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.1) = TA x0 (WB x1 x2) := by
  rw [View.read_writes_of_cover arg13.view f VO0_10 VO0_10.junk _ (View.cover_of_tiledL _ S1x2x256.size (by sl_kernel_rfl))]
  frame_open
  try simp (disch := decide) only [↓ View.readCov_skip, ↓ View.readCov_cons_toLoadRect, ↓ View.readCov_fill]
  frame_out
  try simp only [wb_read]
  all_goals rfl

theorem valA_11 (f) : arg14.view.read (Elt F) (arg14.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.2.1) = TG x0 (WB x1 x2) := by
  rw [View.read_writes_of_cover arg14.view f VO0_11 VO0_11.junk _ (View.cover_of_tiledL _ S1x2x256.size (by sl_kernel_rfl))]
  frame_open
  try simp (disch := decide) only [↓ View.readCov_skip, ↓ View.readCov_cons_toLoadRect, ↓ View.readCov_fill]
  frame_out
  try simp only [wb_read]
  all_goals rfl

theorem valA_12 (f) : arg15.view.read (Elt F) (arg15.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.2.2.1) = k0_pay2 x7 x8 := by
  rw [View.read_writes_of_cover arg15.view f VO0_12 VO0_12.junk _ (View.cover_of_tiledL _ S1x32x128.size (by sl_kernel_rfl))]
  frame_open
  try simp (disch := decide) only [↓ View.readCov_skip, ↓ View.readCov_cons_toLoadRect, ↓ View.readCov_fill]
  frame_out
  try simp only [wb_read]
  all_goals rfl

theorem valA_s0 (f) : arg16.view.read (Elt F) (arg16.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.2.2.2.1) = WB x1 x2 := by
  rw [View.read_writes_of_cover arg16.view f VS0_0 VS0_0.junk _ (View.cover_of_tiledL _ S4096x256.size (by sl_kernel_rfl))]
  frame_open
  try simp (disch := decide) only [↓ View.readCov_skip, ↓ View.readCov_cons_toLoadRect, ↓ View.readCov_fill]
  frame_out
  try simp only [wb_read]
  all_goals rfl

theorem valA_s1 (f) : arg17.view.read (Elt F) (arg17.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.2.2.2.2.1) = HA x0 (WB x1 x2) := by
  rw [View.read_writes_of_cover arg17.view f VS0_1 VS0_1.junk _ (View.cover_of_tiledL _ S8x256.size (by sl_kernel_rfl))]
  frame_open
  try simp (disch := decide) only [↓ View.readCov_skip, ↓ View.readCov_cons_toLoadRect, ↓ View.readCov_fill]
  frame_out
  try simp only [wb_read]
  all_goals rfl

theorem valA_s2 (f) : arg18.view.read (Elt F) (arg18.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.2.2.2.2.2.1) = HG x0 (WB x1 x2) := by
  rw [View.read_writes_of_cover arg18.view f VS0_2 VS0_2.junk _ (View.cover_of_tiledL _ S8x256.size (by sl_kernel_rfl))]
  frame_open
  try simp (disch := decide) only [↓ View.readCov_skip, ↓ View.readCov_cons_toLoadRect, ↓ View.readCov_fill]
  frame_out
  try simp only [wb_read]
  all_goals rfl

end

section

variable (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : ¬cond0_0 i) (hc1 : ¬cond0_1 i) (hc2 : cond0_2 i)
  (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0) (xs0 : Vec F S4096x512 .bf16) (xs1 : Vec F S8x256 .f32) (xs2 : Vec F S8x256 .f32)

theorem valB_9 (f) : arg12.view.read (Elt F) (arg12.view.writes (Elt F) f (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).1) = ACT xs1 xs2 x0 xs0 x3 x4 x5 x6 := by
  rw [View.read_writes_of_cover arg12.view f VO0_9 VO0_9.junk _ (View.cover_of_tiledL _ S256x256.size (by sl_kernel_rfl))]
  frame_open
  try simp (disch := decide) only [↓ View.readCov_skip, ↓ View.readCov_cons_toLoadRect, ↓ View.readCov_fill]
  frame_out
  all_goals rfl

theorem valB_10 (f) : arg13.view.read (Elt F) (arg13.view.writes (Elt F) f (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).2.1) = TA x0 xs0 := by
  rw [View.read_writes_of_cover arg13.view f VO0_10 VO0_10.junk _ (View.cover_of_tiledL _ S1x2x256.size (by sl_kernel_rfl))]
  frame_open
  try simp (disch := decide) only [↓ View.readCov_skip, ↓ View.readCov_cons_toLoadRect, ↓ View.readCov_fill]
  frame_out
  all_goals rfl

theorem valB_11 (f) : arg14.view.read (Elt F) (arg14.view.writes (Elt F) f (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).2.2.1) = TG x0 xs0 := by
  rw [View.read_writes_of_cover arg14.view f VO0_11 VO0_11.junk _ (View.cover_of_tiledL _ S1x2x256.size (by sl_kernel_rfl))]
  frame_open
  try simp (disch := decide) only [↓ View.readCov_skip, ↓ View.readCov_cons_toLoadRect, ↓ View.readCov_fill]
  frame_out
  all_goals rfl

theorem valB_12 (f) : arg15.view.read (Elt F) (arg15.view.writes (Elt F) f (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).2.2.2.1) = k0_pay2 x7 x8 := by
  rw [View.read_writes_of_cover arg15.view f VO0_12 VO0_12.junk _ (View.cover_of_tiledL _ S1x32x128.size (by sl_kernel_rfl))]
  frame_open
  try simp (disch := decide) only [↓ View.readCov_skip, ↓ View.readCov_cons_toLoadRect, ↓ View.readCov_fill]
  frame_out
  all_goals rfl

theorem valB_s1 (f) : arg17.view.read (Elt F) (arg17.view.writes (Elt F) f (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).2.2.2.2.2.1) = HA x0 xs0 := by
  rw [View.read_writes_of_cover arg17.view f VS0_1 VS0_1.junk _ (View.cover_of_tiledL _ S8x256.size (by sl_kernel_rfl))]
  frame_open
  try simp (disch := decide) only [↓ View.readCov_skip, ↓ View.readCov_cons_toLoadRect, ↓ View.readCov_fill]
  frame_out
  all_goals rfl

theorem valB_s2 (f) : arg18.view.read (Elt F) (arg18.view.writes (Elt F) f (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).2.2.2.2.2.2.1) = HG x0 xs0 := by
  rw [View.read_writes_of_cover arg18.view f VS0_2 VS0_2.junk _ (View.cover_of_tiledL _ S8x256.size (by sl_kernel_rfl))]
  frame_open
  try simp (disch := decide) only [↓ View.readCov_skip, ↓ View.readCov_cons_toLoadRect, ↓ View.readCov_fill]
  frame_out
  all_goals rfl

end

section

variable (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : ¬cond0_0 i) (hc1 : cond0_1 i) (hc2 : cond0_2 i)
  (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0) (xs0 : Vec F S4096x512 .bf16)

theorem valC_9 (f) : arg12.view.read (Elt F) (arg12.view.writes (Elt F) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).1) = ACT k0_pay5 k0_pay6 x0 xs0 x3 x4 x5 x6 := by
  rw [View.read_writes_of_cover arg12.view f VO0_9 VO0_9.junk _ (View.cover_of_tiledL _ S256x256.size (by sl_kernel_rfl))]
  frame_open
  try simp (disch := decide) only [↓ View.readCov_skip, ↓ View.readCov_cons_toLoadRect, ↓ View.readCov_fill]
  frame_out
  all_goals rfl

theorem valC_10 (f) : arg13.view.read (Elt F) (arg13.view.writes (Elt F) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).2.1) = TA x0 xs0 := by
  rw [View.read_writes_of_cover arg13.view f VO0_10 VO0_10.junk _ (View.cover_of_tiledL _ S1x2x256.size (by sl_kernel_rfl))]
  frame_open
  try simp (disch := decide) only [↓ View.readCov_skip, ↓ View.readCov_cons_toLoadRect, ↓ View.readCov_fill]
  frame_out
  all_goals rfl

theorem valC_11 (f) : arg14.view.read (Elt F) (arg14.view.writes (Elt F) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).2.2.1) = TG x0 xs0 := by
  rw [View.read_writes_of_cover arg14.view f VO0_11 VO0_11.junk _ (View.cover_of_tiledL _ S1x2x256.size (by sl_kernel_rfl))]
  frame_open
  try simp (disch := decide) only [↓ View.readCov_skip, ↓ View.readCov_cons_toLoadRect, ↓ View.readCov_fill]
  frame_out
  all_goals rfl

theorem valC_12 (f) : arg15.view.read (Elt F) (arg15.view.writes (Elt F) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).2.2.2.1) = k0_pay2 x7 x8 := by
  rw [View.read_writes_of_cover arg15.view f VO0_12 VO0_12.junk _ (View.cover_of_tiledL _ S1x32x128.size (by sl_kernel_rfl))]
  frame_open
  try simp (disch := decide) only [↓ View.readCov_skip, ↓ View.readCov_cons_toLoadRect, ↓ View.readCov_fill]
  frame_out
  all_goals rfl

theorem valC_s1 (f) : arg17.view.read (Elt F) (arg17.view.writes (Elt F) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).2.2.2.2.2.1) = HA x0 xs0 := by
  rw [View.read_writes_of_cover arg17.view f VS0_1 VS0_1.junk _ (View.cover_of_tiledL _ S8x256.size (by sl_kernel_rfl))]
  frame_open
  try simp (disch := decide) only [↓ View.readCov_skip, ↓ View.readCov_cons_toLoadRect, ↓ View.readCov_fill]
  frame_out
  all_goals rfl

theorem valC_s2 (f) : arg18.view.read (Elt F) (arg18.view.writes (Elt F) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).2.2.2.2.2.2.1) = HG x0 xs0 := by
  rw [View.read_writes_of_cover arg18.view f VS0_2 VS0_2.junk _ (View.cover_of_tiledL _ S8x256.size (by sl_kernel_rfl))]
  frame_open
  try simp (disch := decide) only [↓ View.readCov_skip, ↓ View.readCov_cons_toLoadRect, ↓ View.readCov_fill]
  frame_out
  all_goals rfl

end

section

variable (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : cond0_0 i) (hc1 : cond0_1 i) (hc2 : ¬cond0_2 i)
  (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0)

theorem valD_9 (f) : arg12.view.read (Elt F) (arg12.view.writes (Elt F) f (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).1) = ACT k0_pay5 k0_pay6 x0 (WB x1 x2) x3 x4 x5 x6 := by
  rw [View.read_writes_of_cover arg12.view f VO0_9 VO0_9.junk _ (View.cover_of_tiledL _ S256x256.size (by sl_kernel_rfl))]
  frame_open
  try simp (disch := decide) only [↓ View.readCov_skip, ↓ View.readCov_cons_toLoadRect, ↓ View.readCov_fill]
  frame_out
  try simp only [wb_read]
  all_goals rfl

theorem valD_10 (f) : arg13.view.read (Elt F) (arg13.view.writes (Elt F) f (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.1) = TA x0 (WB x1 x2) := by
  rw [View.read_writes_of_cover arg13.view f VO0_10 VO0_10.junk _ (View.cover_of_tiledL _ S1x2x256.size (by sl_kernel_rfl))]
  frame_open
  try simp (disch := decide) only [↓ View.readCov_skip, ↓ View.readCov_cons_toLoadRect, ↓ View.readCov_fill]
  frame_out
  try simp only [wb_read]
  all_goals rfl

theorem valD_11 (f) : arg14.view.read (Elt F) (arg14.view.writes (Elt F) f (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.2.1) = TG x0 (WB x1 x2) := by
  rw [View.read_writes_of_cover arg14.view f VO0_11 VO0_11.junk _ (View.cover_of_tiledL _ S1x2x256.size (by sl_kernel_rfl))]
  frame_open
  try simp (disch := decide) only [↓ View.readCov_skip, ↓ View.readCov_cons_toLoadRect, ↓ View.readCov_fill]
  frame_out
  try simp only [wb_read]
  all_goals rfl

theorem valD_s0 (f) : arg16.view.read (Elt F) (arg16.view.writes (Elt F) f (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.2.2.2.1) = WB x1 x2 := by
  rw [View.read_writes_of_cover arg16.view f VS0_0 VS0_0.junk _ (View.cover_of_tiledL _ S4096x256.size (by sl_kernel_rfl))]
  frame_open
  try simp (disch := decide) only [↓ View.readCov_skip, ↓ View.readCov_cons_toLoadRect, ↓ View.readCov_fill]
  frame_out
  try simp only [wb_read]
  all_goals rfl

theorem valD_s1 (f) : arg17.view.read (Elt F) (arg17.view.writes (Elt F) f (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.2.2.2.2.1) = HA x0 (WB x1 x2) := by
  rw [View.read_writes_of_cover arg17.view f VS0_1 VS0_1.junk _ (View.cover_of_tiledL _ S8x256.size (by sl_kernel_rfl))]
  frame_open
  try simp (disch := decide) only [↓ View.readCov_skip, ↓ View.readCov_cons_toLoadRect, ↓ View.readCov_fill]
  frame_out
  try simp only [wb_read]
  all_goals rfl

theorem valD_s2 (f) : arg18.view.read (Elt F) (arg18.view.writes (Elt F) f (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0).2.2.2.2.2.2.1) = HG x0 (WB x1 x2) := by
  rw [View.read_writes_of_cover arg18.view f VS0_2 VS0_2.junk _ (View.cover_of_tiledL _ S8x256.size (by sl_kernel_rfl))]
  frame_open
  try simp (disch := decide) only [↓ View.readCov_skip, ↓ View.readCov_cons_toLoadRect, ↓ View.readCov_fill]
  frame_out
  try simp only [wb_read]
  all_goals rfl

end

section

variable (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : ¬cond0_0 i) (hc1 : ¬cond0_1 i) (hc2 : ¬cond0_2 i)
  (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0) (xs0 : Vec F S4096x512 .bf16) (xs1 : Vec F S8x256 .f32) (xs2 : Vec F S8x256 .f32)

theorem valE_9 (f) : arg12.view.read (Elt F) (arg12.view.writes (Elt F) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).1) = ACT xs1 xs2 x0 xs0 x3 x4 x5 x6 := by
  rw [View.read_writes_of_cover arg12.view f VO0_9 VO0_9.junk _ (View.cover_of_tiledL _ S256x256.size (by sl_kernel_rfl))]
  frame_open
  try simp (disch := decide) only [↓ View.readCov_skip, ↓ View.readCov_cons_toLoadRect, ↓ View.readCov_fill]
  frame_out
  all_goals rfl

theorem valE_10 (f) : arg13.view.read (Elt F) (arg13.view.writes (Elt F) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).2.1) = TA x0 xs0 := by
  rw [View.read_writes_of_cover arg13.view f VO0_10 VO0_10.junk _ (View.cover_of_tiledL _ S1x2x256.size (by sl_kernel_rfl))]
  frame_open
  try simp (disch := decide) only [↓ View.readCov_skip, ↓ View.readCov_cons_toLoadRect, ↓ View.readCov_fill]
  frame_out
  all_goals rfl

theorem valE_11 (f) : arg14.view.read (Elt F) (arg14.view.writes (Elt F) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).2.2.1) = TG x0 xs0 := by
  rw [View.read_writes_of_cover arg14.view f VO0_11 VO0_11.junk _ (View.cover_of_tiledL _ S1x2x256.size (by sl_kernel_rfl))]
  frame_open
  try simp (disch := decide) only [↓ View.readCov_skip, ↓ View.readCov_cons_toLoadRect, ↓ View.readCov_fill]
  frame_out
  all_goals rfl

theorem valE_s1 (f) : arg17.view.read (Elt F) (arg17.view.writes (Elt F) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).2.2.2.2.2.1) = HA x0 xs0 := by
  rw [View.read_writes_of_cover arg17.view f VS0_1 VS0_1.junk _ (View.cover_of_tiledL _ S8x256.size (by sl_kernel_rfl))]
  frame_open
  try simp (disch := decide) only [↓ View.readCov_skip, ↓ View.readCov_cons_toLoadRect, ↓ View.readCov_fill]
  frame_out
  all_goals rfl

theorem valE_s2 (f) : arg18.view.read (Elt F) (arg18.view.writes (Elt F) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0 xs1 xs2).2.2.2.2.2.2.1) = HG x0 xs0 := by
  rw [View.read_writes_of_cover arg18.view f VS0_2 VS0_2.junk _ (View.cover_of_tiledL _ S8x256.size (by sl_kernel_rfl))]
  frame_open
  try simp (disch := decide) only [↓ View.readCov_skip, ↓ View.readCov_cons_toLoadRect, ↓ View.readCov_fill]
  frame_out
  all_goals rfl

end

section

variable (c : Dev nD) (i : grid0.Coords) (arg3 : Memref sig .tc .vmem S1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x128x32x128 .f32) (harg10 : arg10.IsWhole) (arg11 : Memref sig .tc .vmem S1x128x32x128 .f32) (harg11 : arg11.IsWhole) (arg12 : Memref sig .tc .vmem S1024x256 .bf16) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S1x32x128 .f32) (harg15 : arg15.IsWhole) (arg16 : Memref sig .tc .vmem S4096x512 .bf16) (harg16 : arg16.IsWhole) (arg17 : Memref sig .tc .vmem S8x256 .f32) (harg17 : arg17.IsWhole) (arg18 : Memref sig .tc .vmem S8x256 .f32) (harg18 : arg18.IsWhole) (hc0 : ¬cond0_0 i) (hc1 : cond0_1 i) (hc2 : ¬cond0_2 i)
  (x0 : Vec F S1024x4096 .bf16) (x1 : Vec F S1x4096x256 .f32) (x2 : Vec F S1x4096x256 .f32) (x3 : Vec F S1x3x256 .f32) (x4 : Vec F S1x3x256 .f32) (x5 : Vec F S1x1x256 .f32) (x6 : Vec F S1x1x256 .f32) (x7 : Vec F S1x128x32x128 .f32) (x8 : Vec F S1x128x32x128 .f32) (xt0 : TbBuf0 (F := F) c tbM0_0) (xs0 : Vec F S4096x512 .bf16)

theorem valF_9 (f) : arg12.view.read (Elt F) (arg12.view.writes (Elt F) f (kernelRun0_F c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).1) = ACT k0_pay5 k0_pay6 x0 xs0 x3 x4 x5 x6 := by
  rw [View.read_writes_of_cover arg12.view f VO0_9 VO0_9.junk _ (View.cover_of_tiledL _ S256x256.size (by sl_kernel_rfl))]
  frame_open
  try simp (disch := decide) only [↓ View.readCov_skip, ↓ View.readCov_cons_toLoadRect, ↓ View.readCov_fill]
  frame_out
  all_goals rfl

theorem valF_10 (f) : arg13.view.read (Elt F) (arg13.view.writes (Elt F) f (kernelRun0_F c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).2.1) = TA x0 xs0 := by
  rw [View.read_writes_of_cover arg13.view f VO0_10 VO0_10.junk _ (View.cover_of_tiledL _ S1x2x256.size (by sl_kernel_rfl))]
  frame_open
  try simp (disch := decide) only [↓ View.readCov_skip, ↓ View.readCov_cons_toLoadRect, ↓ View.readCov_fill]
  frame_out
  all_goals rfl

theorem valF_11 (f) : arg14.view.read (Elt F) (arg14.view.writes (Elt F) f (kernelRun0_F c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).2.2.1) = TG x0 xs0 := by
  rw [View.read_writes_of_cover arg14.view f VO0_11 VO0_11.junk _ (View.cover_of_tiledL _ S1x2x256.size (by sl_kernel_rfl))]
  frame_open
  try simp (disch := decide) only [↓ View.readCov_skip, ↓ View.readCov_cons_toLoadRect, ↓ View.readCov_fill]
  frame_out
  all_goals rfl

theorem valF_s1 (f) : arg17.view.read (Elt F) (arg17.view.writes (Elt F) f (kernelRun0_F c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).2.2.2.2.2.1) = HA x0 xs0 := by
  rw [View.read_writes_of_cover arg17.view f VS0_1 VS0_1.junk _ (View.cover_of_tiledL _ S8x256.size (by sl_kernel_rfl))]
  frame_open
  try simp (disch := decide) only [↓ View.readCov_skip, ↓ View.readCov_cons_toLoadRect, ↓ View.readCov_fill]
  frame_out
  all_goals rfl

theorem valF_s2 (f) : arg18.view.read (Elt F) (arg18.view.writes (Elt F) f (kernelRun0_F c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xt0 xs0).2.2.2.2.2.2.1) = HG x0 xs0 := by
  rw [View.read_writes_of_cover arg18.view f VS0_2 VS0_2.junk _ (View.cover_of_tiledL _ S8x256.size (by sl_kernel_rfl))]
  frame_open
  try simp (disch := decide) only [↓ View.readCov_skip, ↓ View.readCov_cons_toLoadRect, ↓ View.readCov_fill]
  frame_out
  all_goals rfl

end

end Cert.UpIdeal.Gen

end
-- ==== Proof.Up.Tile.lean ====
/- The body's values at an element, as real arithmetic on the point's blocks. -/
module

public import proofs.«01_k».proof.Proof.Up.Values

@[expose] public section

set_option maxRecDepth 16384

noncomputable section

namespace Cert.UpIdeal.Result

open Idealize.ShloMosaic Idealize.ShloMosaic.TcCoe Idealize.SL.Sem
open Cert.UpIdeal Cert.UpIdeal.Gen

/-- An entry of a row group's product with the weights. -/
def u (x : Vec Ideal S256x4096 .bf16) (wb : Vec Ideal S4096x512 .bf16) (r : Fin 256) (q : Fin 512) : EReal := ∑ k : Fin 4096, x (ix2 r k) * wb (ix2 k q)

/-- The row before row `r`, and the row before that: out of the group, in the rows handed over. -/
def back1 (h : Vec Ideal S8x256 .f32) (v : Vec Ideal S256x256 .f32) (r q : Fin 256) : EReal :=
  if r.val = 0 then h (ix2 7 q) else v (ix2 ⟨r.val - 1, by omega⟩ q)
def back2 (h : Vec Ideal S8x256 .f32) (v : Vec Ideal S256x256 .f32) (r q : Fin 256) : EReal :=
  if r.val = 0 then h (ix2 6 q) else if r.val = 1 then h (ix2 7 q) else v (ix2 ⟨r.val - 2, by omega⟩ q)

/-- The convolution of three rows, and the gate. -/
def conv (b w0 w1 w2 y0 y1 y2 : EReal) : EReal := ((b + w0 * y0) + w1 * y1) + w2 * y2
def silu (y : EReal) : EReal := y * Ideal.div 1 (1 + Ideal.exp (0 - y))

variable (x : Vec Ideal S256x4096 .bf16) (wb : Vec Ideal S4096x512 .bf16)

theorem pay8_at (r q : Fin 256) : k0_pay8 x wb (ix2 r q) = u x wb r ⟨q, by omega⟩ := by
  unfold k0_pay8 k0_pay7 u
  pointwise

theorem pay9_at (r q : Fin 256) : k0_pay9 x wb (ix2 r q) = u x wb r ⟨256 + q, by omega⟩ := by
  unfold k0_pay9 k0_pay7 u
  pointwise

/-- A row's number compared with a small number, as a condition. -/
theorem select_row (r : Fin 256) (n : ℕ) (hn : n < 256) (a b : EReal) :
    Scalar.select (α := EReal) (IntOp.cmpi CmpIPredicate.eq (BitVec.ofNat 32 r.val) (BitVec.ofNat 32 n)) a b = if r.val = n then a else b := by
  have e : IntOp.cmpi CmpIPredicate.eq (BitVec.ofNat 32 r.val) (BitVec.ofNat 32 n) = 1#1 ↔ r.val = n := by
    rw [IntOp.cmpi_eq, ← BitVec.toNat_inj, BitVec.toNat_ofNat, BitVec.toNat_ofNat]
    omega
  by_cases h : r.val = n
  · rw [if_pos h]
    exact if_pos (e.2 h)
  · rw [if_neg h]
    exact if_neg (fun g => h (e.1 g))

theorem rot1 (v : Vec Ideal S256x256 .f32) (h : Vec Ideal S8x256 .f32) (r q : Fin 256) :
    Scalar.select (α := EReal) (IntOp.cmpi CmpIPredicate.eq (BitVec.ofNat 32 r.val) 0#32) (h (ix2 7 q)) (v (ix2 ⟨(r.val + 256 - 1) % 256, by omega⟩ q)) = back1 h v r q := by
  rw [show (0#32) = BitVec.ofNat 32 0 from rfl, select_row r 0 (by omega)]
  unfold back1
  by_cases h0 : r.val = 0
  · rw [if_pos h0, if_pos h0]
  · rw [if_neg h0, if_neg h0]
    exact congrArg (fun z => v (ix2 z q)) (Fin.ext (by show (r.val + 256 - 1) % 256 = r.val - 1; omega))

theorem rot2 (v : Vec Ideal S256x256 .f32) (h : Vec Ideal S8x256 .f32) (r q : Fin 256) :
    Scalar.select (α := EReal) (IntOp.cmpi CmpIPredicate.eq (BitVec.ofNat 32 r.val) 0#32) (h (ix2 6 q))
      (Scalar.select (α := EReal) (IntOp.cmpi CmpIPredicate.eq (BitVec.ofNat 32 r.val) 1#32) (h (ix2 7 q)) (v (ix2 ⟨(r.val + 256 - 2) % 256, by omega⟩ q))) = back2 h v r q := by
  rw [show (0#32) = BitVec.ofNat 32 0 from rfl, show (1#32) = BitVec.ofNat 32 1 from rfl, select_row r 0 (by omega), select_row r 1 (by omega)]
  unfold back2
  by_cases h0 : r.val = 0
  · rw [if_pos h0, if_pos h0]
  · rw [if_neg h0, if_neg h0]
    by_cases h1 : r.val = 1
    · rw [if_pos h1, if_pos h1]
    · rw [if_neg h1, if_neg h1]
      exact congrArg (fun z => v (ix2 z q)) (Fin.ext (by show (r.val + 256 - 2) % 256 = r.val - 2; omega))

theorem pay12_at (h : Vec Ideal S8x256 .f32) (r q : Fin 256) : k0_pay12 h x wb (ix2 r q) = back1 h (k0_pay8 x wb) r q := by
  unfold k0_pay12 k0_pay11
  generalize k0_pay8 x wb = v
  pointwise
  exact rot1 v h r q

theorem pay13_at (h : Vec Ideal S8x256 .f32) (v p1 : Vec Ideal S256x256 .f32) (b w0 w1 w2 : Vec Ideal S1x1x256 .f32) (r q : Fin 256) :
    k0_pay13 (iota Kind.tc S256x1 32 [0] iota_S256x1_d0_w32) v (k0_pay10 h) (k0_pay11 h) p1 b w0 w1 w2 (ix2 r q)
      = silu (conv (b (ix3 0 0 q)) (w0 (ix3 0 0 q)) (w1 (ix3 0 0 q)) (w2 (ix3 0 0 q)) (back2 h v r q) (p1 (ix2 r q)) (v (ix2 r q))) := by
  unfold k0_pay13 k0_pay11 k0_pay10
  rw [← rot2 v h r q]
  unfold silu conv
  pointwise

theorem pay15_at (h : Vec Ideal S8x256 .f32) (v y : Vec Ideal S256x256 .f32) (b w0 w1 w2 : Vec Ideal S1x1x256 .f32) (r q : Fin 256) :
    k0_pay15 (iota Kind.tc S256x1 32 [0] iota_S256x1_d0_w32) h v y (k0_pay14 h) b w0 w1 w2 (ix2 r q)
      = y (ix2 r q) * conv (b (ix3 0 0 q)) (w0 (ix3 0 0 q)) (w1 (ix3 0 0 q)) (w2 (ix3 0 0 q)) (back2 h v r q) (back1 h v r q) (v (ix2 r q)) := by
  unfold k0_pay15 k0_pay14
  rw [← rot2 v h r q, ← rot1 v h r q]
  unfold conv
  pointwise

/-- A row's result from the padded rows `LA`, `LG` of the two halves: `L n`, `L (n + 1)`, `L (n + 2)` are the row two before, the row before and the row. -/
def mix (x3 x4 : Vec Ideal S1x3x256 .f32) (x5 x6 : Vec Ideal S1x1x256 .f32) (LA LG : ℕ → Fin 256 → EReal) (n : ℕ) (q : Fin 256) : EReal :=
  silu (conv (x5 (ix3 0 0 q)) (x3 (ix3 0 0 q)) (x3 (ix3 0 1 q)) (x3 (ix3 0 2 q)) (LA n q) (LA (n + 1) q) (LA (n + 2) q))
    * conv (x6 (ix3 0 0 q)) (x4 (ix3 0 0 q)) (x4 (ix3 0 1 q)) (x4 (ix3 0 2 q)) (LG n q) (LG (n + 1) q) (LG (n + 2) q)

section

variable (L : ℕ → Fin 256 → EReal) (o : ℕ) (h : Vec Ideal S8x256 .f32) (v : Vec Ideal S256x256 .f32)
  (h6 : ∀ q : Fin 256, h (ix2 6 q) = L o q) (h7 : ∀ q : Fin 256, h (ix2 7 q) = L (o + 1) q) (hv : ∀ r q : Fin 256, v (ix2 r q) = L (o + r + 2) q)

include h7 hv in
theorem back1_eq (r q : Fin 256) : back1 h v r q = L (o + r + 1) q := by
  unfold back1
  by_cases h0 : r.val = 0
  · rw [if_pos h0, h7 q]
    exact congrArg (fun n => L n q) (by omega)
  · rw [if_neg h0, hv]
    exact congrArg (fun n => L n q) (by show o + (r.val - 1) + 2 = o + r.val + 1; omega)

include h6 h7 hv in
theorem back2_eq (r q : Fin 256) : back2 h v r q = L (o + r) q := by
  unfold back2
  by_cases h0 : r.val = 0
  · rw [if_pos h0, h6 q]
    exact congrArg (fun n => L n q) (by omega)
  · rw [if_neg h0]
    by_cases h1 : r.val = 1
    · rw [if_pos h1, h7 q]
      exact congrArg (fun n => L n q) (by omega)
    · rw [if_neg h1, hv]
      exact congrArg (fun n => L n q) (by show o + (r.val - 2) + 2 = o + r.val; omega)

end

theorem ld_tap (w : Vec Ideal S1x3x256 .f32) (i : Fin 3) (inb) (q : Fin 256) :
    View.ld w (Rect.unit ![0, i.val, 0] ![1, 1, 256] inb) (ix3 0 0 q) = w (ix3 0 i q) :=
  View.ld_unit_apply_of w _ _ inb _ _ fun a => by
    match a with
    | 0 => rfl
    | 1 => rfl
    | 2 => exact (Nat.zero_add q.val).symm

theorem ld_tap0 (w : Vec Ideal S1x3x256 .f32) (q : Fin 256) : View.ld w (Rect.unit ![0, 0, 0] ![1, 1, 256] inb_S1x3x256_S1x1x256_0_0_0) (ix3 0 0 q) = w (ix3 0 0 q) := ld_tap w 0 _ q
theorem ld_tap1 (w : Vec Ideal S1x3x256 .f32) (q : Fin 256) : View.ld w (Rect.unit ![0, 1, 0] ![1, 1, 256] inb_S1x3x256_S1x1x256_0_1_0) (ix3 0 0 q) = w (ix3 0 1 q) := ld_tap w 1 _ q
theorem ld_tap2 (w : Vec Ideal S1x3x256 .f32) (q : Fin 256) : View.ld w (Rect.unit ![0, 2, 0] ![1, 1, 256] inb_S1x3x256_S1x1x256_0_2_0) (ix3 0 0 q) = w (ix3 0 2 q) := ld_tap w 2 _ q

/-- A row group's block, from the two rows before it in each half. -/
theorem rows_at (LA LG : ℕ → Fin 256 → EReal) (o : ℕ) (hA hG : Vec Ideal S8x256 .f32) (x3 x4 : Vec Ideal S1x3x256 .f32) (x5 x6 : Vec Ideal S1x1x256 .f32)
    (a6 : ∀ q : Fin 256, hA (ix2 6 q) = LA o q) (a7 : ∀ q : Fin 256, hA (ix2 7 q) = LA (o + 1) q)
    (g6 : ∀ q : Fin 256, hG (ix2 6 q) = LG o q) (g7 : ∀ q : Fin 256, hG (ix2 7 q) = LG (o + 1) q)
    (ua : ∀ r q : Fin 256, u x wb r ⟨q, by omega⟩ = LA (o + r + 2) q) (ug : ∀ r q : Fin 256, u x wb r ⟨256 + q, by omega⟩ = LG (o + r + 2) q) (r q : Fin 256) :
    ROWS hA hG x wb x3 x4 x5 x6 (ix2 r q) = mix x3 x4 x5 x6 LA LG (o + r) q := by
  have va : ∀ r q : Fin 256, k0_pay8 x wb (ix2 r q) = LA (o + r + 2) q := fun r q => (pay8_at x wb r q).trans (ua r q)
  have vg : ∀ r q : Fin 256, k0_pay9 x wb (ix2 r q) = LG (o + r + 2) q := fun r q => (pay9_at x wb r q).trans (ug r q)
  unfold ROWS mix
  show k0_pay15 (F := Ideal) _ _ _ _ _ _ _ _ _ (ix2 r q) = _
  rw [pay15_at, pay13_at, pay12_at, va r q, vg r q, back2_eq LA o hA _ a6 a7 va r q, back1_eq LA o hA _ a7 va r q, back2_eq LG o hG _ g6 g7 vg r q, back1_eq LG o hG _ g7 vg r q]
  rw [ld_tap0, ld_tap1, ld_tap2, ld_tap0, ld_tap1, ld_tap2]

theorem HA1_at (i : Fin 8) (q : Fin 256) : HA1 x wb (ix2 i q) = u x wb ⟨248 + i, by omega⟩ ⟨q, by omega⟩ := by
  rw [← pay8_at x wb ⟨248 + i, by omega⟩ q]
  unfold HA1 k0_pay17
  pointwise

theorem HG1_at (i : Fin 8) (q : Fin 256) : HG1 x wb (ix2 i q) = u x wb ⟨248 + i, by omega⟩ ⟨256 + q, by omega⟩ := by
  rw [← pay9_at x wb ⟨248 + i, by omega⟩ q]
  unfold HG1 k0_pay18
  pointwise

/-- An entry of a block's product with the weights. -/
def uu (x0 : Vec Ideal S1024x4096 .bf16) (wb : Vec Ideal S4096x512 .bf16) (r : Fin 1024) (q : Fin 512) : EReal := ∑ k : Fin 4096, x0 (ix2 r k) * wb (ix2 k q)

section

variable (x0 : Vec Ideal S1024x4096 .bf16)

theorem ld_row (o : ℕ) (inb) (r : Fin 256) (k : Fin 4096) (h : o + r.val < 1024) :
    View.ld x0 (Rect.unit ![o, 0] ![256, 4096] inb) (ix2 r k) = x0 (ix2 ⟨o + r, h⟩ k) :=
  View.ld_unit_apply_of x0 _ _ inb _ _ fun a => by
    match a with
    | 0 => rfl
    | 1 => exact (Nat.zero_add k.val).symm

theorem u0 (r : Fin 256) (q : Fin 512) : u (X0 x0) wb r q = uu x0 wb ⟨0 + r, by omega⟩ q :=
  Finset.sum_congr (M := EReal) rfl fun k _ => congrArg (fun z : EReal => z * wb (ix2 k q)) (ld_row x0 0 _ r k _)
theorem u1 (r : Fin 256) (q : Fin 512) : u (X1 x0) wb r q = uu x0 wb ⟨256 + r, by omega⟩ q :=
  Finset.sum_congr (M := EReal) rfl fun k _ => congrArg (fun z : EReal => z * wb (ix2 k q)) (ld_row x0 256 _ r k _)
theorem u2 (r : Fin 256) (q : Fin 512) : u (X2 x0) wb r q = uu x0 wb ⟨512 + r, by omega⟩ q :=
  Finset.sum_congr (M := EReal) rfl fun k _ => congrArg (fun z : EReal => z * wb (ix2 k q)) (ld_row x0 512 _ r k _)
theorem u3 (r : Fin 256) (q : Fin 512) : u (X3 x0) wb r q = uu x0 wb ⟨768 + r, by omega⟩ q :=
  Finset.sum_congr (M := EReal) rfl fun k _ => congrArg (fun z : EReal => z * wb (ix2 k q)) (ld_row x0 768 _ r k _)

theorem HA_at (i : Fin 8) (q : Fin 256) : HA x0 wb (ix2 i q) = uu x0 wb ⟨1016 + i, by omega⟩ ⟨q, by omega⟩ := by
  refine Eq.trans ?_ ((u3 wb x0 ⟨248 + i, by omega⟩ ⟨q, by omega⟩).trans (congrArg (fun z => uu x0 wb z _) (Fin.ext (by show 768 + (248 + i.val) = 1016 + i.val; omega))))
  unfold HA k0_pay59 k0_pay57 k0_pay46 k0_pay45 u
  pointwise

theorem HG_at (i : Fin 8) (q : Fin 256) : HG x0 wb (ix2 i q) = uu x0 wb ⟨1016 + i, by omega⟩ ⟨256 + q, by omega⟩ := by
  refine Eq.trans ?_ ((u3 wb x0 ⟨248 + i, by omega⟩ ⟨256 + q, by omega⟩).trans (congrArg (fun z => uu x0 wb z _) (Fin.ext (by show 768 + (248 + i.val) = 1016 + i.val; omega))))
  unfold HG k0_pay60 k0_pay58 k0_pay47 k0_pay45 u
  pointwise

theorem TA_at (i : Fin 2) (q : Fin 256) : TA x0 wb (ix3 0 i q) = uu x0 wb ⟨1022 + i, by omega⟩ ⟨q, by omega⟩ := by
  refine Eq.trans ?_ ((u3 wb x0 ⟨254 + i, by omega⟩ ⟨q, by omega⟩).trans (congrArg (fun z => uu x0 wb z _) (Fin.ext (by show 768 + (254 + i.val) = 1022 + i.val; omega))))
  unfold TA k0_pay61 k0_pay57 k0_pay46 k0_pay45 u
  pointwise
  have e : (⟨248 + (6 + i.val), by omega⟩ : Fin 256) = ⟨254 + i.val, by omega⟩ := Fin.ext (by show 248 + (6 + i.val) = 254 + i.val; omega)
  rw [e]

theorem TG_at (i : Fin 2) (q : Fin 256) : TG x0 wb (ix3 0 i q) = uu x0 wb ⟨1022 + i, by omega⟩ ⟨256 + q, by omega⟩ := by
  refine Eq.trans ?_ ((u3 wb x0 ⟨254 + i, by omega⟩ ⟨256 + q, by omega⟩).trans (congrArg (fun z => uu x0 wb z _) (Fin.ext (by show 768 + (254 + i.val) = 1022 + i.val; omega))))
  unfold TG k0_pay1 k0_pay62 k0_pay58 k0_pay47 k0_pay45 u
  pointwise
  have e : (⟨248 + (6 + i.val), by omega⟩ : Fin 256) = ⟨254 + i.val, by omega⟩ := Fin.ext (by show 248 + (6 + i.val) = 254 + i.val; omega)
  rw [e]

variable (X : Vec Ideal S1024x4096 .bf16)

variable (LA LG : ℕ → Fin 256 → EReal) (hA hG : Vec Ideal S8x256 .f32) (x3 x4 : Vec Ideal S1x3x256 .f32) (x5 x6 : Vec Ideal S1x1x256 .f32)
    (a6 : ∀ q : Fin 256, hA (ix2 6 q) = LA 0 q) (a7 : ∀ q : Fin 256, hA (ix2 7 q) = LA 1 q)
    (g6 : ∀ q : Fin 256, hG (ix2 6 q) = LG 0 q) (g7 : ∀ q : Fin 256, hG (ix2 7 q) = LG 1 q)
    (ua : ∀ (r : Fin 1024) (q : Fin 256), uu X wb r ⟨q, by omega⟩ = LA (r + 2) q) (ug : ∀ (r : Fin 1024) (q : Fin 256), uu X wb r ⟨256 + q, by omega⟩ = LG (r + 2) q)

include a6 a7 g6 g7 ua ug in
/-- A block of the result. -/
theorem act_at (r : Fin 1024) (q : Fin 256) : ACT hA hG X wb x3 x4 x5 x6 (ix2 r q) = mix x3 x4 x5 x6 LA LG r q := by
  unfold ACT
  canon_tiles x h
  · idx_vars x
    obtain rfl : q = x1 := Fin.ext h1
    rw [h0]
    exact rows_at (X3 X) wb LA LG 768 _ _ x3 x4 x5 x6 (fun q => (HA1_at (X2 X) wb 6 q).trans ((u2 wb X _ _).trans (ua _ q))) (fun q => (HA1_at (X2 X) wb 7 q).trans ((u2 wb X _ _).trans (ua _ q)))
      (fun q => (HG1_at (X2 X) wb 6 q).trans ((u2 wb X _ _).trans (ug _ q))) (fun q => (HG1_at (X2 X) wb 7 q).trans ((u2 wb X _ _).trans (ug _ q)))
      (fun r q => (u3 wb X r _).trans (ua _ q)) (fun r q => (u3 wb X r _).trans (ug _ q)) x0 q
  · idx_vars x
    obtain rfl : q = x1 := Fin.ext h1
    rw [h0]
    exact rows_at (X2 X) wb LA LG 512 _ _ x3 x4 x5 x6 (fun q => (HA1_at (X1 X) wb 6 q).trans ((u1 wb X _ _).trans (ua _ q))) (fun q => (HA1_at (X1 X) wb 7 q).trans ((u1 wb X _ _).trans (ua _ q)))
      (fun q => (HG1_at (X1 X) wb 6 q).trans ((u1 wb X _ _).trans (ug _ q))) (fun q => (HG1_at (X1 X) wb 7 q).trans ((u1 wb X _ _).trans (ug _ q)))
      (fun r q => (u2 wb X r _).trans (ua _ q)) (fun r q => (u2 wb X r _).trans (ug _ q)) x0 q
  · idx_vars x
    obtain rfl : q = x1 := Fin.ext h1
    rw [h0]
    exact rows_at (X1 X) wb LA LG 256 _ _ x3 x4 x5 x6 (fun q => (HA1_at (X0 X) wb 6 q).trans ((u0 wb X _ _).trans (ua _ q))) (fun q => (HA1_at (X0 X) wb 7 q).trans ((u0 wb X _ _).trans (ua _ q)))
      (fun q => (HG1_at (X0 X) wb 6 q).trans ((u0 wb X _ _).trans (ug _ q))) (fun q => (HG1_at (X0 X) wb 7 q).trans ((u0 wb X _ _).trans (ug _ q)))
      (fun r q => (u1 wb X r _).trans (ua _ q)) (fun r q => (u1 wb X r _).trans (ug _ q)) x0 q
  · idx_vars x
    obtain rfl : q = x1 := Fin.ext h1
    rw [h0.trans (Nat.zero_add x0.val).symm]
    exact rows_at (X0 X) wb LA LG 0 hA hG x3 x4 x5 x6 a6 a7 g6 g7
      (fun r q => (u0 wb X r _).trans (ua _ q)) (fun r q => (u0 wb X r _).trans (ug _ q)) x0 q

end

/-- The weights of a column tile, half by half. -/
theorem WB_lo (x1 x2 : Vec Ideal S1x4096x256 .f32) (k : Fin 4096) (q : Fin 256) : WB x1 x2 (ix2 k ⟨q, by omega⟩) = x1 (ix3 0 k q) := by
  unfold WB
  canon_tiles x h
  · exact absurd h1 (by show ¬(q.val = 256 + _); omega)
  · idx_vars x
    obtain rfl : k = x0 := Fin.ext h0
    obtain rfl : q = x1 := Fin.ext h1
    unfold k0_pay3
    pointwise

theorem WB_hi (x1 x2 : Vec Ideal S1x4096x256 .f32) (k : Fin 4096) (q : Fin 256) : WB x1 x2 (ix2 k ⟨256 + q, by omega⟩) = x2 (ix3 0 k q) := by
  unfold WB
  canon_tiles x h
  · idx_vars x
    obtain rfl : k = x0 := Fin.ext h0
    obtain rfl : q = x1 := Fin.ext (by have : 256 + q.val = 256 + x1.val := h1; omega)
    unfold k0_pay4
    pointwise
  · exact absurd h1 (by show ¬(256 + q.val = _); omega)

theorem ofBits_256th : Ideal.ofBits .f32 0x3B800000#32 = ((1 / 256 : ℝ) : EReal) := by
  simp [Ideal.ofBits, Ideal.ieee, -EReal.coe_mul]; norm_num

/-- The average of two pages. -/
theorem mean_at (x7 x8 : Vec Ideal S1x128x32x128 .f32) (h : Fin 32) (d : Fin 128) :
    k0_pay2 x7 x8 (ix3 0 h d) = ((∑ k : Fin 128, x7 (ix4 0 k h d)) + ∑ k : Fin 128, x8 (ix4 0 k h d)) * ((1 / 256 : ℝ) : EReal) := by
  unfold k0_pay2
  rw [← ofBits_256th]
  pointwise

end Cert.UpIdeal.Result

end
-- ==== Proof.Up.Frame.lean ====
/- The run of the whole call: what each point leaves, in closed form, and the body's triple at every point. -/
module

public import proofs.«01_k».proof.Proof.Up.Values
public import Idealize.ShloMosaic.Lib.Pipeline.TableIdle
public import Idealize.ShloMosaic.Lib.Claim

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem n_lt {hO : Ok m} (t : Fin (cfgM m hO).N) : t.val < 344 := lt_of_lt_of_eq t.isLt N_0

/-- The point before. -/
abbrev prev {hO : Ok m} (t : Fin (cfgM m hO).N) : Fin (cfgM m hO).N := ⟨t.val - 1, lt_of_le_of_lt (Nat.sub_le _ _) t.isLt⟩

/-- The weights of the point's column tile. -/
def WBt (hO : Ok m) (c : Dev nD) (t : Fin (cfgM m hO).N) : Vec F S4096x512 .bf16 := WB (iblk m hO c 1 t) (iblk m hO c 2 t)

/-- The last rows of the point's block, of both halves. -/
def HAt (hO : Ok m) (c : Dev nD) (t : Fin (cfgM m hO).N) : Vec F S8x256 .f32 := HA (iblk m hO c 0 t) (WBt m hO c t)
def HGt (hO : Ok m) (c : Dev nD) (t : Fin (cfgM m hO).N) : Vec F S8x256 .f32 := HG (iblk m hO c 0 t) (WBt m hO c t)

/-- The rows before the point's block: none at a sequence's start. -/
def hA (hO : Ok m) (c : Dev nD) (t : Fin (cfgM m hO).N) : Vec F S8x256 .f32 := if t.val % 2 = 0 then k0_pay5 else HAt m hO c (prev m t)
def hG (hO : Ok m) (c : Dev nD) (t : Fin (cfgM m hO).N) : Vec F S8x256 .f32 := if t.val % 2 = 0 then k0_pay6 else HGt m hO c (prev m t)

/-- What the point leaves in each output's buffer. -/
def ACTt (hO : Ok m) (c : Dev nD) (t : Fin (cfgM m hO).N) : Vec F S1024x256 .bf16 :=
  ACT (hA m hO c t) (hG m hO c t) (iblk m hO c 0 t) (WBt m hO c t) (iblk m hO c 3 t) (iblk m hO c 4 t) (iblk m hO c 5 t) (iblk m hO c 6 t)
def TAt (hO : Ok m) (c : Dev nD) (t : Fin (cfgM m hO).N) : Vec F S1x2x256 .f32 := TA (iblk m hO c 0 t) (WBt m hO c t)
def TGt (hO : Ok m) (c : Dev nD) (t : Fin (cfgM m hO).N) : Vec F S1x2x256 .f32 := TG (iblk m hO c 0 t) (WBt m hO c t)

/-- The last point up to this one that averages a page block. -/
abbrev avg {hO : Ok m} (t : Fin (cfgM m hO).N) : Fin (cfgM m hO).N := ⟨min t.val 255, lt_of_le_of_lt (Nat.min_le_left _ _) t.isLt⟩
def MEANt (hO : Ok m) (c : Dev nD) (t : Fin (cfgM m hO).N) : Vec F S1x32x128 .f32 := k0_pay2 (iblk m hO c 7 (avg m t)) (iblk m hO c 8 (avg m t))

/-- Every window's block index at a point: row block `t % 8`, column tile `t / 8`. -/
theorem idx_tab : ∀ t : Fin grid0.N, cc0_transform_0 (grid0.coords t) = ![t.val % 8, 0] ∧ cc0_transform_1 (grid0.coords t) = ![1, 0, t.val / 8]
    ∧ cc0_transform_2 (grid0.coords t) = ![1, 0, 43 + t.val / 8] ∧ cc0_transform_3 (grid0.coords t) = ![1, 0, t.val / 8]
    ∧ cc0_transform_4 (grid0.coords t) = ![1, 0, 43 + t.val / 8] ∧ cc0_transform_5 (grid0.coords t) = ![1, 0, t.val / 8]
    ∧ cc0_transform_6 (grid0.coords t) = ![1, 0, 43 + t.val / 8] ∧ cc0_transform_9 (grid0.coords t) = ![t.val % 8, t.val / 8]
    ∧ cc0_transform_10 (grid0.coords t) = ![t.val % 8 / 2, 0, t.val / 8] ∧ cc0_transform_11 (grid0.coords t) = ![t.val % 8 / 2, 0, t.val / 8]
    ∧ cc0_transform_12 (grid0.coords t) = ![min t.val 255, 0, 0] := by
  decide +kernel

theorem idx1 {hO : Ok m} (t : Fin (cfgM m hO).N) : ((cfgM m hO).win 1).index t = ![1, 0, t.val / 8] := (idx_tab t).2.1
theorem idx2 {hO : Ok m} (t : Fin (cfgM m hO).N) : ((cfgM m hO).win 2).index t = ![1, 0, 43 + t.val / 8] := (idx_tab t).2.2.1

/-- Within a column tile the weights' blocks stay. -/
theorem iblk1_prev (hO : Ok m) (c : Dev nD) (t : Fin (cfgM m hO).N) (h : ¬t.val % 8 = 0) : (iblk m hO c 1 t : Vec F S1x4096x256 .f32) = iblk m hO c 1 (prev m t) := by
  have h1 := idx1 m t
  have h2 := idx1 m (prev m t)
  have e : (t.val - 1) / 8 = t.val / 8 := by omega
  rw [e] at h2
  funext y
  unfold iblk
  refine congrArg (V m c main_arg1) (funext fun a => Fin.ext ?_)
  blk_simp [h1, h2]

theorem iblk2_prev (hO : Ok m) (c : Dev nD) (t : Fin (cfgM m hO).N) (h : ¬t.val % 8 = 0) : (iblk m hO c 2 t : Vec F S1x4096x256 .f32) = iblk m hO c 2 (prev m t) := by
  have h1 := idx2 m t
  have h2 := idx2 m (prev m t)
  have e : (t.val - 1) / 8 = t.val / 8 := by omega
  rw [e] at h2
  funext y
  unfold iblk
  refine congrArg (V m c main_arg1) (funext fun a => Fin.ext ?_)
  blk_simp [h1, h2]

theorem WBt_prev (hO : Ok m) (c : Dev nD) (t : Fin (cfgM m hO).N) (h : ¬t.val % 8 = 0) : WBt m hO c t = WBt m hO c (prev m t) := by
  unfold WBt
  rw [iblk1_prev m hO c t h, iblk2_prev m hO c t h]

/-- The scratch buffers, the generator and the table before each point. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (WBt m hO c ⟨n, hn⟩) ∗ owns (c : Thread nD τ) scM0_1 fullShare (HAt m hO c ⟨n, hn⟩) ∗ owns (c : Thread nD τ) scM0_2 fullShare (HGt m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare (WBt m hO c ⟨n, hn⟩) ∗ owns (c : Thread nD τ) scM0_1 fullShare (HAt m hO c ⟨n, hn⟩) ∗ owns (c : Thread nD τ) scM0_2 fullShare (HGt m hO c ⟨n, hn⟩)) ∗ (∃ r, prngReg c r)) ∗ Pipeline.ΦT pre0 (tbl m) c) := rfl

theorem PhiS_pos (hO : Ok m) (c : Dev nD) (n : ℕ) (h : n ≤ (cfgM m hO).N) (hz : n ≠ 0) (hn : n - 1 < (cfgM m hO).N) :
    PhiS m hO c n h = iprop(iprop(iprop(owns (c : Thread nD τ) scM0_0 fullShare (WBt m hO c ⟨n - 1, hn⟩) ∗ owns (c : Thread nD τ) scM0_1 fullShare (HAt m hO c ⟨n - 1, hn⟩) ∗ owns (c : Thread nD τ) scM0_2 fullShare (HGt m hO c ⟨n - 1, hn⟩)) ∗ (∃ r, prngReg c r)) ∗ Pipeline.ΦT pre0 (tbl m) c) := by
  cases n with
  | zero => exact absurd rfl hz
  | succ n => rfl

/-- The run's data: what every point leaves in every buffer. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => ACTt m hO c t
    | ⟨10, _⟩ => TAt m hO c t
    | ⟨11, _⟩ => TGt m hO c t
    | ⟨12, _⟩ => MEANt m hO c t
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = ACTt m hO c t := by dsimp only [dats]; try rfl
theorem after0_10 (hO : Ok m) (c : Dev nD) (t : Fin (cfgM m hO).N) : (dats m hO 0 c).after 10 t = TAt m hO c t := by dsimp only [dats]; try rfl
theorem after0_11 (hO : Ok m) (c : Dev nD) (t : Fin (cfgM m hO).N) : (dats m hO 0 c).after 11 t = TGt m hO c t := by dsimp only [dats]; try rfl
theorem after0_12 (hO : Ok m) (c : Dev nD) (t : Fin (cfgM m hO).N) : (dats m hO 0 c).after 12 t = MEANt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-- The averages' buffer is written back after each point that fills it and at the end. -/
theorem flush0_12 (hO : Ok m) : ∀ t : Fin (cfgM m hO).N, ((cfgM m hO).win 12).flush t = (decide (t.val < 255) || decide (t.val = 343)) :=
  (by decide +kernel : ∀ t : Fin grid0.N, Pipeline.Window.flushOf grid0 true cc0_transform_12 t = (decide (t.val < 255) || decide (t.val = 343)))

theorem idle0_12 (hO : Ok m) : ∀ t : Fin (cfgM m hO).N, (cfgM m hO).idle 12 (grid0.coords t) = decide (256 ≤ t.val) :=
  (by decide +kernel : ∀ t : Fin grid0.N, idle0 12 (grid0.coords t) = decide (256 ≤ t.val))

theorem fresh0_12 (hO : Ok m) (n : ℕ) (hn : n < (cfgM m hO).N) : (cfgM m hO).fresh 12 n = decide (n < 256) := by
  refine (cfgM m hO).fresh_tab 12 (fun n => decide (n < 256) || decide (n = 344)) rfl (fun t => ?_) n hn.le |>.trans ?_
  · have ht := n_lt m t
    rw [flush0_12 m hO t]
    rw [show (cfgM m hO).idle 12 ((cfgM m hO).grid.coords t) = decide (256 ≤ t.val) from idle0_12 m hO t]
    rw [Bool.eq_iff_iff]
    simp only [Bool.or_eq_true, Bool.and_eq_true, decide_eq_true_eq]
    omega
  · have : n < 344 := lt_of_lt_of_eq hn N_0
    rw [Bool.eq_iff_iff]
    simp only [Bool.or_eq_true, decide_eq_true_eq]
    omega

/-- From point 256 on the averages' buffer keeps what point 255 stored. -/
theorem before0_12 (hO : Ok m) (c : Dev nD) (t : Fin (cfgM m hO).N) (h : 256 ≤ t.val) (d) : (dats m hO 0 c).before 12 t d = MEANt m hO c t := by
  have hc : ∀ (t : Fin (cfgM m hO).N), 256 ≤ t.val → MEANt m hO c t = MEANt m hO c (prev m t) := by
    intro t h
    have e : avg m t = avg m (prev m t) := Fin.ext (by show min t.val 255 = min (t.val - 1) 255; omega)
    unfold MEANt
    rw [e]
  have hb := (dats m hO 0 c).before_out_traj 12 rfl (fun _ _ => rfl) (fun t ht hi hf => by
    have hi' : decide (256 ≤ t.val) = true := (idle0_12 m hO t).symm.trans hi
    rw [after0_12, after0_12]
    exact hc t (of_decide_eq_true hi')) t.val t rfl d
  rw [hb, fresh0_12 m hO t.val t.isLt, if_neg (by simp only [decide_eq_true_eq]; omega), after0_12]
  exact (hc t h).symm

/-- What the body is called with at a point, window by window. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d)))

/-- What it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t)

set_option maxHeartbeats 8000000 in
theorem body_A (hO : Ok m) (c : Dev nD) (t : Fin (cfgM m hO).N) (h0 : t.val % 8 = 0) (h2 : t.val < 256) :
    bodyPre m hO c t ⊢ wp frame (wpE (defs₀ (F := F)) Variants.none c none) Set.univ (bodyAt0 (adm m hO) t) (fun _ => bodyPost m hO c t) := by
  have h1 : t.val % 2 = 0 := by omega
  have c0 := (hcond0_0 t).mpr h0
  have c1 := (hcond0_1 t).mpr h1
  have c2 := (hcond0_2 t).mpr h2
  have eA : hA m hO c t = k0_pay5 := if_pos h1
  have eG : hG m hO c t = k0_pay6 := if_pos h1
  have eM : avg m t = t := Fin.ext (by show min t.val 255 = t.val; omega)
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t]; try rfl, after0_9]
  rw [show (dats m hO 0 c).leavesExact 10 t = owns (c : Thread nD τ) (ms0_10 m hO t) fullShare ((dats m hO 0 c).after 10 t) from by
    unfold Dat.leavesExact; rw [liveAt0_10 m hO t]; try rfl, after0_10]
  rw [show (dats m hO 0 c).leavesExact 11 t = owns (c : Thread nD τ) (ms0_11 m hO t) fullShare ((dats m hO 0 c).after 11 t) from by
    unfold Dat.leavesExact; rw [liveAt0_11 m hO t]; try rfl, after0_11]
  rw [show (dats m hO 0 c).leavesExact 12 t = owns (c : Thread nD τ) (ms0_12 m hO t) fullShare ((dats m hO 0 c).after 12 t) from by
    unfold Dat.leavesExact; rw [liveAt0_12_A m hO t c0 c1 c2]; try rfl, after0_12]
  unfold ACTt TAt TGt MEANt
  rw [eA, eG, eM]
  rw [PhiS_castSucc m hO c t]
  by_cases hz : t.val = 0
  · rw [PhiS_zero m hO c _ _ hz, PhiT0_eq, PhiA0_eq]
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ _ _ c0 c1 c2 (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HT0]; · iexact HT0
    iintro ⟨H0, H1, H2, H3, H4, H5, H6, H7, H8, ⟨%e9, H9⟩, ⟨%e10, H10⟩, ⟨%e11, H11⟩, ⟨%e12, H12⟩, ⟨%es0, HS0⟩, ⟨%es1, HS1⟩, ⟨%es2, HS2⟩, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro; exact valA_s0 _ _ _ _ _ _ _ _ _ _ _ _ _ _ _ _ _ _ _ _ _ _ _ _ _ _ _ _ _ _ _ _ _ _ _ _ _ _ _ _ _ _ _ _ _ _ _ _
          isplitl [HS1]
          · unfold owns; iexists _; isplitr
            swap; · iexact HS1
            ipureintro; exact valA_s1 _ _ _ _ _ _ _ _ _ _ _ _ _ _ _ _ _ _ _ _ _ _ _ _ _ _ _ _ _ _ _ _ _ _ _ _ _ _ _ _ _ _ _ _ _ _ _ _
          · unfold owns; iexists _; isplitr
            swap; · iexact HS2
            ipureintro; exact valA_s2 _ _ _ _ _ _ _ _ _ _ _ _ _ _ _ _ _ _ _ _ _ _ _ _ _ _ _ _ _ _ _ _ _ _ _ _ _ _ _ _ _ _ _ _ _ _ _ _
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact valA_9 _ _ _ _ _ _ _ _ _ _ _ _ _ _ _ _ _ _ _ _ _ _ _ _ _ _ _ _ _ _ _ _ _ _ _ _ _ _ _ _ _ _ _ _ _ _ _ _
    isplitl [H10]
    · unfold owns; iexists _; isplitr
      swap; · iexact H10
      ipureintro; exact valA_10 _ _ _ _ _ _ _ _ _ _ _ _ _ _ _ _ _ _ _ _ _ _ _ _ _ _ _ _ _ _ _ _ _ _ _ _ _ _ _ _ _ _ _ _ _ _ _ _
    isplitl [H11]
    · unfold owns; iexists _; isplitr
      swap; · iexact H11
      ipureintro; exact valA_11 _ _ _ _ _ _ _ _ _ _ _ _ _ _ _ _ _ _ _ _ _ _ _ _ _ _ _ _ _ _ _ _ _ _ _ _ _ _ _ _ _ _ _ _ _ _ _ _
    · unfold owns; iexists _; isplitr
      swap; · iexact H12
      ipureintro; exact valA_12 _ _ _ _ _ _ _ _ _ _ _ _ _ _ _ _ _ _ _ _ _ _ _ _ _ _ _ _ _ _ _ _ _ _ _ _ _ _ _ _ _ _ _ _ _ _ _ _
  · rw [PhiS_pos m hO c _ _ hz (prev m t).isLt, PhiT0_eq]
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ _ _ c0 c1 c2 (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HT0]; · iexact HT0
    iintro ⟨H0, H1, H2, H3, H4, H5, H6, H7, H8, ⟨%e9, H9⟩, ⟨%e10, H10⟩, ⟨%e11, H11⟩, ⟨%e12, H12⟩, ⟨%es0, HS0⟩, ⟨%es1, HS1⟩, ⟨%es2, HS2⟩, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro; exact valA_s0 _ _ _ _ _ _ _ _ _ _ _ _ _ _ _ _ _ _ _ _ _ _ _ _ _ _ _ _ _ _ _ _ _ _ _ _ _ _ _ _ _ _ _ _ _ _ _ _
          isplitl [HS1]
          · unfold owns; iexists _; isplitr
            swap; · iexact HS1
            ipureintro; exact valA_s1 _ _ _ _ _ _ _ _ _ _ _ _ _ _ _ _ _ _ _ _ _ _ _ _ _ _ _ _ _ _ _ _ _ _ _ _ _ _ _ _ _ _ _ _ _ _ _ _
          · unfold owns; iexists _; isplitr
            swap; · iexact HS2
            ipureintro; exact valA_s2 _ _ _ _ _ _ _ _ _ _ _ _ _ _ _ _ _ _ _ _ _ _ _ _ _ _ _ _ _ _ _ _ _ _ _ _ _ _ _ _ _ _ _ _ _ _ _ _
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact valA_9 _ _ _ _ _ _ _ _ _ _ _ _ _ _ _ _ _ _ _ _ _ _ _ _ _ _ _ _ _ _ _ _ _ _ _ _ _ _ _ _ _ _ _ _ _ _ _ _
    isplitl [H10]
    · unfold owns; iexists _; isplitr
      swap; · iexact H10
      ipureintro; exact valA_10 _ _ _ _ _ _ _ _ _ _ _ _ _ _ _ _ _ _ _ _ _ _ _ _ _ _ _ _ _ _ _ _ _ _ _ _ _ _ _ _ _ _ _ _ _ _ _ _
    isplitl [H11]
    · unfold owns; iexists _; isplitr
      swap; · iexact H11
      ipureintro; exact valA_11 _ _ _ _ _ _ _ _ _ _ _ _ _ _ _ _ _ _ _ _ _ _ _ _ _ _ _ _ _ _ _ _ _ _ _ _ _ _ _ _ _ _ _ _ _ _ _ _
    · unfold owns; iexists _; isplitr
      swap; · iexact H12
      ipureintro; exact valA_12 _ _ _ _ _ _ _ _ _ _ _ _ _ _ _ _ _ _ _ _ _ _ _ _ _ _ _ _ _ _ _ _ _ _ _ _ _ _ _ _ _ _ _ _ _ _ _ _

set_option maxHeartbeats 8000000 in
theorem body_B (hO : Ok m) (c : Dev nD) (t : Fin (cfgM m hO).N) (h1 : ¬t.val % 2 = 0) (h2 : t.val < 256) :
    bodyPre m hO c t ⊢ wp frame (wpE (defs₀ (F := F)) Variants.none c none) Set.univ (bodyAt0 (adm m hO) t) (fun _ => bodyPost m hO c t) := by
  have h0 : ¬t.val % 8 = 0 := by omega
  have c0 := fun h => h0 ((hcond0_0 t).mp h)
  have c1 := fun h => h1 ((hcond0_1 t).mp h)
  have c2 := (hcond0_2 t).mpr h2
  have eA : hA m hO c t = HAt m hO c (prev m t) := if_neg h1
  have eG : hG m hO c t = HGt m hO c (prev m t) := if_neg h1
  have eW := WBt_prev m hO c t h0
  have eW' : WBt m hO c ⟨t.val, t.isLt⟩ = WBt m hO c (prev m t) := eW
  have eHA : HAt m hO c ⟨t.val, t.isLt⟩ = HA (iblk m hO c 0 t) (WBt m hO c (prev m t)) := by show HA _ (WBt m hO c t) = _; rw [eW]
  have eHG : HGt m hO c ⟨t.val, t.isLt⟩ = HG (iblk m hO c 0 t) (WBt m hO c (prev m t)) := by show HG _ (WBt m hO c t) = _; rw [eW]
  have eM : avg m t = t := Fin.ext (by show min t.val 255 = t.val; omega)
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t]; try rfl, after0_9]
  rw [show (dats m hO 0 c).leavesExact 10 t = owns (c : Thread nD τ) (ms0_10 m hO t) fullShare ((dats m hO 0 c).after 10 t) from by
    unfold Dat.leavesExact; rw [liveAt0_10 m hO t]; try rfl, after0_10]
  rw [show (dats m hO 0 c).leavesExact 11 t = owns (c : Thread nD τ) (ms0_11 m hO t) fullShare ((dats m hO 0 c).after 11 t) from by
    unfold Dat.leavesExact; rw [liveAt0_11 m hO t]; try rfl, after0_11]
  rw [show (dats m hO 0 c).leavesExact 12 t = owns (c : Thread nD τ) (ms0_12 m hO t) fullShare ((dats m hO 0 c).after 12 t) from by
    unfold Dat.leavesExact; rw [liveAt0_12_B m hO t c0 c1 c2]; try rfl, after0_12]
  unfold ACTt TAt TGt MEANt
  rw [eA, eG, eM, eW', eHA, eHG]
  rw [PhiS_castSucc m hO c t]
  rw [PhiS_pos m hO c _ _ (by omega) (prev m t).isLt, PhiT0_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_B c (grid0.coords t) _ _ _ _ _ _ _ _ _ _ _ _ _ _ _ _ _ _ _ _ _ _ _ _ _ _ _ _ _ _ _ _ c0 c1 c2 (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (WBt m hO c (prev m t)) (HAt m hO c (prev m t)) (HGt m hO c (prev m t))).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HT0]; · iexact HT0
  iintro ⟨H0, H1, H2, H3, H4, H5, H6, H7, H8, ⟨%e9, H9⟩, ⟨%e10, H10⟩, ⟨%e11, H11⟩, ⟨%e12, H12⟩, HS0, ⟨%es1, HS1⟩, ⟨%es2, HS2⟩, HT0⟩
  isplitl [HS0 HS1 HS2 Hg HT0]
  · isplitl [HS0 HS1 HS2 Hg]
    · isplitl [HS0 HS1 HS2]
      · isplitl [HS0]
        · iexact HS0
        isplitl [HS1]
        · unfold owns; iexists _; isplitr
          swap; · iexact HS1
          ipureintro; exact valB_s1 _ _ _ _ _ _ _ _ _ _ _ _ _ _ _ _ _ _ _ _ _ _ _ _ _ _ _ _ _ _ _ _ _ _ _ _ _ _ _ _ _ _ _ _ _ _ _ _ _ _ _
        · unfold owns; iexists _; isplitr
          swap; · iexact HS2
          ipureintro; exact valB_s2 _ _ _ _ _ _ _ _ _ _ _ _ _ _ _ _ _ _ _ _ _ _ _ _ _ _ _ _ _ _ _ _ _ _ _ _ _ _ _ _ _ _ _ _ _ _ _ _ _ _ _
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact valB_9 _ _ _ _ _ _ _ _ _ _ _ _ _ _ _ _ _ _ _ _ _ _ _ _ _ _ _ _ _ _ _ _ _ _ _ _ _ _ _ _ _ _ _ _ _ _ _ _ _ _ _
  isplitl [H10]
  · unfold owns; iexists _; isplitr
    swap; · iexact H10
    ipureintro; exact valB_10 _ _ _ _ _ _ _ _ _ _ _ _ _ _ _ _ _ _ _ _ _ _ _ _ _ _ _ _ _ _ _ _ _ _ _ _ _ _ _ _ _ _ _ _ _ _ _ _ _ _ _
  isplitl [H11]
  · unfold owns; iexists _; isplitr
    swap; · iexact H11
    ipureintro; exact valB_11 _ _ _ _ _ _ _ _ _ _ _ _ _ _ _ _ _ _ _ _ _ _ _ _ _ _ _ _ _ _ _ _ _ _ _ _ _ _ _ _ _ _ _ _ _ _ _ _ _ _ _
  · unfold owns; iexists _; isplitr
    swap; · iexact H12
    ipureintro; exact valB_12 _ _ _ _ _ _ _ _ _ _ _ _ _ _ _ _ _ _ _ _ _ _ _ _ _ _ _ _ _ _ _ _ _ _ _ _ _ _ _ _ _ _ _ _ _ _ _ _ _ _ _

set_option maxHeartbeats 8000000 in
theorem body_C (hO : Ok m) (c : Dev nD) (t : Fin (cfgM m hO).N) (h0 : ¬t.val % 8 = 0) (h1 : t.val % 2 = 0) (h2 : t.val < 256) :
    bodyPre m hO c t ⊢ wp frame (wpE (defs₀ (F := F)) Variants.none c none) Set.univ (bodyAt0 (adm m hO) t) (fun _ => bodyPost m hO c t) := by
  have c0 := fun h => h0 ((hcond0_0 t).mp h)
  have c1 := (hcond0_1 t).mpr h1
  have c2 := (hcond0_2 t).mpr h2
  have eA : hA m hO c t = k0_pay5 := if_pos h1
  have eG : hG m hO c t = k0_pay6 := if_pos h1
  have eW := WBt_prev m hO c t h0
  have eW' : WBt m hO c ⟨t.val, t.isLt⟩ = WBt m hO c (prev m t) := eW
  have eHA : HAt m hO c ⟨t.val, t.isLt⟩ = HA (iblk m hO c 0 t) (WBt m hO c (prev m t)) := by show HA _ (WBt m hO c t) = _; rw [eW]
  have eHG : HGt m hO c ⟨t.val, t.isLt⟩ = HG (iblk m hO c 0 t) (WBt m hO c (prev m t)) := by show HG _ (WBt m hO c t) = _; rw [eW]
  have eM : avg m t = t := Fin.ext (by show min t.val 255 = t.val; omega)
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t]; try rfl, after0_9]
  rw [show (dats m hO 0 c).leavesExact 10 t = owns (c : Thread nD τ) (ms0_10 m hO t) fullShare ((dats m hO 0 c).after 10 t) from by
    unfold Dat.leavesExact; rw [liveAt0_10 m hO t]; try rfl, after0_10]
  rw [show (dats m hO 0 c).leavesExact 11 t = owns (c : Thread nD τ) (ms0_11 m hO t) fullShare ((dats m hO 0 c).after 11 t) from by
    unfold Dat.leavesExact; rw [liveAt0_11 m hO t]; try rfl, after0_11]
  rw [show (dats m hO 0 c).leavesExact 12 t = owns (c : Thread nD τ) (ms0_12 m hO t) fullShare ((dats m hO 0 c).after 12 t) from by
    unfold Dat.leavesExact; rw [liveAt0_12_C m hO t c0 c1 c2]; try rfl, after0_12]
  unfold ACTt TAt TGt MEANt
  rw [eA, eG, eM, eW', eHA, eHG]
  rw [PhiS_castSucc m hO c t]
  rw [PhiS_pos m hO c _ _ (by omega) (prev m t).isLt, PhiT0_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_C c (grid0.coords t) _ _ _ _ _ _ _ _ _ _ _ _ _ _ _ _ _ _ _ _ _ _ _ _ _ _ _ _ _ _ _ _ c0 c1 c2 (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (WBt m hO c (prev m t))).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexists _; iexact HS1
  isplitl [HS2]; · iexists _; iexact HS2
  isplitl [HT0]; · iexact HT0
  iintro ⟨H0, H1, H2, H3, H4, H5, H6, H7, H8, ⟨%e9, H9⟩, ⟨%e10, H10⟩, ⟨%e11, H11⟩, ⟨%e12, H12⟩, HS0, ⟨%es1, HS1⟩, ⟨%es2, HS2⟩, HT0⟩
  isplitl [HS0 HS1 HS2 Hg HT0]
  · isplitl [HS0 HS1 HS2 Hg]
    · isplitl [HS0 HS1 HS2]
      · isplitl [HS0]
        · iexact HS0
        isplitl [HS1]
        · unfold owns; iexists _; isplitr
          swap; · iexact HS1
          ipureintro; exact valC_s1 _ _ _ _ _ _ _ _ _ _ _ _ _ _ _ _ _ _ _ _ _ _ _ _ _ _ _ _ _ _ _ _ _ _ _ _ _ _ _ _ _ _ _ _ _ _ _ _ _
        · unfold owns; iexists _; isplitr
          swap; · iexact HS2
          ipureintro; exact valC_s2 _ _ _ _ _ _ _ _ _ _ _ _ _ _ _ _ _ _ _ _ _ _ _ _ _ _ _ _ _ _ _ _ _ _ _ _ _ _ _ _ _ _ _ _ _ _ _ _ _
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact valC_9 _ _ _ _ _ _ _ _ _ _ _ _ _ _ _ _ _ _ _ _ _ _ _ _ _ _ _ _ _ _ _ _ _ _ _ _ _ _ _ _ _ _ _ _ _ _ _ _ _
  isplitl [H10]
  · unfold owns; iexists _; isplitr
    swap; · iexact H10
    ipureintro; exact valC_10 _ _ _ _ _ _ _ _ _ _ _ _ _ _ _ _ _ _ _ _ _ _ _ _ _ _ _ _ _ _ _ _ _ _ _ _ _ _ _ _ _ _ _ _ _ _ _ _ _
  isplitl [H11]
  · unfold owns; iexists _; isplitr
    swap; · iexact H11
    ipureintro; exact valC_11 _ _ _ _ _ _ _ _ _ _ _ _ _ _ _ _ _ _ _ _ _ _ _ _ _ _ _ _ _ _ _ _ _ _ _ _ _ _ _ _ _ _ _ _ _ _ _ _ _
  · unfold owns; iexists _; isplitr
    swap; · iexact H12
    ipureintro; exact valC_12 _ _ _ _ _ _ _ _ _ _ _ _ _ _ _ _ _ _ _ _ _ _ _ _ _ _ _ _ _ _ _ _ _ _ _ _ _ _ _ _ _ _ _ _ _ _ _ _ _

set_option maxHeartbeats 8000000 in
theorem body_D (hO : Ok m) (c : Dev nD) (t : Fin (cfgM m hO).N) (h0 : t.val % 8 = 0) (h2 : ¬t.val < 256) :
    bodyPre m hO c t ⊢ wp frame (wpE (defs₀ (F := F)) Variants.none c none) Set.univ (bodyAt0 (adm m hO) t) (fun _ => bodyPost m hO c t) := by
  have h1 : t.val % 2 = 0 := by omega
  have c0 := (hcond0_0 t).mpr h0
  have c1 := (hcond0_1 t).mpr h1
  have c2 := fun h => h2 ((hcond0_2 t).mp h)
  have eA : hA m hO c t = k0_pay5 := if_pos h1
  have eG : hG m hO c t = k0_pay6 := if_pos h1
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t]; try rfl, after0_9]
  rw [show (dats m hO 0 c).leavesExact 10 t = owns (c : Thread nD τ) (ms0_10 m hO t) fullShare ((dats m hO 0 c).after 10 t) from by
    unfold Dat.leavesExact; rw [liveAt0_10 m hO t]; try rfl, after0_10]
  rw [show (dats m hO 0 c).leavesExact 11 t = owns (c : Thread nD τ) (ms0_11 m hO t) fullShare ((dats m hO 0 c).after 11 t) from by
    unfold Dat.leavesExact; rw [liveAt0_11 m hO t]; try rfl, after0_11]
  rw [Dat.leavesExact_idle (dats m hO 0 c) 12 t (idleAt0_12_D m hO t c0 c1 c2) (noFlush0_12_D m hO t c0 c1 c2)]
  unfold ACTt TAt TGt
  rw [eA, eG]
  rw [PhiS_castSucc m hO c t]
  rw [PhiS_pos m hO c _ _ (by omega) (prev m t).isLt, PhiT0_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_D c (grid0.coords t) _ _ _ _ _ _ _ _ _ _ _ _ _ _ _ _ _ _ _ _ _ _ _ _ _ _ _ _ _ _ _ _ c0 c1 c2 (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [HS0]; · iexists _; iexact HS0
  isplitl [HS1]; · iexists _; iexact HS1
  isplitl [HS2]; · iexists _; iexact HS2
  isplitl [HT0]; · iexact HT0
  iintro ⟨H0, H1, H2, H3, H4, H5, H6, H7, H8, ⟨%e9, H9⟩, ⟨%e10, H10⟩, ⟨%e11, H11⟩, H12, ⟨%es0, HS0⟩, ⟨%es1, HS1⟩, ⟨%es2, HS2⟩, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact valD_s0 _ _ _ _ _ _ _ _ _ _ _ _ _ _ _ _ _ _ _ _ _ _ _ _ _ _ _ _ _ _ _ _ _ _ _ _ _ _ _ _ _ _ _ _ _ _ _ _
        isplitl [HS1]
        · unfold owns; iexists _; isplitr
          swap; · iexact HS1
          ipureintro; exact valD_s1 _ _ _ _ _ _ _ _ _ _ _ _ _ _ _ _ _ _ _ _ _ _ _ _ _ _ _ _ _ _ _ _ _ _ _ _ _ _ _ _ _ _ _ _ _ _ _ _
        · unfold owns; iexists _; isplitr
          swap; · iexact HS2
          ipureintro; exact valD_s2 _ _ _ _ _ _ _ _ _ _ _ _ _ _ _ _ _ _ _ _ _ _ _ _ _ _ _ _ _ _ _ _ _ _ _ _ _ _ _ _ _ _ _ _ _ _ _ _
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact valD_9 _ _ _ _ _ _ _ _ _ _ _ _ _ _ _ _ _ _ _ _ _ _ _ _ _ _ _ _ _ _ _ _ _ _ _ _ _ _ _ _ _ _ _ _ _ _ _ _
  isplitl [H10]
  · unfold owns; iexists _; isplitr
    swap; · iexact H10
    ipureintro; exact valD_10 _ _ _ _ _ _ _ _ _ _ _ _ _ _ _ _ _ _ _ _ _ _ _ _ _ _ _ _ _ _ _ _ _ _ _ _ _ _ _ _ _ _ _ _ _ _ _ _
  isplitl [H11]
  · unfold owns; iexists _; isplitr
    swap; · iexact H11
    ipureintro; exact valD_11 _ _ _ _ _ _ _ _ _ _ _ _ _ _ _ _ _ _ _ _ _ _ _ _ _ _ _ _ _ _ _ _ _ _ _ _ _ _ _ _ _ _ _ _ _ _ _ _
  iexists _; iexact H12

set_option maxHeartbeats 8000000 in
theorem body_E (hO : Ok m) (c : Dev nD) (t : Fin (cfgM m hO).N) (h1 : ¬t.val % 2 = 0) (h2 : ¬t.val < 256) :
    bodyPre m hO c t ⊢ wp frame (wpE (defs₀ (F := F)) Variants.none c none) Set.univ (bodyAt0 (adm m hO) t) (fun _ => bodyPost m hO c t) := by
  have h0 : ¬t.val % 8 = 0 := by omega
  have c0 := fun h => h0 ((hcond0_0 t).mp h)
  have c1 := fun h => h1 ((hcond0_1 t).mp h)
  have c2 := fun h => h2 ((hcond0_2 t).mp h)
  have eA : hA m hO c t = HAt m hO c (prev m t) := if_neg h1
  have eG : hG m hO c t = HGt m hO c (prev m t) := if_neg h1
  have eW := WBt_prev m hO c t h0
  have eW' : WBt m hO c ⟨t.val, t.isLt⟩ = WBt m hO c (prev m t) := eW
  have eHA : HAt m hO c ⟨t.val, t.isLt⟩ = HA (iblk m hO c 0 t) (WBt m hO c (prev m t)) := by show HA _ (WBt m hO c t) = _; rw [eW]
  have eHG : HGt m hO c ⟨t.val, t.isLt⟩ = HG (iblk m hO c 0 t) (WBt m hO c (prev m t)) := by show HG _ (WBt m hO c t) = _; rw [eW]
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t]; try rfl, after0_9]
  rw [show (dats m hO 0 c).leavesExact 10 t = owns (c : Thread nD τ) (ms0_10 m hO t) fullShare ((dats m hO 0 c).after 10 t) from by
    unfold Dat.leavesExact; rw [liveAt0_10 m hO t]; try rfl, after0_10]
  rw [show (dats m hO 0 c).leavesExact 11 t = owns (c : Thread nD τ) (ms0_11 m hO t) fullShare ((dats m hO 0 c).after 11 t) from by
    unfold Dat.leavesExact; rw [liveAt0_11 m hO t]; try rfl, after0_11]
  have hb : ∀ d, (dats m hO 0 c).before 12 t d = MEANt m hO c t := before0_12 m hO c t (by omega)
  simp only [hb]
  have hp : (owns (c : Thread nD τ) (ms0_12 m hO t) fullShare (MEANt m hO c t) : sProp 𝕄) ⊢ (dats m hO 0 c).leavesExact 12 t := by
    by_cases hl : t.val = 343
    · rw [show (dats m hO 0 c).leavesExact 12 t = owns (c : Thread nD τ) (ms0_12 m hO t) fullShare ((dats m hO 0 c).after 12 t) from by
        unfold Dat.leavesExact; rw [idleAt0_12_E m hO t c0 c1 c2, flush0_12 m hO t, hl]; try rfl, after0_12]
    · rw [Dat.leavesExact_idle (dats m hO 0 c) 12 t (idleAt0_12_E m hO t c0 c1 c2) (by
        rw [flush0_12 m hO t, Bool.or_eq_false_iff]
        exact ⟨decide_eq_false (by omega), decide_eq_false hl⟩)]
      have hq : ∀ v : Vec F S1x32x128 .f32, v = MEANt m hO c t →
          ((owns (c : Thread nD τ) (ms0_12 m hO t) fullShare (MEANt m hO c t) : sProp 𝕄) ⊢ owns (c : Thread nD τ) (ms0_12 m hO t) fullShare v) := by
        intro v hv
        subst hv
        rfl
      iintro H
      iexists (MEANt m hO c t)
      iapply (hq _ (hb (MEANt m hO c t)))
      iexact H
  unfold ACTt TAt TGt
  rw [eA, eG, eW', eHA, eHG]
  rw [PhiS_castSucc m hO c t]
  rw [PhiS_pos m hO c _ _ (by omega) (prev m t).isLt, PhiT0_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_E c (grid0.coords t) _ _ _ _ _ _ _ _ _ _ _ _ _ _ _ _ _ _ _ _ _ _ _ _ _ _ _ _ _ _ _ _ c0 c1 c2 (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (WBt m hO c (prev m t)) (HAt m hO c (prev m t)) (HGt m hO c (prev m t))).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [HS0]; · iexact HS0
  isplitl [HS1]; · iexact HS1
  isplitl [HS2]; · iexact HS2
  isplitl [HT0]; · iexact HT0
  iintro ⟨H0, H1, H2, H3, H4, H5, H6, H7, H8, ⟨%e9, H9⟩, ⟨%e10, H10⟩, ⟨%e11, H11⟩, H12, HS0, ⟨%es1, HS1⟩, ⟨%es2, HS2⟩, HT0⟩
  isplitl [HS0 HS1 HS2 Hg HT0]
  · isplitl [HS0 HS1 HS2 Hg]
    · isplitl [HS0 HS1 HS2]
      · isplitl [HS0]
        · iexact HS0
        isplitl [HS1]
        · unfold owns; iexists _; isplitr
          swap; · iexact HS1
          ipureintro; exact valE_s1 _ _ _ _ _ _ _ _ _ _ _ _ _ _ _ _ _ _ _ _ _ _ _ _ _ _ _ _ _ _ _ _ _ _ _ _ _ _ _ _ _ _ _ _ _ _ _ _ _ _ _
        · unfold owns; iexists _; isplitr
          swap; · iexact HS2
          ipureintro; exact valE_s2 _ _ _ _ _ _ _ _ _ _ _ _ _ _ _ _ _ _ _ _ _ _ _ _ _ _ _ _ _ _ _ _ _ _ _ _ _ _ _ _ _ _ _ _ _ _ _ _ _ _ _
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact valE_9 _ _ _ _ _ _ _ _ _ _ _ _ _ _ _ _ _ _ _ _ _ _ _ _ _ _ _ _ _ _ _ _ _ _ _ _ _ _ _ _ _ _ _ _ _ _ _ _ _ _ _
  isplitl [H10]
  · unfold owns; iexists _; isplitr
    swap; · iexact H10
    ipureintro; exact valE_10 _ _ _ _ _ _ _ _ _ _ _ _ _ _ _ _ _ _ _ _ _ _ _ _ _ _ _ _ _ _ _ _ _ _ _ _ _ _ _ _ _ _ _ _ _ _ _ _ _ _ _
  isplitl [H11]
  · unfold owns; iexists _; isplitr
    swap; · iexact H11
    ipureintro; exact valE_11 _ _ _ _ _ _ _ _ _ _ _ _ _ _ _ _ _ _ _ _ _ _ _ _ _ _ _ _ _ _ _ _ _ _ _ _ _ _ _ _ _ _ _ _ _ _ _ _ _ _ _
  iapply hp; iexact H12

set_option maxHeartbeats 8000000 in
theorem body_F (hO : Ok m) (c : Dev nD) (t : Fin (cfgM m hO).N) (h0 : ¬t.val % 8 = 0) (h1 : t.val % 2 = 0) (h2 : ¬t.val < 256) :
    bodyPre m hO c t ⊢ wp frame (wpE (defs₀ (F := F)) Variants.none c none) Set.univ (bodyAt0 (adm m hO) t) (fun _ => bodyPost m hO c t) := by
  have c0 := fun h => h0 ((hcond0_0 t).mp h)
  have c1 := (hcond0_1 t).mpr h1
  have c2 := fun h => h2 ((hcond0_2 t).mp h)
  have eA : hA m hO c t = k0_pay5 := if_pos h1
  have eG : hG m hO c t = k0_pay6 := if_pos h1
  have eW := WBt_prev m hO c t h0
  have eW' : WBt m hO c ⟨t.val, t.isLt⟩ = WBt m hO c (prev m t) := eW
  have eHA : HAt m hO c ⟨t.val, t.isLt⟩ = HA (iblk m hO c 0 t) (WBt m hO c (prev m t)) := by show HA _ (WBt m hO c t) = _; rw [eW]
  have eHG : HGt m hO c ⟨t.val, t.isLt⟩ = HG (iblk m hO c 0 t) (WBt m hO c (prev m t)) := by show HG _ (WBt m hO c t) = _; rw [eW]
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  rw [show (dats m hO 0 c).leavesExact 9 t = owns (c : Thread nD τ) (ms0_9 m hO t) fullShare ((dats m hO 0 c).after 9 t) from by
    unfold Dat.leavesExact; rw [liveAt0_9 m hO t]; try rfl, after0_9]
  rw [show (dats m hO 0 c).leavesExact 10 t = owns (c : Thread nD τ) (ms0_10 m hO t) fullShare ((dats m hO 0 c).after 10 t) from by
    unfold Dat.leavesExact; rw [liveAt0_10 m hO t]; try rfl, after0_10]
  rw [show (dats m hO 0 c).leavesExact 11 t = owns (c : Thread nD τ) (ms0_11 m hO t) fullShare ((dats m hO 0 c).after 11 t) from by
    unfold Dat.leavesExact; rw [liveAt0_11 m hO t]; try rfl, after0_11]
  rw [Dat.leavesExact_idle (dats m hO 0 c) 12 t (idleAt0_12_F m hO t c0 c1 c2) (noFlush0_12_F m hO t c0 c1 c2)]
  unfold ACTt TAt TGt
  rw [eA, eG, eW', eHA, eHG]
  rw [PhiS_castSucc m hO c t]
  rw [PhiS_pos m hO c _ _ (by omega) (prev m t).isLt, PhiT0_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_F c (grid0.coords t) _ _ _ _ _ _ _ _ _ _ _ _ _ _ _ _ _ _ _ _ _ _ _ _ _ _ _ _ _ _ _ _ c0 c1 c2 (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (WBt m hO c (prev m t))).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [HS0]; · iexact HS0
  isplitl [HS1]; · iexists _; iexact HS1
  isplitl [HS2]; · iexists _; iexact HS2
  isplitl [HT0]; · iexact HT0
  iintro ⟨H0, H1, H2, H3, H4, H5, H6, H7, H8, ⟨%e9, H9⟩, ⟨%e10, H10⟩, ⟨%e11, H11⟩, H12, HS0, ⟨%es1, HS1⟩, ⟨%es2, HS2⟩, HT0⟩
  isplitl [HS0 HS1 HS2 Hg HT0]
  · isplitl [HS0 HS1 HS2 Hg]
    · isplitl [HS0 HS1 HS2]
      · isplitl [HS0]
        · iexact HS0
        isplitl [HS1]
        · unfold owns; iexists _; isplitr
          swap; · iexact HS1
          ipureintro; exact valF_s1 _ _ _ _ _ _ _ _ _ _ _ _ _ _ _ _ _ _ _ _ _ _ _ _ _ _ _ _ _ _ _ _ _ _ _ _ _ _ _ _ _ _ _ _ _ _ _ _ _
        · unfold owns; iexists _; isplitr
          swap; · iexact HS2
          ipureintro; exact valF_s2 _ _ _ _ _ _ _ _ _ _ _ _ _ _ _ _ _ _ _ _ _ _ _ _ _ _ _ _ _ _ _ _ _ _ _ _ _ _ _ _ _ _ _ _ _ _ _ _ _
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact valF_9 _ _ _ _ _ _ _ _ _ _ _ _ _ _ _ _ _ _ _ _ _ _ _ _ _ _ _ _ _ _ _ _ _ _ _ _ _ _ _ _ _ _ _ _ _ _ _ _ _
  isplitl [H10]
  · unfold owns; iexists _; isplitr
    swap; · iexact H10
    ipureintro; exact valF_10 _ _ _ _ _ _ _ _ _ _ _ _ _ _ _ _ _ _ _ _ _ _ _ _ _ _ _ _ _ _ _ _ _ _ _ _ _ _ _ _ _ _ _ _ _ _ _ _ _
  isplitl [H11]
  · unfold owns; iexists _; isplitr
    swap; · iexact H11
    ipureintro; exact valF_11 _ _ _ _ _ _ _ _ _ _ _ _ _ _ _ _ _ _ _ _ _ _ _ _ _ _ _ _ _ _ _ _ _ _ _ _ _ _ _ _ _ _ _ _ _ _ _ _ _
  iexists _; iexact H12

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases h2 : t.val < 256
  · by_cases h0 : t.val % 8 = 0
    · exact body_A m hO c t h0 h2
    · by_cases h1 : t.val % 2 = 0
      · exact body_C m hO c t h0 h1 h2
      · exact body_B m hO c t h1 h2
  · by_cases h0 : t.val % 8 = 0
    · exact body_D m hO c t h0 h2
    · by_cases h1 : t.val % 2 = 0
      · exact body_F m hO c t h0 h1 h2
      · exact body_E m hO c t h1 h2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht (by have := t.isLt; omega), PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 344 := N_0; omega)

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.UpIdeal.Gen

end
-- ==== Proof.Up.Pages.lean ====
/- The page table as the up projection's call reads it: a point's two pages exist, so the call's blocks lie inside the cache. -/
module

public import proofs.«01_k».proof.Proof.Up.Runs
public import proofs.«01_k».proof.Pre_pages_exist
public import Idealize.ShloMosaic.Lib.Pipeline.ValueKit
public import Idealize.ShloMosaic.Lib.Pipeline.ReadBack
public import Idealize.ShloMosaic.Lib.Pointwise
public import Idealize.ShloMosaic.Lib.Pipeline.Covers
public import Idealize.ShloMosaic.Lib.ReduceAll

@[expose] public section

set_option maxRecDepth 16384

noncomputable section

namespace Cert.Pre_pages_exist.Hand

open Idealize.ShloMosaic

/-- What the precondition's own operations ask of their shapes. -/
instance facts : Cert.Pre_pages_exist.Facts where
  bcast_S_S8x128 := by decide
  reducesTo_S8x128_S_d0_1 := by decide
  h_S_ := by decide

end Cert.Pre_pages_exist.Hand

namespace Cert.UpIdeal.Gen

open Idealize.ShloMosaic Idealize.ShloMosaic.TcCoe Idealize.SL.Sem

variable {F : FTy → Type} [FloatOps F]
variable (m : (ℓ : Loc nD τ sig) → Buf (Elt F) ℓ) (c : Dev nD)

/-- The page table. -/
abbrev PT : Vec F S8x128 .i32 := m ((c : Thread nD τ).loc main_arg5)

/-- The page that entry `n` of the table, read row by row, names. -/
abbrev page (n : ℕ) (h : n < 1024) : ℕ := BitVec.toNat (PT m c (ix2 ⟨n / 128, by omega⟩ ⟨n % 128, by omega⟩))

theorem tbl_at (n : ℕ) (h : n < 1024) : (tbl m 0 : Vec F S1024 .i32) (ix1 ⟨n, h⟩) = PT m c (ix2 ⟨n / 128, by omega⟩ ⟨n % 128, by omega⟩) := by
  have hc : c = 0 := Subsingleton.elim _ _
  subst hc
  unfold tbl
  show (V m 0 main_v3 : Vec F S1024 .i32) (ix1 ⟨n, h⟩) = _
  entry_read
  pointwise

/-- The offset at which a point reads the table for its page `r`. -/
theorem off_at : ∀ (t : Fin grid0.N) (r : Fin 2), k0_off1 (grid0.coords t) (BitVec.ofNat 32 r.val) = ![512 + 2 * min t.val 255 + r.val] := by
  decide +kernel

/-- The table's word a point reads for its page `r`. -/
theorem word_at (t : Fin grid0.N) (r : Fin 2) (h1 : S1.numel = 1) :
    (tbl m).at 0 (Rect.unit (s := S1024) (k0_off1 (grid0.coords t) (BitVec.ofNat 32 r.val)) S1.size (k0_off1_inb (grid0.coords t) r)) h1
      = PT m c (ix2 ⟨(512 + 2 * min t.val 255 + r) / 128, by omega⟩ ⟨(512 + 2 * min t.val 255 + r) % 128, by omega⟩) := by
  have h := congrFun (off_at t r) 0
  have e : ((Rect.unit (s := S1024) (k0_off1 (grid0.coords t) (BitVec.ofNat 32 r.val)) S1.size (k0_off1_inb (grid0.coords t) r)).emb
      (Shape.Idx.first (h1.symm ▸ Nat.one_pos)) : S1024.Idx) = ix1 ⟨512 + 2 * min t.val 255 + r, by omega⟩ := by
    funext a
    obtain rfl : a = 0 := Subsingleton.elim _ _
    refine Fin.ext ?_
    show k0_off1 (grid0.coords t) (BitVec.ofNat 32 r.val) 0 + _ = _
    rw [h]
    rfl
  exact (congrArg (tbl m 0) e).trans (tbl_at m c _ _)

theorem idx7 (t : Fin grid0.N) : cc0_transform_7 k0_off1_inb numel1_S1 (tbl m) (grid0.coords t)
    = ![page m c (512 + 2 * min t.val 255) (by omega), 0, 0, 0] := by
  have h := congrArg BitVec.toNat (word_at m c t 0 numel1_S1)
  funext a
  match a with
  | 0 => exact h
  | 1 => rfl
  | 2 => rfl
  | 3 => rfl

theorem idx8 (t : Fin grid0.N) : cc0_transform_8 k0_off1_inb numel1_S1 (tbl m) (grid0.coords t)
    = ![page m c (512 + 2 * min t.val 255 + 1) (by omega), 0, 0, 0] := by
  have h := congrArg BitVec.toNat (word_at m c t 1 numel1_S1)
  funext a
  match a with
  | 0 => exact h
  | 1 => rfl
  | 2 => rfl
  | 3 => rfl

/-- A word that the precondition's two comparisons admit is a page's number. -/
theorem lt_of_word (x : BitVec 32) (h : IntOp.andi (IntOp.cmpi .sge x 0#32) (IntOp.cmpi .slt x 1280#32) = 1#1) : x.toNat < 1280 := by
  obtain ⟨h1, h2⟩ := IntOp.andi_eq_one.1 h
  have h1 := IntOp.cmpi_sge.1 h1
  have h2 := IntOp.cmpi_slt.1 h2
  have e1 : (0#32).toInt = 0 := by decide
  have e2 : (1280#32).toInt = 1280 := by decide
  rw [e1, BitVec.toInt_eq_toNat_cond] at h1
  rw [e2, BitVec.toInt_eq_toNat_cond] at h2
  split at h1 <;> split at h2 <;> omega

section

open Cert.Pre_pages_exist

instance : Subsingleton Cert.Pre_pages_exist.S_.Idx := ⟨fun a b => funext fun k => k.elim0⟩

theorem pages_of_pre (x0 : FVec F Cert.Pre_pages_exist.S4x2048x4096 .f32) (x1 : FVec F Cert.Pre_pages_exist.S2x4096x22016 .f32) (x2 : FVec F Cert.Pre_pages_exist.S2x3x22016 .f32)
    (x3 : FVec F Cert.Pre_pages_exist.S2x22016 .f32) (x4 : FVec F Cert.Pre_pages_exist.S1280x128x32x128 .f32) (x5 : IVec Cert.Pre_pages_exist.S8x128 32)
    (h : Cert.Pre_pages_exist.fn (F := F) x0 x1 x2 x3 x4 x5 = fun _ => 1#1) (i) : (x5 i).toNat < 1280 := by
  have h' := congrFun h (Shape.Idx.first Cert.Pre_pages_exist.Facts.h_S_)
  dsimp only [Cert.Pre_pages_exist.fn] at h'
  exact lt_of_word _ (Host.reduce_andi_all _ _ _ _ _ h' i)

end

/-- Where every entry of the table names a page of the cache, every point's blocks lie inside it. -/
theorem ok_of_pages (h : ∀ i, BitVec.toNat (PT m c i) < 1280) : Ok m := by
  have hw : ∀ (n : Fin 4 → ℕ) (hn), EltTy.bits .f32 = 32 ∨ (Rect.block (s := S1280x128x32x128) S1x128x32x128.size n hn).WholeWords (EltTy.packing .f32) := fun _ _ => Or.inl rfl
  have hb : ∀ p : ℕ, p < 1280 → ∀ a, ((![p, 0, 0, 0] : Fin 4 → ℕ) a + 1) * S1x128x32x128.size a ≤ S1280x128x32x128.size a := by
    intro p hp a
    match a with
    | 0 => show (p + 1) * 1 ≤ 1280; omega
    | 1 => show (0 + 1) * 128 ≤ 128; omega
    | 2 => show (0 + 1) * 32 ≤ 32; omega
    | 3 => show (0 + 1) * 128 ≤ 128; omega
  constructor
  · intro i
    obtain ⟨t, rfl⟩ := grid0.coords_surjective i
    refine ⟨?_, hw _ _⟩
    rw [idx7 m c t]
    exact hb _ (h _)
  · intro i
    obtain ⟨t, rfl⟩ := grid0.coords_surjective i
    refine ⟨?_, hw _ _⟩
    rw [idx8 m c t]
    exact hb _ (h _)

end Cert.UpIdeal.Gen

end
-- ==== Proof.Up.Result.lean ====
/- The four arrays the call returns, as functions of its arguments. -/
module

public import proofs.«01_k».proof.Proof.Up.Tile
public import proofs.«01_k».proof.Proof.Up.Frame
public import proofs.«01_k».proof.Proof.Up.Pages

@[expose] public section

set_option maxRecDepth 16384

noncomputable section

namespace Cert.UpIdeal.Result

open Idealize.ShloMosaic Idealize.ShloMosaic.TcCoe Idealize.SL.Sem
open Cert.UpIdeal Cert.UpIdeal.Gen

section

variable (a : Vec Ideal S4x2048x4096 .f32) (w : Vec Ideal S2x4096x22016 .f32) (cw : Vec Ideal S2x3x22016 .f32) (cb : Vec Ideal S2x22016 .f32)

/-- The up projection of sequence `s` under two rows of zeros: row `n` is token `n - 2`, column `j` of layer 1's matrix. -/
def PU (s : Fin 4) (n : ℕ) (j : Fin 22016) : EReal :=
  if h : 2 ≤ n ∧ n < 2050 then ∑ k : Fin 4096, a (ix3 s ⟨n - 2, by omega⟩ k) * w (ix3 1 k j) else 0

/-- Token `n`'s convolution at column `j`. -/
def Y (s : Fin 4) (n : ℕ) (j : Fin 22016) : EReal :=
  conv (cb (ix2 1 j)) (cw (ix3 1 0 j)) (cw (ix3 1 1 j)) (cw (ix3 1 2 j)) (PU a w s n j) (PU a w s (n + 1) j) (PU a w s (n + 2) j)

/-- The gated activation. -/
def OUT : Vec Ideal S8192x11008 .bf16 := fun y =>
  silu (Y a w cw cb ⟨y 0 / 2048, by have : (y 0).val < 8192 := (y 0).isLt; omega⟩ (y 0 % 2048) ⟨y 1, by have : (y 1).val < 11008 := (y 1).isLt; omega⟩)
    * Y a w cw cb ⟨y 0 / 2048, by have : (y 0).val < 8192 := (y 0).isLt; omega⟩ (y 0 % 2048) ⟨11008 + y 1, by have : (y 1).val < 11008 := (y 1).isLt; omega⟩

/-- The last two rows of each sequence, in the half of the columns from `o`. -/
def TAIL (o : ℕ) (ho : o ≤ 11008) : Vec Ideal S4x2x11008 .f32 := fun y =>
  PU a w (y 0) (2048 + y 1) ⟨o + y 2, by have : (y 2).val < 11008 := (y 2).isLt; omega⟩

end

/-- The page that entry `n` of the table names. -/
def pg (pt : Vec Ideal S8x128 .i32) (n : ℕ) (h : n < 1024) : Fin 1280 := if g : BitVec.toNat (pt (ix2 ⟨n / 128, by omega⟩ ⟨n % 128, by omega⟩)) < 1280 then ⟨_, g⟩ else 0

/-- The averages of the blocks of two pages that layer 1's half of the table names. -/
def MEAN (ca : Vec Ideal S1280x128x32x128 .f32) (pt : Vec Ideal S8x128 .i32) : Vec Ideal S256x32x128 .f32 := fun y =>
  ((∑ k : Fin 128, ca (ix4 (pg pt (512 + 2 * y 0) (by have : (y 0).val < 256 := (y 0).isLt; omega)) k (y 1) (y 2)))
    + ∑ k : Fin 128, ca (ix4 (pg pt (512 + 2 * y 0 + 1) (by have : (y 0).val < 256 := (y 0).isLt; omega)) k (y 1) (y 2))) * ((1 / 256 : ℝ) : EReal)

variable (m : (ℓ : Loc nD τ sig) → Buf (Elt Ideal) ℓ) (hO : Ok m) (c : Dev nD)

abbrev A0 : Vec Ideal S4x2048x4096 .f32 := m ((c : Thread nD τ).loc main_arg0)
abbrev A1 : Vec Ideal S2x4096x22016 .f32 := m ((c : Thread nD τ).loc main_arg1)
abbrev A2 : Vec Ideal S2x3x22016 .f32 := m ((c : Thread nD τ).loc main_arg2)
abbrev A3 : Vec Ideal S2x22016 .f32 := m ((c : Thread nD τ).loc main_arg3)
abbrev A4 : Vec Ideal S1280x128x32x128 .f32 := m ((c : Thread nD τ).loc main_arg4)
abbrev A5 : Vec Ideal S8x128 .i32 := m ((c : Thread nD τ).loc main_arg5)

variable (t : Fin (cfgM m hO).N)

abbrev B0 : Vec Ideal S1024x4096 .bf16 := iblk m hO c 0 t
abbrev B1 : Vec Ideal S1x4096x256 .f32 := iblk m hO c 1 t
abbrev B2 : Vec Ideal S1x4096x256 .f32 := iblk m hO c 2 t
abbrev B3 : Vec Ideal S1x3x256 .f32 := iblk m hO c 3 t
abbrev B4 : Vec Ideal S1x3x256 .f32 := iblk m hO c 4 t
abbrev B5 : Vec Ideal S1x1x256 .f32 := iblk m hO c 5 t
abbrev B6 : Vec Ideal S1x1x256 .f32 := iblk m hO c 6 t
abbrev B7 : Vec Ideal S1x128x32x128 .f32 := iblk m hO c 7 t
abbrev B8 : Vec Ideal S1x128x32x128 .f32 := iblk m hO c 8 t

theorem blk0 (r : Fin 1024) (k : Fin 4096) : B0 m hO c t (ix2 r k)
    = A0 m c (ix3 ⟨(1024 * (t.val % 8) + r) / 2048, by omega⟩ ⟨(1024 * (t.val % 8) + r) % 2048, by omega⟩ k) := by
  have h : ((cfgM m hO).win 0).index t = ![t.val % 8, 0] := (idx_tab t).1
  have e : ((((cfgM m hO).win 0).blk t).view.emb (ix2 r k) : S8192x4096.Idx) = ix2 ⟨1024 * (t.val % 8) + r, by omega⟩ k := by blk_ext [h]
  show (V m c main_v1 : Vec Ideal S8192x4096 .bf16) ((((cfgM m hO).win 0).blk t).view.emb (ix2 r k)) = _
  rw [e]
  entry_read
  pointwise

theorem blk1 (k : Fin 4096) (q : Fin 256) : B1 m hO c t (ix3 0 k q) = A1 m c (ix3 1 k ⟨256 * (t.val / 8) + q, by have := n_lt m t; omega⟩) := by
  have h := idx1 m t
  have e : ((((cfgM m hO).win 1).blk t).view.emb (ix3 0 k q) : S2x4096x22016.Idx) = ix3 1 k ⟨256 * (t.val / 8) + q, by have := n_lt m t; omega⟩ := by blk_ext [h]
  show (V m c main_arg1 : Vec Ideal S2x4096x22016 .f32) ((((cfgM m hO).win 1).blk t).view.emb (ix3 0 k q)) = _
  rw [e, V_main_arg1]

theorem blk2 (k : Fin 4096) (q : Fin 256) : B2 m hO c t (ix3 0 k q) = A1 m c (ix3 1 k ⟨11008 + (256 * (t.val / 8) + q), by have := n_lt m t; omega⟩) := by
  have h := idx2 m t
  have e : ((((cfgM m hO).win 2).blk t).view.emb (ix3 0 k q) : S2x4096x22016.Idx) = ix3 1 k ⟨11008 + (256 * (t.val / 8) + q), by have := n_lt m t; omega⟩ := by blk_ext [h]
  show (V m c main_arg1 : Vec Ideal S2x4096x22016 .f32) ((((cfgM m hO).win 2).blk t).view.emb (ix3 0 k q)) = _
  rw [e, V_main_arg1]

theorem blk3 (i : Fin 3) (q : Fin 256) : B3 m hO c t (ix3 0 i q) = A2 m c (ix3 1 i ⟨256 * (t.val / 8) + q, by have := n_lt m t; omega⟩) := by
  have h : ((cfgM m hO).win 3).index t = ![1, 0, t.val / 8] := (idx_tab t).2.2.2.1
  have e : ((((cfgM m hO).win 3).blk t).view.emb (ix3 0 i q) : S2x3x22016.Idx) = ix3 1 i ⟨256 * (t.val / 8) + q, by have := n_lt m t; omega⟩ := by blk_ext [h]
  show (V m c main_arg2 : Vec Ideal S2x3x22016 .f32) ((((cfgM m hO).win 3).blk t).view.emb (ix3 0 i q)) = _
  rw [e, V_main_arg2]

theorem blk4 (i : Fin 3) (q : Fin 256) : B4 m hO c t (ix3 0 i q) = A2 m c (ix3 1 i ⟨11008 + (256 * (t.val / 8) + q), by have := n_lt m t; omega⟩) := by
  have h : ((cfgM m hO).win 4).index t = ![1, 0, 43 + t.val / 8] := (idx_tab t).2.2.2.2.1
  have e : ((((cfgM m hO).win 4).blk t).view.emb (ix3 0 i q) : S2x3x22016.Idx) = ix3 1 i ⟨11008 + (256 * (t.val / 8) + q), by have := n_lt m t; omega⟩ := by blk_ext [h]
  show (V m c main_arg2 : Vec Ideal S2x3x22016 .f32) ((((cfgM m hO).win 4).blk t).view.emb (ix3 0 i q)) = _
  rw [e, V_main_arg2]

theorem blk5 (q : Fin 256) : B5 m hO c t (ix3 0 0 q) = A3 m c (ix2 1 ⟨256 * (t.val / 8) + q, by have := n_lt m t; omega⟩) := by
  have h : ((cfgM m hO).win 5).index t = ![1, 0, t.val / 8] := (idx_tab t).2.2.2.2.2.1
  have e : ((((cfgM m hO).win 5).blk t).view.emb (ix3 0 0 q) : S2x1x22016.Idx) = ix3 1 0 ⟨256 * (t.val / 8) + q, by have := n_lt m t; omega⟩ := by blk_ext [h]
  show (V m c main_v2 : Vec Ideal S2x1x22016 .f32) ((((cfgM m hO).win 5).blk t).view.emb (ix3 0 0 q)) = _
  rw [e]
  entry_read
  pointwise

theorem blk6 (q : Fin 256) : B6 m hO c t (ix3 0 0 q) = A3 m c (ix2 1 ⟨11008 + (256 * (t.val / 8) + q), by have := n_lt m t; omega⟩) := by
  have h : ((cfgM m hO).win 6).index t = ![1, 0, 43 + t.val / 8] := (idx_tab t).2.2.2.2.2.2.1
  have e : ((((cfgM m hO).win 6).blk t).view.emb (ix3 0 0 q) : S2x1x22016.Idx) = ix3 1 0 ⟨11008 + (256 * (t.val / 8) + q), by have := n_lt m t; omega⟩ := by blk_ext [h]
  show (V m c main_v2 : Vec Ideal S2x1x22016 .f32) ((((cfgM m hO).win 6).blk t).view.emb (ix3 0 0 q)) = _
  rw [e]
  entry_read
  pointwise

section

variable (hp : ∀ i, BitVec.toNat (A5 m c i) < 1280)

include hp

theorem pg_eq (n : ℕ) (h : n < 1024) : pg (A5 m c) n h = ⟨page m c n h, hp _⟩ := dif_pos (hp _)

theorem blk7 (k : Fin 128) (h : Fin 32) (d : Fin 128) : B7 m hO c t (ix4 0 k h d) = A4 m c (ix4 (pg (A5 m c) (512 + 2 * min t.val 255) (by omega)) k h d) := by
  have hi : ((cfgM m hO).win 7).index t = ![page m c (512 + 2 * min t.val 255) (by omega), 0, 0, 0] := idx7 m c t
  rw [pg_eq m c hp]
  have e : ((((cfgM m hO).win 7).blk t).view.emb (ix4 0 k h d) : S1280x128x32x128.Idx) = ix4 ⟨page m c (512 + 2 * min t.val 255) (by omega), hp _⟩ k h d := by blk_ext [hi]
  show (V m c main_arg4 : Vec Ideal S1280x128x32x128 .f32) ((((cfgM m hO).win 7).blk t).view.emb (ix4 0 k h d)) = _
  rw [e, V_main_arg4]

theorem blk8 (k : Fin 128) (h : Fin 32) (d : Fin 128) : B8 m hO c t (ix4 0 k h d) = A4 m c (ix4 (pg (A5 m c) (512 + 2 * min t.val 255 + 1) (by omega)) k h d) := by
  have hi : ((cfgM m hO).win 8).index t = ![page m c (512 + 2 * min t.val 255 + 1) (by omega), 0, 0, 0] := idx8 m c t
  rw [pg_eq m c hp]
  have e : ((((cfgM m hO).win 8).blk t).view.emb (ix4 0 k h d) : S1280x128x32x128.Idx) = ix4 ⟨page m c (512 + 2 * min t.val 255 + 1) (by omega), hp _⟩ k h d := by blk_ext [hi]
  show (V m c main_arg4 : Vec Ideal S1280x128x32x128 .f32) ((((cfgM m hO).win 8).blk t).view.emb (ix4 0 k h d)) = _
  rw [e, V_main_arg4]

end

/-- The padded rows of the two halves from the point's block on. -/
def LA (n : ℕ) (q : Fin 256) : EReal := PU (A0 m c) (A1 m c) ⟨t.val % 8 / 2, by omega⟩ (1024 * (t.val % 2) + n) ⟨256 * (t.val / 8) + q, by have := n_lt m t; omega⟩
def LG (n : ℕ) (q : Fin 256) : EReal := PU (A0 m c) (A1 m c) ⟨t.val % 8 / 2, by omega⟩ (1024 * (t.val % 2) + n) ⟨11008 + (256 * (t.val / 8) + q), by have := n_lt m t; omega⟩

theorem ua (r : Fin 1024) (q : Fin 256) : uu (B0 m hO c t) (WBt m hO c t) r ⟨q, by omega⟩ = LA m hO c t (r + 2) q := by
  unfold uu LA PU
  rw [dif_pos ⟨by omega, by omega⟩]
  refine Finset.sum_congr (M := EReal) rfl fun k _ => congrArg₂ (fun x y : EReal => x * y) ?_ ?_
  · rw [blk0]
    exact congrArg₂ (fun x y => A0 m c (ix3 x y k)) (Fin.ext (by simp only; omega)) (Fin.ext (by simp only; omega))
  · exact (WB_lo _ _ k q).trans (blk1 m hO c t k q)

theorem ug (r : Fin 1024) (q : Fin 256) : uu (B0 m hO c t) (WBt m hO c t) r ⟨256 + q, by omega⟩ = LG m hO c t (r + 2) q := by
  unfold uu LG PU
  rw [dif_pos ⟨by omega, by omega⟩]
  refine Finset.sum_congr (M := EReal) rfl fun k _ => congrArg₂ (fun x y : EReal => x * y) ?_ ?_
  · rw [blk0]
    exact congrArg₂ (fun x y => A0 m c (ix3 x y k)) (Fin.ext (by simp only; omega)) (Fin.ext (by simp only; omega))
  · exact (WB_hi _ _ k q).trans (blk2 m hO c t k q)

/-- The two rows before the block: zeros at a sequence's start, else the previous block's last. -/
theorem hA_at (i : Fin 2) (q : Fin 256) : hA m hO c t (ix2 ⟨6 + i, by omega⟩ q) = LA m hO c t i q := by
  unfold hA
  by_cases h0 : t.val % 2 = 0
  · rw [if_pos h0]
    unfold LA PU
    rw [dif_neg (by omega)]
    unfold k0_pay5
    pointwise
  · rw [if_neg h0]
    refine (HA_at _ _ _ q).trans ((ua m hO c (prev m t) _ q).trans ?_)
    unfold LA
    congr 1 <;> first | exact Fin.ext (by simp only; omega) | (simp only; omega)

theorem hG_at (i : Fin 2) (q : Fin 256) : hG m hO c t (ix2 ⟨6 + i, by omega⟩ q) = LG m hO c t i q := by
  unfold hG
  by_cases h0 : t.val % 2 = 0
  · rw [if_pos h0]
    unfold LG PU
    rw [dif_neg (by omega)]
    unfold k0_pay6
    pointwise
  · rw [if_neg h0]
    refine (HG_at _ _ _ q).trans ((ug m hO c (prev m t) _ q).trans ?_)
    unfold LG
    congr 1 <;> first | exact Fin.ext (by simp only; omega) | (simp only; omega)

/-- The activation's block at a point. -/
theorem act_t (r : Fin 1024) (q : Fin 256) : ACTt m hO c t (ix2 r q)
    = OUT (A0 m c) (A1 m c) (A2 m c) (A3 m c) (ix2 ⟨1024 * (t.val % 8) + r, by omega⟩ ⟨256 * (t.val / 8) + q, by have := n_lt m t; omega⟩) := by
  refine (act_at (WBt m hO c t) (B0 m hO c t) (LA m hO c t) (LG m hO c t) _ _ (B3 m hO c t) (B4 m hO c t) (B5 m hO c t) (B6 m hO c t)
    (hA_at m hO c t 0) (hA_at m hO c t 1) (hG_at m hO c t 0) (hG_at m hO c t 1) (ua m hO c t) (ug m hO c t) r q).trans ?_
  unfold mix
  rw [blk5, blk6, blk3, blk3, blk3, blk4, blk4, blk4]
  have es : (⟨(1024 * (t.val % 8) + r.val) / 2048, by omega⟩ : Fin 4) = ⟨t.val % 8 / 2, by omega⟩ := Fin.ext (by simp only; omega)
  have en : (1024 * (t.val % 8) + r.val) % 2048 = 1024 * (t.val % 2) + r.val := by omega
  unfold OUT
  show _ = silu (Y _ _ _ _ ⟨(1024 * (t.val % 8) + r.val) / 2048, _⟩ ((1024 * (t.val % 8) + r.val) % 2048) _) * Y _ _ _ _ ⟨(1024 * (t.val % 8) + r.val) / 2048, _⟩ ((1024 * (t.val % 8) + r.val) % 2048) _
  rw [es, en]
  rfl

theorem covers9 : ((cfgM m hO).win 9).Covers := of_decide_eq_true (by sl_kernel_rfl)
theorem covers10 : ((cfgM m hO).win 10).Covers := of_decide_eq_true (by sl_kernel_rfl)
theorem covers11 : ((cfgM m hO).win 11).Covers := of_decide_eq_true (by sl_kernel_rfl)
theorem covers12 : ((cfgM m hO).win 12).Covers := of_decide_eq_true (by sl_kernel_rfl)

/-- The four arrays after the run. -/
theorem result9 : (dats m hO 0 c).arrAt 9 (cfgM m hO).N = OUT (A0 m c) (A1 m c) (A2 m c) (A3 m c) := by
  refine (dats m hO 0 c).arrAt_eq_of_covers 9 _ (covers9 m hO) fun t hf (y : S1024x256.Idx) => ?_
  have h : ((cfgM m hO).win 9).index t = ![t.val % 8, t.val / 8] := (idx_tab t).2.2.2.2.2.2.2.1
  have ht := n_lt m t
  blk_simp
  rw [after0_9]
  idx_vars y
  have he : ((((cfgM m hO).win 9).blk t).view.emb (ix2 y0 y1) : S8192x11008.Idx) = ix2 ⟨1024 * (t.val % 8) + y0, by omega⟩ ⟨256 * (t.val / 8) + y1, by omega⟩ := by
    blk_ext [h]
  rw [he]
  exact act_t m hO c t y0 y1

theorem flush0_10 : ∀ t : Fin (cfgM m hO).N, ((cfgM m hO).win 10).flush t = decide (t.val % 2 = 1) :=
  (by decide +kernel : ∀ t : Fin grid0.N, Pipeline.Window.flushOf grid0 true cc0_transform_10 t = decide (t.val % 2 = 1))

theorem flush0_11 : ∀ t : Fin (cfgM m hO).N, ((cfgM m hO).win 11).flush t = decide (t.val % 2 = 1) :=
  (by decide +kernel : ∀ t : Fin grid0.N, Pipeline.Window.flushOf grid0 true cc0_transform_11 t = decide (t.val % 2 = 1))

theorem result10 : (dats m hO 0 c).arrAt 10 (cfgM m hO).N = TAIL (A0 m c) (A1 m c) 0 (by omega) := by
  refine (dats m hO 0 c).arrAt_eq_of_covers 10 _ (covers10 m hO) fun t hf (y : S1x2x256.Idx) => ?_
  have h : ((cfgM m hO).win 10).index t = ![t.val % 8 / 2, 0, t.val / 8] := (idx_tab t).2.2.2.2.2.2.2.2.1
  have ht := n_lt m t
  have h1 : t.val % 2 = 1 := of_decide_eq_true ((flush0_10 m hO t).symm.trans hf)
  blk_simp
  rw [after0_10]
  idx_vars y
  obtain rfl : y0 = 0 := Subsingleton.elim _ _
  have he : ((((cfgM m hO).win 10).blk t).view.emb (ix3 0 y1 y2) : S4x2x11008.Idx) = ix3 ⟨t.val % 8 / 2, by omega⟩ y1 ⟨256 * (t.val / 8) + y2, by omega⟩ := by
    blk_ext [h]
  rw [he]
  refine (TA_at (WBt m hO c t) (B0 m hO c t) y1 y2).trans ((ua m hO c t _ y2).trans ?_)
  unfold LA TAIL
  exact congrArg₂ (PU (A0 m c) (A1 m c) ⟨t.val % 8 / 2, by omega⟩) (by show 1024 * (t.val % 2) + (1022 + y1.val + 2) = 2048 + y1.val; omega) (Fin.ext (by show 256 * (t.val / 8) + y2.val = 0 + (256 * (t.val / 8) + y2.val); omega))

theorem result11 : (dats m hO 0 c).arrAt 11 (cfgM m hO).N = TAIL (A0 m c) (A1 m c) 11008 (by omega) := by
  refine (dats m hO 0 c).arrAt_eq_of_covers 11 _ (covers11 m hO) fun t hf (y : S1x2x256.Idx) => ?_
  have h : ((cfgM m hO).win 11).index t = ![t.val % 8 / 2, 0, t.val / 8] := (idx_tab t).2.2.2.2.2.2.2.2.2.1
  have ht := n_lt m t
  have h1 : t.val % 2 = 1 := of_decide_eq_true ((flush0_11 m hO t).symm.trans hf)
  blk_simp
  rw [after0_11]
  idx_vars y
  obtain rfl : y0 = 0 := Subsingleton.elim _ _
  have he : ((((cfgM m hO).win 11).blk t).view.emb (ix3 0 y1 y2) : S4x2x11008.Idx) = ix3 ⟨t.val % 8 / 2, by omega⟩ y1 ⟨256 * (t.val / 8) + y2, by omega⟩ := by
    blk_ext [h]
  rw [he]
  refine (TG_at (WBt m hO c t) (B0 m hO c t) y1 y2).trans ((ug m hO c t _ y2).trans ?_)
  unfold LG TAIL
  exact congrArg₂ (PU (A0 m c) (A1 m c) ⟨t.val % 8 / 2, by omega⟩) (by show 1024 * (t.val % 2) + (1022 + y1.val + 2) = 2048 + y1.val; omega) rfl

theorem result12 (hp : ∀ i, BitVec.toNat (A5 m c i) < 1280) : (dats m hO 0 c).arrAt 12 (cfgM m hO).N = MEAN (A4 m c) (A5 m c) := by
  refine (dats m hO 0 c).arrAt_eq_of_covers 12 _ (covers12 m hO) fun t hf (y : S1x32x128.Idx) => ?_
  have h : ((cfgM m hO).win 12).index t = ![min t.val 255, 0, 0] := (idx_tab t).2.2.2.2.2.2.2.2.2.2
  blk_simp
  rw [after0_12]
  idx_vars y
  obtain rfl : y0 = 0 := Subsingleton.elim _ _
  have he : ((((cfgM m hO).win 12).blk t).view.emb (ix3 0 y1 y2) : S256x32x128.Idx) = ix3 ⟨min t.val 255, by omega⟩ y1 y2 := by
    blk_ext [h]
  rw [he]
  have hm : min (min t.val 255) 255 = min t.val 255 := by omega
  have e7 : ∀ k, B7 m hO c (avg m t) (ix4 0 k y1 y2) = A4 m c (ix4 (pg (A5 m c) (512 + 2 * min t.val 255) (by omega)) k y1 y2) := fun k =>
    (blk7 m hO c (avg m t) hp k y1 y2).trans (by simp only [hm])
  have e8 : ∀ k, B8 m hO c (avg m t) (ix4 0 k y1 y2) = A4 m c (ix4 (pg (A5 m c) (512 + 2 * min t.val 255 + 1) (by omega)) k y1 y2) := fun k =>
    (blk8 m hO c (avg m t) hp k y1 y2).trans (by simp only [hm])
  refine (mean_at (B7 m hO c (avg m t)) (B8 m hO c (avg m t)) y1 y2).trans ?_
  rw [Finset.sum_congr (M := EReal) rfl fun k _ => e7 k, Finset.sum_congr (M := EReal) rfl fun k _ => e8 k]
  rfl

/-- The kernel's run: its four results, and its arguments unchanged. -/
theorem run (ρ : Dev nD → PrngReg) (hp : ∀ c i, BitVec.toNat (A5 m c i) < 1280) :
    θ_run (defs (F := Ideal)) (onTc (τ := τ) (main (F := Ideal))) ⟨m, fun _ => 0, ρ⟩ fun r => ∀ c : Dev nD,
      (r.2.mem ((c.tc : Thread nD τ).loc main_v4_0) = OUT (A0 m c) (A1 m c) (A2 m c) (A3 m c)
      ∧ r.2.mem ((c.tc : Thread nD τ).loc main_v4_1) = TAIL (A0 m c) (A1 m c) 0 (by omega)
      ∧ r.2.mem ((c.tc : Thread nD τ).loc main_v4_2) = TAIL (A0 m c) (A1 m c) 11008 (by omega)
      ∧ r.2.mem ((c.tc : Thread nD τ).loc main_v4_3) = MEAN (A4 m c) (A5 m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hO : Ok m := ok_of_pages m (0 : Dev nD) (hp 0)
  refine (θ_run defs _ _).mono (fun r h c => ⟨⟨?_, ?_, ?_, ?_⟩, h.2 c⟩) (θ_run_and (run_main m ρ hO) (unchanged m ρ hO))
  · exact ((h.1 c).1 9).trans (result9 m hO c)
  · exact ((h.1 c).1 10).trans (result10 m hO c)
  · exact ((h.1 c).1 11).trans (result11 m hO c)
  · exact ((h.1 c).1 12).trans (result12 m hO c (hp c))

end Cert.UpIdeal.Result

end
-- ==== Proof.Up.Ref.lean ====
/- The reference's four results are the same functions of the arguments. -/
module

public import proofs.«01_k».proof.Proof.Up.Result
public import proofs.«01_k».proof.Proof.Gen.UpReferenceIdeal.Run

@[expose] public section

set_option maxRecDepth 16384

noncomputable section

namespace Cert.UpReferenceIdeal.Result

open Idealize.ShloMosaic Idealize.ShloMosaic.TcCoe Idealize.SL.Sem
open Cert.UpReferenceIdeal Cert.UpReferenceIdeal.Gen
open Cert.UpIdeal.Result (PU Y OUT TAIL pg MEAN silu conv)

section

variable (a : FVec Ideal S4x2048x4096 .f32) (w : FVec Ideal S2x4096x22016 .f32) (cw : FVec Ideal S2x3x22016 .f32) (cb : FVec Ideal S2x22016 .f32)

/-- The projection under two rows of zeros, as the reference builds it. -/
def padded : FVec Ideal S4x2050x22016 .f32 :=
  concatenate S4x2050x22016 1 [⟨S4x2x22016, (broadcastInDim S4x2x22016 ![] bcast_S_S4x2x22016 (constant S_ .f32 0x00000000#32))⟩, ⟨S4x2048x22016, (Host.dotGeneral dot_S4x2048x4096_S4096x22016_S4x2048x22016_2_0_01_1_n_n none a (shapeCast _ (extractStridedSlice S1x4096x22016 ![1, 0, 0] w slices_S2x4096x22016_S1x4096x22016_1_0_0) shapeCasts_S1x4096x22016_S4096x22016))⟩] concatenates_S4x2x22016_S4x2048x22016_S4x2050x22016_d1

/-- The convolution of `P`, as the reference builds it. -/
def convolved (P : FVec Ideal S4x2050x22016 .f32) : FVec Ideal S4x2048x22016 .f32 :=
  addf (addf (addf (broadcastInDim S4x2048x22016 ![0, 1, 2] bcast_S1x1x22016_S4x2048x22016_0_1_2 (broadcastInDim S1x1x22016 ![2] bcast_S22016_S1x1x22016_2 (shapeCast _ (extractStridedSlice S1x22016 ![1, 0] cb slices_S2x22016_S1x22016_1_0) shapeCasts_S1x22016_S22016))) (mulf (broadcastInDim S4x2048x22016 ![0, 1, 2] bcast_S1x1x22016_S4x2048x22016_0_1_2 (broadcastInDim S1x1x22016 ![2] bcast_S22016_S1x1x22016_2 (shapeCast _ (extractStridedSlice S1x22016 ![0, 0] (shapeCast _ (extractStridedSlice S1x3x22016 ![1, 0, 0] cw slices_S2x3x22016_S1x3x22016_1_0_0) shapeCasts_S1x3x22016_S3x22016) slices_S3x22016_S1x22016_0_0) shapeCasts_S1x22016_S22016))) (extractStridedSlice S4x2048x22016 ![0, 0, 0] P slices_S4x2050x22016_S4x2048x22016_0_0_0))) (mulf (broadcastInDim S4x2048x22016 ![0, 1, 2] bcast_S1x1x22016_S4x2048x22016_0_1_2 (broadcastInDim S1x1x22016 ![2] bcast_S22016_S1x1x22016_2 (shapeCast _ (extractStridedSlice S1x22016 ![1, 0] (shapeCast _ (extractStridedSlice S1x3x22016 ![1, 0, 0] cw slices_S2x3x22016_S1x3x22016_1_0_0) shapeCasts_S1x3x22016_S3x22016) slices_S3x22016_S1x22016_1_0) shapeCasts_S1x22016_S22016))) (extractStridedSlice S4x2048x22016 ![0, 1, 0] P slices_S4x2050x22016_S4x2048x22016_0_1_0))) (mulf (broadcastInDim S4x2048x22016 ![0, 1, 2] bcast_S1x1x22016_S4x2048x22016_0_1_2 (broadcastInDim S1x1x22016 ![2] bcast_S22016_S1x1x22016_2 (shapeCast _ (extractStridedSlice S1x22016 ![2, 0] (shapeCast _ (extractStridedSlice S1x3x22016 ![1, 0, 0] cw slices_S2x3x22016_S1x3x22016_1_0_0) shapeCasts_S1x3x22016_S3x22016) slices_S3x22016_S1x22016_2_0) shapeCasts_S1x22016_S22016))) (extractStridedSlice S4x2048x22016 ![0, 2, 0] P slices_S4x2050x22016_S4x2048x22016_0_2_0))

/-- The gated activation of `C`, as the reference builds it. -/
def gated (C : FVec Ideal S4x2048x22016 .f32) : FVec Ideal S8192x11008 .bf16 :=
  truncf .bf16 (shapeCast _ (mulf (mulf (extractStridedSlice S4x2048x11008 ![0, 0, 0] C slices_S4x2048x22016_S4x2048x11008_0_0_0) (Host.divf (broadcastInDim S4x2048x11008 ![] bcast_S_S4x2048x11008 (constant S_ .f32 0x3F800000#32)) (addf (broadcastInDim S4x2048x11008 ![] bcast_S_S4x2048x11008 (constant S_ .f32 0x3F800000#32)) (Host.exp (Host.negf (extractStridedSlice S4x2048x11008 ![0, 0, 0] C slices_S4x2048x22016_S4x2048x11008_0_0_0)))))) (extractStridedSlice S4x2048x11008 ![0, 0, 11008] C slices_S4x2048x22016_S4x2048x11008_0_0_11008)) shapeCasts_S4x2048x11008_S8192x11008) bitsLt_bf16_f32

theorem padded_at (s : Fin 4) (n : Fin 2050) (j : Fin 22016) : padded a w (ix3 s n j) = PU a w s n j := by
  unfold padded PU
  pointwise
  by_cases h : n.val < 2
  · rw [dif_pos h, dif_neg (by omega)]
  · rw [dif_neg h, dif_pos (by omega)]

theorem convolved_at (P : FVec Ideal S4x2050x22016 .f32) (s : Fin 4) (n : Fin 2048) (j : Fin 22016) : convolved cw cb P (ix3 s n j)
    = conv (cb (ix2 1 j)) (cw (ix3 1 0 j)) (cw (ix3 1 1 j)) (cw (ix3 1 2 j)) (P (ix3 s ⟨n, by omega⟩ j)) (P (ix3 s ⟨n + 1, by omega⟩ j)) (P (ix3 s ⟨n + 2, by omega⟩ j)) := by
  unfold convolved conv
  pointwise
  simp only [Nat.add_comm 1 n.val, Nat.add_comm 2 n.val]

theorem gated_at (C : FVec Ideal S4x2048x22016 .f32) (i : Fin 8192) (j : Fin 11008) : gated C (ix2 i j)
    = silu (C (ix3 ⟨i / 2048, by omega⟩ ⟨i % 2048, by omega⟩ ⟨j, by omega⟩)) * C (ix3 ⟨i / 2048, by omega⟩ ⟨i % 2048, by omega⟩ ⟨11008 + j, by omega⟩) := by
  unfold gated silu
  pointwise
  rw [zero_sub]

end

section

variable (ca : FVec Ideal S1280x128x32x128 .f32) (pt : IVec S8x128 32)

/-- The row of pages each average reads, as the reference builds it. -/
def rows : IVec S256x2x1 32 := broadcastInDim S256x2x1 ![0, 1] bcast_S256x2_S256x2x1_0_1 (select (cmpi .slt (extractStridedSlice S256x2 ![256, 0] (shapeCast _ pt shapeCasts_S8x128_S512x2) slices_S512x2_S256x2_256_0) (broadcastInDim S256x2 ![] bcast_S_S256x2 (constantI S_ 32 0#32))) (addi (extractStridedSlice S256x2 ![256, 0] (shapeCast _ pt shapeCasts_S8x128_S512x2) slices_S512x2_S256x2_256_0) (broadcastInDim S256x2 ![] bcast_S_S256x2 (constantI S_ 32 1280#32))) (extractStridedSlice S256x2 ![256, 0] (shapeCast _ pt shapeCasts_S8x128_S512x2) slices_S512x2_S256x2_256_0))

theorem rows_at (hp : ∀ i, BitVec.toNat (pt i) < 1280) (p : Fin 256) (k : Fin 2) :
    rows pt (ix3 p k 0) = pt (ix2 ⟨(512 + 2 * p + k) / 128, by omega⟩ ⟨(512 + 2 * p + k) % 128, by omega⟩) := by
  have e : (ix2 ⟨(256 + p) / 64, by omega⟩ ⟨(256 + p) % 64 * 2 + k, by omega⟩ : S8x128.Idx) = ix2 ⟨(512 + 2 * p + k) / 128, by omega⟩ ⟨(512 + 2 * p + k) % 128, by omega⟩ :=
    congrArg₂ (fun x y => (ix2 x y : S8x128.Idx)) (Fin.ext (by show (256 + p.val) / 64 = (512 + 2 * p.val + k.val) / 128; omega)) (Fin.ext (by show (256 + p.val) % 64 * 2 + k.val = (512 + 2 * p.val + k.val) % 128; omega))
  unfold rows
  pointwise
  rw [e]
  refine if_neg fun g => ?_
  have h := IntOp.cmpi_slt.1 g
  have hq := hp (ix2 ⟨(512 + 2 * p + k) / 128, by omega⟩ ⟨(512 + 2 * p + k) % 128, by omega⟩)
  rw [BitVec.toInt_eq_toNat_cond, if_pos (by omega)] at h
  exact absurd h (by simp)

/-- A sum over axes 1 and 2 at an index. -/
theorem sum_at (v : S256x2x128x32x128.Idx → EReal) (init : EReal) (p : Fin 256) (h : Fin 32) (d : Fin 128) :
    Ideal.hostReduceAdd reducesTo_S256x2x128x32x128_S256x32x128_d1_2 v init (ix3 p h d) = init + ∑ k0 : Fin 2, ∑ k1 : Fin 128, v (ix5 p k0 k1 h d) := by
  refine congrArg (init + ·) ((Finset.sum_filter_eq_sum_of_fiber _ (fun k : Fin 2 × Fin 128 => (ix5 p k.1 k.2 h d : S256x2x128x32x128.Idx))
    (fun _ _ e => Prod.ext (congrFun e 1) (congrFun e 2)) (fun i => ?_) v).trans ?_)
  · constructor
    · intro e
      refine ⟨(i 1, i 2), ?_⟩
      funext b; apply Fin.ext
      match b with
      | ⟨0, _⟩ => exact (congrArg Fin.val (congrFun e 0)).symm
      | ⟨1, _⟩ => rfl
      | ⟨2, _⟩ => rfl
      | ⟨3, _⟩ => exact (congrArg Fin.val (congrFun e 1)).symm
      | ⟨4, _⟩ => exact (congrArg Fin.val (congrFun e 2)).symm
    · rintro ⟨k, rfl⟩
      funext b
      apply Fin.ext
      match b with
      | ⟨0, _⟩ => rfl
      | ⟨1, _⟩ => rfl
      | ⟨2, _⟩ => rfl
  · simp only [Fintype.sum_prod_type]

/-- The gathered pages at an index. -/
theorem gather_at (idx : IVec S256x2x1 32) (p : Fin 256) (k : Fin 2) (r : Fin 128) (h : Fin 32) (d : Fin 128) (hk : BitVec.toNat (idx (ix3 p k 0)) < 1280) :
    Host.gather gather_S1280x128x32x128_S256x2x1_S256x2x128x32x128_234_0_n_n_0_2_112832128 ca idx (ix5 p k r h d) = ca (ix4 ⟨BitVec.toNat (idx (ix3 p k 0)), hk⟩ r h d) := by
  unfold Host.gather
  congr 1
  have hsi : gather_S1280x128x32x128_S256x2x1_S256x2x128x32x128_234_0_n_n_0_2_112832128.siIdx (ix5 p k r h d) ⟨0, by decide⟩ = ix3 p k 0 := by
    funext b; refine Fin.ext ?_
    match b with
    | ⟨0, _⟩ => rfl
    | ⟨1, _⟩ => rfl
    | ⟨2, _⟩ => rfl
  funext b
  refine Fin.ext ?_
  match b with
  | ⟨0, _⟩ =>
    show min (idx (gather_S1280x128x32x128_S256x2x1_S256x2x128x32x128_234_0_n_n_0_2_112832128.siIdx (ix5 p k r h d) ⟨0, by decide⟩)).toInt.toNat (1280 - 1) + 0 + 0 = _
    rw [hsi, BitVec.toInt_eq_toNat_cond]
    show _ = BitVec.toNat (idx (ix3 p k 0))
    split <;> omega
  | ⟨1, _⟩ => exact Nat.zero_add _
  | ⟨2, _⟩ => exact Nat.zero_add _
  | ⟨3, _⟩ => exact Nat.zero_add _

theorem ofBits_256 : Ideal.ofBits .f32 0x43800000#32 = ((256 : ℝ) : EReal) := by
  simp [Ideal.ofBits, Ideal.ieee, -EReal.coe_mul]
  norm_num

theorem div_256 (x : EReal) : Ideal.div x ((256 : ℝ) : EReal) = x * ((1 / 256 : ℝ) : EReal) := by
  unfold Ideal.div
  rw [if_neg (by norm_num), ← EReal.coe_inv]
  norm_num

/-- The averages, as the reference builds them. -/
def averages : FVec Ideal S256x32x128 .f32 :=
  Host.divf (Host.reduceAdd (Host.gather gather_S1280x128x32x128_S256x2x1_S256x2x128x32x128_234_0_n_n_0_2_112832128 ca (rows pt)) (constant S_ .f32 0x00000000#32) reducesTo_S256x2x128x32x128_S256x32x128_d1_2 h_S_) (broadcastInDim S256x32x128 ![] bcast_S_S256x32x128 (constant S_ .f32 0x43800000#32))

theorem averages_eq (hp : ∀ i, BitVec.toNat (pt i) < 1280) : averages ca pt = MEAN ca pt := by
  funext y
  idx_vars y
  have hg : ∀ (k : Fin 2) (r : Fin 128), Host.gather gather_S1280x128x32x128_S256x2x1_S256x2x128x32x128_234_0_n_n_0_2_112832128 ca (rows pt) (ix5 y0 k r y1 y2)
      = ca (ix4 (pg pt (512 + 2 * y0 + k) (by omega)) r y1 y2) := fun k r => by
    have e := rows_at pt hp y0 k
    have hk := hp (ix2 ⟨(512 + 2 * y0 + k) / 128, by omega⟩ ⟨(512 + 2 * y0 + k) % 128, by omega⟩)
    rw [gather_at ca (rows pt) y0 k r y1 y2 (by rw [e]; exact hk)]
    unfold pg
    rw [dif_pos hk]
    exact congrArg (fun q => ca (ix4 q r y1 y2)) (Fin.ext (congrArg BitVec.toNat e))
  show Ideal.div (Ideal.hostReduceAdd reducesTo_S256x2x128x32x128_S256x32x128_d1_2 (Host.gather gather_S1280x128x32x128_S256x2x1_S256x2x128x32x128_234_0_n_n_0_2_112832128 ca (rows pt)) (Ideal.ofBits .f32 0x00000000#32) (ix3 y0 y1 y2)) (Ideal.ofBits .f32 0x43800000#32) = _
  rw [sum_at, ofBits_256, div_256, Fin.sum_univ_two, Finset.sum_congr (M := EReal) rfl fun r _ => hg 0 r, Finset.sum_congr (M := EReal) rfl fun r _ => hg 1 r]
  have h0 : Ideal.ofBits .f32 0x00000000#32 = 0 := by simp [Ideal.ofBits, Ideal.ieee]
  rw [h0, zero_add]
  rfl

end

section

variable (a : FVec Ideal S4x2048x4096 .f32) (w : FVec Ideal S2x4096x22016 .f32) (cw : FVec Ideal S2x3x22016 .f32) (cb : FVec Ideal S2x22016 .f32)

theorem gated_eq : gated (convolved cw cb (padded a w)) = OUT a w cw cb := by
  funext y
  idx_vars y
  refine (gated_at _ y0 y1).trans ?_
  rw [convolved_at, convolved_at]
  simp only [padded_at]
  rfl

theorem tail_lo : extractStridedSlice (α := Ideal .f32) S4x2x11008 ![0, 0, 0] (extractStridedSlice (α := Ideal .f32) S4x2x22016 ![0, 2048, 0] (padded a w) slices_S4x2050x22016_S4x2x22016_0_2048_0) slices_S4x2x22016_S4x2x11008_0_0_0 = TAIL a w 0 (by omega) := by
  funext y
  idx_vars y
  pointwise
  rw [padded_at]
  unfold TAIL
  exact congrArg (PU a w y0 (2048 + y1)) (Fin.ext (Nat.zero_add _).symm)

theorem tail_hi : extractStridedSlice (α := Ideal .f32) S4x2x11008 ![0, 0, 11008] (extractStridedSlice (α := Ideal .f32) S4x2x22016 ![0, 2048, 0] (padded a w) slices_S4x2050x22016_S4x2x22016_0_2048_0) slices_S4x2x22016_S4x2x11008_0_0_11008 = TAIL a w 11008 (by omega) := by
  funext y
  idx_vars y
  pointwise
  rw [padded_at]
  rfl

end

/-- The reference's run: its four results, and its arguments unchanged. -/
theorem run (m : (ℓ : Loc nD τ sig) → Buf (Elt Ideal) ℓ) (ρ : Dev nD → PrngReg)
    (hp : ∀ (c : Dev nD) i, BitVec.toNat ((m ((c.tc : Thread nD τ).loc main_arg5) : IVec S8x128 32) i) < 1280) :
    θ_run (defs (F := Ideal)) (onTc (τ := τ) (main (F := Ideal))) ⟨m, fun _ => 0, ρ⟩ fun r => ∀ c : Dev nD,
      r.2.mem ((c.tc : Thread nD τ).loc main_v41) = OUT (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v55) = TAIL (m ((c.tc : Thread nD τ).loc main_arg0)) (m ((c.tc : Thread nD τ).loc main_arg1)) 0 (by omega)
      ∧ r.2.mem ((c.tc : Thread nD τ).loc main_v56) = TAIL (m ((c.tc : Thread nD τ).loc main_arg0)) (m ((c.tc : Thread nD τ).loc main_arg1)) 11008 (by omega)
      ∧ r.2.mem ((c.tc : Thread nD τ).loc main_v54) = MEAN (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2.1.trans ?_, (h c).2.2.2.1.trans ?_, (h c).2.2.2.2⟩) (Cert.UpReferenceIdeal.Value.run (F := Ideal) m ρ)
  · unfold Value.res_main_v41
    exact gated_eq _ _ _ _
  · exact tail_lo _ _
  · exact tail_hi _ _
  · exact averages_eq _ _ (hp c)

end Cert.UpReferenceIdeal.Result

end
-- ==== Proof.Up.Same.lean ====
/- The call's kernel and its ideal reading have the same text, so their body tables are equal. -/
module

public import proofs.«01_k».proof.Defs
public import proofs.«01_k».proof.Proof.Gen.Up
public import proofs.«01_k».proof.Proof.Up.Frame
public import proofs.«01_k».proof.Proof.Up.Pages

@[expose] public section

set_option maxRecDepth 65536
set_option maxHeartbeats 2000000

noncomputable section

namespace Cert.Up.Same

open Idealize.ShloMosaic Idealize.ShloMosaic.TcCoe Idealize.SL.Sem

theorem body_eq : Cert.Up.cc0_up_conv_prompt (F := Bits) = Cert.UpIdeal.cc0_up_conv_prompt (F := Bits) := rfl

theorem defs₀_eq : Cert.Up.defs₀ (F := Bits) = Cert.UpIdeal.defs₀ (F := Bits) := by
  unfold Cert.Up.defs₀ Cert.UpIdeal.defs₀
  refine congrArg Defs.onTc (funext fun l => ?_)
  match l with
  | 0 =>
    funext x
    obtain ⟨t, s⟩ := x
    show Cert.Up.cc0_up_conv_prompt (F := Bits) _ _ _ _ _ _ _ _ _ _ _ _ _ _ _ _ _ _ _ _ _ _ _ _ _ _ _ _ _ _ _ _ _ _ _ = _
    rw [body_eq]
    rfl

theorem defs_eq : Cert.Up.defs (F := Bits) = Cert.UpIdeal.defs (F := Bits) :=
  congrArg (Pipeline.defs (Cert.UpIdeal.pcfgs (F := Bits))) defs₀_eq

/-- The kernel's frame, from the run written for its ideal reading over any floats. -/
theorem frame : Cert.quiescent_Up := fun m ρ h => by
  have hr := Cert.UpIdeal.Gen.frame (F := Bits) m ρ (Cert.UpIdeal.Gen.ok_of_pages (F := Bits) m 0 (Cert.UpIdeal.Gen.pages_of_pre _ _ _ _ _ _ (h 0)))
  rw [← defs_eq] at hr
  exact hr

end Cert.Up.Same

end
-- ==== Proof.Query.lean ====
/- The rotated query projection of the prompts: kernel and reference hold the same array. -/
module

public import proofs.«01_k».proof.Proof.Gen.QueryIdeal.Value
public import proofs.«01_k».proof.Proof.Gen.QueryReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.QueryIdeal.Result

open Cert.QueryIdeal Cert.QueryIdeal.Gen

/-- The angle token `s` turns frequency `f` by. -/
def ang (s f : ℕ) : EReal := FloatOps.sitofp (F := Ideal) .f32 (BitVec.ofNat 32 s)
  * Ideal.pow (Ideal.ofBits .f32 1176256512#32) (Ideal.div (-FloatOps.sitofp (F := Ideal) .f32 (BitVec.ofNat 32 f)) (Ideal.ofBits .f32 1115684864#32))

/-- Column `j` of row `r` before the rotation: token `r % 2048` of sequence `r / 2048` times the matrix's column. -/
def proj (a : Vec Ideal S4x2048x4096 .f32) (w : Vec Ideal S1x4096x4096 .f32) (r : Fin 8192) (j : ℕ) (hj : j < 4096) : EReal :=
  ∑ k : Fin 4096, a (ix3 ⟨r / 2048, by omega⟩ ⟨r % 2048, by omega⟩ k) * w (ix3 0 k ⟨j, by omega⟩)

/-- The rotated rows: in each head of 128 columns, column `f` of the first 64 and column `64 + f` turn by the token's angle. -/
def OUT (a : Vec Ideal S4x2048x4096 .f32) (w : Vec Ideal S1x4096x4096 .f32) : Vec Ideal S8192x4096 .f32 := fun y =>
  have hy : (y 1).val < 4096 := (y 1).isLt
  if h : (y 1).val % 128 < 64 then
    proj a w (y 0) (y 1) hy * Ideal.cos (ang ((y 0).val % 2048) ((y 1).val % 128))
      - proj a w (y 0) ((y 1).val / 128 * 128 + (64 + (y 1).val % 128)) (by omega) * Ideal.sin (ang ((y 0).val % 2048) ((y 1).val % 128))
  else
    proj a w (y 0) ((y 1).val / 128 * 128 + (64 + ((y 1).val % 128 - 64))) (by omega) * Ideal.cos (ang ((y 0).val % 2048) ((y 1).val % 128 - 64))
      + proj a w (y 0) ((y 1).val / 128 * 128 + ((y 1).val % 128 - 64)) (by omega) * Ideal.sin (ang ((y 0).val % 2048) ((y 1).val % 128 - 64))

variable (m : (ℓ : Loc nD τ sig) → Buf (Elt Ideal) ℓ) (c : Dev nD)

abbrev X0 : Vec Ideal S4x2048x4096 .f32 := m ((c : Thread nD τ).loc main_arg0)
abbrev X1 : Vec Ideal S1x4096x4096 .f32 := m ((c : Thread nD τ).loc main_arg1)

/-- Every window's block index at grid point `t`: row block `t % 8`, column block `t / 8`. -/
theorem idx : ∀ t : Fin cfg0.N, win0_0.index t = ![t.val % 8, 0] ∧ win0_1.index t = ![0, 0, t.val / 8]
    ∧ win0_2.index t = ![t.val % 2, 0] ∧ win0_3.index t = ![t.val % 2, 0] ∧ win0_4.index t = ![t.val % 8, t.val / 8] :=
  (by decide +kernel : ∀ t : Fin grid0.N, _)

section

variable (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S4096x512 .bf16) (harg7 : arg7.IsWhole)
  (x0 : Vec Ideal S1024x4096 .bf16) (x1 : Vec Ideal S1x4096x512 .f32) (x2 : Vec Ideal S1024x128 .f32) (x3 : Vec Ideal S1024x128 .f32) (xs : Vec Ideal S4096x512 .bf16)

/-- A block of rotated rows. -/
def turn : Vec Ideal S1024x512 .f32 := fun y =>
  have hy : (y 1).val < 512 := (y 1).isLt
  (∑ k : Fin 4096, x0 (ix2 (y 0) k) * xs (ix2 k (y 1))) * x2 (ix2 (y 0) ⟨(y 1).val % 128, by omega⟩)
    + (∑ k : Fin 4096, x0 (ix2 (y 0) k) * xs (ix2 k ⟨(y 1).val / 128 * 128 + ((y 1).val % 128 + 64) % 128, by omega⟩)) * x3 (ix2 (y 0) ⟨(y 1).val % 128, by omega⟩)

variable {c i arg2 harg2 arg3 harg3 arg4 harg4 arg5 harg5 arg6 harg6 arg7 harg7} in
theorem turn_at (i : Fin 1024) (d : Fin 128) (y0 : Fin 1024) (y1 j j' : Fin 512) (h0 : y0.val = i.val) (hj : j.val = y1.val)
    (hj' : j'.val = y1.val / 128 * 128 + (y1.val % 128 + 64) % 128) (hd : d.val = y1.val % 128) :
    (∑ k : Fin 4096, x0 (ix2 i k) * xs (ix2 k j)) * x2 (ix2 i d) + (∑ k : Fin 4096, x0 (ix2 i k) * xs (ix2 k j')) * x3 (ix2 i d)
      = turn x0 x2 x3 xs (ix2 y0 y1) := by
  obtain rfl : y0 = i := Fin.ext h0
  obtain rfl : j = y1 := Fin.ext hj
  have e1 : d = ⟨j.val % 128, by omega⟩ := Fin.ext hd
  have e2 : j' = ⟨j.val / 128 * 128 + (j.val % 128 + 64) % 128, by omega⟩ := Fin.ext hj'
  exact congrArg₂ (fun (d : Fin 128) (j' : Fin 512) => (∑ k : Fin 4096, x0 (ix2 y0 k) * xs (ix2 k j)) * x2 (ix2 y0 d)
    + (∑ k : Fin 4096, x0 (ix2 y0 k) * xs (ix2 k j')) * x3 (ix2 y0 d)) e1 e2

theorem turn_val (y0 : Fin 1024) (y1 : Fin 512) {P Q C D : EReal} (hp : ∑ k : Fin 4096, x0 (ix2 y0 k) * xs (ix2 k y1) = P)
    (hq : ∑ k : Fin 4096, x0 (ix2 y0 k) * xs (ix2 k ⟨y1.val / 128 * 128 + (y1.val % 128 + 64) % 128, by omega⟩) = Q)
    (h2 : x2 (ix2 y0 ⟨y1.val % 128, by omega⟩) = C) (h3 : x3 (ix2 y0 ⟨y1.val % 128, by omega⟩) = D) :
    turn x0 x2 x3 xs (ix2 y0 y1) = P * C + Q * D := by
  subst hp hq h2 h3
  rfl

theorem sout_A (hc0 : cond0_0 i) : sout0_A_0 c i arg2 harg2 arg3 harg3 arg4 harg4 arg5 harg5 arg6 harg6 arg7 harg7 hc0 x0 x1 x2 x3 = k0_pay2 x1 := by
  frame_open
  simp (disch := decide) only [↓ View.readCov_skip, ↓ View.readCov_cons_toLoadRect, ↓ View.readCov_fill]
  frame_out

theorem out_B (hc0 : ¬cond0_0 i) : out0_B_4 c i arg2 harg2 arg3 harg3 arg4 harg4 arg5 harg5 arg6 harg6 arg7 harg7 hc0 x0 x1 x2 x3 xs = turn x0 x2 x3 xs := by
  frame_open
  simp (disch := decide) only [↓ View.readCov_skip, ↓ View.readCov_cons_toLoadRect, ↓ View.readCov_fill]
  frame_out
  funext y
  canon_tiles x h
  all_goals
    idx_vars x
    idx_vars y
    pointwise [k0_pay1, k0_pay3, k0_pay4, k0_pay5, k0_pay6, k0_pay7, k0_pay8, k0_pay9, k0_pay10, k0_pay11]
    exact turn_at _ _ _ _ _ _ _ _ _ _ h0 (by simp only; omega) (by simp only; omega) (by omega)

theorem out_A (hc0 : cond0_0 i) : out0_A_4 c i arg2 harg2 arg3 harg3 arg4 harg4 arg5 harg5 arg6 harg6 arg7 harg7 hc0 x0 x1 x2 x3 = turn x0 x2 x3 (k0_pay2 x1) := by
  frame_open
  simp (disch := decide) only [↓ View.readCov_skip, ↓ View.readCov_cons_toLoadRect, ↓ View.readCov_fill]
  frame_out
  funext y
  canon_tiles x h
  all_goals
    idx_vars x
    idx_vars y
    pointwise [k0_pay1, k0_pay3, k0_pay4, k0_pay5, k0_pay6, k0_pay7, k0_pay8, k0_pay9, k0_pay10, k0_pay11]
    exact turn_at _ _ _ _ _ _ _ _ _ _ h0 (by simp only; omega) (by simp only; omega) (by omega)

end

section

variable (t : Fin cfg0.N)

theorem blk0 (i : Fin 1024) (k : Fin 4096) : (iblk m c 0 t : Vec Ideal S1024x4096 .bf16) (ix2 i k)
    = X0 m c (ix3 ⟨(1024 * (t.val % 8) + i) / 2048, by omega⟩ ⟨(1024 * (t.val % 8) + i) % 2048, by omega⟩ k) := by
  have h := (idx t).1
  blk_simp [iblk, h]
  entry_read
  pointwise
  blk_ext [h]

theorem cast1 (k : Fin 4096) (j : Fin 512) : k0_pay2 (iblk m c 1 t) (ix2 k j) = X1 m c (ix3 0 k ⟨512 * (t.val / 8) + j, by have : t.val < 64 := lt_of_lt_of_eq t.isLt N_0; omega⟩) := by
  have h := (idx t).2.1
  have ht : t.val < 64 := lt_of_lt_of_eq t.isLt N_0
  unfold k0_pay2
  pointwise
  blk_simp [iblk, h]
  entry_read
  blk_ext [h]

/-- The point's block of the table of cosines. -/
theorem blk2 (i : Fin 1024) (d : Fin 128) : (iblk m c 2 t : Vec Ideal S1024x128 .f32) (ix2 i d)
    = if h : d.val < 64 then Ideal.cos (ang (1024 * (t.val % 2) + i) d) else Ideal.cos (ang (1024 * (t.val % 2) + i) (d - 64)) := by
  have h := (idx t).2.2.1
  blk_simp [iblk, h]
  entry_read
  have he : (win0_2.blk t).view.emb (ix2 i d) = ix2 ⟨1024 * (t.val % 2) + i, by omega⟩ d := by
    blk_ext [h]
  rw [he]
  pointwise
  rfl

/-- The point's block of the table of signed sines. -/
theorem blk3 (i : Fin 1024) (d : Fin 128) : (iblk m c 3 t : Vec Ideal S1024x128 .f32) (ix2 i d)
    = if h : d.val < 64 then -Ideal.sin (ang (1024 * (t.val % 2) + i) d) else Ideal.sin (ang (1024 * (t.val % 2) + i) (d - 64)) := by
  have h := (idx t).2.2.2.1
  blk_simp [iblk, h]
  entry_read
  have he : (win0_3.blk t).view.emb (ix2 i d) = ix2 ⟨1024 * (t.val % 2) + i, by omega⟩ d := by
    blk_ext [h]
  rw [he]
  pointwise
  rfl

end

/-- The weights the scratch holds after each point: the point's column block. -/
theorem scratch (n : ℕ) : ∀ (hn : n < cfg0.N) (k : Fin 4096) (j : Fin 512), (outsAt0 m c n hn).2 (ix2 k j)
    = X1 m c (ix3 0 k ⟨512 * (n / 8) + j, by have : n < 64 := lt_of_lt_of_eq hn N_0; omega⟩) := by
  induction n with
  | zero =>
    intro hn k j
    rw [outsAt0_A m c ⟨0, hn⟩ rfl]
    rw [sout_A]
    exact cast1 m c ⟨0, hn⟩ k j
  | succ n ih =>
    intro hn k j
    have hN : n + 1 < 64 := lt_of_lt_of_eq hn N_0
    by_cases h0 : (n + 1) % 8 = 0
    · rw [outsAt0_A m c ⟨n + 1, hn⟩ h0]
      rw [sout_A]
      exact cast1 m c ⟨n + 1, hn⟩ k j
    · rw [outsAt0_B m c ⟨n + 1, hn⟩ h0]
      refine (ih (Nat.lt_of_succ_lt hn) k j).trans (congrArg (X1 m c) ?_)
      congr 1
      exact Fin.ext (by simp only; omega)

/-- Each point's block of the result is its rotated rows, of the weights the scratch holds after it. -/
theorem out_at (t : Fin cfg0.N) : (outsAt0 m c t.val t.isLt).1
    = turn (iblk m c 0 t) (iblk m c 2 t) (iblk m c 3 t) (outsAt0 m c t.val t.isLt).2 := by
  by_cases h0 : t.val % 8 = 0
  · rw [outsAt0_A m c t h0]
    rw [sout_A, out_A]
  · rw [outsAt0_B m c t h0]
    rw [out_B]
    rfl

abbrev B0 (t : Fin cfg0.N) : Vec Ideal S1024x4096 .bf16 := iblk m c 0 t
abbrev SC (t : Fin cfg0.N) : Vec Ideal S4096x512 .bf16 := (outsAt0 m c t.val t.isLt).2

/-- A row of the point's block times a column of the weights. -/
theorem proj_at (t : Fin cfg0.N) (i : Fin 1024) (j : Fin 512) (r : Fin 8192) (J : ℕ) (hJ : J < 4096) (hr : r.val = 1024 * (t.val % 8) + i)
    (hj : J = 512 * (t.val / 8) + j) :
    ∑ k : Fin 4096, B0 m c t (ix2 i k) * SC m c t (ix2 k j) = proj (X0 m c) (X1 m c) r J hJ := by
  subst hj
  rw [show r = ⟨1024 * (t.val % 8) + i, by omega⟩ from Fin.ext hr]
  exact Finset.sum_congr (M := EReal) rfl fun k _ => congrArg₂ (fun x y : EReal => x * y) (blk0 m c t i k) (scratch m c t.val t.isLt k j)

theorem OUT_low (a : Vec Ideal S4x2048x4096 .f32) (w : Vec Ideal S1x4096x4096 .f32) (r : Fin 8192) (j : Fin 4096) (s d : ℕ)
    (hs : r.val % 2048 = s) (hd : j.val % 128 = d) (h : d < 64) :
    OUT a w (ix2 r j) = proj a w r j j.isLt * Ideal.cos (ang s d) + proj a w r (j.val / 128 * 128 + (64 + j.val % 128)) (by omega) * -Ideal.sin (ang s d) := by
  subst hs hd
  rw [mul_neg, ← sub_eq_add_neg]
  exact dif_pos h

theorem OUT_high (a : Vec Ideal S4x2048x4096 .f32) (w : Vec Ideal S1x4096x4096 .f32) (r : Fin 8192) (j : Fin 4096) (s d : ℕ)
    (hs : r.val % 2048 = s) (hd : j.val % 128 = d) (h : ¬d < 64) :
    OUT a w (ix2 r j) = proj a w r (j.val / 128 * 128 + (64 + (j.val % 128 - 64))) (by omega) * Ideal.cos (ang s (d - 64))
      + proj a w r (j.val / 128 * 128 + (j.val % 128 - 64)) (by omega) * Ideal.sin (ang s (d - 64)) := by
  subst hs hd
  exact dif_neg h

abbrev B2 (t : Fin cfg0.N) : Vec Ideal S1024x128 .f32 := iblk m c 2 t
abbrev B3 (t : Fin cfg0.N) : Vec Ideal S1024x128 .f32 := iblk m c 3 t

theorem block_low (t : Fin cfg0.N) (y0 : Fin 1024) (y1 : Fin 512) (r : Fin 8192) (j : Fin 4096) (hr : r.val = 1024 * (t.val % 8) + y0)
    (hj : j.val = 512 * (t.val / 8) + y1) (hd : y1.val % 128 < 64) :
    turn (B0 m c t) (B2 m c t) (B3 m c t) (SC m c t) (ix2 y0 y1) = OUT (X0 m c) (X1 m c) (ix2 r j) := by
  have e2 : B2 m c t (ix2 y0 ⟨y1.val % 128, by omega⟩) = _ := (blk2 m c t y0 ⟨y1.val % 128, by omega⟩).trans (dif_pos hd)
  have e3 : B3 m c t (ix2 y0 ⟨y1.val % 128, by omega⟩) = _ := (blk3 m c t y0 ⟨y1.val % 128, by omega⟩).trans (dif_pos hd)
  have p := proj_at m c t y0 y1 r j j.isLt hr hj
  have hJ : j.val / 128 * 128 + (64 + j.val % 128) = 512 * (t.val / 8) + (y1.val / 128 * 128 + (y1.val % 128 + 64) % 128) := by omega
  have q := proj_at m c t y0 ⟨y1.val / 128 * 128 + (y1.val % 128 + 64) % 128, by omega⟩ r (j.val / 128 * 128 + (64 + j.val % 128)) (by omega) hr hJ
  have h1 : r.val % 2048 = 1024 * (t.val % 2) + y0 := by omega
  have h2 : j.val % 128 = y1.val % 128 := by omega
  rw [turn_val _ _ _ _ y0 y1 p q e2 e3, OUT_low _ _ r j _ _ h1 h2 hd]

theorem block_high (t : Fin cfg0.N) (y0 : Fin 1024) (y1 : Fin 512) (r : Fin 8192) (j : Fin 4096) (hr : r.val = 1024 * (t.val % 8) + y0)
    (hj : j.val = 512 * (t.val / 8) + y1) (hd : ¬y1.val % 128 < 64) :
    turn (B0 m c t) (B2 m c t) (B3 m c t) (SC m c t) (ix2 y0 y1) = OUT (X0 m c) (X1 m c) (ix2 r j) := by
  have e2 : B2 m c t (ix2 y0 ⟨y1.val % 128, by omega⟩) = _ := (blk2 m c t y0 ⟨y1.val % 128, by omega⟩).trans (dif_neg hd)
  have e3 : B3 m c t (ix2 y0 ⟨y1.val % 128, by omega⟩) = _ := (blk3 m c t y0 ⟨y1.val % 128, by omega⟩).trans (dif_neg hd)
  have hP : j.val / 128 * 128 + (64 + (j.val % 128 - 64)) = 512 * (t.val / 8) + y1.val := by omega
  have p := proj_at m c t y0 y1 r (j.val / 128 * 128 + (64 + (j.val % 128 - 64))) (by omega) hr hP
  have hJ : j.val / 128 * 128 + (j.val % 128 - 64) = 512 * (t.val / 8) + (y1.val / 128 * 128 + (y1.val % 128 + 64) % 128) := by omega
  have q := proj_at m c t y0 ⟨y1.val / 128 * 128 + (y1.val % 128 + 64) % 128, by omega⟩ r (j.val / 128 * 128 + (j.val % 128 - 64)) (by omega) hr hJ
  have h1 : r.val % 2048 = 1024 * (t.val % 2) + y0 := by omega
  have h2 : j.val % 128 = y1.val % 128 := by omega
  rw [turn_val _ _ _ _ y0 y1 p q e2 e3, OUT_high _ _ r j _ _ h1 h2 hd]

/-- The kernel's result. -/
theorem result : (dats m 0 c).arrAt 4 cfg0.N = OUT (X0 m c) (X1 m c) := by
  refine (dats m 0 c).arrAt_eq_of_covers 4 _ (by decide +kernel) fun t hf y => ?_
  have h := (idx t).2.2.2.2
  have ht : t.val < 64 := lt_of_lt_of_eq t.isLt N_0
  blk_simp
  rw [after0_4, out_at]
  idx_vars y
  have he : (win0_4.blk t).view.emb (ix2 y0 y1) = ix2 ⟨1024 * (t.val % 8) + y0, by omega⟩ ⟨512 * (t.val / 8) + y1, by omega⟩ := by
    blk_ext [h]
  rw [he]
  by_cases hd : y1.val % 128 < 64
  · exact block_low m c t y0 y1 _ _ rfl rfl hd
  · exact block_high m c t y0 y1 _ _ rfl rfl hd

end Cert.QueryIdeal.Result

namespace Cert.QueryReferenceIdeal.Result

open Cert.QueryReferenceIdeal Cert.QueryReferenceIdeal.Gen Cert.QueryReferenceIdeal.Value

/-- The reference's rows before the rotation. -/
def rows (a : FVec Ideal S4x2048x4096 .f32) (w : FVec Ideal S1x4096x4096 .f32) : FVec Ideal S4x2048x4096 .f32 :=
  Host.dotGeneral (F := Ideal) (φ₁ := .f32) (φ₂ := .f32) dot_S4x2048x4096_S4096x4096_S4x2048x4096_2_0_01_1_n_n none a
    (shapeCast (α := Ideal .f32) S4096x4096 w shapeCasts_S1x4096x4096_S4096x4096)

theorem rows_at (a : FVec Ideal S4x2048x4096 .f32) (w : FVec Ideal S1x4096x4096 .f32) (b : Fin 4) (s : Fin 2048) (j : Fin 4096) :
    rows a w (ix3 b s j) = ∑ k : Fin 4096, a (ix3 b s k) * w (ix3 0 k j) := by
  unfold rows
  pointwise

/-- The rotation of the reference's rows. -/
def turned (x : FVec Ideal S4x2048x4096 .f32) : FVec Ideal S8192x4096 .f32 :=
  shapeCast (α := Ideal .f32) S8192x4096 (concatenate S4x2048x32x128 3 [⟨S4x2048x32x64, (subf (F := Ideal) (φ := .f32) (mulf (extractStridedSlice (α := Ideal .f32) S4x2048x32x64 ![0, 0, 0, 0] (shapeCast (α := Ideal .f32) S4x2048x32x128 x shapeCasts_S4x2048x4096_S4x2048x32x128) slices_S4x2048x32x128_S4x2048x32x64_0_0_0_0) (broadcastInDim S4x2048x32x64 ![0, 1, 2, 3] bcast_S1x2048x1x64_S4x2048x32x64_0_1_2_3 (broadcastInDim S1x2048x1x64 ![1, 3] bcast_S2048x64_S1x2048x1x64_1_3 (Host.cos (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))))))) (mulf (extractStridedSlice (α := Ideal .f32) S4x2048x32x64 ![0, 0, 0, 64] (shapeCast (α := Ideal .f32) S4x2048x32x128 x shapeCasts_S4x2048x4096_S4x2048x32x128) slices_S4x2048x32x128_S4x2048x32x64_0_0_0_64) (broadcastInDim S4x2048x32x64 ![0, 1, 2, 3] bcast_S1x2048x1x64_S4x2048x32x64_0_1_2_3 (broadcastInDim S1x2048x1x64 ![1, 3] bcast_S2048x64_S1x2048x1x64_1_3 (Host.sin (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))))))))⟩, ⟨S4x2048x32x64, (addf (F := Ideal) (φ := .f32) (mulf (extractStridedSlice (α := Ideal .f32) S4x2048x32x64 ![0, 0, 0, 64] (shapeCast (α := Ideal .f32) S4x2048x32x128 x shapeCasts_S4x2048x4096_S4x2048x32x128) slices_S4x2048x32x128_S4x2048x32x64_0_0_0_64) (broadcastInDim S4x2048x32x64 ![0, 1, 2, 3] bcast_S1x2048x1x64_S4x2048x32x64_0_1_2_3 (broadcastInDim S1x2048x1x64 ![1, 3] bcast_S2048x64_S1x2048x1x64_1_3 (Host.cos (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))))))) (mulf (extractStridedSlice (α := Ideal .f32) S4x2048x32x64 ![0, 0, 0, 0] (shapeCast (α := Ideal .f32) S4x2048x32x128 x shapeCasts_S4x2048x4096_S4x2048x32x128) slices_S4x2048x32x128_S4x2048x32x64_0_0_0_0) (broadcastInDim S4x2048x32x64 ![0, 1, 2, 3] bcast_S1x2048x1x64_S4x2048x32x64_0_1_2_3 (broadcastInDim S1x2048x1x64 ![1, 3] bcast_S2048x64_S1x2048x1x64_1_3 (Host.sin (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))))))))⟩] concatenates_S4x2048x32x64_S4x2048x32x64_S4x2048x32x128_d3) shapeCasts_S4x2048x32x128_S8192x4096

theorem turned_at (a : FVec Ideal S4x2048x4096 .f32) (w : FVec Ideal S1x4096x4096 .f32) : turned (rows a w) = Cert.QueryIdeal.Result.OUT a w := by
  funext y
  idx_vars y
  unfold turned
  pointwise [rows_at]
  rfl

/-- The reference's result. -/
theorem result (m : (ℓ : Loc nD τ sig) → Buf (Elt Ideal) ℓ) (c : Dev nD) :
    res_main_v32 m c = Cert.QueryIdeal.Result.OUT (m ((c.tc : Thread nD τ).loc main_arg0)) (m ((c.tc : Thread nD τ).loc main_arg1)) :=
  Eq.trans (by unfold res_main_v32 turned rows; rfl) (turned_at (m ((c.tc : Thread nD τ).loc main_arg0)) (m ((c.tc : Thread nD τ).loc main_arg1)))

end Cert.QueryReferenceIdeal.Result

end
-- ==== Proof.Out.lean ====
/- An output projection of the prompts added to the residual: kernel and reference hold the same array. -/
module

public import proofs.«01_k».proof.Proof.Gen.OutIdeal.Value
public import proofs.«01_k».proof.Proof.Gen.OutReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.OutIdeal.Result

open Cert.OutIdeal Cert.OutIdeal.Gen

/-- Row `i` of the result: the mixer's row for token `i % 2048` of sequence `i / 2048` times the matrix, added to the residual. -/
def OUT (a : Vec Ideal S4x2048x4096 .f32) (w : Vec Ideal S1x4096x4096 .f32) (h : Vec Ideal S4x2048x4096 .f32) : Vec Ideal S8192x4096 .f32 := fun j =>
  (∑ k : Fin 4096, a (ix3 ⟨j 0 / 2048, by have : (j 0).val < 8192 := (j 0).isLt; omega⟩ ⟨j 0 % 2048, by omega⟩ k) * w (ix3 0 k (j 1)))
    + h (ix3 ⟨j 0 / 2048, by have : (j 0).val < 8192 := (j 0).isLt; omega⟩ ⟨j 0 % 2048, by omega⟩ (j 1))

variable (m : (ℓ : Loc nD τ sig) → Buf (Elt Ideal) ℓ) (c : Dev nD)

abbrev X0 : Vec Ideal S4x2048x4096 .f32 := m ((c : Thread nD τ).loc main_arg0)
abbrev X1 : Vec Ideal S1x4096x4096 .f32 := m ((c : Thread nD τ).loc main_arg1)
abbrev X2 : Vec Ideal S4x2048x4096 .f32 := m ((c : Thread nD τ).loc main_arg2)

/-- Every window's block index at grid point `t`: row block `t % 8`, column block `t / 8`. -/
theorem idx : ∀ t : Fin cfg0.N, win0_0.index t = ![t.val % 8, 0] ∧ win0_1.index t = ![0, 0, t.val / 8]
    ∧ win0_2.index t = ![t.val % 8, t.val / 8] ∧ win0_3.index t = ![t.val % 8, t.val / 8] :=
  (by decide +kernel : ∀ t : Fin grid0.N, _)

section

variable (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S4096x512 .bf16) (harg6 : arg6.IsWhole)
  (x0 : Vec Ideal S1024x4096 .bf16) (x1 : Vec Ideal S1x4096x512 .f32) (x2 : Vec Ideal S1024x512 .f32) (xs : Vec Ideal S4096x512 .bf16)

theorem sout_A (hc0 : cond0_0 i) : sout0_A_0 c i arg2 harg2 arg3 harg3 arg4 harg4 arg5 harg5 arg6 harg6 hc0 x0 x1 x2 = k0_pay1 x1 := by
  frame_open
  simp (disch := decide) only [↓ View.readCov_skip, ↓ View.readCov_cons_toLoadRect, ↓ View.readCov_fill]
  frame_out

theorem out_A (hc0 : cond0_0 i) : out0_A_3 c i arg2 harg2 arg3 harg3 arg4 harg4 arg5 harg5 arg6 harg6 hc0 x0 x1 x2 = k0_pay2 x0 (k0_pay1 x1) x2 := by
  frame_open
  simp (disch := decide) only [↓ View.readCov_skip, ↓ View.readCov_cons_toLoadRect, ↓ View.readCov_fill]
  frame_out

theorem out_B (hc0 : ¬cond0_0 i) : out0_B_3 c i arg2 harg2 arg3 harg3 arg4 harg4 arg5 harg5 arg6 harg6 hc0 x0 x1 x2 xs = k0_pay2 x0 xs x2 := by
  frame_open
  simp (disch := decide) only [↓ View.readCov_skip, ↓ View.readCov_cons_toLoadRect, ↓ View.readCov_fill]
  frame_out

end

section

variable (t : Fin cfg0.N)

theorem blk0 (i : Fin 1024) (k : Fin 4096) : (iblk m c 0 t : Vec Ideal S1024x4096 .bf16) (ix2 i k)
    = X0 m c (ix3 ⟨(1024 * (t.val % 8) + i) / 2048, by omega⟩ ⟨(1024 * (t.val % 8) + i) % 2048, by omega⟩ k) := by
  have h := (idx t).1
  blk_simp [iblk, h]
  entry_read
  pointwise
  blk_ext [h]

theorem cast1 (k : Fin 4096) (j : Fin 512) : k0_pay1 (iblk m c 1 t) (ix2 k j) = X1 m c (ix3 0 k ⟨512 * (t.val / 8) + j, by have : t.val < 64 := lt_of_lt_of_eq t.isLt N_0; omega⟩) := by
  have h := (idx t).2.1
  have ht : t.val < 64 := lt_of_lt_of_eq t.isLt N_0
  unfold k0_pay1
  pointwise
  blk_simp [iblk, h]
  entry_read
  blk_ext [h]

theorem blk2 (i : Fin 1024) (j : Fin 512) : (iblk m c 2 t : Vec Ideal S1024x512 .f32) (ix2 i j)
    = X2 m c (ix3 ⟨(1024 * (t.val % 8) + i) / 2048, by omega⟩ ⟨(1024 * (t.val % 8) + i) % 2048, by omega⟩ ⟨512 * (t.val / 8) + j, by have : t.val < 64 := lt_of_lt_of_eq t.isLt N_0; omega⟩) := by
  have h := (idx t).2.2.1
  have ht : t.val < 64 := lt_of_lt_of_eq t.isLt N_0
  blk_simp [iblk, h]
  entry_read
  pointwise
  blk_ext [h]

end

/-- The weights the scratch holds after each point: the point's column block. -/
theorem scratch (n : ℕ) : ∀ (hn : n < cfg0.N) (k : Fin 4096) (j : Fin 512), (outsAt0 m c n hn).2 (ix2 k j)
    = X1 m c (ix3 0 k ⟨512 * (n / 8) + j, by have : n < 64 := lt_of_lt_of_eq hn N_0; omega⟩) := by
  induction n with
  | zero =>
    intro hn k j
    rw [outsAt0_A m c ⟨0, hn⟩ rfl]
    rw [sout_A]
    exact cast1 m c ⟨0, hn⟩ k j
  | succ n ih =>
    intro hn k j
    have hN : n + 1 < 64 := lt_of_lt_of_eq hn N_0
    by_cases h0 : (n + 1) % 8 = 0
    · rw [outsAt0_A m c ⟨n + 1, hn⟩ h0]
      rw [sout_A]
      exact cast1 m c ⟨n + 1, hn⟩ k j
    · rw [outsAt0_B m c ⟨n + 1, hn⟩ h0]
      refine (ih (Nat.lt_of_succ_lt hn) k j).trans (congrArg (X1 m c) ?_)
      congr 1
      exact Fin.ext (by simp only; omega)

/-- Each point's block of the result is its row block times the weights the scratch holds after it. -/
theorem out_at (t : Fin cfg0.N) : (outsAt0 m c t.val t.isLt).1 = k0_pay2 (iblk m c 0 t) (outsAt0 m c t.val t.isLt).2 (iblk m c 2 t) := by
  by_cases h0 : t.val % 8 = 0
  · rw [outsAt0_A m c t h0]
    rw [sout_A, out_A]
  · rw [outsAt0_B m c t h0]
    rw [out_B]
    rfl

/-- The kernel's result. -/
theorem result : (dats m 0 c).arrAt 3 cfg0.N = OUT (X0 m c) (X1 m c) (X2 m c) := by
  refine (dats m 0 c).arrAt_eq_of_covers 3 _ (by decide +kernel) fun t hf y => ?_
  have h := (idx t).2.2.2
  have ht : t.val < 64 := lt_of_lt_of_eq t.isLt N_0
  blk_simp
  rw [after0_3, out_at]
  idx_vars y
  have he : (win0_3.blk t).view.emb (ix2 y0 y1) = ix2 ⟨1024 * (t.val % 8) + y0, by omega⟩ ⟨512 * (t.val / 8) + y1, by omega⟩ := by
    blk_ext [h]
  rw [he]
  unfold k0_pay2 OUT
  pointwise
  exact congrArg₂ (fun x y : EReal => x + y)
    (Finset.sum_congr (M := EReal) rfl fun k _ => congrArg₂ (fun x y : EReal => x * y) (blk0 m c t y0 k) (scratch m c t.val t.isLt k y1)) (blk2 m c t y0 y1)

end Cert.OutIdeal.Result

namespace Cert.OutReferenceIdeal.Result

open Cert.OutReferenceIdeal Cert.OutReferenceIdeal.Gen

/-- The reference's result. -/
theorem result (a : FVec Ideal S4x2048x4096 .f32) (w : FVec Ideal S1x4096x4096 .f32) (h : FVec Ideal S4x2048x4096 .f32) :
    shapeCast (α := Ideal .f32) S8192x4096 (addf (F := Ideal) (φ := .f32) h (Host.dotGeneral (F := Ideal) (φ₁ := .f32) (φ₂ := .f32) dot_S4x2048x4096_S4096x4096_S4x2048x4096_2_0_01_1_n_n none a
      (shapeCast (α := Ideal .f32) S4096x4096 w shapeCasts_S1x4096x4096_S4096x4096))) shapeCasts_S4x2048x4096_S8192x4096
      = Cert.OutIdeal.Result.OUT a w h := by
  funext y
  idx_vars y
  unfold Cert.OutIdeal.Result.OUT
  pointwise
  exact add_comm _ _

/-- The reference's run: its result, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = Cert.OutIdeal.Result.OUT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono (fun r h c => ⟨(h c).1.trans (result _ _ _), (h c).2⟩) (Cert.OutReferenceIdeal.Value.run (F := Ideal) m ρ)

end Cert.OutReferenceIdeal.Result

end
-- ==== Proof.Norm.lean ====
/- The last norm of the prompts' rows: kernel and reference hold the same array. -/
module

public import proofs.«01_k».proof.Proof.Gen.NormIdeal.Value
public import proofs.«01_k».proof.Proof.Gen.NormReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.NormIdeal.Result

open Cert.NormIdeal Cert.NormIdeal.Gen

/-- An entry `x` of a row whose squares sum to `s`, over the root of their mean, times the gain `g`. -/
def entry (x s g : EReal) : EReal :=
  x * Ideal.rsqrt (Ideal.div s (Ideal.ofBits .f32 0x45800000#32) + Ideal.ofBits .f32 0x358637BD#32) * g

/-- The normed rows. -/
def OUT (a : Vec Ideal S4x2048x4096 .f32) (g : Vec Ideal S4096 .f32) : Vec Ideal S8192x4096 .f32 := fun j =>
  entry (a (ix3 ⟨j 0 / 2048, by have : (j 0).val < 8192 := (j 0).isLt; omega⟩ ⟨j 0 % 2048, by omega⟩ (j 1))) (∑ k : Fin 4096, a (ix3 ⟨j 0 / 2048, by have : (j 0).val < 8192 := (j 0).isLt; omega⟩ ⟨j 0 % 2048, by omega⟩ k) * a (ix3 ⟨j 0 / 2048, by have : (j 0).val < 8192 := (j 0).isLt; omega⟩ ⟨j 0 % 2048, by omega⟩ k)) (g (ix1 (j 1)))

variable (m : (ℓ : Loc nD τ sig) → Buf (Elt Ideal) ℓ) (c : Dev nD)

abbrev X0 : Vec Ideal S4x2048x4096 .f32 := m ((c : Thread nD τ).loc main_arg0)
abbrev X1 : Vec Ideal S4096 .f32 := m ((c : Thread nD τ).loc main_arg1)

/-- Every window's block index at grid point `t`. -/
theorem idx : ∀ t : Fin cfg0.N, win0_0.index t = ![t.val, 0] ∧ win0_1.index t = ![0, 0] ∧ win0_2.index t = ![t.val, 0] :=
  (by decide +kernel : ∀ t : Fin grid0.N, _)

variable (t : Fin cfg0.N)

abbrev B0 : Vec Ideal S512x4096 .f32 := iblk m c 0 t
abbrev B1 : Vec Ideal S1x4096 .f32 := iblk m c 1 t

theorem blk0 (i : Fin 512) (k : Fin 4096) : B0 m c t (ix2 i k) = X0 m c (ix3 ⟨(512 * t.val + i) / 2048, by have : t.val < 16 := t.isLt; omega⟩ ⟨(512 * t.val + i) % 2048, by omega⟩ k) := by
  have h := (idx t).1
  have ht : t.val < 16 := t.isLt
  blk_simp [iblk, h]
  entry_read
  pointwise
  blk_ext [h]

theorem blk1 (k : Fin 4096) : B1 m c t (ix2 0 k) = X1 m c (ix1 k) := by
  have h := (idx t).2.1
  blk_simp [iblk, h]
  entry_read
  pointwise
  blk_ext [h]

/-- An entry of the block that a point writes. -/
theorem pay_at (x : Vec Ideal S512x4096 .f32) (g : Vec Ideal S1x4096 .f32) (i : Fin 512) (j : Fin 4096) :
    k0_pay1 x g (ix2 i j) = entry (x (ix2 i j)) (∑ k : Fin 4096, x (ix2 i k) * x (ix2 i k)) (g (ix2 0 j)) := by
  unfold k0_pay1 entry
  pointwise

theorem entry_congr {x x' s s' g g' : EReal} (hx : x = x') (hs : s = s') (hg : g = g') : entry x s g = entry x' s' g' := by
  rw [hx, hs, hg]

/-- The kernel's result. -/
theorem result : (dats m 0 c).arrAt 2 cfg0.N = OUT (X0 m c) (X1 m c) := by
  refine (dats m 0 c).arrAt_eq_of_covers 2 _ (by decide +kernel) fun t hf y => ?_
  have h := (idx t).2.2
  have ht : t.val < 16 := t.isLt
  blk_simp
  rw [after0_2]
  frame_out
  idx_vars y
  have he : (win0_2.blk t).view.emb (ix2 y0 y1) = ix2 ⟨512 * t.val + y0, by omega⟩ y1 := by
    blk_ext [h]
  rw [he]
  refine (pay_at (B0 m c t) (B1 m c t) y0 y1).trans (entry_congr (blk0 m c t y0 y1) ?_ (blk1 m c t y1))
  exact Finset.sum_congr (M := EReal) rfl fun k _ => congrArg₂ (fun x y : EReal => x * y) (blk0 m c t y0 k) (blk0 m c t y0 k)

end Cert.NormIdeal.Result

namespace Cert.NormReferenceIdeal.Result

open Cert.NormReferenceIdeal Cert.NormReferenceIdeal.Gen

/-- The reference's result. -/
theorem result (a : FVec Ideal S4x2048x4096 .f32) (g : FVec Ideal S4096 .f32) :
    shapeCast (α := Ideal .f32) S8192x4096 (mulf (F := Ideal) (φ := .f32) (mulf a (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf a a) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 g))) shapeCasts_S4x2048x4096_S8192x4096 = Cert.NormIdeal.Result.OUT a g := by
  funext y
  idx_vars y
  unfold Cert.NormIdeal.Result.OUT Cert.NormIdeal.Result.entry
  pointwise

/-- The reference's run: its result, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = Cert.NormIdeal.Result.OUT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun r h c => ⟨(h c).1.trans (result _ _), (h c).2⟩) (Cert.NormReferenceIdeal.Value.run (F := Ideal) m ρ)

end Cert.NormReferenceIdeal.Result

end
-- ==== Proof.NormStep.lean ====
/- The last norm of the samples' rows: kernel and reference hold the same array. -/
module

public import proofs.«01_k».proof.Proof.Gen.NormStepIdeal.Value
public import proofs.«01_k».proof.Proof.Gen.NormStepReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.NormStepIdeal.Result

open Cert.NormStepIdeal Cert.NormStepIdeal.Gen

/-- An entry `x` of a row whose squares sum to `s`, over the root of their mean, times the gain `g`. -/
def entry (x s g : EReal) : EReal :=
  x * Ideal.rsqrt (Ideal.div s (Ideal.ofBits .f32 0x45800000#32) + Ideal.ofBits .f32 0x358637BD#32) * g

/-- The normed rows. -/
def OUT (a : Vec Ideal S8x1x4096 .f32) (g : Vec Ideal S4096 .f32) : Vec Ideal S8x4096 .f32 := fun j =>
  entry (a (ix3 (j 0) 0 (j 1))) (∑ k : Fin 4096, a (ix3 (j 0) 0 k) * a (ix3 (j 0) 0 k)) (g (ix1 (j 1)))

variable (m : (ℓ : Loc nD τ sig) → Buf (Elt Ideal) ℓ) (c : Dev nD)

abbrev X0 : Vec Ideal S8x1x4096 .f32 := m ((c : Thread nD τ).loc main_arg0)
abbrev X1 : Vec Ideal S4096 .f32 := m ((c : Thread nD τ).loc main_arg1)

/-- Every window's block index at grid point `t`. -/
theorem idx : ∀ t : Fin cfg0.N, win0_0.index t = ![0, 0] ∧ win0_1.index t = ![0, 0] ∧ win0_2.index t = ![0, 0] :=
  (by decide +kernel : ∀ t : Fin grid0.N, _)

variable (t : Fin cfg0.N)

abbrev B0 : Vec Ideal S8x4096 .f32 := iblk m c 0 t
abbrev B1 : Vec Ideal S1x4096 .f32 := iblk m c 1 t

theorem blk0 (i : Fin 8) (k : Fin 4096) : B0 m c t (ix2 i k) = X0 m c (ix3 i 0 k) := by
  have h := (idx t).1
  blk_simp [iblk, h]
  entry_read
  pointwise
  blk_ext [h]

theorem blk1 (k : Fin 4096) : B1 m c t (ix2 0 k) = X1 m c (ix1 k) := by
  have h := (idx t).2.1
  blk_simp [iblk, h]
  entry_read
  pointwise
  blk_ext [h]

/-- An entry of the block that a point writes. -/
theorem pay_at (x : Vec Ideal S8x4096 .f32) (g : Vec Ideal S1x4096 .f32) (i : Fin 8) (j : Fin 4096) :
    k0_pay1 x g (ix2 i j) = entry (x (ix2 i j)) (∑ k : Fin 4096, x (ix2 i k) * x (ix2 i k)) (g (ix2 0 j)) := by
  unfold k0_pay1 entry
  pointwise

theorem entry_congr {x x' s s' g g' : EReal} (hx : x = x') (hs : s = s') (hg : g = g') : entry x s g = entry x' s' g' := by
  rw [hx, hs, hg]

/-- The kernel's result. -/
theorem result : (dats m 0 c).arrAt 2 cfg0.N = OUT (X0 m c) (X1 m c) := by
  refine (dats m 0 c).arrAt_eq_of_covers 2 _ (by decide +kernel) fun t hf y => ?_
  have h := (idx t).2.2
  blk_simp
  rw [after0_2]
  frame_out
  idx_vars y
  have he : (win0_2.blk t).view.emb (ix2 y0 y1) = ix2 y0 y1 := by
    blk_ext [h]
  rw [he]
  refine (pay_at (B0 m c t) (B1 m c t) y0 y1).trans (entry_congr (blk0 m c t y0 y1) ?_ (blk1 m c t y1))
  exact Finset.sum_congr (M := EReal) rfl fun k _ => congrArg₂ (fun x y : EReal => x * y) (blk0 m c t y0 k) (blk0 m c t y0 k)

end Cert.NormStepIdeal.Result

namespace Cert.NormStepReferenceIdeal.Result

open Cert.NormStepReferenceIdeal Cert.NormStepReferenceIdeal.Gen

/-- The reference's result. -/
theorem result (a : FVec Ideal S8x1x4096 .f32) (g : FVec Ideal S4096 .f32) :
    shapeCast (α := Ideal .f32) S8x4096 (mulf (F := Ideal) (φ := .f32) (mulf a (broadcastInDim S8x1x4096 ![0, 1, 2] bcast_S8x1x1_S8x1x4096_0_1_2 (Host.rsqrt (addf (Host.divf (broadcastInDim S8x1x1 ![0, 1] bcast_S8x1_S8x1x1_0_1 (Host.reduceAdd (mulf a a) (constant S_ .f32 0x00000000#32) reducesTo_S8x1x4096_S8x1_d2 h_S_)) (broadcastInDim S8x1x1 ![] bcast_S_S8x1x1 (constant S_ .f32 0x45800000#32))) (broadcastInDim S8x1x1 ![] bcast_S_S8x1x1 (constant S_ .f32 0x358637BD#32)))))) (broadcastInDim S8x1x4096 ![0, 1, 2] bcast_S1x1x4096_S8x1x4096_0_1_2 (broadcastInDim S1x1x4096 ![2] bcast_S4096_S1x1x4096_2 g))) shapeCasts_S8x1x4096_S8x4096 = Cert.NormStepIdeal.Result.OUT a g := by
  funext y
  idx_vars y
  unfold Cert.NormStepIdeal.Result.OUT Cert.NormStepIdeal.Result.entry
  pointwise

/-- The reference's run: its result, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = Cert.NormStepIdeal.Result.OUT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun r h c => ⟨(h c).1.trans (result _ _), (h c).2⟩) (Cert.NormStepReferenceIdeal.Value.run (F := Ideal) m ρ)

end Cert.NormStepReferenceIdeal.Result

end
-- ==== Proof.KeyStep.lean ====
/- The rotated key projection of the samples' new tokens: kernel and reference hold the same array. -/
module

public import proofs.«01_k».proof.Proof.Gen.KeyStepIdeal.Value
public import proofs.«01_k».proof.Proof.Gen.KeyStepReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KeyStepIdeal.Result

open Cert.KeyStepIdeal Cert.KeyStepIdeal.Gen

/-- The angle the new tokens, all at position 16384, turn frequency `f` by. -/
def ang (f : ℕ) : EReal := Ideal.ofBits .f32 1182793728#32
  * Ideal.pow (Ideal.ofBits .f32 1176256512#32) (Ideal.div (-FloatOps.sitofp (F := Ideal) .f32 (BitVec.ofNat 32 f)) (Ideal.ofBits .f32 1115684864#32))

/-- Column `j` of row `r` before the rotation: the new token of sample `r` times the matrix's column. -/
def proj (a : Vec Ideal S8x1x4096 .f32) (w : Vec Ideal S4096x8192 .f32) (r : Fin 8) (j : ℕ) (hj : j < 4096) : EReal :=
  ∑ k : Fin 4096, a (ix3 r 0 k) * w (ix2 k ⟨j, by omega⟩)

/-- The rotated rows: in each head of 128 columns, column `f` of the first 64 and column `64 + f` turn by the token's angle. -/
def OUT (a : Vec Ideal S8x1x4096 .f32) (w : Vec Ideal S4096x8192 .f32) : Vec Ideal S8x4096 .f32 := fun y =>
  have hy : (y 1).val < 4096 := (y 1).isLt
  if h : (y 1).val % 128 < 64 then
    proj a w (y 0) (y 1) hy * Ideal.cos (ang ((y 1).val % 128))
      - proj a w (y 0) ((y 1).val / 128 * 128 + (64 + (y 1).val % 128)) (by omega) * Ideal.sin (ang ((y 1).val % 128))
  else
    proj a w (y 0) ((y 1).val / 128 * 128 + (64 + ((y 1).val % 128 - 64))) (by omega) * Ideal.cos (ang ((y 1).val % 128 - 64))
      + proj a w (y 0) ((y 1).val / 128 * 128 + ((y 1).val % 128 - 64)) (by omega) * Ideal.sin (ang ((y 1).val % 128 - 64))

variable (m : (ℓ : Loc nD τ sig) → Buf (Elt Ideal) ℓ) (c : Dev nD)

abbrev X0 : Vec Ideal S8x1x4096 .f32 := m ((c : Thread nD τ).loc main_arg0)
abbrev X1 : Vec Ideal S4096x8192 .f32 := m ((c : Thread nD τ).loc main_arg1)

/-- Every window's block index at grid point `t`: column block `t`. -/
theorem idx : ∀ t : Fin cfg0.N, win0_0.index t = ![0, 0] ∧ win0_1.index t = ![0, t.val]
    ∧ win0_2.index t = ![0, 0] ∧ win0_3.index t = ![0, 0] ∧ win0_4.index t = ![0, t.val] :=
  (by decide +kernel : ∀ t : Fin grid0.N, _)

section

variable (c : Dev nD) (i : grid0.Coords) (arg2 : Memref sig .tc .vmem S8x4096 .bf16) (harg2 : arg2.IsWhole) (arg3 : Memref sig .tc .vmem S4096x512 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x512 .f32) (harg6 : arg6.IsWhole) (arg7 : Memref sig .tc .vmem S4096x512 .bf16) (harg7 : arg7.IsWhole)
  (x0 : Vec Ideal S8x4096 .bf16) (x1 : Vec Ideal S4096x512 .f32) (x2 : Vec Ideal S8x128 .f32) (x3 : Vec Ideal S8x128 .f32) (xs : Vec Ideal S4096x512 .bf16)

/-- A block of rotated rows. -/
def turn : Vec Ideal S8x512 .f32 := fun y =>
  have hy : (y 1).val < 512 := (y 1).isLt
  (∑ k : Fin 4096, x0 (ix2 (y 0) k) * xs (ix2 k (y 1))) * x2 (ix2 (y 0) ⟨(y 1).val % 128, by omega⟩)
    + (∑ k : Fin 4096, x0 (ix2 (y 0) k) * xs (ix2 k ⟨(y 1).val / 128 * 128 + ((y 1).val % 128 + 64) % 128, by omega⟩)) * x3 (ix2 (y 0) ⟨(y 1).val % 128, by omega⟩)

variable {c i arg2 harg2 arg3 harg3 arg4 harg4 arg5 harg5 arg6 harg6 arg7 harg7} in
theorem turn_at (i : Fin 8) (d : Fin 128) (y0 : Fin 8) (y1 j j' : Fin 512) (h0 : y0.val = i.val) (hj : j.val = y1.val)
    (hj' : j'.val = y1.val / 128 * 128 + (y1.val % 128 + 64) % 128) (hd : d.val = y1.val % 128) :
    (∑ k : Fin 4096, x0 (ix2 i k) * xs (ix2 k j)) * x2 (ix2 i d) + (∑ k : Fin 4096, x0 (ix2 i k) * xs (ix2 k j')) * x3 (ix2 i d)
      = turn x0 x2 x3 xs (ix2 y0 y1) := by
  obtain rfl : y0 = i := Fin.ext h0
  obtain rfl : j = y1 := Fin.ext hj
  have e1 : d = ⟨j.val % 128, by omega⟩ := Fin.ext hd
  have e2 : j' = ⟨j.val / 128 * 128 + (j.val % 128 + 64) % 128, by omega⟩ := Fin.ext hj'
  exact congrArg₂ (fun (d : Fin 128) (j' : Fin 512) => (∑ k : Fin 4096, x0 (ix2 y0 k) * xs (ix2 k j)) * x2 (ix2 y0 d)
    + (∑ k : Fin 4096, x0 (ix2 y0 k) * xs (ix2 k j')) * x3 (ix2 y0 d)) e1 e2

theorem turn_val (y0 : Fin 8) (y1 : Fin 512) {P Q C D : EReal} (hp : ∑ k : Fin 4096, x0 (ix2 y0 k) * xs (ix2 k y1) = P)
    (hq : ∑ k : Fin 4096, x0 (ix2 y0 k) * xs (ix2 k ⟨y1.val / 128 * 128 + (y1.val % 128 + 64) % 128, by omega⟩) = Q)
    (h2 : x2 (ix2 y0 ⟨y1.val % 128, by omega⟩) = C) (h3 : x3 (ix2 y0 ⟨y1.val % 128, by omega⟩) = D) :
    turn x0 x2 x3 xs (ix2 y0 y1) = P * C + Q * D := by
  subst hp hq h2 h3
  rfl

theorem out_A (hc0 : cond0_0 i) : out0_A_4 c i arg2 harg2 arg3 harg3 arg4 harg4 arg5 harg5 arg6 harg6 arg7 harg7 hc0 x0 x1 x2 x3 = turn x0 x2 x3 (k0_pay2 x1) := by
  frame_open
  simp (disch := decide) only [↓ View.readCov_skip, ↓ View.readCov_cons_toLoadRect, ↓ View.readCov_fill]
  frame_out
  funext y
  canon_tiles x h
  all_goals
    idx_vars x
    idx_vars y
    pointwise [k0_pay1, k0_pay3, k0_pay4, k0_pay5, k0_pay6, k0_pay7, k0_pay8, k0_pay9, k0_pay10, k0_pay11]
    exact turn_at _ _ _ _ _ _ _ _ _ _ h0 (by simp only; omega) (by simp only; omega) (by omega)

end

section

variable (t : Fin cfg0.N)

theorem blk0 (i : Fin 8) (k : Fin 4096) : (iblk m c 0 t : Vec Ideal S8x4096 .bf16) (ix2 i k)
    = X0 m c (ix3 i 0 k) := by
  have h := (idx t).1
  blk_simp [iblk, h]
  entry_read
  pointwise
  blk_ext [h]

theorem cast1 (k : Fin 4096) (j : Fin 512) : k0_pay2 (iblk m c 1 t) (ix2 k j) = X1 m c (ix2 k ⟨512 * t.val + j, by have : t.val < 8 := lt_of_lt_of_eq t.isLt N_0; omega⟩) := by
  have h := (idx t).2.1
  have ht : t.val < 8 := lt_of_lt_of_eq t.isLt N_0
  unfold k0_pay2
  pointwise
  blk_simp [iblk, h]
  entry_read
  blk_ext [h]

/-- The point's block of the table of cosines. -/
theorem blk2 (i : Fin 8) (d : Fin 128) : (iblk m c 2 t : Vec Ideal S8x128 .f32) (ix2 i d)
    = if h : d.val < 64 then Ideal.cos (ang d) else Ideal.cos (ang (d - 64)) := by
  have h := (idx t).2.2.1
  blk_simp [iblk, h]
  entry_read
  have he : (win0_2.blk t).view.emb (ix2 i d) = ix2 i d := by
    blk_ext [h]
  rw [he]
  pointwise
  rfl

/-- The point's block of the table of signed sines. -/
theorem blk3 (i : Fin 8) (d : Fin 128) : (iblk m c 3 t : Vec Ideal S8x128 .f32) (ix2 i d)
    = if h : d.val < 64 then -Ideal.sin (ang d) else Ideal.sin (ang (d - 64)) := by
  have h := (idx t).2.2.2.1
  blk_simp [iblk, h]
  entry_read
  have he : (win0_3.blk t).view.emb (ix2 i d) = ix2 i d := by
    blk_ext [h]
  rw [he]
  pointwise
  rfl

end

/-- Each point's block of the result is its rotated rows. -/
theorem out_at (t : Fin cfg0.N) : outsAt0 m c t = turn (iblk m c 0 t) (iblk m c 2 t) (iblk m c 3 t) (k0_pay2 (iblk m c 1 t)) := by
  unfold outsAt0
  rw [out_A]

abbrev B0 (t : Fin cfg0.N) : Vec Ideal S8x4096 .bf16 := iblk m c 0 t
abbrev SC (t : Fin cfg0.N) : Vec Ideal S4096x512 .bf16 := k0_pay2 (iblk m c 1 t)

/-- A row of the point's block times a column of the weights. -/
theorem proj_at (t : Fin cfg0.N) (i : Fin 8) (j : Fin 512) (J : ℕ) (hJ : J < 4096)
    (hj : J = 512 * t.val + j) :
    ∑ k : Fin 4096, B0 m c t (ix2 i k) * SC m c t (ix2 k j) = proj (X0 m c) (X1 m c) i J hJ := by
  subst hj
  exact Finset.sum_congr (M := EReal) rfl fun k _ => congrArg₂ (fun x y : EReal => x * y) (blk0 m c t i k) (cast1 m c t k j)

theorem OUT_low (a : Vec Ideal S8x1x4096 .f32) (w : Vec Ideal S4096x8192 .f32) (r : Fin 8) (j : Fin 4096) (d : ℕ)
    (hd : j.val % 128 = d) (h : d < 64) :
    OUT a w (ix2 r j) = proj a w r j j.isLt * Ideal.cos (ang d) + proj a w r (j.val / 128 * 128 + (64 + j.val % 128)) (by omega) * -Ideal.sin (ang d) := by
  subst hd
  rw [mul_neg, ← sub_eq_add_neg]
  exact dif_pos h

theorem OUT_high (a : Vec Ideal S8x1x4096 .f32) (w : Vec Ideal S4096x8192 .f32) (r : Fin 8) (j : Fin 4096) (d : ℕ)
    (hd : j.val % 128 = d) (h : ¬d < 64) :
    OUT a w (ix2 r j) = proj a w r (j.val / 128 * 128 + (64 + (j.val % 128 - 64))) (by omega) * Ideal.cos (ang (d - 64))
      + proj a w r (j.val / 128 * 128 + (j.val % 128 - 64)) (by omega) * Ideal.sin (ang (d - 64)) := by
  subst hd
  exact dif_neg h

abbrev B2 (t : Fin cfg0.N) : Vec Ideal S8x128 .f32 := iblk m c 2 t
abbrev B3 (t : Fin cfg0.N) : Vec Ideal S8x128 .f32 := iblk m c 3 t

theorem block_low (t : Fin cfg0.N) (y0 : Fin 8) (y1 : Fin 512) (j : Fin 4096)
    (hj : j.val = 512 * t.val + y1) (hd : y1.val % 128 < 64) :
    turn (B0 m c t) (B2 m c t) (B3 m c t) (SC m c t) (ix2 y0 y1) = OUT (X0 m c) (X1 m c) (ix2 y0 j) := by
  have e2 : B2 m c t (ix2 y0 ⟨y1.val % 128, by omega⟩) = _ := (blk2 m c t y0 ⟨y1.val % 128, by omega⟩).trans (dif_pos hd)
  have e3 : B3 m c t (ix2 y0 ⟨y1.val % 128, by omega⟩) = _ := (blk3 m c t y0 ⟨y1.val % 128, by omega⟩).trans (dif_pos hd)
  have p := proj_at m c t y0 y1 j j.isLt hj
  have hJ : j.val / 128 * 128 + (64 + j.val % 128) = 512 * t.val + (y1.val / 128 * 128 + (y1.val % 128 + 64) % 128) := by omega
  have q := proj_at m c t y0 ⟨y1.val / 128 * 128 + (y1.val % 128 + 64) % 128, by omega⟩ (j.val / 128 * 128 + (64 + j.val % 128)) (by omega) hJ
  have h2 : j.val % 128 = y1.val % 128 := by omega
  rw [turn_val _ _ _ _ y0 y1 p q e2 e3, OUT_low _ _ y0 j _ h2 hd]

theorem block_high (t : Fin cfg0.N) (y0 : Fin 8) (y1 : Fin 512) (j : Fin 4096)
    (hj : j.val = 512 * t.val + y1) (hd : ¬y1.val % 128 < 64) :
    turn (B0 m c t) (B2 m c t) (B3 m c t) (SC m c t) (ix2 y0 y1) = OUT (X0 m c) (X1 m c) (ix2 y0 j) := by
  have e2 : B2 m c t (ix2 y0 ⟨y1.val % 128, by omega⟩) = _ := (blk2 m c t y0 ⟨y1.val % 128, by omega⟩).trans (dif_neg hd)
  have e3 : B3 m c t (ix2 y0 ⟨y1.val % 128, by omega⟩) = _ := (blk3 m c t y0 ⟨y1.val % 128, by omega⟩).trans (dif_neg hd)
  have hP : j.val / 128 * 128 + (64 + (j.val % 128 - 64)) = 512 * t.val + y1.val := by omega
  have p := proj_at m c t y0 y1 (j.val / 128 * 128 + (64 + (j.val % 128 - 64))) (by omega) hP
  have hJ : j.val / 128 * 128 + (j.val % 128 - 64) = 512 * t.val + (y1.val / 128 * 128 + (y1.val % 128 + 64) % 128) := by omega
  have q := proj_at m c t y0 ⟨y1.val / 128 * 128 + (y1.val % 128 + 64) % 128, by omega⟩ (j.val / 128 * 128 + (j.val % 128 - 64)) (by omega) hJ
  have h2 : j.val % 128 = y1.val % 128 := by omega
  rw [turn_val _ _ _ _ y0 y1 p q e2 e3, OUT_high _ _ y0 j _ h2 hd]

/-- The kernel's result. -/
theorem result : (dats m 0 c).arrAt 4 cfg0.N = OUT (X0 m c) (X1 m c) := by
  refine (dats m 0 c).arrAt_eq_of_covers 4 _ (by decide +kernel) fun t hf y => ?_
  have h := (idx t).2.2.2.2
  have ht : t.val < 8 := lt_of_lt_of_eq t.isLt N_0
  blk_simp
  rw [after0_4, out_at]
  idx_vars y
  have he : (win0_4.blk t).view.emb (ix2 y0 y1) = ix2 y0 ⟨512 * t.val + y1, by omega⟩ := by
    blk_ext [h]
  rw [he]
  by_cases hd : y1.val % 128 < 64
  · exact block_low m c t y0 y1 _ rfl hd
  · exact block_high m c t y0 y1 _ rfl hd

end Cert.KeyStepIdeal.Result

namespace Cert.KeyStepReferenceIdeal.Result

open Cert.KeyStepReferenceIdeal Cert.KeyStepReferenceIdeal.Gen Cert.KeyStepReferenceIdeal.Value

/-- The position of the reference's only new token. -/
theorem pos (f : EReal) : (Ideal.ofBits .f32 1182793728#32 + FloatOps.sitofp (F := Ideal) .f32 (BitVec.ofNat 32 0)) * f = Ideal.ofBits .f32 1182793728#32 * f := by
  have h : FloatOps.sitofp (F := Ideal) .f32 (BitVec.ofNat 32 0) = (0 : EReal) := by
    show (((BitVec.ofNat 32 0).toInt : ℝ) : EReal) = 0
    simp
  rw [h, add_zero]

/-- The reference's result. -/
theorem result (m : (ℓ : Loc nD τ sig) → Buf (Elt Ideal) ℓ) (c : Dev nD) :
    res_main_v33 m c = Cert.KeyStepIdeal.Result.OUT (m ((c.tc : Thread nD τ).loc main_arg0)) (m ((c.tc : Thread nD τ).loc main_arg1)) := by
  unfold res_main_v33
  funext y
  idx_vars y
  pointwise
  simp only [pos]
  rfl

end Cert.KeyStepReferenceIdeal.Result

end
-- ==== Proof.ValStep.lean ====
/- The value projection of the samples' new tokens: kernel and reference hold the same array. -/
module

public import proofs.«01_k».proof.Proof.Gen.ValStepIdeal.Value
public import proofs.«01_k».proof.Proof.Gen.ValStepReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.ValStepIdeal.Result

open Cert.ValStepIdeal Cert.ValStepIdeal.Gen

/-- Row `i` of the result: the new token of sample `i` times the right half of the matrix's columns. -/
def OUT (a : Vec Ideal S8x1x4096 .f32) (w : Vec Ideal S4096x8192 .f32) : Vec Ideal S8x4096 .f32 := fun j =>
  ∑ k : Fin 4096, a (ix3 (j 0) 0 k) * w (ix2 k ⟨4096 + j 1, by have : (j 1).val < 4096 := (j 1).isLt; omega⟩)

variable (m : (ℓ : Loc nD τ sig) → Buf (Elt Ideal) ℓ) (c : Dev nD)

abbrev X0 : Vec Ideal S8x1x4096 .f32 := m ((c : Thread nD τ).loc main_arg0)
abbrev X1 : Vec Ideal S4096x8192 .f32 := m ((c : Thread nD τ).loc main_arg1)

/-- Every window's block index at grid point `t`, which is its column block. -/
theorem idx : ∀ t : Fin cfg0.N, win0_0.index t = ![0, 0] ∧ win0_1.index t = ![0, 8 + t.val] ∧ win0_2.index t = ![0, t.val] :=
  (by decide +kernel : ∀ t : Fin grid0.N, _)

section

variable (c : Dev nD) (i : grid0.Coords) (arg2 : Memref sig .tc .vmem S8x4096 .bf16) (harg2 : arg2.IsWhole) (arg3 : Memref sig .tc .vmem S4096x512 .f32) (harg3 : arg3.IsWhole) (arg4 : Memref sig .tc .vmem S8x512 .f32) (harg4 : arg4.IsWhole) (arg5 : Memref sig .tc .vmem S4096x512 .bf16) (harg5 : arg5.IsWhole)
  (x0 : Vec Ideal S8x4096 .bf16) (x1 : Vec Ideal S4096x512 .f32)

theorem out_A (hc0 : cond0_0 i) : out0_A_2 c i arg2 harg2 arg3 harg3 arg4 harg4 arg5 harg5 hc0 x0 x1 = k0_pay2 x0 (k0_pay1 x1) := by
  frame_open
  simp (disch := decide) only [↓ View.readCov_skip, ↓ View.readCov_cons_toLoadRect, ↓ View.readCov_fill]
  frame_out

end

section

variable (t : Fin cfg0.N)

theorem blk0 (i : Fin 8) (k : Fin 4096) : (iblk m c 0 t : Vec Ideal S8x4096 .bf16) (ix2 i k) = X0 m c (ix3 i 0 k) := by
  have h := (idx t).1
  blk_simp [iblk, h]
  entry_read
  pointwise
  blk_ext [h]

theorem cast1 (k : Fin 4096) (j : Fin 512) : k0_pay1 (iblk m c 1 t) (ix2 k j) = X1 m c (ix2 k ⟨4096 + (512 * t.val + j), by have : t.val < 8 := lt_of_lt_of_eq t.isLt N_0; omega⟩) := by
  have h := (idx t).2.1
  have ht : t.val < 8 := lt_of_lt_of_eq t.isLt N_0
  unfold k0_pay1
  pointwise
  blk_simp [iblk, h]
  entry_read
  blk_ext [h]

end

/-- The kernel's result. -/
theorem result : (dats m 0 c).arrAt 2 cfg0.N = OUT (X0 m c) (X1 m c) := by
  refine (dats m 0 c).arrAt_eq_of_covers 2 _ (by decide +kernel) fun t hf y => ?_
  have h := (idx t).2.2
  have ht : t.val < 8 := lt_of_lt_of_eq t.isLt N_0
  blk_simp
  rw [after0_2]
  unfold outsAt0
  rw [out_A]
  idx_vars y
  have he : (win0_2.blk t).view.emb (ix2 y0 y1) = ix2 y0 ⟨512 * t.val + y1, by omega⟩ := by
    blk_ext [h]
  rw [he]
  unfold k0_pay2 OUT
  pointwise
  exact Finset.sum_congr (M := EReal) rfl fun k _ => congrArg₂ (fun x y : EReal => x * y) (blk0 m c t y0 k) (cast1 m c t k y1)

end Cert.ValStepIdeal.Result

namespace Cert.ValStepReferenceIdeal.Result

open Cert.ValStepReferenceIdeal Cert.ValStepReferenceIdeal.Gen

/-- The reference's run: its result, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Cert.ValStepIdeal.Result.OUT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.ValStepReferenceIdeal.Value.run (F := Ideal) m ρ)
  funext y
  idx_vars y
  unfold Cert.ValStepIdeal.Result.OUT
  pointwise

end Cert.ValStepReferenceIdeal.Result

end
-- ==== Proof.UpStep.lean ====
/- The second layer's up projection of the samples' new tokens: kernel and reference hold the same array. -/
module

public import proofs.«01_k».proof.Proof.Gen.UpStepIdeal.Value
public import proofs.«01_k».proof.Proof.Gen.UpStepReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.UpStepIdeal.Result

open Cert.UpStepIdeal Cert.UpStepIdeal.Gen

/-- Row `i` of the result: the new token of sample `i` times the second layer's matrix. -/
def OUT (a : Vec Ideal S8x1x4096 .f32) (w : Vec Ideal S2x4096x22016 .f32) : Vec Ideal S8x22016 .f32 := fun j =>
  ∑ k : Fin 4096, a (ix3 (j 0) 0 k) * w (ix3 1 k ⟨j 1, by have : (j 1).val < 22016 := (j 1).isLt; omega⟩)

variable (m : (ℓ : Loc nD τ sig) → Buf (Elt Ideal) ℓ) (c : Dev nD)

abbrev X0 : Vec Ideal S8x1x4096 .f32 := m ((c : Thread nD τ).loc main_arg0)
abbrev X1 : Vec Ideal S2x4096x22016 .f32 := m ((c : Thread nD τ).loc main_arg1)

/-- Every window's block index at grid point `t`, which is its column block. -/
theorem idx : ∀ t : Fin cfg0.N, win0_0.index t = ![0, 0] ∧ win0_1.index t = ![1, 0, t.val] ∧ win0_2.index t = ![0, t.val] :=
  (by decide +kernel : ∀ t : Fin grid0.N, _)

section

variable (c : Dev nD) (i : grid0.Coords) (arg2 : Memref sig .tc .vmem S8x4096 .bf16) (harg2 : arg2.IsWhole) (arg3 : Memref sig .tc .vmem S1x4096x512 .f32) (harg3 : arg3.IsWhole) (arg4 : Memref sig .tc .vmem S8x512 .f32) (harg4 : arg4.IsWhole) (arg5 : Memref sig .tc .vmem S4096x512 .bf16) (harg5 : arg5.IsWhole)
  (x0 : Vec Ideal S8x4096 .bf16) (x1 : Vec Ideal S1x4096x512 .f32)

theorem out_A (hc0 : cond0_0 i) : out0_A_2 c i arg2 harg2 arg3 harg3 arg4 harg4 arg5 harg5 hc0 x0 x1 = k0_pay2 x0 (k0_pay1 x1) := by
  frame_open
  simp (disch := decide) only [↓ View.readCov_skip, ↓ View.readCov_cons_toLoadRect, ↓ View.readCov_fill]
  frame_out

end

section

variable (t : Fin cfg0.N)

theorem blk0 (i : Fin 8) (k : Fin 4096) : (iblk m c 0 t : Vec Ideal S8x4096 .bf16) (ix2 i k) = X0 m c (ix3 i 0 k) := by
  have h := (idx t).1
  blk_simp [iblk, h]
  entry_read
  pointwise
  blk_ext [h]

theorem cast1 (k : Fin 4096) (j : Fin 512) : k0_pay1 (iblk m c 1 t) (ix2 k j) = X1 m c (ix3 1 k ⟨512 * t.val + j, by have : t.val < 43 := lt_of_lt_of_eq t.isLt N_0; omega⟩) := by
  have h := (idx t).2.1
  have ht : t.val < 43 := lt_of_lt_of_eq t.isLt N_0
  unfold k0_pay1
  pointwise
  blk_simp [iblk, h]
  entry_read
  blk_ext [h]

end

/-- The kernel's result. -/
theorem result : (dats m 0 c).arrAt 2 cfg0.N = OUT (X0 m c) (X1 m c) := by
  refine (dats m 0 c).arrAt_eq_of_covers 2 _ (by decide +kernel) fun t hf y => ?_
  have h := (idx t).2.2
  have ht : t.val < 43 := lt_of_lt_of_eq t.isLt N_0
  blk_simp
  rw [after0_2]
  unfold outsAt0
  rw [out_A]
  idx_vars y
  have he : (win0_2.blk t).view.emb (ix2 y0 y1) = ix2 y0 ⟨512 * t.val + y1, by omega⟩ := by
    blk_ext [h]
  rw [he]
  unfold k0_pay2 OUT
  pointwise
  exact Finset.sum_congr (M := EReal) rfl fun k _ => congrArg₂ (fun x y : EReal => x * y) (blk0 m c t y0 k) (cast1 m c t k y1)

end Cert.UpStepIdeal.Result

namespace Cert.UpStepReferenceIdeal.Result

open Cert.UpStepReferenceIdeal Cert.UpStepReferenceIdeal.Gen

/-- The reference's run: its result, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = Cert.UpStepIdeal.Result.OUT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.UpStepReferenceIdeal.Value.run (F := Ideal) m ρ)
  funext y
  idx_vars y
  unfold Cert.UpStepIdeal.Result.OUT
  pointwise

end Cert.UpStepReferenceIdeal.Result

end
-- ==== Proof.Recurrence.lean ====
/- The gated linear recurrence over the reals: one token at a time, and the same in chunks.
   A state `S t` (keys by values) starts at zero; token `t` decays row `d` by `exp (g t d)` and adds the outer
   product of its key and value; the output is the query applied to the new state. `state_chunk` and `out_chunk` say
   that a chunk of any length, computed at once from the decays' running sums, is the recurrence. -/
module

public import Idealize.ShloMosaic.Lib.Pointwise

@[expose] public section

noncomputable section

namespace Cert.Gla

open Real Finset

variable {D E : Type} [Fintype D]

/-- The state before token `t`. -/
def state (k : ℕ → D → ℝ) (v : ℕ → E → ℝ) (g : ℕ → D → ℝ) : ℕ → D → E → ℝ
  | 0 => fun _ _ => 0
  | t + 1 => fun d e => exp (g t d) * state k v g t d e + k t d * v t e

/-- Token `t`'s output: its query applied to the state that holds it. -/
def out (q k : ℕ → D → ℝ) (v : ℕ → E → ℝ) (g : ℕ → D → ℝ) (t : ℕ) (e : E) : ℝ :=
  ∑ d, q t d * state k v g (t + 1) d e

/-- The running sum of the log decays from token `t₀` to token `t₀ + i`, both included. -/
def cum (g : ℕ → D → ℝ) (t₀ i : ℕ) (d : D) : ℝ := ∑ j ∈ range (i + 1), g (t₀ + j) d

variable (q k : ℕ → D → ℝ) (v : ℕ → E → ℝ) (g : ℕ → D → ℝ)

omit [Fintype D] in
theorem state_succ (t : ℕ) (d : D) (e : E) :
    state k v g (t + 1) d e = exp (g t d) * state k v g t d e + k t d * v t e := rfl

omit [Fintype D] in
/-- The state `n` tokens later: the old state decayed, and each token's product decayed from its place. -/
theorem state_add (t₀ n : ℕ) (d : D) (e : E) :
    state k v g (t₀ + n) d e = exp (∑ j ∈ range n, g (t₀ + j) d) * state k v g t₀ d e
      + ∑ j ∈ range n, k (t₀ + j) d * exp (∑ i ∈ range n, g (t₀ + i) d - cum g t₀ j d) * v (t₀ + j) e := by
  induction n with
  | zero => simp
  | succ n ih =>
    rw [← Nat.add_assoc, state_succ, ih, sum_range_succ (fun j => g (t₀ + j) d), exp_add, sum_range_succ]
    have h1 : ∑ i ∈ range n, g (t₀ + i) d + g (t₀ + n) d - cum g t₀ n d = 0 := by
      rw [cum, sum_range_succ]; ring
    rw [h1, exp_zero, mul_add, mul_sum]
    have h2 : ∀ j ∈ range n, exp (g (t₀ + n) d)
          * (k (t₀ + j) d * exp (∑ i ∈ range n, g (t₀ + i) d - cum g t₀ j d) * v (t₀ + j) e)
        = k (t₀ + j) d * exp (∑ i ∈ range n, g (t₀ + i) d + g (t₀ + n) d - cum g t₀ j d) * v (t₀ + j) e := by
      intro j _
      rw [show ∑ i ∈ range n, g (t₀ + i) d + g (t₀ + n) d - cum g t₀ j d
          = g (t₀ + n) d + (∑ i ∈ range n, g (t₀ + i) d - cum g t₀ j d) by ring, exp_add]
      ring
    rw [sum_congr rfl h2]
    ring

omit [Fintype D] in
/-- The state after a chunk of `C` tokens. -/
theorem state_chunk (C L : ℕ) (hL : L + 1 = C) (t₀ : ℕ) (d : D) (e : E) :
    state k v g (t₀ + C) d e = exp (cum g t₀ L d) * state k v g t₀ d e
      + ∑ j : Fin C, k (t₀ + j) d * exp (cum g t₀ L d - cum g t₀ j d) * v (t₀ + j) e := by
  subst hL
  rw [state_add, Finset.sum_range fun j => k (t₀ + j) d * _ * v (t₀ + j) e]
  rfl

/-- The output of the chunk's token `i`: the causal products inside the chunk, with the decays split at any offset
    `μ`, and the query decayed onto the state before the chunk. -/
theorem out_chunk (C : ℕ) (t₀ : ℕ) (μ : D → ℝ) (i : Fin C) (e : E) :
    ∑ j : Fin C, (if j ≤ i then ∑ d, (q (t₀ + i) d * exp (cum g t₀ i d - μ d))
          * (k (t₀ + j) d * exp (μ d - cum g t₀ j d)) else 0) * v (t₀ + j) e
        + ∑ d, q (t₀ + i) d * exp (cum g t₀ i d) * state k v g t₀ d e
      = out q k v g (t₀ + i) e := by
  have hin : ∀ j : Fin C, ∀ d, (q (t₀ + i) d * exp (cum g t₀ i d - μ d)) * (k (t₀ + j) d * exp (μ d - cum g t₀ j d))
      = q (t₀ + i) d * (k (t₀ + j) d * exp (cum g t₀ i d - cum g t₀ j d)) := by
    intro j d
    rw [show cum g t₀ i d - cum g t₀ j d = (cum g t₀ i d - μ d) + (μ d - cum g t₀ j d) by ring, exp_add]
    ring
  simp only [hin]
  have hS : ∀ d, state k v g (t₀ + i + 1) d e = exp (cum g t₀ i d) * state k v g t₀ d e
      + ∑ j : Fin C, if j ≤ i then k (t₀ + j) d * exp (cum g t₀ i d - cum g t₀ j d) * v (t₀ + j) e else 0 := by
    intro d
    rw [Nat.add_assoc, state_add]
    congr 1
    rw [← sum_filter]
    refine sum_bij' (fun j hj => (⟨j, by rw [mem_range] at hj; omega⟩ : Fin C)) (fun j _ => (j : ℕ)) ?_ ?_ ?_ ?_ ?_
    · intro j hj; rw [mem_range] at hj; exact mem_filter.2 ⟨mem_univ _, Fin.le_def.2 (by show j ≤ i.val; omega)⟩
    · intro j hj; have := Fin.le_def.1 (mem_filter.1 hj).2; exact mem_range.2 (by omega)
    · intro j _; rfl
    · intro j _; rfl
    · intro j _; rfl
  rw [show out q k v g (t₀ + i) e = ∑ d, q (t₀ + i) d * state k v g (t₀ + i + 1) d e from rfl]
  simp only [hS, mul_add, mul_sum, sum_add_distrib]
  rw [add_comm, sum_comm (s := univ (α := D))]
  congr 1
  · refine sum_congr rfl fun d _ => by ring
  · refine sum_congr rfl fun j _ => ?_
    by_cases h : j ≤ i
    · simp only [h, if_true, sum_mul]
      exact sum_congr rfl fun d _ => by ring
    · simp [h]

end Cert.Gla

end
-- ==== Proof.RealMath.lean ====
/- Extended reals that hold reals: sums, the log-sigmoid gate, and the causal comparison of two indices. -/
module

public import Idealize.ShloMosaic.Lib.Pointwise
public import Idealize.ShloMosaic.Lib.IdealHost
public import Idealize.ShloMosaic.Lib.WordCmp

@[expose] public section

noncomputable section

open Idealize.ShloMosaic

namespace Cert.Gla

/-- A finite sum of reals, read in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of reals that the extended reals hold term by term. -/
theorem sum_eq_coe {ι : Type} [Fintype ι] (F : ι → EReal) (f : ι → ℝ) (h : ∀ i, F i = (f i : EReal)) :
    ∑ i, F i = ((∑ i, f i : ℝ) : EReal) := by
  rw [Finset.sum_congr rfl fun i _ => h i, coe_sum]

/-- The log of a token's decay at the gate's input `z`: the log-sigmoid of `z` over sixteen. -/
def gate (z : ℝ) : ℝ := (min z 0 - Real.log (1 + Real.exp (-|z|))) * (1 / 16)

theorem coe_max (x y : ℝ) : max (x : EReal) (y : EReal) = ((max x y : ℝ) : EReal) := (EReal.coe_strictMono.monotone.map_max).symm

theorem coe_min (x y : ℝ) : min (x : EReal) (y : EReal) = ((min x y : ℝ) : EReal) := (EReal.coe_strictMono.monotone.map_min).symm

theorem absf_coe (z : ℝ) : FloatOps.absf (F := Ideal) (φ := .f32) (z : EReal) = ((|z| : ℝ) : EReal) := by
  show max (z : EReal) (-(z : EReal)) = _
  rw [← EReal.coe_neg, coe_max]; rfl

theorem log1p_exp_coe (z : ℝ) : Ideal.log1p (Ideal.exp (z : EReal)) = ((Real.log (1 + Real.exp z) : ℝ) : EReal) := by
  have h : 0 < 1 + Real.exp z := by positivity
  rw [Ideal.exp_coe, Ideal.log1p, ← EReal.coe_one, ← EReal.coe_add, Ideal.log_coe, if_neg (not_le.2 h)]

theorem ofBits_sixteenth : Ideal.ofBits .f32 0x3D800000#32 = (((1 : ℝ) / 16 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

/-- The query's scale, the real of the rounded constant `512 ^ (-1/2)`. -/
def scale : ℝ := (Ideal.ofBits .f32 0x3D3504F3#32).toReal

theorem ofBits_scale : Ideal.ofBits .f32 0x3D3504F3#32 = (scale : EReal) := by
  have h : ∃ r : ℝ, Ideal.ofBits .f32 0x3D3504F3#32 = (r : EReal) := by
    simp only [Ideal.ofBits, Ideal.ieee]
    exact ⟨_, rfl⟩
  obtain ⟨r, hr⟩ := h
  rw [scale, hr, EReal.toReal_coe]

/-- The gate as the kernel computes it. -/
theorem gate_kernel (z : ℝ) :
    (min (z : EReal) 0 - Ideal.log1p (Ideal.exp (0 - FloatOps.absf (F := Ideal) (φ := .f32) (z : EReal))))
      * Ideal.ofBits .f32 0x3D800000#32 = (gate z : EReal) := by
  rw [absf_coe, ← EReal.coe_zero, coe_min, ← EReal.coe_sub, zero_sub, log1p_exp_coe, ofBits_sixteenth, ← EReal.coe_sub,
    ← EReal.coe_mul]
  rfl

/-- The gate as the softplus form computes it. -/
theorem gate_softplus (z : ℝ) :
    Ideal.div (-(max (-(z : EReal)) 0 + Ideal.log1p (Ideal.exp (-(FloatOps.absf (F := Ideal) (φ := .f32) (-(z : EReal)))))))
      (Ideal.ofBits .f32 0x41800000#32) = (gate z : EReal) := by
  rw [← EReal.coe_neg, absf_coe, ← EReal.coe_zero, coe_max, ← EReal.coe_neg, log1p_exp_coe, ofBits_sixteen,
    Ideal.div_coe (by norm_num), ← EReal.coe_add, ← EReal.coe_neg, ← EReal.coe_mul, abs_neg, gate]
  congr 2
  rw [neg_add, ← sub_eq_add_neg, ← min_neg_neg, neg_neg, neg_zero]

/-- The causal mask's bit: row `i` sees column `j` when `j ≤ i`. -/
theorem causal_bit {n : ℕ} (hn : n ≤ 2 ^ 31) (i j : Fin n) :
    IntOp.cmpi CmpIPredicate.sge (BitVec.ofNat 32 i) (BitVec.ofNat 32 j) = if j ≤ i then 1#1 else 0#1 := by
  rw [Idealize.ShloMosaic.WordCmp.cmpi_sge_ofNat (by omega) (by omega)]
  by_cases h : j ≤ i
  · rw [if_pos h, decide_eq_true (Fin.le_def.1 h)]; rfl
  · rw [if_neg h, decide_eq_false (fun e => h (Fin.le_def.2 e))]; rfl

theorem causal_float {n : ℕ} (hn : n ≤ 2 ^ 31) (i j : Fin n) :
    FloatOps.sitofp (F := Ideal) .f32 (BitVec.setWidth 32
      (IntOp.cmpi CmpIPredicate.sge (BitVec.ofNat 32 i) (BitVec.ofNat 32 j))) = ((if j ≤ i then 1 else 0 : ℝ) : EReal) := by
  rw [causal_bit hn]
  show (((BitVec.setWidth 32 _).toInt : ℝ) : EReal) = _
  split <;> norm_num

theorem causal_select {n : ℕ} (hn : n ≤ 2 ^ 31) (i j : Fin n) (a b : EReal) :
    Scalar.select (IntOp.cmpi CmpIPredicate.sge (BitVec.ofNat 32 i) (BitVec.ofNat 32 j)) a b = if j ≤ i then a else b := by
  rw [causal_bit hn]
  by_cases h : j ≤ i
  · rw [if_pos h, if_pos h]; rfl
  · rw [if_neg h, if_neg h]; rfl

end Cert.Gla

end
-- ==== Proof.Chunk.lean ====
/- One chunk of the kernel at the extended reals: its running sums, its outputs and its state are the recurrence. -/
module

public import proofs.«01_k».proof.Proof.Gen.KernelIdeal.Value
public import proofs.«01_k».proof.Proof.Recurrence
public import proofs.«01_k».proof.Proof.RealMath
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.KernelIdeal.Chunk
open Cert.KernelIdeal Cert.KernelIdeal.Gen
open Cert.Gla

/-! ## What one chunk of 128 tokens computes, of blocks that hold reals -/

section

variable {q k : ℕ → Fin 512 → ℝ} {v : ℕ → Fin 1024 → ℝ} {g : ℕ → Fin 512 → ℝ} (t₀ : ℕ)

/-- The running sum of the log decays. -/
theorem pay6_coe (a : Vec Ideal S128x128 .f32) (w : Vec Ideal S128x512 .bf16) (b : Vec Ideal S1x512 .f32)
    {z : ℕ → Fin 512 → ℝ}
    (hz : ∀ (i : Fin 128) d, ∑ r : Fin 128, a (ix2 i r) * w (ix2 r d) + b (ix2 0 d) = (z (t₀ + i) d : EReal))
    (i : Fin 128) (d : Fin 512) :
    k0_pay6 a w b (ix2 i d) = ((cum (fun t d => gate (z t d)) t₀ i d : ℝ) : EReal) := by
  pointwise [k0_pay6, k0_pay5, k0_pay4]
  simp only [hz, gate_kernel, causal_float (n := 128) (by norm_num), ← EReal.coe_mul]
  rw [coe_sum, EReal.coe_eq_coe_iff, cum, Finset.sum_range fun j => gate (z (t₀ + j) d)]
  simp only [ite_mul, one_mul, zero_mul]
  rw [← Finset.sum_filter]
  symm
  refine Finset.sum_bij (fun j _ => (⟨j, by omega⟩ : Fin 128)) ?_ ?_ ?_ ?_
  · intro j _; exact Finset.mem_filter.2 ⟨Finset.mem_univ _, Fin.le_def.2 (Nat.le_of_lt_succ j.isLt)⟩
  · intro j _ j' _ h; exact Fin.ext (Fin.mk.inj h)
  · intro j hj; exact ⟨⟨j, Nat.lt_succ_of_le (Fin.le_def.1 (Finset.mem_filter.1 hj).2)⟩, Finset.mem_univ _, rfl⟩
  · intro j _; rfl

variable (bb : FVec Ideal S128x512 .f32) (bm : FVec Ideal S1x512 .f32) (xq xk : FVec Ideal S128x512 .f32)
  (xv : Vec Ideal S128x1024 .f32) (s : Vec Ideal S1x1x512x1024 .f32)

/-- The chunk's outputs. -/
theorem pay13_coe {μ : Fin 512 → ℝ}
    (hb : ∀ (i : Fin 128) d, bb (ix2 i d) = (cum g t₀ i d : EReal)) (hm : ∀ d, bm (ix2 0 d) = (μ d : EReal))
    (hq : ∀ (i : Fin 128) d, xq (ix2 i d) = (q (t₀ + i) d : EReal))
    (hk : ∀ (i : Fin 128) d, xk (ix2 i d) = (k (t₀ + i) d : EReal))
    (hv : ∀ (i : Fin 128) e, xv (ix2 i e) = (v (t₀ + i) e : EReal))
    (hs : ∀ d e, s (ix4 0 0 d e) = (state k v g t₀ d e : EReal)) (i : Fin 128) (e : Fin 1024) :
    k0_pay13 k0_pay4 bb bm xq xk xv s (ix2 i e) = ((out q k v g (t₀ + i) e : ℝ) : EReal) := by
  pointwise [k0_pay13, k0_pay11, k0_pay12, k0_pay4]
  simp only [causal_select (n := 128) (by norm_num), hb, hm, hq, hk, hv, hs, ← EReal.coe_sub, Ideal.exp_coe, ← EReal.coe_mul, coe_sum]
  rw [← out_chunk q k v g 128 t₀ μ i e, EReal.coe_add]
  refine congrArg (· + _) (sum_eq_coe _ _ fun j => ?_)
  split
  · rw [EReal.coe_mul]
  · simp

/-- The state after the chunk. -/
theorem pay14_coe
    (hb : ∀ (i : Fin 128) d, bb (ix2 i d) = (cum g t₀ i d : EReal)) (hm : ∀ d, bm (ix2 0 d) = (cum g t₀ 127 d : EReal))
    (hk : ∀ (i : Fin 128) d, xk (ix2 i d) = (k (t₀ + i) d : EReal))
    (hv : ∀ (i : Fin 128) e, xv (ix2 i e) = (v (t₀ + i) e : EReal))
    (hs : ∀ d e, s (ix4 0 0 d e) = (state k v g t₀ d e : EReal)) (d : Fin 512) (e : Fin 1024) :
    k0_pay14 bb bm xk xv s (ix4 0 0 d e) = ((state k v g (t₀ + 128) d e : ℝ) : EReal) := by
  pointwise [k0_pay14, k0_pay11, k0_pay12]
  simp only [hb, hm, hk, hv, hs, ← EReal.coe_sub, Ideal.exp_coe, ← EReal.coe_mul, coe_sum, ← EReal.coe_add]
  rw [← state_chunk k v g 128 127 rfl t₀ d e]

end

/-- A normed, gated output: what both programs make of a head's raw output row `o`. -/
def finish (o : Fin 1024 → EReal) (r gh : EReal) (e : Fin 1024) : EReal :=
  o e * Ideal.rsqrt (Ideal.div (∑ x, o x * o x) (Ideal.ofBits FTy.f32 0x44800000#32) + Ideal.ofBits FTy.f32 0x358637BD#32) * gh
    * (r * Ideal.div 1 (1 + Ideal.exp (0 - r)))

theorem pay15_apply (o : FVec Ideal S128x1024 .f32) (r : Vec Ideal S128x1024 .f32) (gh : Vec Ideal S1x1024 .f32) (i : Fin 128) (e : Fin 1024) :
    k0_pay15 o r gh (ix2 i e) = finish (fun x => o (ix2 i x)) (r (ix2 i e)) (gh (ix2 0 e)) e := by
  pointwise [k0_pay15, finish]

/-! ## A chunk as a function of its blocks -/

/-- The state after a chunk, of the chunk's rows and the state before it. -/
def newState (a : Vec Ideal S128x128 .f32) (w : Vec Ideal S128x512 .bf16) (b : Vec Ideal S1x512 .f32) (xk : Vec Ideal S128x512 .f32)
    (xv : Vec Ideal S128x1024 .f32) (s : Vec Ideal S1x1x512x1024 .f32) : Vec Ideal S1x1x512x1024 .f32 :=
  k0_pay14 (k0_pay6 a w b) (k0_pay8 a w b) (k0_pay10 xk) xv s

/-- The rows a chunk writes. -/
def outTile (a : Vec Ideal S128x128 .f32) (w : Vec Ideal S128x512 .bf16) (b : Vec Ideal S1x512 .f32) (xq xk : Vec Ideal S128x512 .f32)
    (xv : Vec Ideal S128x1024 .f32) (s : Vec Ideal S1x1x512x1024 .f32) (r : Vec Ideal S128x1024 .f32) (gh : Vec Ideal S1x1024 .f32) :
    Vec Ideal S128x1024 .bf16 :=
  k0_pay15 (k0_pay13 k0_pay4 (k0_pay6 a w b) (k0_pay7 a w b) (k0_pay9 xq) (k0_pay10 xk) xv s) r gh

variable {q k : ℕ → Fin 512 → ℝ} {v : ℕ → Fin 1024 → ℝ} {z : ℕ → Fin 512 → ℝ} (t₀ : ℕ)
  (a : Vec Ideal S128x128 .f32) (w : Vec Ideal S128x512 .bf16) (b : Vec Ideal S1x512 .f32) (xq xk : Vec Ideal S128x512 .f32)
  (xv : Vec Ideal S128x1024 .f32) (s : Vec Ideal S1x1x512x1024 .f32) (r : Vec Ideal S128x1024 .f32) (gh : Vec Ideal S1x1024 .f32)

theorem newState_coe
    (hz : ∀ (i : Fin 128) d, ∑ r : Fin 128, a (ix2 i r) * w (ix2 r d) + b (ix2 0 d) = (z (t₀ + i) d : EReal))
    (hk : ∀ (i : Fin 128) d, xk (ix2 i d) = (k (t₀ + i) d : EReal))
    (hv : ∀ (i : Fin 128) e, xv (ix2 i e) = (v (t₀ + i) e : EReal))
    (hs : ∀ d e, s (ix4 0 0 d e) = (state k v (fun t d => gate (z t d)) t₀ d e : EReal)) (d : Fin 512) (e : Fin 1024) :
    newState a w b xk xv s (ix4 0 0 d e) = ((state k v (fun t d => gate (z t d)) (t₀ + 128) d e : ℝ) : EReal) := by
  refine pay14_coe t₀ _ _ _ _ _ (fun i d => pay6_coe t₀ a w b hz i d) (fun d => ?_) (fun i d => ?_) hv hs d e
  · refine Eq.trans ?_ (pay6_coe t₀ a w b hz 127 d)
    pointwise [k0_pay8]
  · rw [← hk]; pointwise [k0_pay10]

theorem outTile_coe
    (hz : ∀ (i : Fin 128) d, ∑ r : Fin 128, a (ix2 i r) * w (ix2 r d) + b (ix2 0 d) = (z (t₀ + i) d : EReal))
    (hq : ∀ (i : Fin 128) d, xq (ix2 i d) * Ideal.ofBits .f32 0x3D3504F3#32 = (q (t₀ + i) d : EReal))
    (hk : ∀ (i : Fin 128) d, xk (ix2 i d) = (k (t₀ + i) d : EReal))
    (hv : ∀ (i : Fin 128) e, xv (ix2 i e) = (v (t₀ + i) e : EReal))
    (hs : ∀ d e, s (ix4 0 0 d e) = (state k v (fun t d => gate (z t d)) t₀ d e : EReal)) (i : Fin 128) (e : Fin 1024) :
    outTile a w b xq xk xv s r gh (ix2 i e)
      = finish (fun e => ((out q k v (fun t d => gate (z t d)) (t₀ + i) e : ℝ) : EReal)) (r (ix2 i e)) (gh (ix2 0 e)) e := by
  rw [outTile, pay15_apply]
  congr 1
  funext x
  refine pay13_coe t₀ _ _ _ _ _ _ (fun i d => pay6_coe t₀ a w b hz i d)
    (μ := fun d => cum (fun t d => gate (z t d)) t₀ 63 d) (fun d => ?_) (fun i d => ?_) (fun i d => ?_) hv hs i x
  · refine Eq.trans ?_ (pay6_coe t₀ a w b hz 63 d)
    pointwise [k0_pay7]
  · rw [← hq]; pointwise [k0_pay9]
  · rw [← hk]; pointwise [k0_pay10]

end Cert.KernelIdeal.Chunk

end
-- ==== Proof.Block.lean ====
/- One grid point of the kernel: four chunks of 128 tokens, one after another. -/
module

public import proofs.«01_k».proof.Proof.Gen.KernelIdeal.Value
public import proofs.«01_k».proof.Proof.Chunk
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.KernelIdeal.Chunk
open Cert.KernelIdeal Cert.KernelIdeal.Gen
open Cert.Gla

/-- The state after the block's first 128 tokens, of the state before the block. -/
def state1 (x1 : Vec Ideal S512x512 .f32) (x2 : Vec Ideal S512x1024 .f32) (x4 : Vec Ideal S512x128 .f32) (x5 : Vec Ideal S128x512 .bf16)
    (x6 : Vec Ideal S1x512 .f32) (s : Vec Ideal S1x1x512x1024 .f32) : Vec Ideal S1x1x512x1024 .f32 :=
  newState (View.ld x4 (Rect.unit ![0, 0] ![128, 128] inb_S512x128_S128x128_0_0)) x5 x6
    (View.ld x1 (Rect.unit ![0, 0] ![128, 512] inb_S512x512_S128x512_0_0)) (View.ld x2 (Rect.unit ![0, 0] ![128, 1024] inb_S512x1024_S128x1024_0_0))
    s

/-- The state after the block's first 256 tokens, of the state before the block. -/
def state2 (x1 : Vec Ideal S512x512 .f32) (x2 : Vec Ideal S512x1024 .f32) (x4 : Vec Ideal S512x128 .f32) (x5 : Vec Ideal S128x512 .bf16)
    (x6 : Vec Ideal S1x512 .f32) (s : Vec Ideal S1x1x512x1024 .f32) : Vec Ideal S1x1x512x1024 .f32 :=
  newState (View.ld x4 (Rect.unit ![128, 0] ![128, 128] inb_S512x128_S128x128_128_0)) x5 x6
    (View.ld x1 (Rect.unit ![128, 0] ![128, 512] inb_S512x512_S128x512_128_0)) (View.ld x2 (Rect.unit ![128, 0] ![128, 1024] inb_S512x1024_S128x1024_128_0))
    (state1 x1 x2 x4 x5 x6 s)

/-- The state after the block's first 384 tokens, of the state before the block. -/
def state3 (x1 : Vec Ideal S512x512 .f32) (x2 : Vec Ideal S512x1024 .f32) (x4 : Vec Ideal S512x128 .f32) (x5 : Vec Ideal S128x512 .bf16)
    (x6 : Vec Ideal S1x512 .f32) (s : Vec Ideal S1x1x512x1024 .f32) : Vec Ideal S1x1x512x1024 .f32 :=
  newState (View.ld x4 (Rect.unit ![256, 0] ![128, 128] inb_S512x128_S128x128_256_0)) x5 x6
    (View.ld x1 (Rect.unit ![256, 0] ![128, 512] inb_S512x512_S128x512_256_0)) (View.ld x2 (Rect.unit ![256, 0] ![128, 1024] inb_S512x1024_S128x1024_256_0))
    (state2 x1 x2 x4 x5 x6 s)

/-- The state after the block's first 512 tokens, of the state before the block. -/
def state4 (x1 : Vec Ideal S512x512 .f32) (x2 : Vec Ideal S512x1024 .f32) (x4 : Vec Ideal S512x128 .f32) (x5 : Vec Ideal S128x512 .bf16)
    (x6 : Vec Ideal S1x512 .f32) (s : Vec Ideal S1x1x512x1024 .f32) : Vec Ideal S1x1x512x1024 .f32 :=
  newState (View.ld x4 (Rect.unit ![384, 0] ![128, 128] inb_S512x128_S128x128_384_0)) x5 x6
    (View.ld x1 (Rect.unit ![384, 0] ![128, 512] inb_S512x512_S128x512_384_0)) (View.ld x2 (Rect.unit ![384, 0] ![128, 1024] inb_S512x1024_S128x1024_384_0))
    (state3 x1 x2 x4 x5 x6 s)

section

variable (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S1x1x512x1024 .f32) (harg12 : arg12.IsWhole)
  (x0 x1 : Vec Ideal S512x512 .f32) (x2 x3 : Vec Ideal S512x1024 .f32) (x4 : Vec Ideal S512x128 .f32) (x5 : Vec Ideal S128x512 .bf16)
  (x6 : Vec Ideal S1x512 .f32) (x7 : Vec Ideal S1x1024 .f32) (xo9 : Vec Ideal S1x1x512x1024 .f32)

theorem out_B_9 (hc0 : ¬cond0_0 i) : out0_B_9 c i arg3 harg3 arg4 harg4 arg5 harg5 arg6 harg6 arg7 harg7 arg8 harg8 arg9 harg9 arg10 harg10 arg11 harg11 arg12 harg12 hc0 x0 x1 x2 x3 x4 x5 x6 x7 xo9 = state4 x1 x2 x4 x5 x6 xo9 := by
  frame_open
  simp (disch := decide) only [↓ View.readCov_skip, ↓ View.readCov_cons_toLoadRect, ↓ View.readCov_fill]
  frame_out
  rfl

theorem out_A_9 (hc0 : cond0_0 i) : out0_A_9 c i arg3 harg3 arg4 harg4 arg5 harg5 arg6 harg6 arg7 harg7 arg8 harg8 arg9 harg9 arg10 harg10 arg11 harg11 arg12 harg12 hc0 x0 x1 x2 x3 x4 x5 x6 x7 = state4 x1 x2 x4 x5 x6 (k0_pay3 (F := Ideal)) := by
  frame_open
  simp (disch := decide) only [↓ View.readCov_skip, ↓ View.readCov_cons_toLoadRect, ↓ View.readCov_fill]
  frame_out
  rfl

end

section

variable {q k : ℕ → Fin 512 → ℝ} {v : ℕ → Fin 1024 → ℝ} {z : ℕ → Fin 512 → ℝ} (t₀ : ℕ)
  {x0 x1 : Vec Ideal S512x512 .f32} {x2 x3 : Vec Ideal S512x1024 .f32} {x4 : Vec Ideal S512x128 .f32} {x5 : Vec Ideal S128x512 .bf16}
  {x6 : Vec Ideal S1x512 .f32} {x7 : Vec Ideal S1x1024 .f32} {s : Vec Ideal S1x1x512x1024 .f32}
  (hz : ∀ (i : Fin 512) d, ∑ r : Fin 128, x4 (ix2 i r) * x5 (ix2 r d) + x6 (ix2 0 d) = (z (t₀ + i) d : EReal))
  (hq : ∀ (i : Fin 512) d, x0 (ix2 i d) * Ideal.ofBits .f32 0x3D3504F3#32 = (q (t₀ + i) d : EReal))
  (hk : ∀ (i : Fin 512) d, x1 (ix2 i d) = (k (t₀ + i) d : EReal))
  (hv : ∀ (i : Fin 512) e, x2 (ix2 i e) = (v (t₀ + i) e : EReal))

include hz hk hv in
/-- The state after the chunk of rows from `o` on. -/
theorem newState_rows (o : ℕ) (ho : o + 128 ≤ 512) (h4 h1 h2)
    (hs : ∀ d e, s (ix4 0 0 d e) = (state k v (fun t d => gate (z t d)) (t₀ + o) d e : EReal)) (d : Fin 512) (e : Fin 1024) :
    newState (View.ld x4 (Rect.unit ![o, 0] ![128, 128] h4)) x5 x6 (View.ld x1 (Rect.unit ![o, 0] ![128, 512] h1))
        (View.ld x2 (Rect.unit ![o, 0] ![128, 1024] h2)) s (ix4 0 0 d e)
      = ((state k v (fun t d => gate (z t d)) (t₀ + o + 128) d e : ℝ) : EReal) := by
  refine newState_coe (t₀ + o) _ _ _ _ _ _ (fun i d => ?_) (fun i d => ?_) (fun i d => ?_) hs d e
  · rw [Nat.add_assoc, ← hz ⟨o + i, by omega⟩ d]
    refine congrArg (· + _) (Finset.sum_congr rfl fun r _ => congrArg (· * _) (View.ld_unit_apply_of _ _ _ _ _ _ fun a => ?_))
    fin_cases a <;> simp
  · rw [Nat.add_assoc, ← hk ⟨o + i, by omega⟩ d]
    refine View.ld_unit_apply_of _ _ _ _ _ _ fun a => ?_
    fin_cases a <;> simp
  · rw [Nat.add_assoc, ← hv ⟨o + i, by omega⟩ d]
    refine View.ld_unit_apply_of _ _ _ _ _ _ fun a => ?_
    fin_cases a <;> simp

include hz hq hk hv in
/-- What the chunk of rows from `o` on writes. -/
theorem outTile_rows (o : ℕ) (ho : o + 128 ≤ 512) (h4 h0 h1 h2 h3)
    (hs : ∀ d e, s (ix4 0 0 d e) = (state k v (fun t d => gate (z t d)) (t₀ + o) d e : EReal)) (j : S128x1024.Idx)
    (y : S512x1024.Idx) (hy0 : (y 0 : ℕ) = o + (j 0 : ℕ)) (hy1 : (y 1 : ℕ) = (j 1 : ℕ)) :
    outTile (View.ld x4 (Rect.unit ![o, 0] ![128, 128] h4)) x5 x6 (View.ld x0 (Rect.unit ![o, 0] ![128, 512] h0))
        (View.ld x1 (Rect.unit ![o, 0] ![128, 512] h1)) (View.ld x2 (Rect.unit ![o, 0] ![128, 1024] h2)) s
        (View.ld x3 (Rect.unit ![o, 0] ![128, 1024] h3)) x7 j
      = finish (fun e => ((out q k v (fun t d => gate (z t d)) (t₀ + (y 0 : ℕ)) e : ℝ) : EReal)) (x3 y) (x7 (ix2 0 (y 1))) (y 1) := by
  idx_vars j
  idx_vars y
  have e0 : (y0 : ℕ) = o + j0 := hy0
  obtain rfl : y1 = j1 := Fin.ext hy1
  refine (outTile_coe (q := q) (t₀ + o) _ _ _ _ _ _ _ _ _ (fun i d => ?_) (fun i d => ?_) (fun i d => ?_) (fun i d => ?_) hs _ _).trans ?_
  · rw [Nat.add_assoc, ← hz ⟨o + i, by omega⟩ d]
    refine congrArg (· + _) (Finset.sum_congr rfl fun r _ => congrArg (· * _) (View.ld_unit_apply_of _ _ _ _ _ _ fun a => ?_))
    fin_cases a <;> simp
  · rw [Nat.add_assoc, ← hq ⟨o + i, by omega⟩ d]
    refine congrArg (· * _) (View.ld_unit_apply_of _ _ _ _ _ _ fun a => ?_)
    fin_cases a <;> simp
  · rw [Nat.add_assoc, ← hk ⟨o + i, by omega⟩ d]
    refine View.ld_unit_apply_of _ _ _ _ _ _ fun a => ?_
    fin_cases a <;> simp
  · rw [Nat.add_assoc, ← hv ⟨o + i, by omega⟩ d]
    refine View.ld_unit_apply_of _ _ _ _ _ _ fun a => ?_
    fin_cases a <;> simp
  · show finish (fun e => (out q k v (fun t d => gate (z t d)) _ e : EReal)) _ _ y1 = finish (fun e => (out q k v (fun t d => gate (z t d)) (t₀ + y0) e : EReal)) _ _ y1
    rw [Nat.add_assoc, ← e0]
    refine congrArg (fun r => finish _ r _ y1) (View.ld_unit_apply_of _ _ _ _ _ _ fun a => ?_)
    fin_cases a <;> simp [e0]

variable (hs : ∀ d e, s (ix4 0 0 d e) = (state k v (fun t d => gate (z t d)) t₀ d e : EReal))

include hz hk hv hs in
theorem state1_coe (d : Fin 512) (e : Fin 1024) :
    state1 x1 x2 x4 x5 x6 s (ix4 0 0 d e) = ((state k v (fun t d => gate (z t d)) (t₀ + 128) d e : ℝ) : EReal) :=
  newState_rows t₀ hz hk hv 0 (by norm_num) _ _ _ hs d e

include hz hk hv hs in
theorem state2_coe (d : Fin 512) (e : Fin 1024) :
    state2 x1 x2 x4 x5 x6 s (ix4 0 0 d e) = ((state k v (fun t d => gate (z t d)) (t₀ + 256) d e : ℝ) : EReal) :=
  newState_rows t₀ hz hk hv 128 (by norm_num) _ _ _ (state1_coe t₀ hz hk hv hs) d e

include hz hk hv hs in
theorem state3_coe (d : Fin 512) (e : Fin 1024) :
    state3 x1 x2 x4 x5 x6 s (ix4 0 0 d e) = ((state k v (fun t d => gate (z t d)) (t₀ + 384) d e : ℝ) : EReal) :=
  newState_rows t₀ hz hk hv 256 (by norm_num) _ _ _ (state2_coe t₀ hz hk hv hs) d e

include hz hk hv hs in
theorem state4_coe (d : Fin 512) (e : Fin 1024) :
    state4 x1 x2 x4 x5 x6 s (ix4 0 0 d e) = ((state k v (fun t d => gate (z t d)) (t₀ + 512) d e : ℝ) : EReal) :=
  newState_rows t₀ hz hk hv 384 (by norm_num) _ _ _ (state3_coe t₀ hz hk hv hs) d e

include hz hq hk hv hs in
theorem out_B_8 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S1x1x512x1024 .f32) (harg12 : arg12.IsWhole)
    (hc0 : ¬cond0_0 i) (y : S512x1024.Idx) :
    out0_B_8 c i arg3 harg3 arg4 harg4 arg5 harg5 arg6 harg6 arg7 harg7 arg8 harg8 arg9 harg9 arg10 harg10 arg11 harg11 arg12 harg12 hc0 x0 x1 x2 x3 x4 x5 x6 x7 s y
      = finish (fun e => ((out q k v (fun t d => gate (z t d)) (t₀ + (y 0 : ℕ)) e : ℝ) : EReal)) (x3 y) (x7 (ix2 0 (y 1))) (y 1) := by
  frame_open
  simp (disch := decide) only [↓ View.readCov_skip, ↓ View.readCov_cons_toLoadRect, ↓ View.readCov_fill]
  frame_out
  canon_tiles x h
  · exact outTile_rows t₀ hz hq hk hv 384 (by norm_num) _ _ _ _ _ (state3_coe t₀ hz hk hv hs) x y h0 h1
  · exact outTile_rows t₀ hz hq hk hv 256 (by norm_num) _ _ _ _ _ (state2_coe t₀ hz hk hv hs) x y h0 h1
  · exact outTile_rows t₀ hz hq hk hv 128 (by norm_num) _ _ _ _ _ (state1_coe t₀ hz hk hv hs) x y h0 h1
  · exact outTile_rows t₀ hz hq hk hv 0 (by norm_num) _ _ _ _ _ hs x y (h0.trans (Nat.zero_add _).symm) h1

include hz hq hk hv in
theorem out_A_8 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S1x1x512x1024 .f32) (harg12 : arg12.IsWhole)
    (hc0 : cond0_0 i)
    (hs0 : ∀ d e, (k0_pay3 (F := Ideal)) (ix4 0 0 d e) = (state k v (fun t d => gate (z t d)) t₀ d e : EReal)) (y : S512x1024.Idx) :
    out0_A_8 c i arg3 harg3 arg4 harg4 arg5 harg5 arg6 harg6 arg7 harg7 arg8 harg8 arg9 harg9 arg10 harg10 arg11 harg11 arg12 harg12 hc0 x0 x1 x2 x3 x4 x5 x6 x7  y
      = finish (fun e => ((out q k v (fun t d => gate (z t d)) (t₀ + (y 0 : ℕ)) e : ℝ) : EReal)) (x3 y) (x7 (ix2 0 (y 1))) (y 1) := by
  frame_open
  simp (disch := decide) only [↓ View.readCov_skip, ↓ View.readCov_cons_toLoadRect, ↓ View.readCov_fill]
  frame_out
  canon_tiles x h
  · exact outTile_rows t₀ hz hq hk hv 384 (by norm_num) _ _ _ _ _ (state3_coe t₀ hz hk hv hs0) x y h0 h1
  · exact outTile_rows t₀ hz hq hk hv 256 (by norm_num) _ _ _ _ _ (state2_coe t₀ hz hk hv hs0) x y h0 h1
  · exact outTile_rows t₀ hz hq hk hv 128 (by norm_num) _ _ _ _ _ (state1_coe t₀ hz hk hv hs0) x y h0 h1
  · exact outTile_rows t₀ hz hq hk hv 0 (by norm_num) _ _ _ _ _ hs0 x y (h0.trans (Nat.zero_add _).symm) h1

end

end Cert.KernelIdeal.Chunk

end
-- ==== Proof.Spec.lean ====
/- What both programs compute, of arguments that hold reals: for each batch `b` and head `h` the recurrence over the
   projection's query, key and value columns, the log decays from its last sixteen columns. -/
module

public import proofs.«01_k».proof.Proof.Recurrence
public import proofs.«01_k».proof.Proof.RealMath

@[expose] public section

noncomputable section

open Idealize.ShloMosaic

namespace Cert.Gla

variable (P : Fin 4 → Fin 2048 → Fin 12304 → ℝ) (W : Fin 16 → Fin 2048 → ℝ) (B : Fin 2048 → ℝ) (b h : Fin 4)

/-- Column `j` of the projection at token `t` (zero past the last token). -/
def tok (j : Fin 12304) (t : ℕ) : ℝ := if ht : t < 2048 then P b ⟨t, ht⟩ j else 0

theorem tok_val (j : Fin 12304) (t : Fin 2048) : tok P b j t = P b t j := by
  rw [tok, dif_pos t.isLt]

/-- Head `h`'s scaled queries, keys and values. -/
def qs (t : ℕ) (d : Fin 512) : ℝ := tok P b ⟨512 * h + d, by omega⟩ t * scale
def ks (t : ℕ) (d : Fin 512) : ℝ := tok P b ⟨2048 + (512 * h + d), by omega⟩ t
def vs (t : ℕ) (e : Fin 1024) : ℝ := tok P b ⟨4096 + (1024 * h + e), by omega⟩ t

/-- The gate's input: the low-rank part of the projection through `W`, plus the bias. -/
def zs (t : ℕ) (d : Fin 512) : ℝ :=
  ∑ r : Fin 16, tok P b ⟨12288 + r, by omega⟩ t * W r ⟨512 * h + d, by omega⟩ + B ⟨512 * h + d, by omega⟩

/-- The log decays. -/
def gs (t : ℕ) (d : Fin 512) : ℝ := gate (zs P W B b h t d)

/-- The state head `h` of batch `b` ends with. -/
def endState (d : Fin 512) (e : Fin 1024) : ℝ := state (ks P b h) (vs P b h) (gs P W B b h) 2048 d e

/-- The raw output row of head `h` of batch `b` at token `t`. -/
def outRow (t : ℕ) (e : Fin 1024) : EReal := (out (qs P b h) (ks P b h) (vs P b h) (gs P W B b h) t e : ℝ)

end Cert.Gla

end
-- ==== Proof.Arrays.lean ====
/- The kernel as arrays: the blocks it reads of the arguments, and what its two results hold after the run. -/
module

public import proofs.«01_k».proof.Proof.Gen.KernelIdeal.Value
public import proofs.«01_k».proof.Proof.Block
public import proofs.«01_k».proof.Proof.Spec
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.KernelIdeal.Arrays
open Cert.KernelIdeal Cert.KernelIdeal.Gen
open Cert.Gla Cert.KernelIdeal.Chunk

variable (m : (ℓ : Loc nD τ sig) → Buf (Elt Ideal) ℓ) (c : Dev nD)

/-! ## The arrays the call reads, of the arguments -/

abbrev X0 : Vec Ideal S4x2048x12304 .f32 := m ((c : Thread nD τ).loc main_arg0)
abbrev X1 : Vec Ideal S16x2048 .f32 := m ((c : Thread nD τ).loc main_arg1)
abbrev X2 : Vec Ideal S2048 .f32 := m ((c : Thread nD τ).loc main_arg2)
abbrev X3 : Vec Ideal S1024 .f32 := m ((c : Thread nD τ).loc main_arg3)

theorem v5_apply (i : Fin 8192) (j : Fin 12288) : (V m c main_v5 : Vec Ideal S8192x12288 .f32) (ix2 i j) = X0 m c (ix3 ⟨i / 2048, by omega⟩ ⟨i % 2048, by omega⟩ ⟨j, by omega⟩) := by
  simp only [V, hostOps0, hostOps0_1, hostOps0_2, hostOps0_3, hostOps0_4, List.flatten_cons, List.flatten_nil, List.append_nil,
    List.cons_append, List.nil_append]
  after_results
  pointwise

theorem sitofp_zero : FloatOps.sitofp (F := Ideal) .f32 (0#32) = 0 := by
  show (((0#32).toInt : ℝ) : EReal) = 0
  norm_num

theorem v4_apply (i : Fin 8192) (j : Fin 128) : (V m c main_v4 : Vec Ideal S8192x128 .f32) (ix2 i j)
    = if h : j.val < 16 then X0 m c (ix3 ⟨i / 2048, by omega⟩ ⟨i % 2048, by omega⟩ ⟨12288 + j, by omega⟩) else 0 := by
  simp only [V, hostOps0, hostOps0_1, hostOps0_2, hostOps0_3, hostOps0_4, List.flatten_cons, List.flatten_nil, List.append_nil,
    List.cons_append, List.nil_append]
  after_results
  change pad S8192x128 ![0, 0] ![0, 112] ![0, 0] (extractStridedSlice S8192x16 ![0, 12288] (shapeCast S8192x12304 (X0 m c)
    shapeCasts_S4x2048x12304_S8192x12304) slices_S8192x12304_S8192x16_0_12288) (sitofp (F := Ideal) .f32 (constantI S_ 32 0#32))
    pads_S8192x16_S8192x128_000_01120 h_S_ (ix2 i j) = _
  pointwise
  rw [sitofp_zero]

theorem v1_apply (i : Fin 128) (j : Fin 2048) : (V m c main_v1 : Vec Ideal S128x2048 .bf16) (ix2 i j)
    = if h : i.val < 16 then X1 m c (ix2 ⟨i, by omega⟩ j) else 0 := by
  simp only [V, hostOps0, hostOps0_1, hostOps0_2, hostOps0_3, hostOps0_4, List.flatten_cons, List.flatten_nil, List.append_nil,
    List.cons_append, List.nil_append]
  after_results
  change pad S128x2048 ![0, 0] ![112, 0] ![0, 0] (X1 m c) (sitofp (F := Ideal) .f32 (constantI S_ 32 0#32))
    pads_S16x2048_S128x2048_01120_000 h_S_ (ix2 i j) = _
  pointwise
  rw [sitofp_zero]

theorem v6_apply (j : Fin 2048) : (V m c main_v6 : Vec Ideal S1x2048 .f32) (ix2 0 j) = X2 m c (ix1 j) := by
  simp only [V, hostOps0, hostOps0_1, hostOps0_2, hostOps0_3, hostOps0_4, List.flatten_cons, List.flatten_nil, List.append_nil,
    List.cons_append, List.nil_append]
  after_results
  pointwise

theorem v7_apply (j : Fin 1024) : (V m c main_v7 : Vec Ideal S1x1024 .f32) (ix2 0 j) = X3 m c (ix1 j) := by
  simp only [V, hostOps0, hostOps0_1, hostOps0_2, hostOps0_3, hostOps0_4, List.flatten_cons, List.flatten_nil, List.append_nil,
    List.cons_append, List.nil_append]
  after_results
  pointwise

/-- Every window's block index at a grid point `t`: batch `t / 16`, head `t / 4 % 4`, time block `t % 4`. -/
theorem idx : ∀ t : Fin cfg0.N,
    win0_0.index t = ![4 * (t.val / 16) + t.val % 4, t.val / 4 % 4] ∧ win0_1.index t = ![4 * (t.val / 16) + t.val % 4, 4 + t.val / 4 % 4]
    ∧ win0_2.index t = ![4 * (t.val / 16) + t.val % 4, 4 + t.val / 4 % 4] ∧ win0_3.index t = ![4 * (t.val / 16) + t.val % 4, 8 + t.val / 4 % 4]
    ∧ win0_4.index t = ![4 * (t.val / 16) + t.val % 4, 0] ∧ win0_5.index t = ![0, t.val / 4 % 4] ∧ win0_6.index t = ![0, t.val / 4 % 4]
    ∧ win0_7.index t = ![0, 0] ∧ win0_8.index t = ![4 * (t.val / 16) + t.val % 4, t.val / 4 % 4] ∧ win0_9.index t = ![t.val / 16, t.val / 4 % 4, 0, 0] :=
  (by decide +kernel : ∀ t : Fin grid0.N, _)

/-- Grid point `t`'s batch and head. -/
def bat (t : Fin cfg0.N) : Fin 4 := ⟨t.val / 16, by have : t.val < 64 := t.isLt; omega⟩
def hd (t : Fin cfg0.N) : Fin 4 := ⟨t.val / 4 % 4, by omega⟩

/-- The main array at a block's row and a column is the projection at the block's batch and token. -/
theorem v5_at (t : Fin cfg0.N) (i : Fin 512) (r : Fin 8192) (hr : r.val = (4 * (t.val / 16) + t.val % 4) * 512 + i) (j : Fin 12288)
    (j' : Fin 12304) (hj : j'.val = j.val) (T : Fin 2048) (hT : T.val = 512 * (t.val % 4) + i) :
    (V m c main_v5 : Vec Ideal S8192x12288 .f32) (ix2 r j) = X0 m c (ix3 (bat t) T j') := by
  rw [v5_apply]
  have e1 : (⟨r / 2048, by omega⟩ : Fin 4) = bat t := Fin.ext (by show r.val / 2048 = t.val / 16; omega)
  have e2 : (⟨r % 2048, by omega⟩ : Fin 2048) = T := Fin.ext (by show r.val % 2048 = T.val; omega)
  have e3 : (⟨j, by omega⟩ : Fin 12304) = j' := Fin.ext hj.symm
  rw [e1, e2, e3]

variable (t : Fin cfg0.N)

/-- Row `i` of the block at `t`, as a token. -/
def row (i : Fin 512) : Fin 2048 := ⟨512 * (t.val % 4) + i, by omega⟩

theorem blk0 (i : Fin 512) (d : Fin 512) :
    (iblk m c 0 t : Vec Ideal S512x512 .f32) (ix2 i d) = X0 m c (ix3 (bat t) (row t i) ⟨512 * hd t + d, by omega⟩) := by
  have h := (idx t).1
  refine Eq.trans ?_ (v5_at m c t i ⟨(4 * (t.val / 16) + t.val % 4) * 512 + i, by have : t.val < 64 := t.isLt; omega⟩ rfl
    ⟨512 * hd t + d, by omega⟩ _ rfl _ rfl)
  have hh : (hd t).val = t.val / 4 % 4 := rfl
  blk_ext [iblk, h]

theorem blk1 (i : Fin 512) (d : Fin 512) :
    (iblk m c 1 t : Vec Ideal S512x512 .f32) (ix2 i d) = X0 m c (ix3 (bat t) (row t i) ⟨2048 + (512 * hd t + d), by omega⟩) := by
  have h := (idx t).2.1
  refine Eq.trans ?_ (v5_at m c t i ⟨(4 * (t.val / 16) + t.val % 4) * 512 + i, by have : t.val < 64 := t.isLt; omega⟩ rfl
    ⟨2048 + (512 * hd t + d), by omega⟩ _ rfl _ rfl)
  have hh : (hd t).val = t.val / 4 % 4 := rfl
  blk_ext [iblk, h]

theorem blk2 (i : Fin 512) (d : Fin 1024) :
    (iblk m c 2 t : Vec Ideal S512x1024 .f32) (ix2 i d) = X0 m c (ix3 (bat t) (row t i) ⟨4096 + (1024 * hd t + d), by omega⟩) := by
  have h := (idx t).2.2.1
  refine Eq.trans ?_ (v5_at m c t i ⟨(4 * (t.val / 16) + t.val % 4) * 512 + i, by have : t.val < 64 := t.isLt; omega⟩ rfl
    ⟨4096 + (1024 * hd t + d), by omega⟩ _ rfl _ rfl)
  have hh : (hd t).val = t.val / 4 % 4 := rfl
  blk_ext [iblk, h]

theorem blk3 (i : Fin 512) (d : Fin 1024) :
    (iblk m c 3 t : Vec Ideal S512x1024 .f32) (ix2 i d) = X0 m c (ix3 (bat t) (row t i) ⟨8192 + (1024 * hd t + d), by omega⟩) := by
  have h := (idx t).2.2.2.1
  refine Eq.trans ?_ (v5_at m c t i ⟨(4 * (t.val / 16) + t.val % 4) * 512 + i, by have : t.val < 64 := t.isLt; omega⟩ rfl
    ⟨8192 + (1024 * hd t + d), by omega⟩ _ rfl _ rfl)
  have hh : (hd t).val = t.val / 4 % 4 := rfl
  blk_ext [iblk, h]

theorem blk4 (i : Fin 512) (r : Fin 128) : (iblk m c 4 t : Vec Ideal S512x128 .f32) (ix2 i r)
    = if h : r.val < 16 then X0 m c (ix3 (bat t) (row t i) ⟨12288 + r, by omega⟩) else 0 := by
  have h := (idx t).2.2.2.2.1
  have e : (iblk m c 4 t : Vec Ideal S512x128 .f32) (ix2 i r)
      = (V m c main_v4 : Vec Ideal S8192x128 .f32) (ix2 ⟨(4 * (t.val / 16) + t.val % 4) * 512 + i, by have : t.val < 64 := t.isLt; omega⟩ r) := by
    blk_ext [iblk, h]
  rw [e, v4_apply]
  by_cases hr : r.val < 16
  · rw [dif_pos hr, dif_pos hr]
    have ht : t.val < 64 := t.isLt
    have e1 : (⟨((4 * (t.val / 16) + t.val % 4) * 512 + i.val) / 2048, by omega⟩ : Fin 4) = bat t := Fin.ext (by show ((4 * (t.val / 16) + t.val % 4) * 512 + i.val) / 2048 = t.val / 16; omega)
    have e2 : (⟨((4 * (t.val / 16) + t.val % 4) * 512 + i.val) % 2048, by omega⟩ : Fin 2048) = row t i :=
      Fin.ext (by show ((4 * (t.val / 16) + t.val % 4) * 512 + i.val) % 2048 = 512 * (t.val % 4) + i.val; omega)
    rw [e1, e2]
  · rw [dif_neg hr, dif_neg hr]

theorem blk5 (r : Fin 128) (d : Fin 512) : (iblk m c 5 t : Vec Ideal S128x512 .bf16) (ix2 r d)
    = if h : r.val < 16 then X1 m c (ix2 ⟨r, h⟩ ⟨512 * hd t + d, by omega⟩) else 0 := by
  have h := (idx t).2.2.2.2.2.1
  have hh : (hd t).val = t.val / 4 % 4 := rfl
  refine Eq.trans ?_ (v1_apply m c r ⟨512 * hd t + d, by omega⟩)
  blk_ext [iblk, h]

theorem blk6 (d : Fin 512) : (iblk m c 6 t : Vec Ideal S1x512 .f32) (ix2 0 d) = X2 m c (ix1 ⟨512 * hd t + d, by omega⟩) := by
  have h := (idx t).2.2.2.2.2.2.1
  have hh : (hd t).val = t.val / 4 % 4 := rfl
  refine Eq.trans ?_ (v6_apply m c ⟨512 * hd t + d, by omega⟩)
  blk_ext [iblk, h]

theorem blk7 (e : Fin 1024) : (iblk m c 7 t : Vec Ideal S1x1024 .f32) (ix2 0 e) = X3 m c (ix1 e) := by
  have h := (idx t).2.2.2.2.2.2.2.1
  refine Eq.trans ?_ (v7_apply m c e)
  blk_ext [iblk, h]

end Cert.KernelIdeal.Arrays

end
-- ==== Proof.Results.lean ====
/- What the kernel's two result arrays hold after the run: every token's finished output row and every head's last state. -/
module

public import proofs.«01_k».proof.Proof.Gen.KernelIdeal.Value
public import proofs.«01_k».proof.Proof.Arrays
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.KernelIdeal.Results
open Cert.KernelIdeal Cert.KernelIdeal.Gen
open Cert.Gla Cert.KernelIdeal.Chunk Cert.KernelIdeal.Arrays

variable (m : (ℓ : Loc nD τ sig) → Buf (Elt Ideal) ℓ) (c : Dev nD)
  {P : Fin 4 → Fin 2048 → Fin 12304 → ℝ} {W : Fin 16 → Fin 2048 → ℝ} {B : Fin 2048 → ℝ}
  (hP : ∀ b t j, X0 m c (ix3 b t j) = (P b t j : EReal)) (hW : ∀ r j, X1 m c (ix2 r j) = (W r j : EReal))
  (hB : ∀ j, X2 m c (ix1 j) = (B j : EReal))

section

variable (t : Fin cfg0.N)

include hP in
theorem col (i : Fin 512) (j : Fin 12304) : X0 m c (ix3 (bat t) (row t i) j) = (tok P (bat t) j (512 * (t.val % 4) + i) : EReal) := by
  rw [hP]
  exact congrArg _ (tok_val P (bat t) j (row t i)).symm

abbrev B0 : Vec Ideal S512x512 .f32 := iblk m c 0 t
abbrev B4 : Vec Ideal S512x128 .f32 := iblk m c 4 t
abbrev B5 : Vec Ideal S128x512 .bf16 := iblk m c 5 t
abbrev B6 : Vec Ideal S1x512 .f32 := iblk m c 6 t

include hP in
theorem hq (i d : Fin 512) : B0 m c t (ix2 i d) * Ideal.ofBits .f32 0x3D3504F3#32
    = (qs P (bat t) (hd t) (512 * (t.val % 4) + i) d : EReal) := by
  rw [show B0 m c t (ix2 i d) = _ from blk0 m c t i d, col m c hP, ofBits_scale, ← EReal.coe_mul]; rfl

include hP in
theorem hk (i d : Fin 512) : (iblk m c 1 t : Vec Ideal S512x512 .f32) (ix2 i d) = (ks P (bat t) (hd t) (512 * (t.val % 4) + i) d : EReal) := by
  rw [blk1, col m c hP]; rfl

include hP in
theorem hv (i : Fin 512) (e : Fin 1024) : (iblk m c 2 t : Vec Ideal S512x1024 .f32) (ix2 i e)
    = (vs P (bat t) (hd t) (512 * (t.val % 4) + i) e : EReal) := by
  rw [blk2, col m c hP]; rfl

/-- A sum over 128 lanes of which only the first sixteen are filled. -/
theorem sum_lanes (f : Fin 16 → ℝ) (F : Fin 128 → EReal) (hF : ∀ r : Fin 128, F r = if h : r.val < 16 then (f ⟨r, h⟩ : EReal) else 0) :
    ∑ r, F r = ((∑ r, f r : ℝ) : EReal) := by
  rw [← coe_sum, Finset.sum_congr rfl fun r _ => hF r]
  have := Fin.sum_univ_add (a := 16) (b := 112) (fun r : Fin (16 + 112) => if h : r.val < 16 then (f ⟨r, h⟩ : EReal) else 0)
  refine this.trans ?_
  rw [Finset.sum_congr (s₁ := (Finset.univ : Finset (Fin 112))) rfl (fun r _ => dif_neg (by simp)), Finset.sum_const_zero, add_zero]
  exact Finset.sum_congr rfl fun r _ => dif_pos r.isLt

include hP hW hB in
theorem hz (i d : Fin 512) : ∑ r : Fin 128, B4 m c t (ix2 i r) * B5 m c t (ix2 r d)
      + B6 m c t (ix2 0 d)
    = (zs P W B (bat t) (hd t) (512 * (t.val % 4) + i) d : EReal) := by
  rw [zs, EReal.coe_add, show B6 m c t (ix2 0 d) = _ from blk6 m c t d, hB]
  refine congrArg (· + _) (sum_lanes _ _ fun r => ?_)
  rw [show B4 m c t (ix2 i r) = _ from blk4 m c t i r, show B5 m c t (ix2 r d) = _ from blk5 m c t r d]
  by_cases h : r.val < 16
  · rw [dif_pos h, dif_pos h, dif_pos h, hW, col m c hP, ← EReal.coe_mul]
  · rw [dif_neg h, dif_neg h, dif_neg h, mul_zero]

end

theorem pay3_zero (d : Fin 512) (e : Fin 1024) (k : ℕ → Fin 512 → ℝ) (v : ℕ → Fin 1024 → ℝ) (g : ℕ → Fin 512 → ℝ) :
    (k0_pay3 (F := Ideal)) (ix4 0 0 d e) = (state k v g 0 d e : EReal) := by
  pointwise [k0_pay3]
  rfl

include hP hW hB in
/-- After each grid point the state's buffer holds the recurrence's state at the end of the point's time block. -/
theorem state_at (n : ℕ) : ∀ (hn : n < cfg0.N) (d : Fin 512) (e : Fin 1024), (outsAt0 m c n hn).2 (ix4 0 0 d e)
    = (state (ks P (bat ⟨n, hn⟩) (hd ⟨n, hn⟩)) (vs P (bat ⟨n, hn⟩) (hd ⟨n, hn⟩)) (gs P W B (bat ⟨n, hn⟩) (hd ⟨n, hn⟩)) (512 * (n % 4) + 512) d e : EReal) := by
  induction n with
  | zero =>
    intro hn d e
    rw [outsAt0_A m c ⟨0, hn⟩ rfl]
    rw [out_A_9]
    exact state4_coe _ (hz m c hP hW hB ⟨0, hn⟩) (hk m c hP ⟨0, hn⟩) (hv m c hP ⟨0, hn⟩) (fun d e => pay3_zero d e _ _ _) d e
  | succ n ih =>
    intro hn d e
    by_cases h0 : (n + 1) % 4 = 0
    · rw [outsAt0_A m c ⟨n + 1, hn⟩ h0]
      rw [out_A_9]
      refine state4_coe _ (hz m c hP hW hB ⟨n + 1, hn⟩) (hk m c hP ⟨n + 1, hn⟩) (hv m c hP ⟨n + 1, hn⟩) (fun d e => ?_) d e
      show _ = (state _ _ _ (512 * ((n + 1) % 4)) d e : EReal)
      rw [h0]
      exact pay3_zero d e _ _ _
    · rw [outsAt0_B m c ⟨n + 1, hn⟩ h0]
      rw [out_B_9]
      refine state4_coe _ (hz m c hP hW hB ⟨n + 1, hn⟩) (hk m c hP ⟨n + 1, hn⟩) (hv m c hP ⟨n + 1, hn⟩) (fun d e => ?_) d e
      have hp := ih (Nat.lt_of_succ_lt hn) d e
      have eb : bat ⟨n, Nat.lt_of_succ_lt hn⟩ = bat ⟨n + 1, hn⟩ := Fin.ext (by show n / 16 = (n + 1) / 16; omega)
      have eh : hd ⟨n, Nat.lt_of_succ_lt hn⟩ = hd ⟨n + 1, hn⟩ := Fin.ext (by show n / 4 % 4 = (n + 1) / 4 % 4; omega)
      rw [eb, eh, show 512 * (n % 4) + 512 = 512 * ((n + 1) % 4) by omega] at hp
      exact hp

/-- What the two result arrays hold. -/
def OUT (P : Fin 4 → Fin 2048 → Fin 12304 → ℝ) (W : Fin 16 → Fin 2048 → ℝ) (B : Fin 2048 → ℝ) (gh : Vec Ideal S1024 .f32) : Vec Ideal S8192x4096 .bf16 := fun y =>
  finish (outRow P W B ⟨(y 0).val / 2048, by have : (y 0).val < 8192 := (y 0).isLt; omega⟩ ⟨(y 1).val / 1024, by have : (y 1).val < 4096 := (y 1).isLt; omega⟩ ((y 0).val % 2048))
    (tok P ⟨(y 0).val / 2048, by have : (y 0).val < 8192 := (y 0).isLt; omega⟩ ⟨8192 + (y 1).val, by have : (y 1).val < 4096 := (y 1).isLt; omega⟩ ((y 0).val % 2048) : ℝ)
    (gh (ix1 ⟨(y 1).val % 1024, by omega⟩)) ⟨(y 1).val % 1024, by omega⟩

def END (P : Fin 4 → Fin 2048 → Fin 12304 → ℝ) (W : Fin 16 → Fin 2048 → ℝ) (B : Fin 2048 → ℝ) : Vec Ideal S4x4x512x1024 .f32 := fun y =>
  (endState P W B (y 0) (y 1) (y 2) (y 3) : ℝ)

theorem OUT_ix (t : Fin cfg0.N) (i : Fin 512) (e : Fin 1024) (gh : Vec Ideal S1024 .f32) {r : Fin 8192} {j : Fin 4096}
    (hr : r.val = (4 * (t.val / 16) + t.val % 4) * 512 + i) (hj : j.val = 1024 * hd t + e) :
    OUT P W B gh (ix2 r j) = finish (outRow P W B (bat t) (hd t) (512 * (t.val % 4) + i))
      (tok P (bat t) ⟨8192 + (1024 * hd t + e), by omega⟩ (512 * (t.val % 4) + i) : ℝ) (gh (ix1 e)) e := by
  have ht : t.val < 64 := t.isLt
  have e1 : (⟨r.val / 2048, by omega⟩ : Fin 4) = bat t := Fin.ext (by show r.val / 2048 = t.val / 16; omega)
  have e2 : r.val % 2048 = 512 * (t.val % 4) + i := by omega
  have e3 : (⟨j.val / 1024, by omega⟩ : Fin 4) = hd t := Fin.ext (by show j.val / 1024 = _; omega)
  have e4 : (⟨j.val % 1024, by omega⟩ : Fin 1024) = e := Fin.ext (by show j.val % 1024 = _; omega)
  have e5 : (⟨8192 + j.val, by omega⟩ : Fin 12304) = ⟨8192 + (1024 * hd t + e), by omega⟩ := Fin.ext (by show 8192 + j.val = 8192 + (1024 * (hd t).val + e.val); omega)
  show finish (outRow P W B ⟨r.val / 2048, _⟩ ⟨j.val / 1024, _⟩ (r.val % 2048)) (tok P ⟨r.val / 2048, _⟩ ⟨8192 + j.val, _⟩ (r.val % 2048) : ℝ)
    (gh (ix1 ⟨j.val % 1024, _⟩)) ⟨j.val % 1024, _⟩ = _
  rw [e1, e2, e3, e4, e5]

include hP hW hB in
theorem result9 : (dats m 0 c).arrAt 9 cfg0.N = END P W B := by
  refine (dats m 0 c).arrAt_eq_of_covers 9 _ (by decide +kernel) fun t hf y => ?_
  have h3 := (flush0_9 t).mp hf
  have h := (idx t).2.2.2.2.2.2.2.2.2
  blk_simp
  rw [after0_9]
  idx_vars y
  have hb : (bat t).val = t.val / 16 := rfl
  have hh : (hd t).val = t.val / 4 % 4 := rfl
  have he : (win0_9.blk t).view.emb (ix4 y0 y1 y2 y3) = ix4 (bat t) (hd t) y2 y3 := by
    blk_ext [h]
  rw [he]
  have e0 : y0 = 0 := Fin.ext (by omega)
  have e1 : y1 = 0 := Fin.ext (by omega)
  rw [e0, e1]
  refine (state_at m c hP hW hB t.val t.isLt y2 y3).trans ?_
  rw [h3]
  rfl

include hP hW hB in
theorem result8 : (dats m 0 c).arrAt 8 cfg0.N = OUT P W B (X3 m c) := by
  refine (dats m 0 c).arrAt_eq_of_covers 8 _ (by decide +kernel) fun t hf y => ?_
  have h := (idx t).2.2.2.2.2.2.2.2.1
  blk_simp
  rw [after0_8]
  have hb : (bat t).val = t.val / 16 := rfl
  have hh : (hd t).val = t.val / 4 % 4 := rfl
  idx_vars y
  have he : (win0_8.blk t).view.emb (ix2 y0 y1) = ix2 ⟨(4 * (t.val / 16) + t.val % 4) * 512 + y0, by have : t.val < 64 := t.isLt; omega⟩
      ⟨1024 * hd t + y1, by omega⟩ := by
    blk_ext [h]
  rw [he, OUT_ix t y0 y1 _ rfl rfl, ← col m c hP t y0, ← blk3 m c t y0 y1, ← blk7 m c t y1]
  by_cases h0 : t.val % 4 = 0
  · refine (congrFun (congrArg Prod.fst (outsAt0_A m c t h0)) (ix2 y0 y1)).trans ?_
    dsimp only
    refine (out_A_8 (512 * (t.val % 4)) (hz m c hP hW hB t) (hq m c hP t) (hk m c hP t) (hv m c hP t) _ _ _ _ _ _ _ _ _ _ _ _ _ _ _ _ _ _ _ _ _ _ _ (fun d e => ?_) (ix2 y0 y1)).trans ?_
    · rw [h0]
      exact pay3_zero d e _ _ _
    · rfl
  · refine (congrFun (congrArg Prod.fst (outsAt0_B m c t h0)) (ix2 y0 y1)).trans ?_
    dsimp only
    refine (out_B_8 (512 * (t.val % 4)) (hz m c hP hW hB t) (hq m c hP t) (hk m c hP t) (hv m c hP t) (fun d e => ?_) _ _ _ _ _ _ _ _ _ _ _ _ _ _ _ _ _ _ _ _ _ _ _ (ix2 y0 y1)).trans rfl
    have ht : t.val < 64 := t.isLt
    have hp := state_at m c hP hW hB (t.val - 1) (Nat.lt_of_le_of_lt (Nat.sub_le _ _) t.isLt) d e
    have eb : bat ⟨t.val - 1, Nat.lt_of_le_of_lt (Nat.sub_le _ _) t.isLt⟩ = bat t := Fin.ext (by show (t.val - 1) / 16 = t.val / 16; omega)
    have eh : hd ⟨t.val - 1, Nat.lt_of_le_of_lt (Nat.sub_le _ _) t.isLt⟩ = hd t := Fin.ext (by show (t.val - 1) / 4 % 4 = t.val / 4 % 4; omega)
    rw [eb, eh, show 512 * ((t.val - 1) % 4) + 512 = 512 * (t.val % 4) by omega] at hp
    exact hp

end Cert.KernelIdeal.Results

end
-- ==== Proof.RefEntry.lean ====
/- What the reference's loop starts from: the query, key, value and log-decay arrays cut into 32 chunks of 64 tokens, read
   at an index as columns of the projection. -/
module

public import proofs.«01_k».proof.Proof.Gen.ReferenceIdeal.Run
public import proofs.«01_k».proof.Proof.Gen.ReferenceIdeal.Step
public import proofs.«01_k».proof.Proof.Spec
public import Idealize.ShloMosaic.Lib.Claim

@[expose] public section

noncomputable section

namespace Cert.ReferenceIdeal.Entry

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step
open Cert.Gla

variable (m : (ℓ : Loc nD τ sig) → Buf (Elt Ideal) ℓ) (c : Dev nD)

abbrev X0 : Vec Ideal S4x2048x12304 .f32 := m ((c.tc : Thread nD τ).loc main_arg0)
abbrev X1 : Vec Ideal S16x2048 .f32 := m ((c.tc : Thread nD τ).loc main_arg1)
abbrev X2 : Vec Ideal S2048 .f32 := m ((c.tc : Thread nD τ).loc main_arg2)
abbrev X3 : Vec Ideal S1024 .f32 := m ((c.tc : Thread nD τ).loc main_arg3)

section
set_option maxRecDepth 65536
set_option maxHeartbeats 400000

theorem entry_q : entryContents preI m c (Proc.devRef .tc main_v31_0) = A_main_v21 (F := Ideal) (X0 m c) (X1 m c) (X2 m c) := by
  simp only [entryContents, afterL_cons, afterL_nil]; after_reads_simp <;> rfl

theorem entry_k : entryContents preI m c (Proc.devRef .tc main_v31_1) = A_main_v23 (F := Ideal) (X0 m c) (X1 m c) (X2 m c) := by
  simp only [entryContents, afterL_cons, afterL_nil]; after_reads_simp <;> rfl

theorem entry_v : entryContents preI m c (Proc.devRef .tc main_v31_2) = A_main_v25 (F := Ideal) (X0 m c) (X1 m c) (X2 m c) := by
  simp only [entryContents, afterL_cons, afterL_nil]; after_reads_simp <;> rfl

theorem entry_g : entryContents preI m c (Proc.devRef .tc main_v31_3) = A_main_v27 (F := Ideal) (X0 m c) (X1 m c) (X2 m c) := by
  simp only [entryContents, afterL_cons, afterL_nil]; after_reads_simp <;> rfl

theorem entry_mask : entryContents preI m c (Proc.devRef .tc main_v31_4) = K_main_v29 (F := Ideal) := by
  simp only [entryContents, afterL_cons, afterL_nil]; after_reads_simp <;> rfl

theorem entry_count : entryContents preI m c (Proc.devRef .tc main_v31_5) = (K_main_c_3 (F := Ideal)) := by
  simp only [entryContents, afterL_cons, afterL_nil]; after_reads_simp <;> rfl

theorem entry_state : entryContents preI m c (Proc.devRef .tc main_v31_6) = K_main_v13 (F := Ideal) := by
  simp only [entryContents, afterL_cons, afterL_nil]; after_reads_simp <;> rfl

end

variable {P : Fin 4 → Fin 2048 → Fin 12304 → ℝ} {W : Fin 16 → Fin 2048 → ℝ} {B : Fin 2048 → ℝ}
  (hP : ∀ b t j, X0 m c (ix3 b t j) = (P b t j : EReal)) (hW : ∀ r j, X1 m c (ix2 r j) = (W r j : EReal))
  (hB : ∀ j, X2 m c (ix1 j) = (B j : EReal))

include hP in
/-- Column `j` of the projection at token `64 n + i`. -/
theorem col {t : ℕ} (b : Fin 4) (n : Fin 32) (i : Fin 64) (u : Fin 2048) (hu : u.val = n.val * 64 + i.val) (j j' : Fin 12304) (hj : j'.val = j.val)
    (ht : t = 64 * n.val + i.val) : X0 m c (ix3 b u j') = (tok P b j t : EReal) := by
  obtain rfl : j' = j := Fin.ext hj
  rw [hP, ht, show 64 * n.val + i.val = u.val by omega, tok_val]

include hP in
theorem q_apply (n : Fin 32) (b h : Fin 4) (i : Fin 64) (d : Fin 512) :
    A_main_v21 (F := Ideal) (X0 m c) (X1 m c) (X2 m c) (ix5 n b h i d) = (qs P b h (64 * n + i) d : EReal) := by
  pointwise [A_main_v21, A_main_v20, A_main_v16, A_main_v14, A_main_v0, K_main_v15, K_main_cst_1]
  rw [col m c hP b n i _ rfl ⟨512 * h + d, by omega⟩ _ (by show h.val * 512 + d.val = 512 * h.val + d.val; omega) rfl, ofBits_scale, ← EReal.coe_mul]
  rfl

include hP in
theorem k_apply (n : Fin 32) (b h : Fin 4) (i : Fin 64) (d : Fin 512) :
    A_main_v23 (F := Ideal) (X0 m c) (X1 m c) (X2 m c) (ix5 n b h i d) = (ks P b h (64 * n + i) d : EReal) := by
  pointwise [A_main_v23, A_main_v22, A_main_v17, A_main_v1]
  exact col m c hP b n i _ rfl ⟨2048 + (512 * h + d), by omega⟩ _ (by show 2048 + (h.val * 512 + d.val) = 2048 + (512 * h.val + d.val); omega) rfl

include hP in
theorem v_apply (n : Fin 32) (b h : Fin 4) (i : Fin 64) (e : Fin 1024) :
    A_main_v25 (F := Ideal) (X0 m c) (X1 m c) (X2 m c) (ix5 n b h i e) = (vs P b h (64 * n + i) e : EReal) := by
  pointwise [A_main_v25, A_main_v24, A_main_v18, A_main_v2]
  exact col m c hP b n i _ rfl ⟨4096 + (1024 * h + e), by omega⟩ _ (by show 4096 + (h.val * 1024 + e.val) = 4096 + (1024 * h.val + e.val); omega) rfl

include hP hW hB in
theorem z_apply (b : Fin 4) (t j : Fin 2048) : A_main_v7 (F := Ideal) (X0 m c) (X1 m c) (X2 m c) (ix3 b t j)
    = ((∑ r : Fin 16, P b t ⟨12288 + r, by omega⟩ * W r j + B j : ℝ) : EReal) := by
  pointwise [A_main_v7, A_main_v4, A_main_v3, A_main_v6, A_main_v5]
  rw [EReal.coe_add, ← coe_sum, hB]
  refine congrArg (· + _) (Finset.sum_congr rfl fun r _ => ?_)
  rw [hP, hW, EReal.coe_mul]

/-- The reference's decay of a gate input that is a real: the softplus's guard against an undefined input does not fire. -/
theorem decay (b : Fin 4) (t j : Fin 2048) (z : ℝ) (hz : A_main_v7 (F := Ideal) (X0 m c) (X1 m c) (X2 m c) (ix3 b t j) = (z : EReal)) :
    A_main_v12 (F := Ideal) (X0 m c) (X1 m c) (X2 m c) (ix3 b t j) = (gate z : EReal) := by
  pointwise [A_main_v12, A_main_v10, K_main_v11, K_main_cst, A_main_v9, A_main_call0_v4, A_main_call0_v6, A_main_call0_v11, A_main_call0_v1,
    A_main_call0_v10, A_main_call0_v9, A_main_call0_v8, A_main_call0_v7, A_main_call0_v3, A_main_v8, K_main_call0_v0, K_main_call0_v2, K_main_call0_v5, K_main_call0_cst]
  rw [hz, if_neg (fun h => h rfl)]
  exact gate_softplus z

include hP hW hB in
theorem g_apply (n : Fin 32) (b h : Fin 4) (i : Fin 64) (d : Fin 512) :
    A_main_v27 (F := Ideal) (X0 m c) (X1 m c) (X2 m c) (ix5 n b h i d) = (gs P W B b h (64 * n + i) d : EReal) := by
  pointwise [A_main_v27, A_main_v26, A_main_v19]
  rw [decay m c _ _ _ _ (z_apply m c hP hW hB _ _ _), gs, zs]
  have e : (⟨h.val * 512 + d.val, by omega⟩ : Fin 2048) = ⟨512 * h + d, by omega⟩ := Fin.ext (by show h.val * 512 + d.val = 512 * h.val + d.val; omega)
  have e2 (r : Fin 16) : P b ⟨n.val * 64 + i.val, by omega⟩ ⟨12288 + r, by omega⟩ = tok P b ⟨12288 + r, by omega⟩ (64 * n + i) := by
    exact (tok_val P b _ _).symm.trans (congrArg (tok P b _) (by show n.val * 64 + i.val = _; omega))
  rw [e, Finset.sum_congr rfl fun r _ => congrArg (· * _) (e2 r)]

theorem mask_apply (i j : Fin 64) (a b : EReal) : Scalar.select (K_main_v29 (F := Ideal) (ix2 i j)) a b = if j ≤ i then a else b := by
  pointwise [K_main_v29, K_main_call1_v4, K_main_v28, K_main_call1_v5, K_main_call1_v2, K_main_call1_v3, K_main_call1_v0, K_main_call1_v1, K_main_c, K_main_call1_c_0, K_main_call1_c]
  rw [show IntOp.addi (BitVec.ofNat 32 i.val) 0#32 = BitVec.ofNat 32 i.val from BitVec.add_zero _, causal_bit (by norm_num)]
  by_cases h : j ≤ i
  · rw [if_pos h, if_pos h]; rfl
  · rw [if_neg h, if_neg h]; rfl

theorem state_apply (b h : Fin 4) (d : Fin 512) (e : Fin 1024) : K_main_v13 (F := Ideal) (ix4 b h d e) = 0 := by
  pointwise [K_main_v13, K_main_cst_0]

end Cert.ReferenceIdeal.Entry

end
-- ==== Proof.Cumsum.lean ====
/- The host's running sum along the third axis of a rank-four array, read at an index. -/
module

public import proofs.«01_k».proof.Proof.Gen.ReferenceIdeal.Run
public import proofs.«01_k».proof.Proof.RealMath
public import Idealize.ShloMosaic.Lib.Claim

@[expose] public section

noncomputable section

namespace Cert.ReferenceIdeal.Cumsum

open Idealize.ShloMosaic Idealize.ShloMosaic.TcCoe Idealize.SL.Sem Idealize.ShloMosaic.StableHlo
open Cert.ReferenceIdeal Cert.ReferenceIdeal.Gen
open Cert.Gla

theorem foldl_add {α : Type} (F : α → EReal) (l : List α) : ∀ v, l.foldl (fun r n => r + F n) v = v + (l.map F).sum := by
  induction l with
  | nil => intro v; simp
  | cons a l ih => intro v; rw [List.foldl_cons, ih, List.map_cons, List.sum_cons, add_assoc]

abbrev Win : Shape := ⟨4, ![1, 1, 64, 1]⟩

theorem win_numel : Win.numel = 64 := by decide +kernel

theorem win_symm : ∀ n : Fin 64, ((Win.rowMajor.symm (n.cast win_numel.symm)) 2).val = n.val
    ∧ ((Win.rowMajor.symm (n.cast win_numel.symm)) 0).val = 0 ∧ ((Win.rowMajor.symm (n.cast win_numel.symm)) 1).val = 0
    ∧ ((Win.rowMajor.symm (n.cast win_numel.symm)) 3).val = 0 := by decide +kernel

/-- A window of 64 laid with 63 padded entries before the array sums the entries up to the window's own. -/
theorem sum_window (f : ℕ → ℝ) (i : ℕ) (hi : i < 64) :
    ∑ n ∈ Finset.range 64, (if 63 ≤ i + n then f (i + n - 63) else 0) = ∑ j ∈ Finset.range (i + 1), f j := by
  rw [show (64 : ℕ) = (63 - i) + (i + 1) by omega, Finset.sum_range_add, Finset.sum_eq_zero, zero_add]
  · refine Finset.sum_congr rfl fun x hx => ?_
    rw [if_pos (by omega), show i + (63 - i + x) - 63 = x by omega]
  · intro x hx
    rw [if_neg (by have := Finset.mem_range.1 hx; omega)]

/-- Where row `j` of the array holds the real `f j`, the running sum's row `i` holds their sum up to `i`. -/
theorem cumsum_apply (x : Vec Ideal S4x4x64x512 .f32) (init : S_.Idx → EReal) (hinit : ∀ j, init j = 0)
    (hu : 0 < S_.numel) (h : S4x4x64x512.ReduceWindows ![1, 1, 64, 1] ![1, 1, 1, 1] ![0, 0, 63, 0] ![0, 0, 0, 0] S4x4x64x512)
    (b hd : Fin 4) (i : Fin 64) (d : Fin 512) (f : ℕ → ℝ) (hx : ∀ j : Fin 64, x (ix4 b hd j d) = (f j : EReal)) :
    Host.reduceWindowAdd (F := Ideal) (φ := .f32) ![1, 1, 64, 1] ![1, 1, 1, 1] ![0, 0, 63, 0] ![0, 0, 0, 0] x init h hu (ix4 b hd i d)
      = ((∑ j ∈ Finset.range (i.val + 1), f j : ℝ) : EReal) := by
  unfold Host.reduceWindowAdd
  rw [Ideal.hostReduceWindowAdd_def]
  unfold Ideal.hostReduceWindowAdd Host.reduceWindow
  rw [hinit]
  dsimp only
  refine (foldl_add _ _ _).trans ?_
  rw [zero_add, ← Fin.sum_univ_def]
  refine (Equiv.sum_comp (finCongr win_numel.symm) _).symm.trans ?_
  refine (sum_eq_coe _ (fun n : Fin 64 => if 63 ≤ i.val + n.val then f (i.val + n.val - 63) else 0) fun n => ?_).trans ?_
  · obtain ⟨h2, h0, h1, h3⟩ := win_symm n
    have hb := b.isLt
    have hh := hd.isLt
    have hd' := d.isLt
    have hi' := i.isLt
    have hn := n.isLt
    split
    · next hin =>
      have h2' := hin 2
      change 63 ≤ i.val * 1 + ((Win.rowMajor.symm (n.cast win_numel.symm)) 2).val
        ∧ i.val * 1 + ((Win.rowMajor.symm (n.cast win_numel.symm)) 2).val - 63 < 64 at h2'
      rw [h2] at h2'
      rw [if_pos (by omega)]
      refine (congrArg x (funext fun a => Fin.ext ?_)).trans (hx ⟨i.val + n.val - 63, by omega⟩)
      match a with
      | ⟨0, _⟩ => show b.val * 1 + ((Win.rowMajor.symm (n.cast win_numel.symm)) 0).val - 0 = b.val; omega
      | ⟨1, _⟩ => show hd.val * 1 + ((Win.rowMajor.symm (n.cast win_numel.symm)) 1).val - 0 = hd.val; omega
      | ⟨2, _⟩ => show i.val * 1 + ((Win.rowMajor.symm (n.cast win_numel.symm)) 2).val - 63 = i.val + n.val - 63; omega
      | ⟨3, _⟩ => show d.val * 1 + ((Win.rowMajor.symm (n.cast win_numel.symm)) 3).val - 0 = d.val; omega
    · next hin =>
      rw [if_neg]
      · rfl
      · intro h63
        refine hin fun a => ?_
        match a with
        | ⟨0, _⟩ =>
          show 0 ≤ b.val * 1 + ((Win.rowMajor.symm (n.cast win_numel.symm)) 0).val
            ∧ b.val * 1 + ((Win.rowMajor.symm (n.cast win_numel.symm)) 0).val - 0 < 4
          omega
        | ⟨1, _⟩ =>
          show 0 ≤ hd.val * 1 + ((Win.rowMajor.symm (n.cast win_numel.symm)) 1).val
            ∧ hd.val * 1 + ((Win.rowMajor.symm (n.cast win_numel.symm)) 1).val - 0 < 4
          omega
        | ⟨2, _⟩ =>
          show 63 ≤ i.val * 1 + ((Win.rowMajor.symm (n.cast win_numel.symm)) 2).val
            ∧ i.val * 1 + ((Win.rowMajor.symm (n.cast win_numel.symm)) 2).val - 63 < 64
          omega
        | ⟨3, _⟩ =>
          show 0 ≤ d.val * 1 + ((Win.rowMajor.symm (n.cast win_numel.symm)) 3).val
            ∧ d.val * 1 + ((Win.rowMajor.symm (n.cast win_numel.symm)) 3).val - 0 < 512
          omega
  · rw [Fin.sum_univ_eq_sum_range (fun n => if 63 ≤ i.val + n then f (i.val + n - 63) else 0) 64, sum_window f i.val i.isLt]

end Cert.ReferenceIdeal.Cumsum

end
-- ==== Proof.RefLoop.lean ====
/- The reference's loop over chunks of 64 tokens: before trip `n` its state is the recurrence's state after `64 n` tokens, and
   the rows of the earlier chunks hold the recurrence's outputs. -/
module

public import proofs.«01_k».proof.Proof.RefEntry
public import proofs.«01_k».proof.Proof.Cumsum

@[expose] public section

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step Cert.ReferenceIdeal.Entry Cert.ReferenceIdeal.Cumsum
open Cert.Gla

/-- Chunk `n` of a stacked array of 512 columns. -/
theorem chunk512 (x : Vec Ideal S32x4x4x64x512 .f32) (start : Fin 5 → Int) (n : Fin 32) (hs : ∀ a, start a = ((![n.val, 0, 0, 0, 0] : Fin 5 → ℕ) a : Int))
    (b h : Fin 4) (i : Fin 64) (d : Fin 512) :
    (shapeCast S4x4x64x512 (Host.dynamicSlice S1x4x4x64x512 x start sliceFits_S32x4x4x64x512_S1x4x4x64x512) shapeCasts_S1x4x4x64x512_S4x4x64x512 : Vec Ideal S4x4x64x512 .f32)
      (ix4 b h i d) = x (ix5 n b h i d) := by
  have hf : S32x4x4x64x512.Slices ![n.val, 0, 0, 0, 0] S1x4x4x64x512 := ⟨rfl, fun a => by
    have := n.isLt
    fin_cases a <;> simp [S32x4x4x64x512, S1x4x4x64x512]⟩
  rw [WordCmp.dynamicSlice_eq_extract _ x start _ _ hf hs]
  pointwise []

theorem chunk1024 (x : Vec Ideal S32x4x4x64x1024 .f32) (start : Fin 5 → Int) (n : Fin 32) (hs : ∀ a, start a = ((![n.val, 0, 0, 0, 0] : Fin 5 → ℕ) a : Int))
    (b h : Fin 4) (i : Fin 64) (d : Fin 1024) :
    (shapeCast S4x4x64x1024 (Host.dynamicSlice S1x4x4x64x1024 x start sliceFits_S32x4x4x64x1024_S1x4x4x64x1024) shapeCasts_S1x4x4x64x1024_S4x4x64x1024 : Vec Ideal S4x4x64x1024 .f32)
      (ix4 b h i d) = x (ix5 n b h i d) := by
  have hf : S32x4x4x64x1024.Slices ![n.val, 0, 0, 0, 0] S1x4x4x64x1024 := ⟨rfl, fun a => by
    have := n.isLt
    fin_cases a <;> simp [S32x4x4x64x1024, S1x4x4x64x1024]⟩
  rw [WordCmp.dynamicSlice_eq_extract _ x start _ _ hf hs]
  pointwise []

/-- Chunk `n` of the stacked outputs is overwritten, the others stay. -/
theorem put1024 (x : Vec Ideal S32x4x4x64x1024 .f32) (u : Vec Ideal S4x4x64x1024 .f32) (start : Fin 5 → Int) (n : Fin 32)
    (hs : ∀ a, start a = ((![n.val, 0, 0, 0, 0] : Fin 5 → ℕ) a : Int)) (n' : Fin 32) (b h : Fin 4) (i : Fin 64) (e : Fin 1024) :
    Host.dynamicUpdateSlice x (broadcastInDim S1x4x4x64x1024 ![1, 2, 3, 4] bcast_S4x4x64x1024_S1x4x4x64x1024_1_2_3_4 u) start
      sliceFits_S32x4x4x64x1024_S1x4x4x64x1024 (ix5 n' b h i e) = if n' = n then u (ix4 b h i e) else x (ix5 n' b h i e) := by
  have hf : S32x4x4x64x1024.Slices ![n.val, 0, 0, 0, 0] S1x4x4x64x1024 := ⟨rfl, fun a => by
    have := n.isLt
    fin_cases a <;> simp [S32x4x4x64x1024, S1x4x4x64x1024]⟩
  rw [WordCmp.dynamicUpdateSlice_eq_update x _ start _ _ hf hs]
  pointwise []
  by_cases hk : n' = n
  · rw [dif_pos (by rw [hk]; omega), if_pos hk]
  · rw [dif_neg (fun e => hk (Fin.ext (by omega))), if_neg hk]

variable {P : Fin 4 → Fin 2048 → Fin 12304 → ℝ} {W : Fin 16 → Fin 2048 → ℝ} {B : Fin 2048 → ℝ}

/-- What holds before trip `n`. -/
structure Inv (P : Fin 4 → Fin 2048 → Fin 12304 → ℝ) (W : Fin 16 → Fin 2048 → ℝ) (B : Fin 2048 → ℝ) (V0 : Valuation τ sig (Elt Ideal)) (n : ℕ) : Prop where
  count : V0 (Proc.devRef .tc main_v31_5) = constantI S_ 32 (BitVec.ofNat 32 n)
  q : ∀ n' b h i d, (V0 (Proc.devRef .tc main_v31_0) : Vec Ideal S32x4x4x64x512 .f32) (ix5 n' b h i d) = (qs P b h (64 * n' + i) d : EReal)
  k : ∀ n' b h i d, (V0 (Proc.devRef .tc main_v31_1) : Vec Ideal S32x4x4x64x512 .f32) (ix5 n' b h i d) = (ks P b h (64 * n' + i) d : EReal)
  v : ∀ n' b h i d, (V0 (Proc.devRef .tc main_v31_2) : Vec Ideal S32x4x4x64x1024 .f32) (ix5 n' b h i d) = (vs P b h (64 * n' + i) d : EReal)
  g : ∀ n' b h i d, (V0 (Proc.devRef .tc main_v31_3) : Vec Ideal S32x4x4x64x512 .f32) (ix5 n' b h i d) = (gs P W B b h (64 * n' + i) d : EReal)
  mask : V0 (Proc.devRef .tc main_v31_4) = K_main_v29 (F := Ideal)
  st : ∀ b h d e, (V0 (Proc.devRef .tc main_v31_6) : Vec Ideal S4x4x512x1024 .f32) (ix4 b h d e)
    = (state (ks P b h) (vs P b h) (gs P W B b h) (64 * n) d e : EReal)
  ys : ∀ n' : Fin 32, n'.val < n → ∀ b h i e, (V0 (Proc.devRef .tc main_v31_7) : Vec Ideal S32x4x4x64x1024 .f32) (ix5 n' b h i e) = outRow P W B b h (64 * n' + i) e

section

abbrev R54 (V0 : Valuation τ sig (Elt Ideal)) : Vec Ideal S4x4x64x512 .f32 := res_main_while0b_v54 V0
abbrev R55 (V0 : Valuation τ sig (Elt Ideal)) : Vec Ideal S4x4x64x1024 .f32 := res_main_while0b_v55 V0
abbrev R57 (V0 : Valuation τ sig (Elt Ideal)) : Vec Ideal S4x4x64x512 .f32 := res_main_while0b_v57 V0
abbrev R58 (V0 : Valuation τ sig (Elt Ideal)) : Vec Ideal S4x4x1x512 .f32 := res_main_while0b_v58 V0
abbrev R60 (V0 : Valuation τ sig (Elt Ideal)) : Vec Ideal S4x4x64x512 .f32 := res_main_while0b_v60 V0

variable {V0 : Valuation τ sig (Elt Ideal)} {n : Fin 32} (H : Inv P W B V0 n)

include H in
theorem starts (a : Fin 5) : (((![V0 (Proc.devRef .tc main_v31_5), constantI S_ 32 0#32, constantI S_ 32 0#32, constantI S_ 32 0#32, constantI S_ 32 0#32] :
    Fin 5 → (⟨S_, .i32⟩ : BufTy).Contents (Elt Ideal))) a (Shape.Idx.first h_S_)).toInt = ((![n.val, 0, 0, 0, 0] : Fin 5 → ℕ) a : Int) := by
  rw [H.count]
  have := n.isLt
  fin_cases a
  · exact WordCmp.toInt_ofNat_of_lt (w := 32) (by omega)
  all_goals rfl

include H in
theorem r54 (b h : Fin 4) (i : Fin 64) (d : Fin 512) : R54 V0 (ix4 b h i d) = (ks P b h (64 * n + i) d : EReal) :=
  (chunk512 _ _ n (starts H) b h i d).trans (H.k n b h i d)

include H in
theorem r55 (b h : Fin 4) (i : Fin 64) (d : Fin 1024) : R55 V0 (ix4 b h i d) = (vs P b h (64 * n + i) d : EReal) :=
  (chunk1024 _ _ n (starts H) b h i d).trans (H.v n b h i d)

include H in
/-- The log decays summed from the chunk's first token. -/
theorem r57 (b h : Fin 4) (i : Fin 64) (d : Fin 512) : R57 V0 (ix4 b h i d)
    = (cum (gs P W B b h) (64 * n) i d : EReal) := by
  refine cumsum_apply _ _ (fun j => ?_) _ _ b h i d (fun j => gs P W B b h (64 * n + j) d) fun j => ?_
  · pointwise []
  · exact (chunk512 _ _ n (starts H) b h j d).trans (H.g n b h j d)

include H in
theorem r58 (b h : Fin 4) (d : Fin 512) : R58 V0 (ix4 b h 0 d)
    = (cum (gs P W B b h) (64 * n) 63 d : EReal) := by
  pointwise [res_main_while0b_v58]
  exact r57 H b h 63 d

include H in
theorem r60 (b h : Fin 4) (i : Fin 64) (d : Fin 512) : R60 V0 (ix4 b h i d)
    = ((qs P b h (64 * n + i) d * Real.exp (cum (gs P W B b h) (64 * n) i d) : ℝ) : EReal) := by
  refine (congrArg₂ (· * ·) ((chunk512 _ _ n (starts H) b h i d).trans (H.q n b h i d)) (congrArg Ideal.exp (r57 H b h i d))).trans ?_
  rw [Ideal.exp_coe, EReal.coe_mul]

include H in
theorem step6 (b h : Fin 4) (d : Fin 512) (e : Fin 1024) : (Value.step_main_v31_6 V0 : Vec Ideal S4x4x512x1024 .f32) (ix4 b h d e)
    = (state (ks P b h) (vs P b h) (gs P W B b h) (64 * (n + 1)) d e : EReal) := by
  pointwise [Value.step_main_v31_6, id]
  refine (congrArg₂ (· + ·) (congrArg₂ (· * ·) (congrArg Ideal.exp (r58 H b h d)) (H.st b h d e)) (sum_eq_coe _
    (fun j : Fin 64 => ks P b h (64 * n + j) d * Real.exp (cum (gs P W B b h) (64 * n) 63 d - cum (gs P W B b h) (64 * n) j d) * vs P b h (64 * n + j) e) fun j : Fin 64 =>
    (congrArg₂ (· * ·) (congrArg₂ (· * ·) (r54 H b h j d) (congrArg Ideal.exp (congrArg₂ (· - ·) (r58 H b h d) (r57 H b h j d)))) (r55 H b h j e)).trans ?_)).trans ?_
  · rw [← EReal.coe_sub, Ideal.exp_coe, ← EReal.coe_mul, ← EReal.coe_mul]
  · rw [Ideal.exp_coe, ← EReal.coe_mul, ← EReal.coe_add, show 64 * (n.val + 1) = 64 * n.val + 64 by ring, state_chunk _ _ _ 64 63 rfl]

/-- The recurrence's output from a chunk's own products and the state before it. -/
theorem out_chunk_zero (q k : ℕ → Fin 512 → ℝ) (v : ℕ → Fin 1024 → ℝ) (g : ℕ → Fin 512 → ℝ) (t₀ : ℕ) (i : Fin 64) (e : Fin 1024) :
    ∑ j : Fin 64, (if j ≤ i then ∑ d, (q (t₀ + i) d * Real.exp (cum g t₀ i d)) * (k (t₀ + j) d * Real.exp (-cum g t₀ j d)) else 0) * v (t₀ + j) e
        + ∑ d, q (t₀ + i) d * Real.exp (cum g t₀ i d) * state k v g t₀ d e
      = out q k v g (t₀ + i) e := by
  have h := out_chunk (k := k) (v := v) (g := g) q 64 t₀ (fun _ => 0) i e
  simp only [sub_zero, zero_sub] at h
  exact h

include H in
/-- One product of the row of attention weights within the chunk with the values. -/
theorem row_entry (b h : Fin 4) (i j : Fin 64) (e : Fin 1024) :
    Scalar.select ((V0 (Proc.devRef .tc main_v31_4) : Vec Ideal S64x64 .i1) (ix2 i j))
            ((∑ x, R60 V0 (ix4 b h i x) * (R54 V0 (ix4 b h j x) * Ideal.exp (-R57 V0 (ix4 b h j x)))) * R55 V0 (ix4 b h j e)) 0
      = (((if j ≤ i then ∑ d, (qs P b h (64 * n + i) d * Real.exp (cum (gs P W B b h) (64 * n) i d))
          * (ks P b h (64 * n + j) d * Real.exp (-cum (gs P W B b h) (64 * n) j d)) else 0) * vs P b h (64 * n + j) e : ℝ) : EReal) := by
  rw [H.mask, mask_apply, sum_eq_coe _
    (fun d => (qs P b h (64 * n + i) d * Real.exp (cum (gs P W B b h) (64 * n) i d)) * (ks P b h (64 * n + j) d * Real.exp (-cum (gs P W B b h) (64 * n) j d)))
    fun d : Fin 512 => ?_, show R55 V0 (ix4 b h j e) = _ from r55 H b h j e]
  · by_cases hj : j ≤ i
    · rw [if_pos hj, if_pos hj, EReal.coe_mul]
    · rw [if_neg hj, if_neg hj, zero_mul]; rfl
  · rw [show R60 V0 (ix4 b h i d) = _ from r60 H b h i d, show R54 V0 (ix4 b h j d) = _ from r54 H b h j d, show R57 V0 (ix4 b h j d) = _ from r57 H b h j d,
      ← EReal.coe_neg, Ideal.exp_coe, ← EReal.coe_mul, ← EReal.coe_mul]

include H in
theorem step7 (n' : Fin 32) (hn : n'.val < n + 1) (b h : Fin 4) (i : Fin 64) (e : Fin 1024) : (Value.step_main_v31_7 V0 : Vec Ideal S32x4x4x64x1024 .f32) (ix5 n' b h i e)
    = outRow P W B b h (64 * n' + i) e := by
  refine (put1024 _ _ _ n (starts H) n' b h i e).trans ?_
  by_cases hk : n' = n
  · rw [if_pos hk, hk]
    pointwise [id]
    refine (congrArg₂ (· + ·) (sum_eq_coe _ _ fun j : Fin 64 => row_entry H b h i j e) (sum_eq_coe _
      (fun d => qs P b h (64 * n + i) d * Real.exp (cum (gs P W B b h) (64 * n) i d) * state (ks P b h) (vs P b h) (gs P W B b h) (64 * n) d e) fun d : Fin 512 => ?_)).trans ?_
    · exact (congrArg₂ (· * ·) (r60 H b h i d) (H.st b h d e)).trans (EReal.coe_mul _ _).symm
    · rw [← EReal.coe_add, out_chunk_zero]
      rfl
  · rw [if_neg hk]
    exact H.ys n' (by have := fun e => hk (Fin.ext e); omega) b h i e

include H in
/-- A trip keeps the invariant. -/
theorem step_inv : Inv P W B (STEP V0) (n + 1) where
  count := by
    rw [STEP_main_v31_5]
    show addi (V0 (Proc.devRef .tc main_v31_5)) (constantI S_ 32 1#32) = _
    rw [H.count]
    funext j
    exact (BitVec.ofNat_add n.val 1).symm
  q := by rw [STEP_main_v31_0]; exact H.q
  k := by rw [STEP_main_v31_1]; exact H.k
  v := by rw [STEP_main_v31_2]; exact H.v
  g := by rw [STEP_main_v31_3]; exact H.g
  mask := by rw [STEP_main_v31_4]; exact H.mask
  st := by rw [STEP_main_v31_6]; exact step6 H
  ys := by rw [STEP_main_v31_7]; exact fun n' hn b h i e => step7 H n' hn b h i e

end

section

variable (m : (ℓ : Loc nD τ sig) → Buf (Elt Ideal) ℓ) (c : Dev nD)
  (hP : ∀ b t j, X0 m c (ix3 b t j) = (P b t j : EReal)) (hW : ∀ r j, X1 m c (ix2 r j) = (W r j : EReal))
  (hB : ∀ j, X2 m c (ix1 j) = (B j : EReal))

include hP hW hB in
theorem entry_inv : Inv P W B (entryContents preI m c) 0 where
  count := by rw [entry_count]; rfl
  q := by rw [entry_q]; exact q_apply m c hP
  k := by rw [entry_k]; exact k_apply m c hP
  v := by rw [entry_v]; exact v_apply m c hP
  g := by rw [entry_g]; exact g_apply m c hP hW hB
  mask := entry_mask m c
  st := by
    rw [entry_state]
    intro b h d e
    exact (state_apply b h d e).trans EReal.coe_zero.symm
  ys := fun n' hn => absurd hn (Nat.not_lt_zero _)

include hP hW hB in
theorem iter_inv : ∀ n : ℕ, n ≤ 32 → Inv P W B (STEP^[n] (entryContents preI m c)) n
  | 0, _ => entry_inv m c hP hW hB
  | n + 1, hn => by
    rw [Function.iterate_succ_apply']
    exact step_inv (n := ⟨n, hn⟩) (iter_inv n (Nat.le_of_succ_le hn))

end

end Cert.ReferenceIdeal.Loop

end
-- ==== Proof.RefResult.lean ====
/- The reference's two results: every output row normalised and gated, and the state after the last token. -/
module

public import proofs.«01_k».proof.Proof.RefLoop
public import proofs.«01_k».proof.Proof.Results

@[expose] public section

noncomputable section

namespace Cert.ReferenceIdeal.Result

open Idealize.ShloMosaic Idealize.ShloMosaic.TcCoe Idealize.SL.Sem Idealize.ShloMosaic.StableHlo
open Cert.ReferenceIdeal Cert.ReferenceIdeal.Gen Cert.ReferenceIdeal.Value Cert.ReferenceIdeal.Entry Cert.ReferenceIdeal.Loop
open Cert.Gla
open Cert.KernelIdeal.Chunk (finish)
open Cert.KernelIdeal.Results (OUT END)

variable {P : Fin 4 → Fin 2048 → Fin 12304 → ℝ} {W : Fin 16 → Fin 2048 → ℝ} {B : Fin 2048 → ℝ}
variable (m : (ℓ : Loc nD τ sig) → Buf (Elt Ideal) ℓ) (c : Dev nD)
  (hP : ∀ b t j, X0 m c (ix3 b t j) = (P b t j : EReal)) (hW : ∀ r j, X1 m c (ix2 r j) = (W r j : EReal))
  (hB : ∀ j, X2 m c (ix1 j) = (B j : EReal))

theorem finish_neg (o : Fin 1024 → EReal) (r gh : EReal) (e : Fin 1024) :
    o e * Ideal.rsqrt (Ideal.div (∑ x, o x * o x) (Ideal.ofBits FTy.f32 0x44800000#32) + Ideal.ofBits FTy.f32 0x358637BD#32) * gh
      * (r * Ideal.div 1 (1 + Ideal.exp (-r))) = finish o r gh e := by
  unfold finish
  rw [zero_sub]

/-- What the operations after the loop make of outputs `ys`, head gains `gh` and projection `x`, at an index. -/
theorem post_apply (V : Valuation τ sig (Elt Ideal)) (y0 : Fin 8192) (y1 : Fin 4096) (gh : Vec Ideal S1024 .f32) (x : Vec Ideal S4x2048x12304 .f32)
    (h3 : V (Proc.devRef .tc main_arg3) = gh) (h0 : V (Proc.devRef .tc main_arg0) = x) (o : Fin 1024 → EReal)
    (ho : ∀ e, (V (Proc.devRef .tc main_v31_7) : Vec Ideal S32x4x4x64x1024 .f32)
      (ix5 ⟨y0 % 2048 / 64, by omega⟩ ⟨y0 / 2048, by omega⟩ ⟨y1 / 1024, by omega⟩ ⟨y0 % 2048 % 64, by omega⟩ e) = o e) :
    (out_main_v52 V : Vec Ideal S8192x4096 .bf16) (ix2 y0 y1)
      = finish o (x (ix3 ⟨y0 / 2048, by omega⟩ ⟨y0 % 2048, by omega⟩ ⟨8192 + y1, by omega⟩)) (gh (ix1 ⟨y1 % 1024, by omega⟩)) ⟨y1 % 1024, by omega⟩ := by
  unfold out_main_v52
  rw [h0, h3]
  pointwise []
  exact (finish_neg (fun e => (V (Proc.devRef .tc main_v31_7) : Vec Ideal S32x4x4x64x1024 .f32)
      (ix5 ⟨y0 % 2048 / 64, by omega⟩ ⟨y0 / 2048, by omega⟩ ⟨y1 / 1024, by omega⟩ ⟨y0 % 2048 % 64, by omega⟩ e)) _ _ ⟨y1 % 1024, by omega⟩).trans
    (congrArg (fun o => finish o _ _ _) (funext ho))

include hP hW hB in
theorem result9 : (STEP^[32] (entryContents preI m c)) (Proc.devRef .tc main_v31_6) = END P W B := by
  have H := iter_inv m c hP hW hB 32 (le_refl _)
  generalize STEP^[32] (entryContents preI m c) = V at H ⊢
  funext y
  idx_vars y
  exact H.st y0 y1 y2 y3

include hP hW hB in
theorem result8 : out_main_v52 (STEP^[32] (entryContents preI m c)) = OUT P W B (X3 m c) := by
  have H := iter_inv m c hP hW hB 32 (le_refl _)
  have h3 := iter_main_arg3 m c 32
  have h0 := iter_main_arg0 m c 32
  generalize STEP^[32] (entryContents preI m c) = V at H h3 h0 ⊢
  funext y
  idx_vars y
  have hx := hP ⟨y0 / 2048, by omega⟩ ⟨y0 % 2048, by omega⟩ ⟨8192 + y1, by omega⟩
  refine (post_apply V y0 y1 _ _ h3 h0 (outRow P W B ⟨y0 / 2048, by omega⟩ ⟨y1 / 1024, by omega⟩ (y0 % 2048)) fun e => ?_).trans ?_
  · refine (H.ys ⟨y0 % 2048 / 64, by omega⟩ (by show y0.val % 2048 / 64 < 32; omega) _ _ _ e).trans (congrArg (fun t => outRow P W B _ _ t e) ?_)
    show 64 * (y0.val % 2048 / 64) + y0.val % 2048 % 64 = y0.val % 2048
    omega
  · refine (congrArg (fun r => finish _ r _ _) (hx.trans (congrArg _ (tok_val P _ _ _).symm))).trans ?_
    rfl

end Cert.ReferenceIdeal.Result

end
-- ==== Proof.Finite.lean ====
/- The precondition read back: the projection, the gate's matrix and its bias hold reals. -/
module

public import proofs.«01_k».proof.Defs
public import proofs.«01_k».proof.Proof.Gen.Pre_finite
public import Idealize.ShloMosaic.Lib.Claim
public import Idealize.ShloMosaic.Lib.ReduceAll

@[expose] public section

noncomputable section

namespace Cert.Finite

open Idealize.ShloMosaic Cert.Pre_finite Cert.Pre_finite.Facts

/-- A number whose absolute value is below the infinity word's is a real. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have h' : max x (-x) < ⊤ := by
    by_contra hn
    have : Ideal.cmp .olt (max x (-x)) ⊤ = 1#1 := h
    unfold Ideal.cmp at this
    simp only [hn, decide_false] at this
    exact absurd this (by decide)
  induction x with
  | bot => simp at h'
  | coe r => exact ⟨r, rfl⟩
  | top => simp at h'

instance : Subsingleton S_.Idx := ⟨fun a b => funext fun k => k.elim0⟩

theorem reals {s : Shape} {axes : List (Fin s.rank)} (x : FVec Ideal s .f32) (hb : S_.BroadcastsInDim s (![] : Fin 0 → Fin s.rank)) (hr : s.ReducesTo axes S_)
    (h0 : 0 < S_.numel) (init : IVec S_ 1) (j : S_.Idx)
    (e : Host.reduce IntOp.andi (cmpf .olt (Host.absf x) (broadcastInDim s ![] hb (constant S_ .f32 0x7F800000#32))) init hr h0 j = 1#1) (i : s.Idx) :
    ∃ r : ℝ, x i = (r : EReal) :=
  real_of_lt _ (Host.reduce_andi_all _ _ _ _ j e i)

/-- What the precondition says of the three arrays. -/
theorem of_pre (x0 : FVec Ideal S4x2048x12304 .f32) (x1 : FVec Ideal S16x2048 .f32) (x2 : FVec Ideal S2048 .f32) (x3 : FVec Ideal S1024 .f32)
    (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h (Shape.Idx.first h_S_)
  dsimp only [fn] at h'
  obtain ⟨ha, hc⟩ := IntOp.andi_eq_one.1 h'
  obtain ⟨ha, hb⟩ := IntOp.andi_eq_one.1 ha
  exact ⟨reals x0 _ _ _ _ _ ha, reals x1 _ _ _ _ _ hb, reals x2 _ _ _ _ _ hc⟩

end Cert.Finite

end
-- ==== Proof.lean ====
/- The claims about thirteen of the layer's calls, the prompt pass of the gated linear attention first: the frames of each
   call's three programs, the idealization, and the equality of the kernel's and the reference's results over the
   extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal
public import proofs.«01_k».proof.Proof.Gen.Pre_finite
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Key
public import proofs.«01_k».proof.Proof.Gen.Key.Skeleton
public import proofs.«01_k».proof.Proof.Gen.Key.Launch
public import proofs.«01_k».proof.Proof.Gen.Key.Points
public import proofs.«01_k».proof.Proof.Gen.Key.Frame
public import proofs.«01_k».proof.Proof.Gen.KeyIdeal
public import proofs.«01_k».proof.Proof.Gen.KeyIdeal.Skeleton
public import proofs.«01_k».proof.Proof.Gen.KeyIdeal.Launch
public import proofs.«01_k».proof.Proof.Gen.KeyIdeal.Points
public import proofs.«01_k».proof.Proof.Gen.KeyIdeal.Frame
public import proofs.«01_k».proof.Proof.Gen.KeyIdeal.Value
public import proofs.«01_k».proof.Proof.Gen.KeyReferenceIdeal
public import proofs.«01_k».proof.Proof.Gen.KeyReferenceIdeal.Run
public import proofs.«01_k».proof.Proof.Gen.Val
public import proofs.«01_k».proof.Proof.Gen.Val.Skeleton
public import proofs.«01_k».proof.Proof.Gen.Val.Launch
public import proofs.«01_k».proof.Proof.Gen.Val.Points
public import proofs.«01_k».proof.Proof.Gen.Val.Frame
public import proofs.«01_k».proof.Proof.Gen.ValIdeal
public import proofs.«01_k».proof.Proof.Gen.ValIdeal.Skeleton
public import proofs.«01_k».proof.Proof.Gen.ValIdeal.Launch
public import proofs.«01_k».proof.Proof.Gen.ValIdeal.Points
public import proofs.«01_k».proof.Proof.Gen.ValIdeal.Frame
public import proofs.«01_k».proof.Proof.Gen.ValIdeal.Value
public import proofs.«01_k».proof.Proof.Gen.ValReferenceIdeal
public import proofs.«01_k».proof.Proof.Gen.ValReferenceIdeal.Run
public import proofs.«01_k».proof.Proof.Down
public import proofs.«01_k».proof.Proof.Mix
public import proofs.«01_k».proof.Proof.Key
public import proofs.«01_k».proof.Proof.Val
public import proofs.«01_k».proof.Proof.Gen.Up
public import proofs.«01_k».proof.Proof.Gen.Up.Skeleton
public import proofs.«01_k».proof.Proof.Gen.Up.Launch
public import proofs.«01_k».proof.Proof.Gen.UpIdeal
public import proofs.«01_k».proof.Proof.Gen.UpIdeal.Skeleton
public import proofs.«01_k».proof.Proof.Gen.UpIdeal.Launch
public import proofs.«01_k».proof.Proof.Gen.UpReferenceIdeal
public import proofs.«01_k».proof.Proof.Gen.UpReferenceIdeal.Run
public import proofs.«01_k».proof.Proof.Up.Ref
public import proofs.«01_k».proof.Proof.Up.Same
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.QueryReferenceIdeal
public import proofs.«01_k».proof.Proof.Gen.QueryReferenceIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormStep
public import proofs.«01_k».proof.Proof.Gen.NormStep.Skeleton
public import proofs.«01_k».proof.Proof.Gen.NormStep.Launch
public import proofs.«01_k».proof.Proof.Gen.NormStep.Points
public import proofs.«01_k».proof.Proof.Gen.NormStep.Frame
public import proofs.«01_k».proof.Proof.Gen.NormStepIdeal
public import proofs.«01_k».proof.Proof.Gen.NormStepIdeal.Skeleton
public import proofs.«01_k».proof.Proof.Gen.NormStepIdeal.Launch
public import proofs.«01_k».proof.Proof.Gen.NormStepIdeal.Points
public import proofs.«01_k».proof.Proof.Gen.NormStepIdeal.Frame
public import proofs.«01_k».proof.Proof.Gen.NormStepIdeal.Value
public import proofs.«01_k».proof.Proof.Gen.NormStepReferenceIdeal
public import proofs.«01_k».proof.Proof.Gen.NormStepReferenceIdeal.Run
public import proofs.«01_k».proof.Proof.Gen.KeyStep
public import proofs.«01_k».proof.Proof.Gen.KeyStep.Skeleton
public import proofs.«01_k».proof.Proof.Gen.KeyStep.Launch
public import proofs.«01_k».proof.Proof.Gen.KeyStep.Points
public import proofs.«01_k».proof.Proof.Gen.KeyStep.Frame
public import proofs.«01_k».proof.Proof.Gen.KeyStepIdeal
public import proofs.«01_k».proof.Proof.Gen.KeyStepIdeal.Skeleton
public import proofs.«01_k».proof.Proof.Gen.KeyStepIdeal.Launch
public import proofs.«01_k».proof.Proof.Gen.KeyStepIdeal.Points
public import proofs.«01_k».proof.Proof.Gen.KeyStepIdeal.Frame
public import proofs.«01_k».proof.Proof.Gen.KeyStepIdeal.Value
public import proofs.«01_k».proof.Proof.Gen.KeyStepReferenceIdeal
public import proofs.«01_k».proof.Proof.Gen.KeyStepReferenceIdeal.Run
public import proofs.«01_k».proof.Proof.Gen.ValStep
public import proofs.«01_k».proof.Proof.Gen.ValStep.Skeleton
public import proofs.«01_k».proof.Proof.Gen.ValStep.Launch
public import proofs.«01_k».proof.Proof.Gen.ValStep.Points
public import proofs.«01_k».proof.Proof.Gen.ValStep.Frame
public import proofs.«01_k».proof.Proof.Gen.ValStepIdeal
public import proofs.«01_k».proof.Proof.Gen.ValStepIdeal.Skeleton
public import proofs.«01_k».proof.Proof.Gen.ValStepIdeal.Launch
public import proofs.«01_k».proof.Proof.Gen.ValStepIdeal.Points
public import proofs.«01_k».proof.Proof.Gen.ValStepIdeal.Frame
public import proofs.«01_k».proof.Proof.Gen.ValStepIdeal.Value
public import proofs.«01_k».proof.Proof.Gen.ValStepReferenceIdeal
public import proofs.«01_k».proof.Proof.Gen.ValStepReferenceIdeal.Run
public import proofs.«01_k».proof.Proof.Gen.UpStep
public import proofs.«01_k».proof.Proof.Gen.UpStep.Skeleton
public import proofs.«01_k».proof.Proof.Gen.UpStep.Launch
public import proofs.«01_k».proof.Proof.Gen.UpStep.Points
public import proofs.«01_k».proof.Proof.Gen.UpStep.Frame
public import proofs.«01_k».proof.Proof.Gen.UpStepIdeal
public import proofs.«01_k».proof.Proof.Gen.UpStepIdeal.Skeleton
public import proofs.«01_k».proof.Proof.Gen.UpStepIdeal.Launch
public import proofs.«01_k».proof.Proof.Gen.UpStepIdeal.Points
public import proofs.«01_k».proof.Proof.Gen.UpStepIdeal.Frame
public import proofs.«01_k».proof.Proof.Gen.UpStepIdeal.Value
public import proofs.«01_k».proof.Proof.Gen.UpStepReferenceIdeal
public import proofs.«01_k».proof.Proof.Gen.UpStepReferenceIdeal.Run
public import proofs.«01_k».proof.Proof.Query
public import proofs.«01_k».proof.Proof.Out
public import proofs.«01_k».proof.Proof.Norm
public import proofs.«01_k».proof.Proof.NormStep
public import proofs.«01_k».proof.Proof.KeyStep
public import proofs.«01_k».proof.Proof.ValStep
public import proofs.«01_k».proof.Proof.UpStep
public import proofs.«01_k».proof.Proof.Results
public import proofs.«01_k».proof.Proof.RefResult
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

/-- The kernel's frame. -/
theorem frame_p : Cert.quiescent_Kernel := fun m ρ _ => Cert.Kernel.Gen.frame m ρ

/-- The frame of the kernel's ideal reading. -/
theorem frame_pi : Cert.quiescent_KernelIdeal := fun m ρ _ => Cert.KernelIdeal.Gen.frame m ρ

/-- The same, where the claim also supposes finite arguments. -/
theorem frame_pi_pre : Cert.quiescent_KernelIdeal_pre_finite := fun m ρ _ => Cert.KernelIdeal.Gen.frame m ρ

/-- The reference's frame: its run read at the arguments; it declares no semaphore. -/
theorem frame_ri : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The same, where the claim also supposes finite arguments. -/
theorem frame_ri_pre : Cert.quiescent_ReferenceIdeal_pre_finite := fun m ρ _ => frame_ri m ρ trivial

/-- Kernel and reference end with equal results. -/
theorem algebraic : Cert.algebraic_KernelIdeal_ReferenceIdeal_pre_finite := by
  intro m g m' g' hpre hagree
  have hfin := fun c => Cert.Finite.of_pre _ _ _ _ (hpre c)
  let P : Dev Cert.KernelIdeal.nD → Fin 4 → Fin 2048 → Fin 12304 → ℝ := fun c b t j => (Cert.KernelIdeal.Arrays.X0 m c (ix3 b t j)).toReal
  let W : Dev Cert.KernelIdeal.nD → Fin 16 → Fin 2048 → ℝ := fun c r j => (Cert.KernelIdeal.Arrays.X1 m c (ix2 r j)).toReal
  let B : Dev Cert.KernelIdeal.nD → Fin 2048 → ℝ := fun c j => (Cert.KernelIdeal.Arrays.X2 m c (ix1 j)).toReal
  have hP : ∀ c b t j, Cert.KernelIdeal.Arrays.X0 m c (ix3 b t j) = (P c b t j : EReal) := fun c b t j => by
    obtain ⟨r, hr⟩ := (hfin c).1 (ix3 b t j)
    have hr' : Cert.KernelIdeal.Arrays.X0 m c (ix3 b t j) = (r : EReal) := hr
    simp only [P, hr', EReal.toReal_coe]
  have hW : ∀ c r j, Cert.KernelIdeal.Arrays.X1 m c (ix2 r j) = (W c r j : EReal) := fun c r j => by
    obtain ⟨x, hr⟩ := (hfin c).2.1 (ix2 r j)
    have hr' : Cert.KernelIdeal.Arrays.X1 m c (ix2 r j) = (x : EReal) := hr
    simp only [W, hr', EReal.toReal_coe]
  have hB : ∀ c j, Cert.KernelIdeal.Arrays.X2 m c (ix1 j) = (B c j : EReal) := fun c j => by
    obtain ⟨x, hr⟩ := (hfin c).2.2 (ix1 j)
    have hr' : Cert.KernelIdeal.Arrays.X2 m c (ix1 j) = (x : EReal) := hr
    simp only [B, hr', EReal.toReal_coe]
  refine ⟨fun c => Cert.KernelIdeal.Results.OUT (P c) (W c) (B c) (Cert.KernelIdeal.Arrays.X3 m c),
    fun c => Cert.KernelIdeal.Results.END (P c) (W c) (B c), ?_, ?_⟩
  · refine (θ_run Cert.KernelIdeal.defs _ _).mono (fun r h c => ?_) (Cert.KernelIdeal.Value.run_blocks (F := Ideal) m g)
    exact ⟨(h c).1.trans (Cert.KernelIdeal.Results.result8 m c (hP c) (hW c) (hB c)),
      (h c).2.1.trans (Cert.KernelIdeal.Results.result9 m c (hP c) (hW c) (hB c)), (h c).2.2⟩
  · refine (θ_run Cert.ReferenceIdeal.defs _ _).mono (fun r h c => ?_) (Cert.ReferenceIdeal.Value.run (F := Ideal) m' g')
    have e0 : Cert.ReferenceIdeal.Entry.X0 m' c = Cert.KernelIdeal.Arrays.X0 m c := (hagree c).1
    have e1 : Cert.ReferenceIdeal.Entry.X1 m' c = Cert.KernelIdeal.Arrays.X1 m c := (hagree c).2.1
    have e2 : Cert.ReferenceIdeal.Entry.X2 m' c = Cert.KernelIdeal.Arrays.X2 m c := (hagree c).2.2.1
    have e3 : Cert.ReferenceIdeal.Entry.X3 m' c = Cert.KernelIdeal.Arrays.X3 m c := (hagree c).2.2.2
    have gP := fun b t j => (congrFun e0 (ix3 b t j)).trans (hP c b t j)
    have gW := fun r j => (congrFun e1 (ix2 r j)).trans (hW c r j)
    have gB := fun j => (congrFun e2 (ix1 j)).trans (hB c j)
    exact ⟨((h c).1.trans (Cert.ReferenceIdeal.Result.result8 m' c gP gW gB)).trans
        (congrArg (Cert.KernelIdeal.Results.OUT (P c) (W c) (B c)) e3),
      (h c).2.1.trans (Cert.ReferenceIdeal.Result.result9 m' c gP gW gB), (h c).2.2⟩

/-- The down projection: the kernel's frame. -/
theorem frame_down : Cert.quiescent_Down := fun m ρ _ => Cert.Down.Gen.frame m ρ

/-- The down projection: the frame of the kernel's ideal reading. -/
theorem frame_down_ideal : Cert.quiescent_DownIdeal := fun m ρ _ => Cert.DownIdeal.Gen.frame m ρ

/-- The down projection: the reference's frame. -/
theorem frame_down_ref : Cert.quiescent_DownReferenceIdeal := fun m ρ _ =>
  (θ_run Cert.DownReferenceIdeal.defs _ _).mono
    (fun r h => ⟨fun c => (h c).2, sem_eq_zero_of_no_sems (by decide) r.2⟩)
    (Cert.DownReferenceIdeal.Value.run (F := Ideal) m ρ)

/-- The down projection: kernel and reference end with equal results. -/
theorem algebraic_down : Cert.algebraic_DownIdeal_DownReferenceIdeal := by
  intro m g m' g' hpre hagree
  refine ⟨fun c => Cert.DownIdeal.Result.OUT (Cert.DownIdeal.Result.X0 m c) (Cert.DownIdeal.Result.X1 m c) (Cert.DownIdeal.Result.X2 m c), ?_, ?_⟩
  · exact (θ_run Cert.DownIdeal.defs _ _).mono (fun r h c => ⟨(h c).1.trans (Cert.DownIdeal.Result.result m c), (h c).2⟩)
      (Cert.DownIdeal.Value.run_blocks (F := Ideal) m g)
  · exact (θ_run Cert.DownReferenceIdeal.defs _ _).mono (fun r h c => ⟨(h c).1.trans
      ((congrArg₂ (fun a w => Cert.DownIdeal.Result.OUT a w _) (hagree c).1 (hagree c).2.1).trans (congrArg (Cert.DownIdeal.Result.OUT _ _) (hagree c).2.2)), (h c).2⟩)
      (Cert.DownReferenceIdeal.Result.run m' g')

/-- The mixer projection: the kernel's frame. -/
theorem frame_mix : Cert.quiescent_Mix := fun m ρ _ => Cert.Mix.Gen.frame m ρ

/-- The mixer projection: the frame of the kernel's ideal reading. -/
theorem frame_mix_ideal : Cert.quiescent_MixIdeal := fun m ρ _ => Cert.MixIdeal.Gen.frame m ρ

/-- The mixer projection: the reference's frame. -/
theorem frame_mix_ref : Cert.quiescent_MixReferenceIdeal := fun m ρ _ =>
  (θ_run Cert.MixReferenceIdeal.defs _ _).mono
    (fun r h => ⟨fun c => (h c).2, sem_eq_zero_of_no_sems (by decide) r.2⟩)
    (Cert.MixReferenceIdeal.Value.run (F := Ideal) m ρ)

/-- The mixer projection: kernel and reference end with equal results. -/
theorem algebraic_mix : Cert.algebraic_MixIdeal_MixReferenceIdeal := by
  intro m g m' g' hpre hagree
  refine ⟨fun c => Cert.MixIdeal.Result.OUT (Cert.MixIdeal.Result.X0 m c) (Cert.MixIdeal.Result.X1 m c), ?_, ?_⟩
  · exact (θ_run Cert.MixIdeal.defs _ _).mono (fun r h c => ⟨(h c).1.trans (Cert.MixIdeal.Result.result m c), (h c).2⟩)
      (Cert.MixIdeal.Value.run_blocks (F := Ideal) m g)
  · exact (θ_run Cert.MixReferenceIdeal.defs _ _).mono (fun r h c => ⟨(h c).1.trans
      (congrArg₂ Cert.MixIdeal.Result.OUT (hagree c).1 (hagree c).2), (h c).2⟩)
      (Cert.MixReferenceIdeal.Result.run m' g')

/-- The key projection: the kernel's frame. -/
theorem frame_key : Cert.quiescent_Key := fun m ρ _ => Cert.Key.Gen.frame m ρ

/-- The key projection: the frame of the kernel's ideal reading. -/
theorem frame_key_ideal : Cert.quiescent_KeyIdeal := fun m ρ _ => Cert.KeyIdeal.Gen.frame m ρ

/-- The key projection: the reference's frame. -/
theorem frame_key_ref : Cert.quiescent_KeyReferenceIdeal := fun m ρ _ =>
  (θ_run Cert.KeyReferenceIdeal.defs _ _).mono
    (fun r h => ⟨fun c => (h c).2, sem_eq_zero_of_no_sems (by decide) r.2⟩)
    (Cert.KeyReferenceIdeal.Value.run (F := Ideal) m ρ)

/-- The key projection: kernel and reference end with equal results. -/
theorem algebraic_key : Cert.algebraic_KeyIdeal_KeyReferenceIdeal := by
  intro m g m' g' hpre hagree
  refine ⟨fun c => Cert.KeyIdeal.Result.OUT (Cert.KeyIdeal.Result.X0 m c) (Cert.KeyIdeal.Result.X1 m c), ?_, ?_⟩
  · exact (θ_run Cert.KeyIdeal.defs _ _).mono (fun r h c => ⟨(h c).1.trans (Cert.KeyIdeal.Result.result m c), (h c).2⟩)
      (Cert.KeyIdeal.Value.run_blocks (F := Ideal) m g)
  · exact (θ_run Cert.KeyReferenceIdeal.defs _ _).mono (fun r h c => ⟨((h c).1.trans (Cert.KeyReferenceIdeal.Result.result m' c)).trans
      (congrArg₂ Cert.KeyIdeal.Result.OUT (hagree c).1 (hagree c).2), (h c).2⟩)
      (Cert.KeyReferenceIdeal.Value.run (F := Ideal) m' g')

/-- The value projection: the kernel's frame. -/
theorem frame_val : Cert.quiescent_Val := fun m ρ _ => Cert.Val.Gen.frame m ρ

/-- The value projection: the frame of the kernel's ideal reading. -/
theorem frame_val_ideal : Cert.quiescent_ValIdeal := fun m ρ _ => Cert.ValIdeal.Gen.frame m ρ

/-- The value projection: the reference's frame. -/
theorem frame_val_ref : Cert.quiescent_ValReferenceIdeal := fun m ρ _ =>
  (θ_run Cert.ValReferenceIdeal.defs _ _).mono
    (fun r h => ⟨fun c => (h c).2, sem_eq_zero_of_no_sems (by decide) r.2⟩)
    (Cert.ValReferenceIdeal.Value.run (F := Ideal) m ρ)

/-- The value projection: kernel and reference end with equal results. -/
theorem algebraic_val : Cert.algebraic_ValIdeal_ValReferenceIdeal := by
  intro m g m' g' hpre hagree
  refine ⟨fun c => Cert.ValIdeal.Result.OUT (Cert.ValIdeal.Result.X0 m c) (Cert.ValIdeal.Result.X1 m c), ?_, ?_⟩
  · exact (θ_run Cert.ValIdeal.defs _ _).mono (fun r h c => ⟨(h c).1.trans (Cert.ValIdeal.Result.result m c), (h c).2⟩)
      (Cert.ValIdeal.Value.run_blocks (F := Ideal) m g)
  · exact (θ_run Cert.ValReferenceIdeal.defs _ _).mono (fun r h c => ⟨(h c).1.trans
      (congrArg₂ Cert.ValIdeal.Result.OUT (hagree c).1 (hagree c).2), (h c).2⟩)
      (Cert.ValReferenceIdeal.Result.run m' g')

/-- The up projection: the kernel's frame. The two texts of the kernel agree, so one run serves both. -/
theorem frame_up : Cert.quiescent_Up := Cert.Up.Same.frame

/-- The up projection: the frame of the kernel's ideal reading. -/
theorem frame_up_ideal : Cert.quiescent_UpIdeal := fun m ρ h =>
  Cert.UpIdeal.Gen.frame m ρ (Cert.UpIdeal.Gen.ok_of_pages m 0 (Cert.UpIdeal.Gen.pages_of_pre _ _ _ _ _ _ (h 0)))

/-- The up projection: the reference's frame. -/
theorem frame_up_ref : Cert.quiescent_UpReferenceIdeal := fun m ρ _ =>
  (θ_run Cert.UpReferenceIdeal.defs _ _).mono
    (fun r h => ⟨fun c => (h c).2.2.2.2, sem_eq_zero_of_no_sems (by decide) r.2⟩)
    (Cert.UpReferenceIdeal.Value.run (F := Ideal) m ρ)

/-- The same, where the claim also supposes that the pages exist. -/
theorem frame_up_ref_pre : Cert.quiescent_UpReferenceIdeal_pre_pages_exist := fun m ρ _ => frame_up_ref m ρ trivial

/-- The up projection: kernel and reference end with equal results. -/
theorem algebraic_up : Cert.algebraic_UpIdeal_UpReferenceIdeal := by
  intro m g m' g' hpre hagree
  have hp : ∀ c i, BitVec.toNat (Cert.UpIdeal.Result.A5 m c i) < 1280 := fun c => Cert.UpIdeal.Gen.pages_of_pre _ _ _ _ _ _ (hpre c)
  refine ⟨fun c => Cert.UpIdeal.Result.OUT (Cert.UpIdeal.Result.A0 m c) (Cert.UpIdeal.Result.A1 m c) (Cert.UpIdeal.Result.A2 m c) (Cert.UpIdeal.Result.A3 m c),
    fun c => Cert.UpIdeal.Result.TAIL (Cert.UpIdeal.Result.A0 m c) (Cert.UpIdeal.Result.A1 m c) 0 (by omega),
    fun c => Cert.UpIdeal.Result.TAIL (Cert.UpIdeal.Result.A0 m c) (Cert.UpIdeal.Result.A1 m c) 11008 (by omega),
    fun c => Cert.UpIdeal.Result.MEAN (Cert.UpIdeal.Result.A4 m c) (Cert.UpIdeal.Result.A5 m c), ?_, ?_⟩
  · exact (θ_run Cert.UpIdeal.defs _ _).mono (fun r h c => ⟨(h c).1.1, (h c).1.2.1, (h c).1.2.2.1, (h c).1.2.2.2, (h c).2⟩)
      (Cert.UpIdeal.Result.run m g hp)
  · refine (θ_run Cert.UpReferenceIdeal.defs _ _).mono (fun r h c => ?_)
      (Cert.UpReferenceIdeal.Result.run m' g' fun c i => lt_of_eq_of_lt (congrArg BitVec.toNat (congrFun (hagree c).2.2.2.2.2 i)) (hp c i))
    obtain ⟨e0, e1, e2, e3, e4, e5⟩ := hagree c
    refine ⟨(h c).1.trans ?_, (h c).2.1.trans ?_, (h c).2.2.1.trans ?_, (h c).2.2.2.1.trans ?_, (h c).2.2.2.2⟩
    · exact (congrArg₂ (fun a w => Cert.UpIdeal.Result.OUT a w _ _) e0 e1).trans (congrArg₂ (fun a w => Cert.UpIdeal.Result.OUT _ _ a w) e2 e3)
    · exact congrArg₂ (fun a w => Cert.UpIdeal.Result.TAIL a w 0 (by omega)) e0 e1
    · exact congrArg₂ (fun a w => Cert.UpIdeal.Result.TAIL a w 11008 (by omega)) e0 e1
    · exact congrArg₂ (fun a w => Cert.UpIdeal.Result.MEAN a w) e4 e5

/-- The query projection: the kernel's frame. -/
theorem frame_query : Cert.quiescent_Query := fun m ρ _ => Cert.Query.Gen.frame m ρ

/-- The query projection: the frame of the kernel's ideal reading. -/
theorem frame_query_ideal : Cert.quiescent_QueryIdeal := fun m ρ _ => Cert.QueryIdeal.Gen.frame m ρ

/-- The query projection: the reference's frame. -/
theorem frame_query_ref : Cert.quiescent_QueryReferenceIdeal := fun m ρ _ =>
  (θ_run Cert.QueryReferenceIdeal.defs _ _).mono
    (fun r h => ⟨fun c => (h c).2, sem_eq_zero_of_no_sems (by decide) r.2⟩)
    (Cert.QueryReferenceIdeal.Value.run (F := Ideal) m ρ)

/-- The query projection: kernel and reference end with equal results. -/
theorem algebraic_query : Cert.algebraic_QueryIdeal_QueryReferenceIdeal := by
  intro m g m' g' hpre hagree
  refine ⟨fun c => Cert.QueryIdeal.Result.OUT (Cert.QueryIdeal.Result.X0 m c) (Cert.QueryIdeal.Result.X1 m c), ?_, ?_⟩
  · exact (θ_run Cert.QueryIdeal.defs _ _).mono (fun r h c => ⟨(h c).1.trans (Cert.QueryIdeal.Result.result m c), (h c).2⟩)
      (Cert.QueryIdeal.Value.run_blocks (F := Ideal) m g)
  · exact (θ_run Cert.QueryReferenceIdeal.defs _ _).mono (fun r h c => ⟨((h c).1.trans (Cert.QueryReferenceIdeal.Result.result m' c)).trans
      (congrArg₂ Cert.QueryIdeal.Result.OUT (hagree c).1 (hagree c).2), (h c).2⟩)
      (Cert.QueryReferenceIdeal.Value.run (F := Ideal) m' g')

/-- The output projection: the kernel's frame. -/
theorem frame_out : Cert.quiescent_Out := fun m ρ _ => Cert.Out.Gen.frame m ρ

/-- The output projection: the frame of the kernel's ideal reading. -/
theorem frame_out_ideal : Cert.quiescent_OutIdeal := fun m ρ _ => Cert.OutIdeal.Gen.frame m ρ

/-- The output projection: the reference's frame. -/
theorem frame_out_ref : Cert.quiescent_OutReferenceIdeal := fun m ρ _ =>
  (θ_run Cert.OutReferenceIdeal.defs _ _).mono
    (fun r h => ⟨fun c => (h c).2, sem_eq_zero_of_no_sems (by decide) r.2⟩)
    (Cert.OutReferenceIdeal.Value.run (F := Ideal) m ρ)

/-- The output projection: kernel and reference end with equal results. -/
theorem algebraic_out : Cert.algebraic_OutIdeal_OutReferenceIdeal := by
  intro m g m' g' hpre hagree
  refine ⟨fun c => Cert.OutIdeal.Result.OUT (Cert.OutIdeal.Result.X0 m c) (Cert.OutIdeal.Result.X1 m c) (Cert.OutIdeal.Result.X2 m c), ?_, ?_⟩
  · exact (θ_run Cert.OutIdeal.defs _ _).mono (fun r h c => ⟨(h c).1.trans (Cert.OutIdeal.Result.result m c), (h c).2⟩)
      (Cert.OutIdeal.Value.run_blocks (F := Ideal) m g)
  · exact (θ_run Cert.OutReferenceIdeal.defs _ _).mono (fun r h c => ⟨(h c).1.trans
      ((congrArg₂ (fun a w => Cert.OutIdeal.Result.OUT a w _) (hagree c).1 (hagree c).2.1).trans (congrArg (Cert.OutIdeal.Result.OUT _ _) (hagree c).2.2)), (h c).2⟩)
      (Cert.OutReferenceIdeal.Result.run m' g')

/-- The prompts' last norm: the kernel's frame. -/
theorem frame_norm : Cert.quiescent_Norm := fun m ρ _ => Cert.Norm.Gen.frame m ρ

/-- The prompts' last norm: the frame of the kernel's ideal reading. -/
theorem frame_norm_ideal : Cert.quiescent_NormIdeal := fun m ρ _ => Cert.NormIdeal.Gen.frame m ρ

/-- The prompts' last norm: the reference's frame. -/
theorem frame_norm_ref : Cert.quiescent_NormReferenceIdeal := fun m ρ _ =>
  (θ_run Cert.NormReferenceIdeal.defs _ _).mono
    (fun r h => ⟨fun c => (h c).2, sem_eq_zero_of_no_sems (by decide) r.2⟩)
    (Cert.NormReferenceIdeal.Value.run (F := Ideal) m ρ)

/-- The prompts' last norm: kernel and reference end with equal results. -/
theorem algebraic_norm : Cert.algebraic_NormIdeal_NormReferenceIdeal := by
  intro m g m' g' hpre hagree
  refine ⟨fun c => Cert.NormIdeal.Result.OUT (Cert.NormIdeal.Result.X0 m c) (Cert.NormIdeal.Result.X1 m c), ?_, ?_⟩
  · exact (θ_run Cert.NormIdeal.defs _ _).mono (fun r h c => ⟨(h c).1.trans (Cert.NormIdeal.Result.result m c), (h c).2⟩)
      (Cert.NormIdeal.Value.run_blocks (F := Ideal) m g)
  · exact (θ_run Cert.NormReferenceIdeal.defs _ _).mono (fun r h c => ⟨(h c).1.trans
      (congrArg₂ Cert.NormIdeal.Result.OUT (hagree c).1 (hagree c).2), (h c).2⟩)
      (Cert.NormReferenceIdeal.Result.run m' g')

/-- The samples' last norm: the kernel's frame. -/
theorem frame_norm_step : Cert.quiescent_NormStep := fun m ρ _ => Cert.NormStep.Gen.frame m ρ

/-- The samples' last norm: the frame of the kernel's ideal reading. -/
theorem frame_norm_step_ideal : Cert.quiescent_NormStepIdeal := fun m ρ _ => Cert.NormStepIdeal.Gen.frame m ρ

/-- The samples' last norm: the reference's frame. -/
theorem frame_norm_step_ref : Cert.quiescent_NormStepReferenceIdeal := fun m ρ _ =>
  (θ_run Cert.NormStepReferenceIdeal.defs _ _).mono
    (fun r h => ⟨fun c => (h c).2, sem_eq_zero_of_no_sems (by decide) r.2⟩)
    (Cert.NormStepReferenceIdeal.Value.run (F := Ideal) m ρ)

/-- The samples' last norm: kernel and reference end with equal results. -/
theorem algebraic_norm_step : Cert.algebraic_NormStepIdeal_NormStepReferenceIdeal := by
  intro m g m' g' hpre hagree
  refine ⟨fun c => Cert.NormStepIdeal.Result.OUT (Cert.NormStepIdeal.Result.X0 m c) (Cert.NormStepIdeal.Result.X1 m c), ?_, ?_⟩
  · exact (θ_run Cert.NormStepIdeal.defs _ _).mono (fun r h c => ⟨(h c).1.trans (Cert.NormStepIdeal.Result.result m c), (h c).2⟩)
      (Cert.NormStepIdeal.Value.run_blocks (F := Ideal) m g)
  · exact (θ_run Cert.NormStepReferenceIdeal.defs _ _).mono (fun r h c => ⟨(h c).1.trans
      (congrArg₂ Cert.NormStepIdeal.Result.OUT (hagree c).1 (hagree c).2), (h c).2⟩)
      (Cert.NormStepReferenceIdeal.Result.run m' g')

/-- The samples' key projection: the kernel's frame. -/
theorem frame_key_step : Cert.quiescent_KeyStep := fun m ρ _ => Cert.KeyStep.Gen.frame m ρ

/-- The samples' key projection: the frame of the kernel's ideal reading. -/
theorem frame_key_step_ideal : Cert.quiescent_KeyStepIdeal := fun m ρ _ => Cert.KeyStepIdeal.Gen.frame m ρ

/-- The samples' key projection: the reference's frame. -/
theorem frame_key_step_ref : Cert.quiescent_KeyStepReferenceIdeal := fun m ρ _ =>
  (θ_run Cert.KeyStepReferenceIdeal.defs _ _).mono
    (fun r h => ⟨fun c => (h c).2, sem_eq_zero_of_no_sems (by decide) r.2⟩)
    (Cert.KeyStepReferenceIdeal.Value.run (F := Ideal) m ρ)

/-- The samples' key projection: kernel and reference end with equal results. -/
theorem algebraic_key_step : Cert.algebraic_KeyStepIdeal_KeyStepReferenceIdeal := by
  intro m g m' g' hpre hagree
  refine ⟨fun c => Cert.KeyStepIdeal.Result.OUT (Cert.KeyStepIdeal.Result.X0 m c) (Cert.KeyStepIdeal.Result.X1 m c), ?_, ?_⟩
  · exact (θ_run Cert.KeyStepIdeal.defs _ _).mono (fun r h c => ⟨(h c).1.trans (Cert.KeyStepIdeal.Result.result m c), (h c).2⟩)
      (Cert.KeyStepIdeal.Value.run_blocks (F := Ideal) m g)
  · exact (θ_run Cert.KeyStepReferenceIdeal.defs _ _).mono (fun r h c => ⟨((h c).1.trans (Cert.KeyStepReferenceIdeal.Result.result m' c)).trans
      (congrArg₂ Cert.KeyStepIdeal.Result.OUT (hagree c).1 (hagree c).2), (h c).2⟩)
      (Cert.KeyStepReferenceIdeal.Value.run (F := Ideal) m' g')

/-- The samples' value projection: the kernel's frame. -/
theorem frame_val_step : Cert.quiescent_ValStep := fun m ρ _ => Cert.ValStep.Gen.frame m ρ

/-- The samples' value projection: the frame of the kernel's ideal reading. -/
theorem frame_val_step_ideal : Cert.quiescent_ValStepIdeal := fun m ρ _ => Cert.ValStepIdeal.Gen.frame m ρ

/-- The samples' value projection: the reference's frame. -/
theorem frame_val_step_ref : Cert.quiescent_ValStepReferenceIdeal := fun m ρ _ =>
  (θ_run Cert.ValStepReferenceIdeal.defs _ _).mono
    (fun r h => ⟨fun c => (h c).2, sem_eq_zero_of_no_sems (by decide) r.2⟩)
    (Cert.ValStepReferenceIdeal.Value.run (F := Ideal) m ρ)

/-- The samples' value projection: kernel and reference end with equal results. -/
theorem algebraic_val_step : Cert.algebraic_ValStepIdeal_ValStepReferenceIdeal := by
  intro m g m' g' hpre hagree
  refine ⟨fun c => Cert.ValStepIdeal.Result.OUT (Cert.ValStepIdeal.Result.X0 m c) (Cert.ValStepIdeal.Result.X1 m c), ?_, ?_⟩
  · exact (θ_run Cert.ValStepIdeal.defs _ _).mono (fun r h c => ⟨(h c).1.trans (Cert.ValStepIdeal.Result.result m c), (h c).2⟩)
      (Cert.ValStepIdeal.Value.run_blocks (F := Ideal) m g)
  · exact (θ_run Cert.ValStepReferenceIdeal.defs _ _).mono (fun r h c => ⟨(h c).1.trans
      (congrArg₂ Cert.ValStepIdeal.Result.OUT (hagree c).1 (hagree c).2), (h c).2⟩)
      (Cert.ValStepReferenceIdeal.Result.run m' g')

/-- The samples' up projection: the kernel's frame. -/
theorem frame_up_step : Cert.quiescent_UpStep := fun m ρ _ => Cert.UpStep.Gen.frame m ρ

/-- The samples' up projection: the frame of the kernel's ideal reading. -/
theorem frame_up_step_ideal : Cert.quiescent_UpStepIdeal := fun m ρ _ => Cert.UpStepIdeal.Gen.frame m ρ

/-- The samples' up projection: the reference's frame. -/
theorem frame_up_step_ref : Cert.quiescent_UpStepReferenceIdeal := fun m ρ _ =>
  (θ_run Cert.UpStepReferenceIdeal.defs _ _).mono
    (fun r h => ⟨fun c => (h c).2, sem_eq_zero_of_no_sems (by decide) r.2⟩)
    (Cert.UpStepReferenceIdeal.Value.run (F := Ideal) m ρ)

/-- The samples' up projection: kernel and reference end with equal results. -/
theorem algebraic_up_step : Cert.algebraic_UpStepIdeal_UpStepReferenceIdeal := by
  intro m g m' g' hpre hagree
  refine ⟨fun c => Cert.UpStepIdeal.Result.OUT (Cert.UpStepIdeal.Result.X0 m c) (Cert.UpStepIdeal.Result.X1 m c), ?_, ?_⟩
  · exact (θ_run Cert.UpStepIdeal.defs _ _).mono (fun r h c => ⟨(h c).1.trans (Cert.UpStepIdeal.Result.result m c), (h c).2⟩)
      (Cert.UpStepIdeal.Value.run_blocks (F := Ideal) m g)
  · exact (θ_run Cert.UpStepReferenceIdeal.defs _ _).mono (fun r h c => ⟨(h c).1.trans
      (congrArg₂ Cert.UpStepIdeal.Result.OUT (hagree c).1 (hagree c).2), (h c).2⟩)
      (Cert.UpStepReferenceIdeal.Result.run m' g')

theorem claim : Cert.Claim :=
  ⟨Cert.Kernel.Gen.facts, Cert.KernelIdeal.Gen.facts, Cert.ReferenceIdeal.Gen.facts,
    Cert.Down.Gen.facts, Cert.DownIdeal.Gen.facts, Cert.DownReferenceIdeal.Gen.facts, Cert.Mix.Gen.facts, Cert.MixIdeal.Gen.facts, Cert.MixReferenceIdeal.Gen.facts, Cert.Key.Gen.facts, Cert.KeyIdeal.Gen.facts, Cert.KeyReferenceIdeal.Gen.facts, Cert.Val.Gen.facts, Cert.ValIdeal.Gen.facts, Cert.ValReferenceIdeal.Gen.facts, Cert.Up.Gen.facts, Cert.UpIdeal.Gen.facts, Cert.UpReferenceIdeal.Gen.facts,
    Cert.Query.Gen.facts, Cert.QueryIdeal.Gen.facts, Cert.QueryReferenceIdeal.Gen.facts,
    Cert.Out.Gen.facts, Cert.OutIdeal.Gen.facts, Cert.OutReferenceIdeal.Gen.facts,
    Cert.Norm.Gen.facts, Cert.NormIdeal.Gen.facts, Cert.NormReferenceIdeal.Gen.facts,
    Cert.NormStep.Gen.facts, Cert.NormStepIdeal.Gen.facts, Cert.NormStepReferenceIdeal.Gen.facts,
    Cert.KeyStep.Gen.facts, Cert.KeyStepIdeal.Gen.facts, Cert.KeyStepReferenceIdeal.Gen.facts,
    Cert.ValStep.Gen.facts, Cert.ValStepIdeal.Gen.facts, Cert.ValStepReferenceIdeal.Gen.facts,
    Cert.UpStep.Gen.facts, Cert.UpStepIdeal.Gen.facts, Cert.UpStepReferenceIdeal.Gen.facts,
    Cert.Pre_finite.Gen.facts, Cert.Pre_pages_exist.Hand.facts,
    frame_p, frame_pi, frame_pi_pre, frame_ri, frame_ri_pre,
    frame_down, frame_down_ideal, frame_down_ref, frame_mix, frame_mix_ideal, frame_mix_ref, frame_key, frame_key_ideal, frame_key_ref, frame_val, frame_val_ideal, frame_val_ref,
    frame_up, frame_up_ideal, frame_up_ref, frame_up_ref_pre,
    frame_query, frame_query_ideal, frame_query_ref,
    frame_out, frame_out_ideal, frame_out_ref,
    frame_norm, frame_norm_ideal, frame_norm_ref,
    frame_norm_step, frame_norm_step_ideal, frame_norm_step_ref,
    frame_key_step, frame_key_step_ideal, frame_key_step_ref,
    frame_val_step, frame_val_step_ideal, frame_val_step_ref,
    frame_up_step, frame_up_step_ideal, frame_up_step_ref,
    trivial, algebraic,
    trivial, algebraic_down, trivial, algebraic_mix, trivial, algebraic_key, trivial, algebraic_val, trivial, algebraic_up,
    trivial, algebraic_query, trivial, algebraic_out, trivial, algebraic_norm, trivial, algebraic_norm_step, trivial, algebraic_key_step, trivial, algebraic_val_step, trivial, algebraic_up_step⟩

end Cert.Proof

end
